-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "chunk_decay_0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.KernelIdeal.κ "chunk_decay_1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "chunk_decay_2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "chunk_decay_3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_v210) = v1 c
          ∧ r.2.mem ((c.tc : Thread Cert.ReferenceIdeal.nD Cert.ReferenceIdeal.τ).loc Cert.ReferenceIdeal.main_v211) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v51_0)) (v1 : (c : Dev Cert.Kernel2Ideal.nD) → Buf (Elt Ideal) ((c.tc : Thread Cert.Kernel2Ideal.nD Cert.Kernel2Ideal.τ).loc Cert.Kernel2Ideal.main_v51_1)) (v2 : (c : Dev Cert.Kernel2Ideal.nD) → Buf (Elt Ideal) ((c.tc : Thread Cert.Kernel2Ideal.nD Cert.Kernel2Ideal.τ).loc Cert.Kernel2Ideal.main_v51_2)) (v3 : (c : Dev Cert.Kernel2Ideal.nD) → Buf (Elt Ideal) ((c.tc : Thread Cert.Kernel2Ideal.nD Cert.Kernel2Ideal.τ).loc Cert.Kernel2Ideal.main_v51_3)) (v4 : (c : Dev Cert.Kernel2Ideal.nD) → Buf (Elt Ideal) ((c.tc : Thread Cert.Kernel2Ideal.nD Cert.Kernel2Ideal.τ).loc Cert.Kernel2Ideal.main_v51_4)) (v5 : (c : Dev Cert.Kernel2Ideal.nD) → Buf (Elt Ideal) ((c.tc : Thread Cert.Kernel2Ideal.nD Cert.Kernel2Ideal.τ).loc Cert.Kernel2Ideal.main_v51_5)) (v6 : (c : Dev Cert.Kernel2Ideal.nD) → Buf (Elt Ideal) ((c.tc : Thread Cert.Kernel2Ideal.nD Cert.Kernel2Ideal.τ).loc Cert.Kernel2Ideal.main_v51_6)) (v7 : (c : Dev Cert.Kernel2Ideal.nD) → Buf (Elt Ideal) ((c.tc : Thread Cert.Kernel2Ideal.nD Cert.Kernel2Ideal.τ).loc Cert.Kernel2Ideal.main_v51_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v51_0) = v0 c
          ∧ r.2.mem ((c.tc : Thread Cert.Kernel2Ideal.nD Cert.Kernel2Ideal.τ).loc Cert.Kernel2Ideal.main_v51_1) = v1 c
          ∧ r.2.mem ((c.tc : Thread Cert.Kernel2Ideal.nD Cert.Kernel2Ideal.τ).loc Cert.Kernel2Ideal.main_v51_2) = v2 c
          ∧ r.2.mem ((c.tc : Thread Cert.Kernel2Ideal.nD Cert.Kernel2Ideal.τ).loc Cert.Kernel2Ideal.main_v51_3) = v3 c
          ∧ r.2.mem ((c.tc : Thread Cert.Kernel2Ideal.nD Cert.Kernel2Ideal.τ).loc Cert.Kernel2Ideal.main_v51_4) = v4 c
          ∧ r.2.mem ((c.tc : Thread Cert.Kernel2Ideal.nD Cert.Kernel2Ideal.τ).loc Cert.Kernel2Ideal.main_v51_5) = v5 c
          ∧ r.2.mem ((c.tc : Thread Cert.Kernel2Ideal.nD Cert.Kernel2Ideal.τ).loc Cert.Kernel2Ideal.main_v51_6) = v6 c
          ∧ r.2.mem ((c.tc : Thread Cert.Kernel2Ideal.nD Cert.Kernel2Ideal.τ).loc Cert.Kernel2Ideal.main_v51_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_v70) = v1 c
          ∧ r.2.mem ((c.tc : Thread Cert.Reference2Ideal.nD Cert.Reference2Ideal.τ).loc Cert.Reference2Ideal.main_v71) = v2 c
          ∧ r.2.mem ((c.tc : Thread Cert.Reference2Ideal.nD Cert.Reference2Ideal.τ).loc Cert.Reference2Ideal.main_v72) = v3 c
          ∧ r.2.mem ((c.tc : Thread Cert.Reference2Ideal.nD Cert.Reference2Ideal.τ).loc Cert.Reference2Ideal.main_v73) = v4 c
          ∧ r.2.mem ((c.tc : Thread Cert.Reference2Ideal.nD Cert.Reference2Ideal.τ).loc Cert.Reference2Ideal.main_v74) = v5 c
          ∧ r.2.mem ((c.tc : Thread Cert.Reference2Ideal.nD Cert.Reference2Ideal.τ).loc Cert.Reference2Ideal.main_v75) = v6 c
          ∧ r.2.mem ((c.tc : Thread Cert.Reference2Ideal.nD Cert.Reference2Ideal.τ).loc Cert.Reference2Ideal.main_v76) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_logits.lean ====
abbrev S65536x512 : Shape := ⟨2, ![65536, 512]⟩
abbrev S65536x256 : Shape := ⟨2, ![65536, 256]⟩
abbrev S8 : Shape := ⟨1, ![8]⟩
abbrev S256x65536 : Shape := ⟨2, ![256, 65536]⟩
abbrev S1x512 : Shape := ⟨2, ![1, 512]⟩
abbrev S2048x1024 : Shape := ⟨2, ![2048, 1024]⟩
abbrev S_ : Shape := ⟨0, ![]⟩
abbrev S65536x128 : Shape := ⟨2, ![65536, 128]⟩
abbrev S2048x512 : Shape := ⟨2, ![2048, 512]⟩

class Facts : Prop where
  bitsLt_bf16_f32 : FTy.bits .bf16 < FTy.bits .f32
  bcast_S_S65536x512 : S_.BroadcastsInDim S65536x512 (![] : Fin 0 → Fin S65536x512.rank)
  slices_S65536x256_S65536x128_0_0 : S65536x256.Slices ![0, 0] S65536x128
  bcast_S_S65536x128 : S_.BroadcastsInDim S65536x128 (![] : Fin 0 → Fin S65536x128.rank)
  bcast_S_S8 : S_.BroadcastsInDim S8 (![] : Fin 0 → Fin S8.rank)
  slices_S2048x1024_S2048x512_0_0 : S2048x1024.Slices ![0, 0] S2048x512
  bcast_S_S2048x512 : S_.BroadcastsInDim S2048x512 (![] : Fin 0 → Fin S2048x512.rank)

variable [Facts]

def fn_part1 {F : FTy → Type} [FloatOps F] (main_v3 : IVec S65536x512 1) (main_v8 : IVec S65536x128 1) (main_v11 : IVec S8 1) (main_v15 : IVec S65536x512 1) (main_v18 : FVec F S2048x512 .f32) (main_cst_3 : FVec F S_ .f32) : IVec S65536x512 1 × IVec S65536x128 1 × IVec S8 1 × IVec S65536x512 1 × IVec S2048x512 1 :=
  let main_v19 : FVec F S2048x512 .f32 := broadcastInDim S2048x512 ![] bcast_S_S2048x512 main_cst_3
  let main_v20 : IVec S2048x512 1 := cmpf .olt main_v18 main_v19
  (main_v3, main_v8, main_v11, main_v15, main_v20)

def fn {F : FTy → Type} [FloatOps F] (main_arg0 : FVec F S65536x512 .bf16) (main_arg1 : FVec F S65536x256 .bf16) (main_arg2 : FVec F S8 .f32) (main_arg3 : FVec F S65536x256 .bf16) (main_arg4 : FVec F S256x65536 .bf16) (main_arg5 : FVec F S65536x512 .bf16) (main_arg6 : FVec F S65536x512 .bf16) (main_arg7 : FVec F S1x512 .f32) (main_arg8 : FVec F S65536x512 .bf16) (main_arg9 : FVec F S2048x1024 .bf16) : IVec S65536x512 1 × IVec S65536x128 1 × IVec S8 1 × IVec S65536x512 1 × IVec S2048x512 1 :=
  let main_v0 : FVec F S65536x512 .f32 := (extf .f32 · bitsLt_bf16_f32) main_arg0
  let main_v1 : FVec F S65536x512 .f32 := Host.absf main_v0
  let main_cst : FVec F S_ .f32 := constant S_ .f32 0x7F800000#32
  let main_v2 : FVec F S65536x512 .f32 := broadcastInDim S65536x512 ![] bcast_S_S65536x512 main_cst
  let main_v3 : IVec S65536x512 1 := cmpf .olt main_v1 main_v2
  let main_v4 : FVec F S65536x128 .bf16 := (extractStridedSlice S65536x128 ![0, 0] · slices_S65536x256_S65536x128_0_0) main_arg1
  let main_v5 : FVec F S65536x128 .f32 := (extf .f32 · bitsLt_bf16_f32) main_v4
  let main_v6 : FVec F S65536x128 .f32 := Host.absf main_v5
  let main_cst_0 : FVec F S_ .f32 := constant S_ .f32 0x7F800000#32
  let main_v7 : FVec F S65536x128 .f32 := broadcastInDim S65536x128 ![] bcast_S_S65536x128 main_cst_0
  let main_v8 : IVec S65536x128 1 := cmpf .olt main_v6 main_v7
  let main_v9 : FVec F S8 .f32 := Host.absf main_arg2
  let main_cst_1 : FVec F S_ .f32 := constant S_ .f32 0x7F800000#32
  let main_v10 : FVec F S8 .f32 := broadcastInDim S8 ![] bcast_S_S8 main_cst_1
  let main_v11 : IVec S8 1 := cmpf .olt main_v9 main_v10
  let main_v12 : FVec F S65536x512 .f32 := (extf .f32 · bitsLt_bf16_f32) main_arg8
  let main_v13 : FVec F S65536x512 .f32 := Host.absf main_v12
  let main_cst_2 : FVec F S_ .f32 := constant S_ .f32 0x7F800000#32
  let main_v14 : FVec F S65536x512 .f32 := broadcastInDim S65536x512 ![] bcast_S_S65536x512 main_cst_2
  let main_v15 : IVec S65536x512 1 := cmpf .olt main_v13 main_v14
  let main_v16 : FVec F S2048x512 .bf16 := (extractStridedSlice S2048x512 ![0, 0] · slices_S2048x1024_S2048x512_0_0) main_arg9
  let main_v17 : FVec F S2048x512 .f32 := (extf .f32 · bitsLt_bf16_f32) main_v16
  let main_v18 : FVec F S2048x512 .f32 := Host.absf main_v17
  let main_cst_3 : FVec F S_ .f32 := constant S_ .f32 0x7F800000#32
  fn_part1 (F := F) main_v3 main_v8 main_v11 main_v15 main_v18 main_cst_3
-- ==== Kernel.lean ====
abbrev S65536x512 : Shape := ⟨2, ![65536, 512]⟩
abbrev S65536x256 : Shape := ⟨2, ![65536, 256]⟩
abbrev S8 : Shape := ⟨1, ![8]⟩
abbrev S256x65536 : Shape := ⟨2, ![256, 65536]⟩
abbrev S1x512 : Shape := ⟨2, ![1, 512]⟩
abbrev S2048x1024 : Shape := ⟨2, ![2048, 1024]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x1x128 : Shape := ⟨3, ![4, 1, 128]⟩
abbrev S4x128x1 : Shape := ⟨3, ![4, 128, 1]⟩
abbrev S512x512 : Shape := ⟨2, ![512, 512]⟩
abbrev S512x256 : Shape := ⟨2, ![512, 256]⟩
abbrev S128x256 : Shape := ⟨2, ![128, 256]⟩
abbrev S256x512 : Shape := ⟨2, ![256, 512]⟩
abbrev S256x1024 : Shape := ⟨2, ![256, 1024]⟩
abbrev S640x256 : Shape := ⟨2, ![640, 256]⟩
abbrev S4x256x128 : Shape := ⟨3, ![4, 256, 128]⟩
abbrev S256x256 : Shape := ⟨2, ![256, 256]⟩
abbrev S256x128 : Shape := ⟨2, ![256, 128]⟩
abbrev S1 : Shape := ⟨1, ![1]⟩
abbrev S1x256x128 : Shape := ⟨3, ![1, 256, 128]⟩
abbrev S1x1x128 : Shape := ⟨3, ![1, 1, 128]⟩
abbrev S512x128 : Shape := ⟨2, ![512, 128]⟩
abbrev S512 : Shape := ⟨1, ![512]⟩
abbrev S512x1 : Shape := ⟨2, ![512, 1]⟩

abbrev nBuf : Space → Nat
  | .hbm => 68
  | .vmem => 30
  | .smem => 1
  | _ => 0

abbrev bufTy : (tb : Table) → Fin (tcTables nBuf tb) → BufTy
  | .hbm, ⟨0, _⟩ => ⟨S65536x512, .bf16⟩
  | .hbm, ⟨1, _⟩ => ⟨S65536x256, .bf16⟩
  | .hbm, ⟨2, _⟩ => ⟨S8, .f32⟩
  | .hbm, ⟨3, _⟩ => ⟨S65536x256, .bf16⟩
  | .hbm, ⟨4, _⟩ => ⟨S256x65536, .bf16⟩
  | .hbm, ⟨5, _⟩ => ⟨S65536x512, .bf16⟩
  | .hbm, ⟨6, _⟩ => ⟨S65536x512, .bf16⟩
  | .hbm, ⟨7, _⟩ => ⟨S1x512, .f32⟩
  | .hbm, ⟨8, _⟩ => ⟨S65536x512, .bf16⟩
  | .hbm, ⟨9, _⟩ => ⟨S2048x1024, .bf16⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S128, .f32⟩
  | .hbm, ⟨22, _⟩ => ⟨S128x1, .f32⟩
  | .hbm, ⟨23, _⟩ => ⟨S1x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S_, .f32⟩
  | .hbm, ⟨28, _⟩ => ⟨S128x128, .f32⟩
  | .hbm, ⟨29, _⟩ => ⟨S128x128, .i1⟩
  | .hbm, ⟨30, _⟩ => ⟨S4x1x1, .f32⟩
  | .hbm, ⟨31, _⟩ => ⟨S_, .f32⟩
  | .hbm, ⟨32, _⟩ => ⟨S128x128, .f32⟩
  | .hbm, ⟨33, _⟩ => ⟨S128x128, .f32⟩
  | .hbm, ⟨34, _⟩ => ⟨S1x128x128, .f32⟩
  | .hbm, ⟨35, _⟩ => ⟨S4x128x128, .f32⟩
  | .hbm, ⟨36, _⟩ => ⟨S4x128x128, .f32⟩
  | .hbm, ⟨37, _⟩ => ⟨S4x128x128, .f32⟩
  | .hbm, ⟨38, _⟩ => ⟨S4x128x128, .f32⟩
  | .hbm, ⟨39, _⟩ => ⟨S_, .f32⟩
  | .hbm, ⟨40, _⟩ => ⟨S_, .f32⟩
  | .hbm, ⟨41, _⟩ => ⟨S4x128x128, .i1⟩
  | .hbm, ⟨42, _⟩ => ⟨S4x128x128, .f32⟩
  | .hbm, ⟨43, _⟩ => ⟨S4x128x128, .f32⟩
  | .hbm, ⟨44, _⟩ => ⟨S4x1, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S4x128, .f32⟩
  | .hbm, ⟨50, _⟩ => ⟨S4x128, .f32⟩
  | .hbm, ⟨51, _⟩ => ⟨S4x128, .f32⟩
  | .hbm, ⟨52, _⟩ => ⟨S4x128, .f32⟩
  | .hbm, ⟨53, _⟩ => ⟨S4x1x128, .f32⟩
  | .hbm, ⟨54, _⟩ => ⟨S4x1, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S4x128, .f32⟩
  | .hbm, ⟨60, _⟩ => ⟨S4x128, .f32⟩
  | .hbm, ⟨61, _⟩ => ⟨S4x128, .f32⟩
  | .hbm, ⟨62, _⟩ => ⟨S4x128, .f32⟩
  | .hbm, ⟨63, _⟩ => ⟨S4x128x1, .f32⟩
  | .hbm, ⟨64, _⟩ => ⟨S4x128x128, .f32⟩
  | .hbm, ⟨65, _⟩ => ⟨S65536x512, .bf16⟩
  | .hbm, ⟨66, _⟩ => ⟨S65536x512, .bf16⟩
  | .hbm, ⟨67, _⟩ => ⟨S65536x512, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S128x256, .bf16⟩
  | .local _ .vmem, ⟨5, _⟩ => ⟨S128x256, .bf16⟩
  | .local _ .vmem, ⟨6, _⟩ => ⟨S512x256, .bf16⟩
  | .local _ .vmem, ⟨7, _⟩ => ⟨S512x256, .bf16⟩
  | .local _ .vmem, ⟨8, _⟩ => ⟨S256x512, .bf16⟩
  | .local _ .vmem, ⟨9, _⟩ => ⟨S256x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1x512, .f32⟩
  | .local _ .vmem, ⟨15, _⟩ => ⟨S4x128x128, .f32⟩
  | .local _ .vmem, ⟨16, _⟩ => ⟨S4x1x128, .f32⟩
  | .local _ .vmem, ⟨17, _⟩ => ⟨S4x128x128, .f32⟩
  | .local _ .vmem, ⟨18, _⟩ => ⟨S512x512, .bf16⟩
  | .local _ .vmem, ⟨19, _⟩ => ⟨S512x512, .bf16⟩
  | .local _ .vmem, ⟨20, _⟩ => ⟨S256x1024, .bf16⟩
  | .local _ .vmem, ⟨21, _⟩ => ⟨S256x1024, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S640x256, .bf16⟩
  | .local _ .vmem, ⟨29, _⟩ => ⟨S4x256x128, .f32⟩
  | .local _ .smem, ⟨0, _⟩ => ⟨S8, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44_0 : Ref sig .tc := ⟨.hbm, 65, rfl⟩
abbrev main_v44_1 : Ref sig .tc := ⟨.hbm, 66, rfl⟩
abbrev main_v44_2 : Ref sig .tc := ⟨.hbm, 67, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_scratch1 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![8, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== KernelIdeal.lean ====
variable {F : FTy → Type} [FloatOps F] [Named F]
def κ : String → Option EReal := fun
  | "chunk_decay_0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "chunk_decay_1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "chunk_decay_2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "chunk_decay_3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | _ => none
-- ==== ReferenceIdeal.lean ====
abbrev S65536x512 : Shape := ⟨2, ![65536, 512]⟩
abbrev S65536x256 : Shape := ⟨2, ![65536, 256]⟩
abbrev S8 : Shape := ⟨1, ![8]⟩
abbrev S256x65536 : Shape := ⟨2, ![256, 65536]⟩
abbrev S1x512 : Shape := ⟨2, ![1, 512]⟩
abbrev S2048x1024 : Shape := ⟨2, ![2048, 1024]⟩
abbrev S8x64x128x4x2x64 : Shape := ⟨6, ![8, 64, 128, 4, 2, 64]⟩
abbrev S65536x128 : Shape := ⟨2, ![65536, 128]⟩
abbrev S8x64x128x2x64 : Shape := ⟨5, ![8, 64, 128, 2, 64]⟩
abbrev S8x63x128x2x64 : Shape := ⟨5, ![8, 63, 128, 2, 64]⟩
abbrev S_ : Shape := ⟨0, ![]⟩
abbrev S8x64x256x2x64 : Shape := ⟨5, ![8, 64, 256, 2, 64]⟩
abbrev S8x64x2x256x128x4 : Shape := ⟨6, ![8, 64, 2, 256, 128, 4]⟩
abbrev S8x64x2x4x128x256 : Shape := ⟨6, ![8, 64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S2x4 : Shape := ⟨2, ![2, 4]⟩
abbrev S1x1x2x4x1x1 : Shape := ⟨6, ![1, 1, 2, 4, 1, 1]⟩
abbrev S8x64x2x4x128 : Shape := ⟨5, ![8, 64, 2, 4, 128]⟩
abbrev S8x64x2x4x128x1 : Shape := ⟨6, ![8, 64, 2, 4, 128, 1]⟩
abbrev S8x64x2x64x4x128 : Shape := ⟨6, ![8, 64, 2, 64, 4, 128]⟩
abbrev S4 : Shape := ⟨1, ![4]⟩
abbrev S8x64x128x2x4x32 : Shape := ⟨6, ![8, 64, 128, 2, 4, 32]⟩
abbrev S8x64x128x4x2x32 : Shape := ⟨6, ![8, 64, 128, 4, 2, 32]⟩
abbrev S8x64x128x4x64 : Shape := ⟨5, ![8, 64, 128, 4, 64]⟩
abbrev S2x4x32x8x64x128 : Shape := ⟨6, ![2, 4, 32, 8, 64, 128]⟩
abbrev S8x64x128x4x128 : Shape := ⟨5, ![8, 64, 128, 4, 128]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S8x64x4x128x128 : Shape := ⟨5, ![8, 64, 4, 128, 128]⟩
abbrev S1x1x4x128x128 : Shape := ⟨5, ![1, 1, 4, 128, 128]⟩
abbrev S4x1 : Shape := ⟨2, ![4, 1]⟩
abbrev S4x128 : Shape := ⟨2, ![4, 128]⟩
abbrev S128x4 : Shape := ⟨2, ![128, 4]⟩
abbrev S1x1x128x4x1 : Shape := ⟨5, ![1, 1, 128, 4, 1]⟩
abbrev S8x64x4x64x128 : Shape := ⟨5, ![8, 64, 4, 64, 128]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x64x64 : Shape := ⟨3, ![4, 64, 64]⟩
abbrev S4x8x64x128x64 : Shape := ⟨5, ![4, 8, 64, 128, 64]⟩
abbrev S8x64x128x4 : Shape := ⟨4, ![8, 64, 128, 4]⟩
abbrev S8x64x128x4x1 : Shape := ⟨5, ![8, 64, 128, 4, 1]⟩
abbrev S1x1x1x4x128 : Shape := ⟨5, ![1, 1, 1, 4, 128]⟩
abbrev S8x8192x4x128 : Shape := ⟨4, ![8, 8192, 4, 128]⟩
abbrev S2048x512 : Shape := ⟨2, ![2048, 512]⟩
abbrev S8x256x4x128 : Shape := ⟨4, ![8, 256, 4, 128]⟩
abbrev S8x4x8192x256 : Shape := ⟨4, ![8, 4, 8192, 256]⟩
abbrev S8x4x8192 : Shape := ⟨3, ![8, 4, 8192]⟩
abbrev S8x4x8192x1 : Shape := ⟨4, ![8, 4, 8192, 1]⟩
abbrev S8x4x128x8192 : Shape := ⟨4, ![8, 4, 128, 8192]⟩

abbrev nBuf : Space → Nat
  | .hbm => 274
  | .vmem => 0
  | .smem => 0
  | _ => 0

abbrev hbmTy0_0 (i : Nat) : BufTy := match i % 128 with
  | 0 => ⟨S65536x512, .bf16⟩
  | 1 => ⟨S65536x256, .bf16⟩
  | 2 => ⟨S8, .f32⟩
  | 3 => ⟨S65536x256, .bf16⟩
  | 4 => ⟨S256x65536, .bf16⟩
  | 5 => ⟨S65536x512, .bf16⟩
  | 6 => ⟨S65536x512, .bf16⟩
  | 7 => ⟨S1x512, .f32⟩
  | 8 => ⟨S65536x512, .bf16⟩
  | 9 => ⟨S2048x1024, .bf16⟩
  | 10 => ⟨S65536x512, .f32⟩
  | 11 => ⟨S65536x256, .f32⟩
  | 12 => ⟨S65536x256, .f32⟩
  | 13 => ⟨S256x65536, .f32⟩
  | 14 => ⟨S65536x512, .f32⟩
  | 15 => ⟨S65536x512, .f32⟩
  | 16 => ⟨S65536x512, .f32⟩
  | 17 => ⟨S2048x1024, .f32⟩
  | 18 => ⟨S8x64x128x4x2x64, .f32⟩
  | 19 => ⟨S65536x128, .f32⟩
  | 20 => ⟨S8x64x128x2x64, .f32⟩
  | 21 => ⟨S65536x128, .f32⟩
  | 22 => ⟨S8x64x128x2x64, .f32⟩
  | 23 => ⟨S8x63x128x2x64, .f32⟩
  | 24 => ⟨S_, .i32⟩
  | 25 => ⟨S_, .f32⟩
  | 26 => ⟨S8x64x128x2x64, .f32⟩
  | 27 => ⟨S8x64x256x2x64, .f32⟩
  | 28 => ⟨S8x64x2x256x128x4, .f32⟩
  | 29 => ⟨S8x64x2x4x128x256, .f32⟩
  | 30 => ⟨S_, .f32⟩
  | 31 => ⟨S8x64x2x4x128x256, .f32⟩
  | 32 => ⟨S8x64x2x4x128x256, .f32⟩
  | 33 => ⟨S128, .i32⟩
  | 34 => ⟨S128x1, .i32⟩
  | 35 => ⟨S256, .i32⟩
  | 36 => ⟨S1x256, .i32⟩
  | 37 => ⟨S_, .i32⟩
  | 38 => ⟨S128x1, .i32⟩
  | 39 => ⟨S128x1, .i32⟩
  | 40 => ⟨S128x256, .i32⟩
  | 41 => ⟨S128x256, .i32⟩
  | 42 => ⟨S128x256, .i32⟩
  | 43 => ⟨S_, .i32⟩
  | 44 => ⟨S128x256, .i32⟩
  | 45 => ⟨S128x256, .i1⟩
  | 46 => ⟨S_, .i32⟩
  | 47 => ⟨S128x256, .i32⟩
  | 48 => ⟨S128x256, .i1⟩
  | 49 => ⟨S128x256, .i1⟩
  | 50 => ⟨S64, .i32⟩
  | 51 => ⟨S64x1x1, .i32⟩
  | 52 => ⟨S_, .i32⟩
  | 53 => ⟨S64x1x1, .i32⟩
  | 54 => ⟨S64x1x1, .i1⟩
  | 55 => ⟨S1x128x256, .i1⟩
  | 56 => ⟨S_, .i32⟩
  | 57 => ⟨S1x256, .i32⟩
  | 58 => ⟨S1x256, .i1⟩
  | 59 => ⟨S1x1x256, .i1⟩
  | 60 => ⟨S64x1x256, .i1⟩
  | 61 => ⟨S64x1x256, .i1⟩
  | 62 => ⟨S64x1x256, .i1⟩
  | 63 => ⟨S64x128x256, .i1⟩
  | 64 => ⟨S64x128x256, .i1⟩
  | 65 => ⟨S64x128x256, .i1⟩
  | 66 => ⟨S1x64x1x1x128x256, .i1⟩
  | 67 => ⟨S_, .f32⟩
  | 68 => ⟨S_, .f32⟩
  | 69 => ⟨S8x64x2x4x128x256, .i1⟩
  | 70 => ⟨S8x64x2x4x128x256, .f32⟩
  | 71 => ⟨S8x64x2x4x128x256, .f32⟩
  | 72 => ⟨S2x4, .f32⟩
  | 73 => ⟨S1x1x2x4x1x1, .f32⟩
  | 74 => ⟨S_, .f32⟩
  | 75 => ⟨S8x64x2x4x128, .f32⟩
  | 76 => ⟨S8x64x2x4x128x1, .f32⟩
  | 77 => ⟨S8x64x2x4x128x1, .f32⟩
  | 78 => ⟨S8x64x2x4x128x1, .f32⟩
  | 79 => ⟨S8x64x2x4x128x256, .f32⟩
  | 80 => ⟨S8x64x2x4x128x256, .f32⟩
  | 81 => ⟨S8x64x2x4x128x256, .f32⟩
  | 82 => ⟨S_, .f32⟩
  | 83 => ⟨S8x64x2x4x128, .f32⟩
  | 84 => ⟨S8x64x2x4x128x1, .f32⟩
  | 85 => ⟨S8x64x2x4x128x1, .f32⟩
  | 86 => ⟨S8x64x2x4x128x1, .f32⟩
  | 87 => ⟨S8x64x2x4x128x1, .f32⟩
  | 88 => ⟨S8x64x2x4x128x1, .f32⟩
  | 89 => ⟨S8x64x2x4x128x256, .f32⟩
  | 90 => ⟨S8x64x2x4x128x256, .f32⟩
  | 91 => ⟨S8x63x128x2x64, .f32⟩
  | 92 => ⟨S_, .i32⟩
  | 93 => ⟨S_, .f32⟩
  | 94 => ⟨S8x64x128x2x64, .f32⟩
  | 95 => ⟨S8x64x256x2x64, .f32⟩
  | 96 => ⟨S8x64x2x64x4x128, .f32⟩
  | 97 => ⟨S8x64x128x4x2x64, .f32⟩
  | 98 => ⟨S65536x512, .f32⟩
  | 99 => ⟨S4, .f32⟩
  | 100 => ⟨S_, .f32⟩
  | 101 => ⟨S4, .f32⟩
  | 102 => ⟨S4, .f32⟩
  | 103 => ⟨S_, .f32⟩
  | 104 => ⟨S4, .f32⟩
  | 105 => ⟨S4, .f32⟩
  | 106 => ⟨S_, .f32⟩
  | 107 => ⟨S4, .f32⟩
  | 108 => ⟨S4, .f32⟩
  | 109 => ⟨S4, .f32⟩
  | 110 => ⟨S8x64x128x2x4x32, .f32⟩
  | 111 => ⟨S8x64x128x4x2x32, .f32⟩
  | 112 => ⟨S8x64x128x4x64, .f32⟩
  | 113 => ⟨S2x4x32x8x64x128, .f32⟩
  | 114 => ⟨S8x64x128x4x2x32, .f32⟩
  | 115 => ⟨S8x64x128x4x64, .f32⟩
  | 116 => ⟨S8x64x128x4x128, .f32⟩
  | 117 => ⟨S128, .f32⟩
  | 118 => ⟨S128x1, .f32⟩
  | 119 => ⟨S1x128, .f32⟩
  | 120 => ⟨S128x128, .f32⟩
  | 121 => ⟨S128x128, .f32⟩
  | 122 => ⟨S128x128, .f32⟩
  | 123 => ⟨S_, .f32⟩
  | 124 => ⟨S128x128, .f32⟩
  | 125 => ⟨S128x128, .i1⟩
  | 126 => ⟨S4x1x1, .f32⟩
  | 127 => ⟨S_, .f32⟩
  | _ => ⟨S65536x512, .bf16⟩

abbrev hbmTy0_1 (i : Nat) : BufTy := match i % 128 with
  | 0 => ⟨S128x128, .f32⟩
  | 1 => ⟨S128x128, .f32⟩
  | 2 => ⟨S1x128x128, .f32⟩
  | 3 => ⟨S4x128x128, .f32⟩
  | 4 => ⟨S4x128x128, .f32⟩
  | 5 => ⟨S4x128x128, .f32⟩
  | 6 => ⟨S4x128x128, .f32⟩
  | 7 => ⟨S_, .f32⟩
  | 8 => ⟨S_, .f32⟩
  | 9 => ⟨S4x128x128, .i1⟩
  | 10 => ⟨S4x128x128, .f32⟩
  | 11 => ⟨S4x128x128, .f32⟩
  | 12 => ⟨S8x64x4x128x128, .f32⟩
  | 13 => ⟨S1x1x4x128x128, .f32⟩
  | 14 => ⟨S8x64x4x128x128, .f32⟩
  | 15 => ⟨S8x64x4x128x128, .f32⟩
  | 16 => ⟨S8x64x4x128x128, .f32⟩
  | 17 => ⟨S8x64x128x4x128, .f32⟩
  | 18 => ⟨S4x1, .f32⟩
  | 19 => ⟨S_, .f32⟩
  | 20 => ⟨S128, .f32⟩
  | 21 => ⟨S128, .f32⟩
  | 22 => ⟨S1x128, .f32⟩
  | 23 => ⟨S4x128, .f32⟩
  | 24 => ⟨S4x128, .f32⟩
  | 25 => ⟨S4x128, .f32⟩
  | 26 => ⟨S4x128, .f32⟩
  | 27 => ⟨S128x4, .f32⟩
  | 28 => ⟨S1x1x128x4x1, .f32⟩
  | 29 => ⟨S8x64x128x4x64, .f32⟩
  | 30 => ⟨S8x64x128x4x64, .f32⟩
  | 31 => ⟨S8x64x4x64x128, .f32⟩
  | 32 => ⟨S64, .f32⟩
  | 33 => ⟨S64x1, .f32⟩
  | 34 => ⟨S_, .f32⟩
  | 35 => ⟨S64x1, .f32⟩
  | 36 => ⟨S64x1, .f32⟩
  | 37 => ⟨S1x64, .f32⟩
  | 38 => ⟨S64x64, .f32⟩
  | 39 => ⟨S64x64, .f32⟩
  | 40 => ⟨S64x64, .f32⟩
  | 41 => ⟨S_, .f32⟩
  | 42 => ⟨S64x64, .f32⟩
  | 43 => ⟨S64x64, .i1⟩
  | 44 => ⟨S4x1x1, .f32⟩
  | 45 => ⟨S_, .f32⟩
  | 46 => ⟨S4x1x1, .f32⟩
  | 47 => ⟨S4x1x1, .f32⟩
  | 48 => ⟨S_, .f32⟩
  | 49 => ⟨S64x64, .f32⟩
  | 50 => ⟨S64x64, .f32⟩
  | 51 => ⟨S1x64x64, .f32⟩
  | 52 => ⟨S4x64x64, .f32⟩
  | 53 => ⟨S4x64x64, .f32⟩
  | 54 => ⟨S4x64x64, .f32⟩
  | 55 => ⟨S4x64x64, .f32⟩
  | 56 => ⟨S_, .f32⟩
  | 57 => ⟨S_, .f32⟩
  | 58 => ⟨S4x64x64, .i1⟩
  | 59 => ⟨S4x64x64, .f32⟩
  | 60 => ⟨S4x64x64, .f32⟩
  | 61 => ⟨S4x8x64x128x64, .f32⟩
  | 62 => ⟨S8x64x4x64x128, .f32⟩
  | 63 => ⟨S4x1, .f32⟩
  | 64 => ⟨S_, .f32⟩
  | 65 => ⟨S128, .f32⟩
  | 66 => ⟨S128, .f32⟩
  | 67 => ⟨S1x128, .f32⟩
  | 68 => ⟨S4x128, .f32⟩
  | 69 => ⟨S4x128, .f32⟩
  | 70 => ⟨S4x128, .f32⟩
  | 71 => ⟨S4x128, .f32⟩
  | 72 => ⟨S8x64x4x128x128, .f32⟩
  | 73 => ⟨S8x64x128x4x128, .f32⟩
  | 74 => ⟨S128x4, .f32⟩
  | 75 => ⟨S1x1x128x4x1, .f32⟩
  | 76 => ⟨S8x64x128x4x128, .f32⟩
  | 77 => ⟨S8x64x128x4x128, .f32⟩
  | 78 => ⟨S8x64x128x4x128, .f32⟩
  | 79 => ⟨S_, .f32⟩
  | 80 => ⟨S8x64x128x4, .f32⟩
  | 81 => ⟨S8x64x128x4x1, .f32⟩
  | 82 => ⟨S_, .f32⟩
  | 83 => ⟨S8x64x128x4x1, .f32⟩
  | 84 => ⟨S8x64x128x4x1, .f32⟩
  | 85 => ⟨S8x64x128x4x128, .f32⟩
  | 86 => ⟨S8x64x128x4x128, .f32⟩
  | 87 => ⟨S8x64x128x4x128, .f32⟩
  | 88 => ⟨S_, .f32⟩
  | 89 => ⟨S8x64x128x4, .f32⟩
  | 90 => ⟨S8x64x128x4x1, .f32⟩
  | 91 => ⟨S_, .f32⟩
  | 92 => ⟨S8x64x128x4x1, .f32⟩
  | 93 => ⟨S8x64x128x4x1, .f32⟩
  | 94 => ⟨S8x64x128x4x128, .f32⟩
  | 95 => ⟨S8x64x128x4x128, .f32⟩
  | 96 => ⟨S_, .f32⟩
  | 97 => ⟨S8x64x128x4x1, .f32⟩
  | 98 => ⟨S8x64x128x4x1, .f32⟩
  | 99 => ⟨S8x64x128x4x1, .f32⟩
  | 100 => ⟨S8x64x128x4x128, .f32⟩
  | 101 => ⟨S8x64x128x4x128, .f32⟩
  | 102 => ⟨S4x128, .f32⟩
  | 103 => ⟨S1x1x1x4x128, .f32⟩
  | 104 => ⟨S8x64x128x4x128, .f32⟩
  | 105 => ⟨S8x64x128x4x128, .f32⟩
  | 106 => ⟨S65536x512, .f32⟩
  | 107 => ⟨S65536x512, .f32⟩
  | 108 => ⟨S65536x512, .f32⟩
  | 109 => ⟨S_, .f32⟩
  | 110 => ⟨S65536x512, .f32⟩
  | 111 => ⟨S65536x512, .f32⟩
  | 112 => ⟨S_, .f32⟩
  | 113 => ⟨S65536x512, .f32⟩
  | 114 => ⟨S65536x512, .f32⟩
  | 115 => ⟨S65536x512, .f32⟩
  | 116 => ⟨S65536x512, .f32⟩
  | 117 => ⟨S8x8192x4x128, .f32⟩
  | 118 => ⟨S2048x512, .f32⟩
  | 119 => ⟨S8x256x4x128, .f32⟩
  | 120 => ⟨S2048x512, .f32⟩
  | 121 => ⟨S8x256x4x128, .f32⟩
  | 122 => ⟨S8x4x8192x256, .f32⟩
  | 123 => ⟨S_, .f32⟩
  | 124 => ⟨S8x4x8192x256, .f32⟩
  | 125 => ⟨S8x4x8192x256, .f32⟩
  | 126 => ⟨S_, .f32⟩
  | 127 => ⟨S8x4x8192, .f32⟩
  | _ => ⟨S65536x512, .bf16⟩

abbrev hbmTy0_2 (i : Nat) : BufTy := match i % 128 with
  | 0 => ⟨S_, .f32⟩
  | 1 => ⟨S8x4x8192, .f32⟩
  | 2 => ⟨S8x4x8192, .f32⟩
  | 3 => ⟨S8x4x8192x1, .f32⟩
  | 4 => ⟨S8x4x8192x256, .f32⟩
  | 5 => ⟨S8x4x8192x256, .f32⟩
  | 6 => ⟨S8x4x8192x256, .f32⟩
  | 7 => ⟨S_, .f32⟩
  | 8 => ⟨S8x4x8192, .f32⟩
  | 9 => ⟨S8x4x8192x1, .f32⟩
  | 10 => ⟨S8x4x8192x256, .f32⟩
  | 11 => ⟨S8x4x8192x256, .f32⟩
  | 12 => ⟨S8x4x128x8192, .f32⟩
  | 13 => ⟨S8x8192x4x128, .f32⟩
  | 14 => ⟨S65536x512, .f32⟩
  | 15 => ⟨S65536x512, .bf16⟩
  | 16 => ⟨S65536x512, .bf16⟩
  | 17 => ⟨S65536x512, .bf16⟩
  | _ => ⟨S65536x512, .bf16⟩

abbrev hbmTy (i : Nat) : BufTy := match i / 128 with
  | 0 => hbmTy0_0 i
  | 1 => hbmTy0_1 i
  | 2 => hbmTy0_2 i
  | _ => ⟨S65536x512, .bf16⟩

abbrev bufTy : (tb : Table) → Fin (tcTables nBuf tb) → BufTy
  | .hbm, ⟨i, _⟩ => hbmTy i
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_1 : Ref sig .tc := ⟨.hbm, 43, rfl⟩
abbrev main_v29 : Ref sig .tc := ⟨.hbm, 44, rfl⟩
abbrev main_v30 : Ref sig .tc := ⟨.hbm, 45, rfl⟩
abbrev main_c_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_3 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_7 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_8 : Ref sig .tc := ⟨.hbm, 92, rfl⟩
abbrev main_call2_v0 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_9 : Ref sig .tc := ⟨.hbm, 100, rfl⟩
abbrev main_v74 : Ref sig .tc := ⟨.hbm, 101, rfl⟩
abbrev main_v75 : Ref sig .tc := ⟨.hbm, 102, rfl⟩
abbrev main_cst_10 : Ref sig .tc := ⟨.hbm, 103, rfl⟩
abbrev main_v76 : Ref sig .tc := ⟨.hbm, 104, rfl⟩
abbrev main_v77 : Ref sig .tc := ⟨.hbm, 105, rfl⟩
abbrev main_cst_11 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_12 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_13 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_14 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_15 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_16 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_cst_17 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_18 : Ref sig .tc := ⟨.hbm, 173, rfl⟩
abbrev main_v135 : Ref sig .tc := ⟨.hbm, 174, rfl⟩
abbrev main_v136 : Ref sig .tc := ⟨.hbm, 175, rfl⟩
abbrev main_cst_19 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_cst_20 : Ref sig .tc := ⟨.hbm, 184, rfl⟩
abbrev main_call4_v0 : Ref sig .tc := ⟨.hbm, 185, rfl⟩
abbrev main_call4_v1 : Ref sig .tc := ⟨.hbm, 186, rfl⟩
abbrev main_call4_v2 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_cst_21 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_cst_22 : Ref sig .tc := ⟨.hbm, 207, rfl⟩
abbrev main_v162 : Ref sig .tc := ⟨.hbm, 208, rfl⟩
abbrev main_v163 : Ref sig .tc := ⟨.hbm, 209, rfl⟩
abbrev main_cst_23 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_cst_24 : Ref sig .tc := ⟨.hbm, 216, rfl⟩
abbrev main_v169 : Ref sig .tc := ⟨.hbm, 217, rfl⟩
abbrev main_v170 : Ref sig .tc := ⟨.hbm, 218, rfl⟩
abbrev main_cst_25 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_cst_26 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_call5_v0 : Ref sig .tc := ⟨.hbm, 235, rfl⟩
abbrev main_call5_v1 : Ref sig .tc := ⟨.hbm, 236, rfl⟩
abbrev main_call5_cst : Ref sig .tc := ⟨.hbm, 237, rfl⟩
abbrev main_call5_v2 : Ref sig .tc := ⟨.hbm, 238, rfl⟩
abbrev main_call5_v3 : Ref sig .tc := ⟨.hbm, 239, rfl⟩
abbrev main_call5_cst_0 : Ref sig .tc := ⟨.hbm, 240, rfl⟩
abbrev main_call5_v4 : Ref sig .tc := ⟨.hbm, 241, rfl⟩
abbrev main_call5_v5 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_cst_27 : Ref sig .tc := ⟨.hbm, 251, rfl⟩
abbrev main_v193 : Ref sig .tc := ⟨.hbm, 252, rfl⟩
abbrev main_v194 : Ref sig .tc := ⟨.hbm, 253, rfl⟩
abbrev main_cst_28 : Ref sig .tc := ⟨.hbm, 254, rfl⟩
abbrev main_v195 : Ref sig .tc := ⟨.hbm, 255, rfl⟩
abbrev main_cst_29 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_cst_30 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩

abbrev nD : Nat := 1
abbrev τ : Topo := Topo.v7x

variable {F : FTy → Type} [FloatOps F]
-- ==== Kernel2.lean ====
abbrev S65536x1024 : Shape := ⟨2, ![65536, 1024]⟩
abbrev S1024x5888 : Shape := ⟨2, ![1024, 5888]⟩
abbrev S5888 : Shape := ⟨1, ![5888]⟩
abbrev S1x5888 : Shape := ⟨2, ![1, 5888]⟩
abbrev S1025x5888 : Shape := ⟨2, ![1025, 5888]⟩
abbrev S1025x512 : Shape := ⟨2, ![1025, 512]⟩
abbrev S1025x128 : Shape := ⟨2, ![1025, 128]⟩
abbrev S1025x256 : Shape := ⟨2, ![1025, 256]⟩
abbrev S1025x3072 : Shape := ⟨2, ![1025, 3072]⟩
abbrev S1025x2x4x64 : Shape := ⟨4, ![1025, 2, 4, 64]⟩
abbrev S1025x4x2x64 : Shape := ⟨4, ![1025, 4, 2, 64]⟩
abbrev S1025x4x2x32 : Shape := ⟨4, ![1025, 4, 2, 32]⟩
abbrev S1025x2x4x32 : Shape := ⟨4, ![1025, 2, 4, 32]⟩
abbrev S1025x5632 : Shape := ⟨2, ![1025, 5632]⟩
abbrev S1024x5632 : Shape := ⟨2, ![1024, 5632]⟩
abbrev S1x5632 : Shape := ⟨2, ![1, 5632]⟩
abbrev S1024x256 : Shape := ⟨2, ![1024, 256]⟩
abbrev S256x1024 : Shape := ⟨2, ![256, 1024]⟩
abbrev S1x256 : Shape := ⟨2, ![1, 256]⟩
abbrev S256 : Shape := ⟨1, ![256]⟩
abbrev S256x1 : Shape := ⟨2, ![256, 1]⟩
abbrev S8192 : Shape := ⟨1, ![8192]⟩
abbrev S_ : Shape := ⟨0, ![]⟩
abbrev S31 : Shape := ⟨1, ![31]⟩
abbrev S1 : Shape := ⟨1, ![1]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S128x8192 : Shape := ⟨2, ![128, 8192]⟩
abbrev S65536x512 : Shape := ⟨2, ![65536, 512]⟩
abbrev S65536x256 : Shape := ⟨2, ![65536, 256]⟩
abbrev S65536x3072 : Shape := ⟨2, ![65536, 3072]⟩
abbrev S256x65536 : Shape := ⟨2, ![256, 65536]⟩
abbrev S512x1024 : Shape := ⟨2, ![512, 1024]⟩
abbrev S512x128 : Shape := ⟨2, ![512, 128]⟩
abbrev S128x512 : Shape := ⟨2, ![128, 512]⟩
abbrev S512x512 : Shape := ⟨2, ![512, 512]⟩
abbrev S512x256 : Shape := ⟨2, ![512, 256]⟩
abbrev S512x3072 : Shape := ⟨2, ![512, 3072]⟩
abbrev S256x512 : Shape := ⟨2, ![256, 512]⟩
abbrev S1024x512 : Shape := ⟨2, ![1024, 512]⟩
abbrev S1x512 : Shape := ⟨2, ![1, 512]⟩

abbrev nBuf : Space → Nat
  | .hbm => 86
  | .vmem => 30
  | .smem => 0
  | _ => 0

abbrev bufTy : (tb : Table) → Fin (tcTables nBuf tb) → BufTy
  | .hbm, ⟨0, _⟩ => ⟨S65536x1024, .f32⟩
  | .hbm, ⟨1, _⟩ => ⟨S1024x5888, .f32⟩
  | .hbm, ⟨2, _⟩ => ⟨S5888, .f32⟩
  | .hbm, ⟨3, _⟩ => ⟨S1x5888, .f32⟩
  | .hbm, ⟨4, _⟩ => ⟨S1025x5888, .f32⟩
  | .hbm, ⟨5, _⟩ => ⟨S1025x512, .f32⟩
  | .hbm, ⟨6, _⟩ => ⟨S1025x128, .f32⟩
  | .hbm, ⟨7, _⟩ => ⟨S1025x128, .f32⟩
  | .hbm, ⟨8, _⟩ => ⟨S1025x256, .f32⟩
  | .hbm, ⟨9, _⟩ => ⟨S1025x256, .f32⟩
  | .hbm, ⟨10, _⟩ => ⟨S1025x512, .f32⟩
  | .hbm, ⟨11, _⟩ => ⟨S1025x512, .f32⟩
  | .hbm, ⟨12, _⟩ => ⟨S1025x512, .f32⟩
  | .hbm, ⟨13, _⟩ => ⟨S1025x3072, .f32⟩
  | .hbm, ⟨14, _⟩ => ⟨S1025x2x4x64, .f32⟩
  | .hbm, ⟨15, _⟩ => ⟨S1025x4x2x64, .f32⟩
  | .hbm, ⟨16, _⟩ => ⟨S1025x512, .f32⟩
  | .hbm, ⟨17, _⟩ => ⟨S1025x4x2x32, .f32⟩
  | .hbm, ⟨18, _⟩ => ⟨S1025x2x4x32, .f32⟩
  | .hbm, ⟨19, _⟩ => ⟨S1025x256, .f32⟩
  | .hbm, ⟨20, _⟩ => ⟨S1025x5632, .f32⟩
  | .hbm, ⟨21, _⟩ => ⟨S1025x4x2x32, .f32⟩
  | .hbm, ⟨22, _⟩ => ⟨S1025x2x4x32, .f32⟩
  | .hbm, ⟨23, _⟩ => ⟨S1025x256, .f32⟩
  | .hbm, ⟨24, _⟩ => ⟨S1024x5632, .f32⟩
  | .hbm, ⟨25, _⟩ => ⟨S1024x5632, .bf16⟩
  | .hbm, ⟨26, _⟩ => ⟨S1x5632, .f32⟩
  | .hbm, ⟨27, _⟩ => ⟨S1024x256, .f32⟩
  | .hbm, ⟨28, _⟩ => ⟨S256x1024, .f32⟩
  | .hbm, ⟨29, _⟩ => ⟨S256x1024, .bf16⟩
  | .hbm, ⟨30, _⟩ => ⟨S1x256, .f32⟩
  | .hbm, ⟨31, _⟩ => ⟨S256, .f32⟩
  | .hbm, ⟨32, _⟩ => ⟨S256x1, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S31, .f32⟩
  | .hbm, ⟨42, _⟩ => ⟨S_, .f32⟩
  | .hbm, ⟨43, _⟩ => ⟨S31, .f32⟩
  | .hbm, ⟨44, _⟩ => ⟨S31, .f32⟩
  | .hbm, ⟨45, _⟩ => ⟨S1, .f32⟩
  | .hbm, ⟨46, _⟩ => ⟨S_, .f32⟩
  | .hbm, ⟨47, _⟩ => ⟨S31, .f32⟩
  | .hbm, ⟨48, _⟩ => ⟨S31, .f32⟩
  | .hbm, ⟨49, _⟩ => ⟨S31, .f32⟩
  | .hbm, ⟨50, _⟩ => ⟨S31, .f32⟩
  | .hbm, ⟨51, _⟩ => ⟨S1, .f32⟩
  | .hbm, ⟨52, _⟩ => ⟨S31, .f32⟩
  | .hbm, ⟨53, _⟩ => ⟨S31, .f32⟩
  | .hbm, ⟨54, _⟩ => ⟨S31, .f32⟩
  | .hbm, ⟨55, _⟩ => ⟨S1, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S8192x1, .f32⟩
  | .hbm, ⟨64, _⟩ => ⟨S1x32, .f32⟩
  | .hbm, ⟨65, _⟩ => ⟨S8192x32, .f32⟩
  | .hbm, ⟨66, _⟩ => ⟨S8192x32, .f32⟩
  | .hbm, ⟨67, _⟩ => ⟨S8192x32, .f32⟩
  | .hbm, ⟨68, _⟩ => ⟨S8192x32, .f32⟩
  | .hbm, ⟨69, _⟩ => ⟨S1x8192x1x32, .f32⟩
  | .hbm, ⟨70, _⟩ => ⟨S1x8192x4x32, .f32⟩
  | .hbm, ⟨71, _⟩ => ⟨S8192x128, .f32⟩
  | .hbm, ⟨72, _⟩ => ⟨S8192x32, .f32⟩
  | .hbm, ⟨73, _⟩ => ⟨S1x8192x1x32, .f32⟩
  | .hbm, ⟨74, _⟩ => ⟨S1x8192x4x32, .f32⟩
  | .hbm, ⟨75, _⟩ => ⟨S8192x128, .f32⟩
  | .hbm, ⟨76, _⟩ => ⟨S128x8192, .f32⟩
  | .hbm, ⟨77, _⟩ => ⟨S128x8192, .f32⟩
  | .hbm, ⟨78, _⟩ => ⟨S65536x512, .bf16⟩
  | .hbm, ⟨79, _⟩ => ⟨S65536x256, .bf16⟩
  | .hbm, ⟨80, _⟩ => ⟨S65536x256, .bf16⟩
  | .hbm, ⟨81, _⟩ => ⟨S65536x512, .bf16⟩
  | .hbm, ⟨82, _⟩ => ⟨S65536x512, .bf16⟩
  | .hbm, ⟨83, _⟩ => ⟨S65536x512, .bf16⟩
  | .hbm, ⟨84, _⟩ => ⟨S65536x3072, .bf16⟩
  | .hbm, ⟨85, _⟩ => ⟨S256x65536, .bf16⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S1x5632, .f32⟩
  | .local _ .vmem, ⟨4, _⟩ => ⟨S256x1024, .bf16⟩
  | .local _ .vmem, ⟨5, _⟩ => ⟨S256x1, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S512x512, .bf16⟩
  | .local _ .vmem, ⟨15, _⟩ => ⟨S512x512, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x3072, .bf16⟩
  | .local _ .vmem, ⟨27, _⟩ => ⟨S512x3072, .bf16⟩
  | .local _ .vmem, ⟨28, _⟩ => ⟨S256x512, .bf16⟩
  | .local _ .vmem, ⟨29, _⟩ => ⟨S256x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_cst : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_cst : Ref sig .tc := ⟨.hbm, 39, rfl⟩
abbrev main_call0_v3 : Ref sig .tc := ⟨.hbm, 40, rfl⟩
abbrev main_call0_v4 : Ref sig .tc := ⟨.hbm, 41, rfl⟩
abbrev main_call0_cst_0 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_cst_1 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_v15 : Ref sig .tc := ⟨.hbm, 54, rfl⟩
abbrev main_call0_v16 : Ref sig .tc := ⟨.hbm, 55, rfl⟩
abbrev main_v31 : Ref sig .tc := ⟨.hbm, 56, rfl⟩
abbrev main_cst_1 : Ref sig .tc := ⟨.hbm, 57, rfl⟩
abbrev main_v32 : Ref sig .tc := ⟨.hbm, 58, rfl⟩
abbrev main_v33 : Ref sig .tc := ⟨.hbm, 59, rfl⟩
abbrev main_cst_2 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51_0 : Ref sig .tc := ⟨.hbm, 78, rfl⟩
abbrev main_v51_1 : Ref sig .tc := ⟨.hbm, 79, rfl⟩
abbrev main_v51_2 : Ref sig .tc := ⟨.hbm, 80, rfl⟩
abbrev main_v51_3 : Ref sig .tc := ⟨.hbm, 81, rfl⟩
abbrev main_v51_4 : Ref sig .tc := ⟨.hbm, 82, rfl⟩
abbrev main_v51_5 : Ref sig .tc := ⟨.hbm, 83, rfl⟩
abbrev main_v51_6 : Ref sig .tc := ⟨.hbm, 84, rfl⟩
abbrev main_v51_7 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S65536x1024 : Shape := ⟨2, ![65536, 1024]⟩
abbrev S1024x5888 : Shape := ⟨2, ![1024, 5888]⟩
abbrev S5888 : Shape := ⟨1, ![5888]⟩
abbrev S65536x5888 : Shape := ⟨2, ![65536, 5888]⟩
abbrev S1x5888 : Shape := ⟨2, ![1, 5888]⟩
abbrev S65536x512 : Shape := ⟨2, ![65536, 512]⟩
abbrev S65536x128 : Shape := ⟨2, ![65536, 128]⟩
abbrev S65536x256 : Shape := ⟨2, ![65536, 256]⟩
abbrev S65536x3072 : Shape := ⟨2, ![65536, 3072]⟩
abbrev S8192 : Shape := ⟨1, ![8192]⟩
abbrev S_ : Shape := ⟨0, ![]⟩
abbrev S31 : Shape := ⟨1, ![31]⟩
abbrev S1 : Shape := ⟨1, ![1]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S8x8192x4x64 : Shape := ⟨4, ![8, 8192, 4, 64]⟩
abbrev S8x8192x4x32 : Shape := ⟨4, ![8, 8192, 4, 32]⟩
abbrev S65536x2x4x64 : Shape := ⟨4, ![65536, 2, 4, 64]⟩
abbrev S65536x4x2x64 : Shape := ⟨4, ![65536, 4, 2, 64]⟩
abbrev S65536x4x2x32 : Shape := ⟨4, ![65536, 4, 2, 32]⟩
abbrev S65536x2x4x32 : Shape := ⟨4, ![65536, 2, 4, 32]⟩
abbrev S256x65536 : Shape := ⟨2, ![256, 65536]⟩

abbrev nBuf : Space → Nat
  | .hbm => 105
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x5888, .f32⟩
  | .hbm, ⟨2, _⟩ => ⟨S5888, .f32⟩
  | .hbm, ⟨3, _⟩ => ⟨S65536x5888, .f32⟩
  | .hbm, ⟨4, _⟩ => ⟨S1x5888, .f32⟩
  | .hbm, ⟨5, _⟩ => ⟨S65536x5888, .f32⟩
  | .hbm, ⟨6, _⟩ => ⟨S65536x5888, .f32⟩
  | .hbm, ⟨7, _⟩ => ⟨S65536x512, .f32⟩
  | .hbm, ⟨8, _⟩ => ⟨S65536x128, .f32⟩
  | .hbm, ⟨9, _⟩ => ⟨S65536x128, .f32⟩
  | .hbm, ⟨10, _⟩ => ⟨S65536x256, .f32⟩
  | .hbm, ⟨11, _⟩ => ⟨S65536x256, .f32⟩
  | .hbm, ⟨12, _⟩ => ⟨S65536x512, .f32⟩
  | .hbm, ⟨13, _⟩ => ⟨S65536x512, .f32⟩
  | .hbm, ⟨14, _⟩ => ⟨S65536x512, .f32⟩
  | .hbm, ⟨15, _⟩ => ⟨S65536x3072, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S31, .f32⟩
  | .hbm, ⟨25, _⟩ => ⟨S_, .f32⟩
  | .hbm, ⟨26, _⟩ => ⟨S31, .f32⟩
  | .hbm, ⟨27, _⟩ => ⟨S31, .f32⟩
  | .hbm, ⟨28, _⟩ => ⟨S1, .f32⟩
  | .hbm, ⟨29, _⟩ => ⟨S_, .f32⟩
  | .hbm, ⟨30, _⟩ => ⟨S31, .f32⟩
  | .hbm, ⟨31, _⟩ => ⟨S31, .f32⟩
  | .hbm, ⟨32, _⟩ => ⟨S31, .f32⟩
  | .hbm, ⟨33, _⟩ => ⟨S31, .f32⟩
  | .hbm, ⟨34, _⟩ => ⟨S1, .f32⟩
  | .hbm, ⟨35, _⟩ => ⟨S31, .f32⟩
  | .hbm, ⟨36, _⟩ => ⟨S31, .f32⟩
  | .hbm, ⟨37, _⟩ => ⟨S31, .f32⟩
  | .hbm, ⟨38, _⟩ => ⟨S1, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S8192x1, .f32⟩
  | .hbm, ⟨47, _⟩ => ⟨S1x32, .f32⟩
  | .hbm, ⟨48, _⟩ => ⟨S8192x32, .f32⟩
  | .hbm, ⟨49, _⟩ => ⟨S8192x32, .f32⟩
  | .hbm, ⟨50, _⟩ => ⟨S8192x32, .f32⟩
  | .hbm, ⟨51, _⟩ => ⟨S8192x32, .f32⟩
  | .hbm, ⟨52, _⟩ => ⟨S1x8192x1x32, .f32⟩
  | .hbm, ⟨53, _⟩ => ⟨S8192x32, .f32⟩
  | .hbm, ⟨54, _⟩ => ⟨S1x8192x1x32, .f32⟩
  | .hbm, ⟨55, _⟩ => ⟨S8x8192x4x64, .f32⟩
  | .hbm, ⟨56, _⟩ => ⟨S8x8192x4x32, .f32⟩
  | .hbm, ⟨57, _⟩ => ⟨S8x8192x4x32, .f32⟩
  | .hbm, ⟨58, _⟩ => ⟨S8x8192x4x32, .f32⟩
  | .hbm, ⟨59, _⟩ => ⟨S8x8192x4x32, .f32⟩
  | .hbm, ⟨60, _⟩ => ⟨S8x8192x4x32, .f32⟩
  | .hbm, ⟨61, _⟩ => ⟨S8x8192x4x32, .f32⟩
  | .hbm, ⟨62, _⟩ => ⟨S8x8192x4x32, .f32⟩
  | .hbm, ⟨63, _⟩ => ⟨S8x8192x4x32, .f32⟩
  | .hbm, ⟨64, _⟩ => ⟨S8x8192x4x32, .f32⟩
  | .hbm, ⟨65, _⟩ => ⟨S8x8192x4x32, .f32⟩
  | .hbm, ⟨66, _⟩ => ⟨S8x8192x4x32, .f32⟩
  | .hbm, ⟨67, _⟩ => ⟨S8x8192x4x32, .f32⟩
  | .hbm, ⟨68, _⟩ => ⟨S8x8192x4x64, .f32⟩
  | .hbm, ⟨69, _⟩ => ⟨S8x8192x4x64, .f32⟩
  | .hbm, ⟨70, _⟩ => ⟨S8x8192x4x32, .f32⟩
  | .hbm, ⟨71, _⟩ => ⟨S8x8192x4x32, .f32⟩
  | .hbm, ⟨72, _⟩ => ⟨S8x8192x4x32, .f32⟩
  | .hbm, ⟨73, _⟩ => ⟨S8x8192x4x32, .f32⟩
  | .hbm, ⟨74, _⟩ => ⟨S8x8192x4x32, .f32⟩
  | .hbm, ⟨75, _⟩ => ⟨S8x8192x4x32, .f32⟩
  | .hbm, ⟨76, _⟩ => ⟨S8x8192x4x32, .f32⟩
  | .hbm, ⟨77, _⟩ => ⟨S8x8192x4x32, .f32⟩
  | .hbm, ⟨78, _⟩ => ⟨S8x8192x4x32, .f32⟩
  | .hbm, ⟨79, _⟩ => ⟨S8x8192x4x32, .f32⟩
  | .hbm, ⟨80, _⟩ => ⟨S8x8192x4x32, .f32⟩
  | .hbm, ⟨81, _⟩ => ⟨S8x8192x4x32, .f32⟩
  | .hbm, ⟨82, _⟩ => ⟨S8x8192x4x64, .f32⟩
  | .hbm, ⟨83, _⟩ => ⟨S_, .f32⟩
  | .hbm, ⟨84, _⟩ => ⟨S8x8192x4x64, .f32⟩
  | .hbm, ⟨85, _⟩ => ⟨S8x8192x4x64, .f32⟩
  | .hbm, ⟨86, _⟩ => ⟨S65536x2x4x64, .f32⟩
  | .hbm, ⟨87, _⟩ => ⟨S65536x4x2x64, .f32⟩
  | .hbm, ⟨88, _⟩ => ⟨S65536x512, .f32⟩
  | .hbm, ⟨89, _⟩ => ⟨S65536x256, .f32⟩
  | .hbm, ⟨90, _⟩ => ⟨S65536x4x2x32, .f32⟩
  | .hbm, ⟨91, _⟩ => ⟨S65536x2x4x32, .f32⟩
  | .hbm, ⟨92, _⟩ => ⟨S65536x256, .f32⟩
  | .hbm, ⟨93, _⟩ => ⟨S65536x4x2x32, .f32⟩
  | .hbm, ⟨94, _⟩ => ⟨S65536x2x4x32, .f32⟩
  | .hbm, ⟨95, _⟩ => ⟨S65536x256, .f32⟩
  | .hbm, ⟨96, _⟩ => ⟨S256x65536, .f32⟩
  | .hbm, ⟨97, _⟩ => ⟨S65536x512, .bf16⟩
  | .hbm, ⟨98, _⟩ => ⟨S65536x256, .bf16⟩
  | .hbm, ⟨99, _⟩ => ⟨S65536x256, .bf16⟩
  | .hbm, ⟨100, _⟩ => ⟨S65536x512, .bf16⟩
  | .hbm, ⟨101, _⟩ => ⟨S65536x512, .bf16⟩
  | .hbm, ⟨102, _⟩ => ⟨S65536x512, .bf16⟩
  | .hbm, ⟨103, _⟩ => ⟨S65536x3072, .bf16⟩
  | .hbm, ⟨104, _⟩ => ⟨S256x65536, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_cst : Ref sig .tc := ⟨.hbm, 22, rfl⟩
abbrev main_call0_v3 : Ref sig .tc := ⟨.hbm, 23, rfl⟩
abbrev main_call0_v4 : Ref sig .tc := ⟨.hbm, 24, rfl⟩
abbrev main_call0_cst_0 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_v15 : Ref sig .tc := ⟨.hbm, 37, rfl⟩
abbrev main_call0_v16 : Ref sig .tc := ⟨.hbm, 38, rfl⟩
abbrev main_v14 : Ref sig .tc := ⟨.hbm, 39, rfl⟩
abbrev main_cst_1 : Ref sig .tc := ⟨.hbm, 40, rfl⟩
abbrev main_v15 : Ref sig .tc := ⟨.hbm, 41, rfl⟩
abbrev main_v16 : Ref sig .tc := ⟨.hbm, 42, rfl⟩
abbrev main_cst_2 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_3 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩

abbrev nD : Nat := 1
abbrev τ : Topo := Topo.v7x

variable {F : FTy → Type} [FloatOps F]
-- ==== Kernel3.lean ====
abbrev S65536x512 : Shape := ⟨2, ![65536, 512]⟩
abbrev S65536x3072 : Shape := ⟨2, ![65536, 3072]⟩
abbrev S65536x1024 : Shape := ⟨2, ![65536, 1024]⟩
abbrev S512x1024 : Shape := ⟨2, ![512, 1024]⟩
abbrev S1024x1024 : Shape := ⟨2, ![1024, 1024]⟩
abbrev S1024 : Shape := ⟨1, ![1024]⟩
abbrev S2x4x64x1024 : Shape := ⟨4, ![2, 4, 64, 1024]⟩
abbrev S4x2x64x1024 : Shape := ⟨4, ![4, 2, 64, 1024]⟩
abbrev S1x1024 : Shape := ⟨2, ![1, 1024]⟩
abbrev S512x512 : Shape := ⟨2, ![512, 512]⟩
abbrev S512x3072 : Shape := ⟨2, ![512, 3072]⟩
abbrev S512 : Shape := ⟨1, ![512]⟩
abbrev S512x1 : Shape := ⟨2, ![512, 1]⟩

abbrev nBuf : Space → Nat
  | .hbm => 21
  | .vmem => 18
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x512, .bf16⟩
  | .hbm, ⟨3, _⟩ => ⟨S65536x3072, .bf16⟩
  | .hbm, ⟨4, _⟩ => ⟨S65536x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S2x4x64x1024, .f32⟩
  | .hbm, ⟨12, _⟩ => ⟨S4x2x64x1024, .f32⟩
  | .hbm, ⟨13, _⟩ => ⟨S512x1024, .f32⟩
  | .hbm, ⟨14, _⟩ => ⟨S512x1024, .bf16⟩
  | .hbm, ⟨15, _⟩ => ⟨S512x1024, .bf16⟩
  | .hbm, ⟨16, _⟩ => ⟨S512x1024, .bf16⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S65536x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x3072, .bf16⟩
  | .local _ .vmem, ⟨7, _⟩ => ⟨S512x3072, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S65536x512 : Shape := ⟨2, ![65536, 512]⟩
abbrev S65536x3072 : Shape := ⟨2, ![65536, 3072]⟩
abbrev S65536x1024 : Shape := ⟨2, ![65536, 1024]⟩
abbrev S512x1024 : Shape := ⟨2, ![512, 1024]⟩
abbrev S1024x1024 : Shape := ⟨2, ![1024, 1024]⟩
abbrev S1024 : Shape := ⟨1, ![1024]⟩
abbrev S65536x4x2x64 : Shape := ⟨4, ![65536, 4, 2, 64]⟩
abbrev S65536x2x4x64 : Shape := ⟨4, ![65536, 2, 4, 64]⟩
abbrev S_ : Shape := ⟨0, ![]⟩
abbrev S65536x3x1024 : Shape := ⟨3, ![65536, 3, 1024]⟩
abbrev S65536x1x1024 : Shape := ⟨3, ![65536, 1, 1024]⟩
abbrev S65536 : Shape := ⟨1, ![65536]⟩
abbrev S65536x1 : Shape := ⟨2, ![65536, 1]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x512, .bf16⟩
  | .hbm, ⟨3, _⟩ => ⟨S65536x3072, .bf16⟩
  | .hbm, ⟨4, _⟩ => ⟨S65536x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S65536x512, .f32⟩
  | .hbm, ⟨12, _⟩ => ⟨S65536x512, .f32⟩
  | .hbm, ⟨13, _⟩ => ⟨S65536x512, .f32⟩
  | .hbm, ⟨14, _⟩ => ⟨S65536x3072, .f32⟩
  | .hbm, ⟨15, _⟩ => ⟨S65536x4x2x64, .f32⟩
  | .hbm, ⟨16, _⟩ => ⟨S65536x2x4x64, .f32⟩
  | .hbm, ⟨17, _⟩ => ⟨S65536x512, .f32⟩
  | .hbm, ⟨18, _⟩ => ⟨S65536x3072, .f32⟩
  | .hbm, ⟨19, _⟩ => ⟨S65536x3072, .f32⟩
  | .hbm, ⟨20, _⟩ => ⟨S_, .f32⟩
  | .hbm, ⟨21, _⟩ => ⟨S65536x3072, .f32⟩
  | .hbm, ⟨22, _⟩ => ⟨S65536x3072, .f32⟩
  | .hbm, ⟨23, _⟩ => ⟨S_, .f32⟩
  | .hbm, ⟨24, _⟩ => ⟨S65536x3072, .f32⟩
  | .hbm, ⟨25, _⟩ => ⟨S65536x3072, .f32⟩
  | .hbm, ⟨26, _⟩ => ⟨S65536x3x1024, .f32⟩
  | .hbm, ⟨27, _⟩ => ⟨S65536x1x1024, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S65536x1x1024, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S65536x1x1024, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S65536x1024, .f32⟩
  | .hbm, ⟨41, _⟩ => ⟨S_, .f32⟩
  | .hbm, ⟨42, _⟩ => ⟨S65536x1024, .f32⟩
  | .hbm, ⟨43, _⟩ => ⟨S65536x1024, .f32⟩
  | .hbm, ⟨44, _⟩ => ⟨S65536x1024, .f32⟩
  | .hbm, ⟨45, _⟩ => ⟨S65536x1024, .f32⟩
  | .hbm, ⟨46, _⟩ => ⟨S_, .f32⟩
  | .hbm, ⟨47, _⟩ => ⟨S65536, .f32⟩
  | .hbm, ⟨48, _⟩ => ⟨S65536x1, .f32⟩
  | .hbm, ⟨49, _⟩ => ⟨S_, .f32⟩
  | .hbm, ⟨50, _⟩ => ⟨S65536x1, .f32⟩
  | .hbm, ⟨51, _⟩ => ⟨S65536x1, .f32⟩
  | .hbm, ⟨52, _⟩ => ⟨S65536x1024, .f32⟩
  | .hbm, ⟨53, _⟩ => ⟨S65536x1024, .f32⟩
  | .hbm, ⟨54, _⟩ => ⟨S65536x1024, .f32⟩
  | .hbm, ⟨55, _⟩ => ⟨S_, .f32⟩
  | .hbm, ⟨56, _⟩ => ⟨S65536, .f32⟩
  | .hbm, ⟨57, _⟩ => ⟨S65536x1, .f32⟩
  | .hbm, ⟨58, _⟩ => ⟨S_, .f32⟩
  | .hbm, ⟨59, _⟩ => ⟨S65536x1, .f32⟩
  | .hbm, ⟨60, _⟩ => ⟨S65536x1, .f32⟩
  | .hbm, ⟨61, _⟩ => ⟨S65536x1024, .f32⟩
  | .hbm, ⟨62, _⟩ => ⟨S65536x1024, .f32⟩
  | .hbm, ⟨63, _⟩ => ⟨S_, .f32⟩
  | .hbm, ⟨64, _⟩ => ⟨S65536x1, .f32⟩
  | .hbm, ⟨65, _⟩ => ⟨S65536x1, .f32⟩
  | .hbm, ⟨66, _⟩ => ⟨S65536x1, .f32⟩
  | .hbm, ⟨67, _⟩ => ⟨S65536x1024, .f32⟩
  | .hbm, ⟨68, _⟩ => ⟨S65536x1024, .f32⟩
  | .hbm, ⟨69, _⟩ => ⟨S1x1024, .f32⟩
  | .hbm, ⟨70, _⟩ => ⟨S65536x1024, .f32⟩
  | .hbm, ⟨71, _⟩ => ⟨S65536x1024, .f32⟩
  | .hbm, ⟨72, _⟩ => ⟨S1x1024, .f32⟩
  | .hbm, ⟨73, _⟩ => ⟨S65536x1024, .f32⟩
  | .hbm, ⟨74, _⟩ => ⟨S65536x1024, .f32⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Kernel4.lean ====
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S256x1024, .bf16⟩
  | .local _ .vmem, ⟨6, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Proof.Soft.lean ====
/- Facts of the extended reals that the two softmaxes need: a finite factor moves in and out of a sum, and a
   softmax whose largest logit is finite has a positive finite denominator, so dividing the weights before the sum
   over the keys or the sum after it is the same. -/
module

public import Idealize.ShloMosaic.PureOps.Ideal.Laws

@[expose] public section

noncomputable section

namespace Cert.Mix

open Idealize.ShloMosaic
open scoped BigOperators

/-- An extended real that is a real number. -/
def Fin' (x : EReal) : Prop := ∃ r : ℝ, x = (r : EReal)

theorem fin_iff (x : EReal) : Fin' x ↔ x ≠ ⊥ ∧ x ≠ ⊤ := by
  constructor
  · rintro ⟨r, rfl⟩
    exact ⟨EReal.coe_ne_bot r, EReal.coe_ne_top r⟩
  · rintro ⟨h1, h2⟩
    exact ⟨x.toReal, (EReal.coe_toReal h2 h1).symm⟩

theorem fin_mul {x y : EReal} (hx : Fin' x) (hy : Fin' y) : Fin' (x * y) := by
  obtain ⟨a, rfl⟩ := hx
  obtain ⟨b, rfl⟩ := hy
  exact ⟨a * b, (EReal.coe_mul a b).symm⟩

theorem fin_add {x y : EReal} (hx : Fin' x) (hy : Fin' y) : Fin' (x + y) := by
  obtain ⟨a, rfl⟩ := hx
  obtain ⟨b, rfl⟩ := hy
  exact ⟨a + b, (EReal.coe_add a b).symm⟩

theorem fin_zero : Fin' 0 := ⟨0, EReal.coe_zero.symm⟩

theorem fin_sum {ι : Type} (s : Finset ι) (f : ι → EReal) (h : ∀ k ∈ s, Fin' (f k)) : Fin' (∑ k ∈ s, f k) := by
  classical
  induction s using Finset.induction_on with
  | empty => rw [Finset.sum_empty]; exact fin_zero
  | insert a s ha ih =>
    rw [Finset.sum_insert ha]
    exact fin_add (h a (Finset.mem_insert_self a s)) (ih fun k hk => h k (Finset.mem_insert_of_mem hk))

/-- A finite factor that is not negative distributes over a sum, whatever the terms are. -/
theorem mul_sum_real {ι : Type} (s : Finset ι) (c : EReal) (h0 : 0 ≤ c) (ht : c ≠ ⊤) (f : ι → EReal) :
    c * ∑ k ∈ s, f k = ∑ k ∈ s, c * f k := by
  classical
  induction s using Finset.induction_on with
  | empty => rw [Finset.sum_empty, Finset.sum_empty, mul_zero]
  | insert a s ha ih =>
    rw [Finset.sum_insert ha, Finset.sum_insert ha, EReal.left_distrib_of_nonneg_of_ne_top h0 ht, ih]

/-- Over a positive finite denominator the quotient of a weighted sum is the weighted sum of the quotients. -/
theorem div_sum {ι : Type} (s : Finset ι) (p v : ι → EReal) (d : ℝ) (hd : 0 < d) :
    Ideal.div (∑ k ∈ s, p k * v k) (d : EReal) = ∑ k ∈ s, Ideal.div (p k) (d : EReal) * v k := by
  have hne : d ≠ 0 := hd.ne'
  rw [Ideal.div_coe hne, mul_comm, mul_sum_real s _ (by exact_mod_cast (one_div_pos.mpr hd).le) (EReal.coe_ne_top _)]
  refine Finset.sum_congr rfl fun k _ => ?_
  rw [Ideal.div_coe hne, ← mul_assoc, mul_comm (_ : EReal) (p k)]

/-- The exponential of a logit that is not `⊤` below a finite maximum is a real number that is not negative. -/
theorem exp_sub_fin {x m : EReal} (hx : x ≠ ⊤) (hm : Fin' m) : ∃ r : ℝ, 0 ≤ r ∧ Ideal.exp (x - m) = (r : EReal) := by
  obtain ⟨b, rfl⟩ := hm
  induction x using EReal.rec with
  | bot => exact ⟨0, le_rfl, by rw [EReal.bot_sub]; rfl⟩
  | coe a => exact ⟨Real.exp (a - b), (Real.exp_pos _).le, by rw [← EReal.coe_sub]; rfl⟩
  | top => exact absurd rfl hx

theorem exp_sub_pos {x m : EReal} (hx : Fin' x) (hm : Fin' m) : ∃ r : ℝ, 0 < r ∧ Ideal.exp (x - m) = (r : EReal) := by
  obtain ⟨a, rfl⟩ := hx
  obtain ⟨b, rfl⟩ := hm
  exact ⟨Real.exp (a - b), Real.exp_pos _, by rw [← EReal.coe_sub]; rfl⟩

/-- The sum of such exponentials is a real number that is not negative, and at least each of its terms. -/
theorem sum_exp_fin {n : ℕ} (l : Fin n → EReal) (hl : ∀ k, l k ≠ ⊤) {m : EReal} (hm : Fin' m) :
    ∃ r : ℝ, 0 ≤ r ∧ (∑ k, Ideal.exp (l k - m)) = (r : EReal) ∧
      ∀ (k : Fin n) (a : ℝ), Ideal.exp (l k - m) = (a : EReal) → a ≤ r := by
  choose r hr he using fun k => exp_sub_fin (hl k) hm
  refine ⟨∑ k, r k, Finset.sum_nonneg fun k _ => hr k, ?_, fun k a ha => ?_⟩
  · rw [Finset.sum_congr rfl fun k _ => he k]
    exact (map_sum (⟨⟨Real.toEReal, EReal.coe_zero⟩, EReal.coe_add⟩ : ℝ →+ EReal) r Finset.univ).symm
  · rw [he k] at ha
    have : r k = a := EReal.coe_injective ha
    rw [← this]
    exact Finset.single_le_sum (fun j _ => hr j) (Finset.mem_univ k)

/-- The running maximum of finitely many values that are not `⊤`, from `⊥`, is not `⊤`. -/
theorem fold_max_ne_top {n : ℕ} (l : Fin n → EReal) (hl : ∀ k, l k ≠ ⊤) :
    Finset.univ.fold max ⊥ l ≠ ⊤ := by
  refine ne_of_lt ?_
  rw [Finset.fold_max_lt]
  exact ⟨bot_lt_top, fun k _ => lt_top_iff_ne_top.mpr (hl k)⟩

/-- … and it is one of them, if there is one. -/
theorem fold_max_mem {n : ℕ} (l : Fin (n + 1) → EReal) : ∃ k, Finset.univ.fold max ⊥ l = l k := by
  obtain ⟨k, -, hk⟩ := Finset.exists_max_image Finset.univ l ⟨0, Finset.mem_univ 0⟩
  refine ⟨k, le_antisymm ?_ ?_⟩
  · rw [Finset.fold_max_le]
    exact ⟨bot_le, fun j hj => hk j hj⟩
  · rw [Finset.le_fold_max]
    exact Or.inr ⟨k, Finset.mem_univ k, le_rfl⟩

/-- Attention with a sink, the sum over the keys divided afterwards. -/
def sinkLate {n : ℕ} (l v : Fin n → EReal) (s : EReal) : EReal :=
  Ideal.div (∑ k, Ideal.exp (l k - max (Finset.univ.fold max ⊥ l) s) * v k)
    ((∑ k, Ideal.exp (l k - max (Finset.univ.fold max ⊥ l) s)) + Ideal.exp (s - max (Finset.univ.fold max ⊥ l) s))

/-- Attention with a sink, every weight divided. -/
def sinkEarly {n : ℕ} (l v : Fin n → EReal) (s : EReal) : EReal :=
  ∑ k, Ideal.div (Ideal.exp (l k - max (Finset.univ.fold max ⊥ l) s))
    ((∑ k, Ideal.exp (l k - max (Finset.univ.fold max ⊥ l) s)) + Ideal.exp (s - max (Finset.univ.fold max ⊥ l) s)) * v k

/-- With logits below `⊤` and a finite sink the two are equal, and the values at keys whose logit is `⊥` do not matter. -/
theorem sinkLate_eq {n : ℕ} (l v v' : Fin n → EReal) (s : EReal) (hl : ∀ k, l k ≠ ⊤) (hs : Fin' s)
    (hv : ∀ k, l k ≠ ⊥ → v k = v' k) : sinkLate l v s = sinkEarly l v' s := by
  have hm : Fin' (max (Finset.univ.fold max ⊥ l) s) := by
    rw [fin_iff] at hs ⊢
    refine ⟨fun h => hs.1 ?_, fun h => ?_⟩
    · exact le_bot_iff.mp (h ▸ le_max_right _ _)
    · rcases max_choice (Finset.univ.fold max ⊥ l) s with h' | h'
      · exact fold_max_ne_top l hl (h' ▸ h)
      · exact hs.2 (h' ▸ h)
  obtain ⟨d, hd0, hd, -⟩ := sum_exp_fin l hl hm
  obtain ⟨e, he0, he⟩ := exp_sub_pos hs hm
  have hden : ((∑ k, Ideal.exp (l k - max (Finset.univ.fold max ⊥ l) s)) + Ideal.exp (s - max (Finset.univ.fold max ⊥ l) s))
      = ((d + e : ℝ) : EReal) := by rw [hd, he, EReal.coe_add]
  unfold sinkLate sinkEarly
  rw [hden]
  rw [div_sum _ _ _ _ (by linarith)]
  refine Finset.sum_congr rfl fun k _ => ?_
  by_cases hk : l k = ⊥
  · obtain ⟨b, hb⟩ := hm
    rw [hb, hk, EReal.bot_sub, Ideal.exp_bot, Ideal.div_coe (by linarith), zero_mul, zero_mul, zero_mul]
  · rw [hv k hk]

/-- Softmax attention, the sum over the keys divided afterwards. -/
def softLate {n : ℕ} (l v : Fin n → EReal) : EReal :=
  Ideal.div (∑ k, Ideal.exp (l k - Finset.univ.fold max ⊥ l) * v k) (∑ k, Ideal.exp (l k - Finset.univ.fold max ⊥ l))

/-- Softmax attention, every weight divided. -/
def softEarly {n : ℕ} (l v : Fin n → EReal) : EReal :=
  ∑ k, Ideal.div (Ideal.exp (l k - Finset.univ.fold max ⊥ l)) (∑ k, Ideal.exp (l k - Finset.univ.fold max ⊥ l)) * v k

/-- With finite logits the two are equal. -/
theorem softLate_eq {n : ℕ} (l v : Fin (n + 1) → EReal) (hl : ∀ k, Fin' (l k)) : softLate l v = softEarly l v := by
  obtain ⟨j, hj⟩ := fold_max_mem l
  have hm : Fin' (Finset.univ.fold max ⊥ l) := hj ▸ hl j
  obtain ⟨d, hd0, hd, hle⟩ := sum_exp_fin l (fun k => ((fin_iff _).mp (hl k)).2) hm
  obtain ⟨a, ha0, ha⟩ := exp_sub_pos (hl j) hm
  have := hle j a ha
  unfold softLate softEarly
  rw [hd, div_sum _ _ _ _ (by linarith)]

end Cert.Mix
-- ==== Proof.Pre.lean ====
/- What the precondition says of the arguments: the entries that enter a logit are finite. -/
module

public import proofs.«01_k».proof.Proof.Soft
public import proofs.«01_k».proof.Defs
public import proofs.«01_k».proof.Pre_finite_logits
public import Idealize.ShloMosaic.Lib.Pipeline.ValueKit

@[expose] public section

set_option maxRecDepth 16384

noncomputable section

namespace Cert.Mix

open Idealize.ShloMosaic

instance preFacts : Cert.Pre_finite_logits.Facts where
  bitsLt_bf16_f32 := by decide
  bcast_S_S65536x512 := by decide
  slices_S65536x256_S65536x128_0_0 := by decide
  bcast_S_S65536x128 := by decide
  bcast_S_S8 := by decide
  slices_S2048x1024_S2048x512_0_0 := by decide
  bcast_S_S2048x512 := by decide

theorem fin_of_lt (x : EReal) (h : FloatOps.cmpf (F := Ideal) (φ := FTy.f32) .olt (max x (-x)) (Ideal.ofBits .f32 0x7F800000#32) = 1#1) : Fin' x := by
  have e : Ideal.ofBits .f32 0x7F800000#32 = ⊤ := by simp [Ideal.ofBits, Ideal.ieee]
  rw [e] at h
  have hne : max x (-x) ≠ ⊤ := fun h' => by
    rw [h'] at h
    simp [FloatOps.cmpf, Ideal.cmp] at h
  rw [fin_iff]
  refine ⟨fun hb => hne ?_, fun ht => hne ?_⟩
  · rw [hb]; rfl
  · rw [ht]; rfl

/-- The five masks of the precondition, all true, say that the queries, keys and sinks are finite. -/
theorem pre_0 (a0 : FVec Ideal Cert.Pre_finite_logits.S65536x512 .bf16) (a1 : FVec Ideal Cert.Pre_finite_logits.S65536x256 .bf16) (a2 : FVec Ideal Cert.Pre_finite_logits.S8 .f32)
    (a3 : FVec Ideal Cert.Pre_finite_logits.S65536x256 .bf16) (a4 : FVec Ideal Cert.Pre_finite_logits.S256x65536 .bf16) (a5 a6 : FVec Ideal Cert.Pre_finite_logits.S65536x512 .bf16)
    (a7 : FVec Ideal Cert.Pre_finite_logits.S1x512 .f32) (a8 : FVec Ideal Cert.Pre_finite_logits.S65536x512 .bf16) (a9 : FVec Ideal Cert.Pre_finite_logits.S2048x1024 .bf16)
    (h : (Cert.Pre_finite_logits.fn (F := Ideal) a0 a1 a2 a3 a4 a5 a6 a7 a8 a9).1 = (fun _ => 1#1)
      ∧ (Cert.Pre_finite_logits.fn (F := Ideal) a0 a1 a2 a3 a4 a5 a6 a7 a8 a9).2.1 = (fun _ => 1#1)
      ∧ (Cert.Pre_finite_logits.fn (F := Ideal) a0 a1 a2 a3 a4 a5 a6 a7 a8 a9).2.2.1 = (fun _ => 1#1)
      ∧ (Cert.Pre_finite_logits.fn (F := Ideal) a0 a1 a2 a3 a4 a5 a6 a7 a8 a9).2.2.2.1 = (fun _ => 1#1)
      ∧ (Cert.Pre_finite_logits.fn (F := Ideal) a0 a1 a2 a3 a4 a5 a6 a7 a8 a9).2.2.2.2 = (fun _ => 1#1)) :
    (∀ i, Fin' (a0 i)) ∧ (∀ (p : Fin 65536) (q : Fin 256), q.val < 128 → Fin' (a1 (ix2 p q))) ∧ (∀ i, Fin' (a2 i)) ∧ (∀ i, Fin' (a8 i))
      ∧ (∀ (p : Fin 2048) (q : Fin 1024), q.val < 512 → Fin' (a9 (ix2 p q))) := by
  obtain ⟨h0, h1, h2, h3, h4⟩ := h
  refine ⟨fun i => fin_of_lt _ (congrFun h0 i), fun p q hq => ?_, fun i => fin_of_lt _ (congrFun h2 i), fun i => fin_of_lt _ (congrFun h3 i), fun p q hq => ?_⟩
  · have := fin_of_lt _ (congrFun h1 (ix2 p (⟨q.val, hq⟩ : Fin 128)))
    have e : (extractStridedSlice Cert.Pre_finite_logits.S65536x128 ![0, 0] a1 Cert.Pre_finite_logits.Facts.slices_S65536x256_S65536x128_0_0) (ix2 p (⟨q.val, hq⟩ : Fin 128)) = a1 (ix2 p q) := by
      pointwise
    rw [← e]
    exact this
  · have := fin_of_lt _ (congrFun h4 (ix2 p (⟨q.val, hq⟩ : Fin 512)))
    have e : (extractStridedSlice Cert.Pre_finite_logits.S2048x512 ![0, 0] a9 Cert.Pre_finite_logits.Facts.slices_S2048x1024_S2048x512_0_0) (ix2 p (⟨q.val, hq⟩ : Fin 512)) = a9 (ix2 p q) := by
      pointwise
    rw [← e]
    exact this

end Cert.Mix
-- ==== Proof.Ret.lean ====
/- One head of the retention on a chunk of 128 rows, as the kernel computes it: the head's rows of the keys, the new
   carried state, the row before normalization, the stored tile; and each entry read at its coordinates. -/
module

public import proofs.«01_k».proof.Proof.Gen.KernelIdeal.Skeleton
public import proofs.«01_k».proof.Proof.Soft
public import Idealize.ShloMosaic.Lib.Pipeline.ValueKit

@[expose] public section

set_option maxRecDepth 16384

noncomputable section

namespace Cert.Mix

open Idealize.ShloMosaic Cert.KernelIdeal Cert.KernelIdeal.Gen
open scoped BigOperators

/-- Which of the 256 key rows belong to head `h`: the row modulo 128, divided by 32. -/
def rowOf (h : BitVec 32) : IVec S256x128 1 :=
  have rows : IVec S256x128 32 := iota .tc S256x128 32 [0] iota_S256x128_d0_w32
  let x1 : BitVec 1 := Scalar.cmpi .eq 128#32 0#32
  let x2 : BitVec 32 := Scalar.select x1 1#32 128#32
  have x3 : IVec S256x128 32 := broadcast S256x128 x2
  have x4 : IVec S256x128 32 := remsi rows x3
  have x5 : IVec S256x128 32 := broadcast S256x128 0#32
  have x6 : IVec S256x128 1 := cmpi .ne x4 x5
  have x7 : IVec S256x128 32 := broadcast S256x128 0#32
  have x8 : IVec S256x128 1 := cmpi .slt x4 x7
  let x9 : BitVec 1 := Scalar.cmpi .slt x2 0#32
  have x10 : IVec S256x128 1 := broadcast S256x128 x9
  have x11 : IVec S256x128 1 := broadcastTo S256x128 x10 broadcasts_S256x128_S256x128
  have x12 : IVec S256x128 1 := xori x8 x11
  have x13 : IVec S256x128 1 := andi x12 x6
  have x14 : IVec S256x128 32 := broadcast S256x128 x2
  have x15 : IVec S256x128 32 := addi x4 x14
  have x16 : IVec S256x128 32 := select x13 x15 x4
  have x17 : IVec S256x128 32 := broadcast S256x128 32#32
  have x18 : IVec S256x128 32 := divsi x16 x17
  have x19 : IVec S256x128 32 := broadcast S256x128 0#32
  have x20 : IVec S256x128 1 := cmpi .sgt x16 x19
  have x21 : IVec S256x128 32 := extui 32 x20 natLt_1_32
  have x22 : IVec S256x128 32 := broadcast S256x128 0#32
  have x23 : IVec S256x128 1 := cmpi .slt x16 x22
  have x24 : IVec S256x128 32 := extui 32 x23 natLt_1_32
  have x25 : IVec S256x128 32 := subi x21 x24
  let x26 : BitVec 1 := Scalar.cmpi .sgt 32#32 0#32
  let x27 : BitVec 32 := Scalar.extui x26
  let x28 : BitVec 1 := Scalar.cmpi .slt 32#32 0#32
  let x29 : BitVec 32 := Scalar.extui x28
  let x30 : BitVec 32 := Scalar.subi x27 x29
  have x31 : IVec S256x128 32 := broadcast S256x128 x30
  have x32 : IVec S256x128 1 := cmpi .ne x25 x31
  have x33 : IVec S256x128 32 := broadcast S256x128 32#32
  have x34 : IVec S256x128 32 := remsi x16 x33
  have x35 : IVec S256x128 32 := broadcast S256x128 0#32
  have x36 : IVec S256x128 1 := cmpi .ne x34 x35
  have x37 : IVec S256x128 1 := andi x32 x36
  have x38 : IVec S256x128 32 := broadcast S256x128 1#32
  have x39 : IVec S256x128 32 := subi x18 x38
  have x40 : IVec S256x128 32 := select x37 x39 x18
  have x41 : IVec S256x128 32 := broadcast S256x128 h
  have x42 : IVec S256x128 1 := cmpi .eq x40 x41
  x42

/-- The keys with every row of another head zero. -/
def kHead (h : BitVec 32) (kt : FVec Ideal S256x128 .bf16) : FVec Ideal S256x128 .f32 :=
  select (rowOf h) (extf .f32 kt bitsLt_bf16_f32) (broadcast S256x128 (Scalar.ofBits .f32 0x00000000#32))

/-- The carried state after the chunk. -/
def retState (cd : Ideal .f32) (kth : FVec Ideal S256x128 .f32) (vh : FVec Ideal S128x128 .bf16) (st : FVec Ideal S1x256x128 .f32)
    (wk : FVec Ideal S1x1x128 .f32) : FVec Ideal S1x256x128 .f32 :=
  have st2 : FVec Ideal S256x128 .f32 := shapeCast S256x128 st shapeCasts_S1x256x128_S256x128
  have cb : FVec Ideal S256x128 .f32 := broadcast S256x128 cd
  have cs : FVec Ideal S256x128 .f32 := mulf cb st2
  have w1 : FVec Ideal S1x128 .f32 := shapeCast S1x128 wk shapeCasts_S1x1x128_S1x128
  have wb : FVec Ideal S256x128 .f32 := broadcastTo S256x128 w1 broadcasts_S1x128_S256x128
  have kw : FVec Ideal S256x128 .f32 := mulf kth wb
  have kwb : FVec Ideal S256x128 .bf16 := truncf .bf16 kw bitsLt_bf16_f32
  have z : FVec Ideal S256x128 .f32 := constant S256x128 .f32 0x00000000#32
  have kv : FVec Ideal S256x128 .f32 := matmul dot_S256x128_S128x128_S256x128_1_0_0_1_n_n none kwb vh z
  have ns : FVec Ideal S256x128 .f32 := addf cs kv
  have ns1 : FVec Ideal S1x256x128 .f32 := shapeCast S1x256x128 ns shapeCasts_S256x128_S1x256x128
  ns1

/-- The chunk's own part. -/
def retIn (q : FVec Ideal S128x256 .bf16) (kth : FVec Ideal S256x128 .f32) (vh : FVec Ideal S128x128 .bf16)
    (din : FVec Ideal S1x128x128 .f32) : FVec Ideal S128x128 .f32 :=
  matmul dot_S128x128_S128x128_S128x128_1_0_0_1_n_n none
    (truncf .bf16 (mulf (matmul dot_S128x256_S256x128_S128x128_1_0_0_1_n_n none q (truncf .bf16 kth bitsLt_bf16_f32)
      (constant S128x128 .f32 0x00000000#32)) (shapeCast S128x128 din shapeCasts_S1x128x128_S128x128)) bitsLt_bf16_f32)
    vh (constant S128x128 .f32 0x00000000#32)

/-- The part of the chunks before. -/
def retX (q : FVec Ideal S128x256 .bf16) (st : FVec Ideal S1x256x128 .f32) (wq : FVec Ideal S1x128x128 .f32) : FVec Ideal S128x128 .f32 :=
  mulf (matmul dot_S128x256_S256x128_S128x128_1_0_0_1_n_n none q
    (truncf .bf16 (shapeCast S256x128 st shapeCasts_S1x256x128_S256x128) bitsLt_bf16_f32) (constant S128x128 .f32 0x00000000#32))
    (shapeCast S128x128 wq shapeCasts_S1x128x128_S128x128)

/-- The row normalized, scaled and gated: the stored tile. -/
def retNorm (o : FVec Ideal S128x128 .f32) (gn : FVec Ideal S1x128 .f32) (gate : FVec Ideal S128x128 .bf16) : FVec Ideal S128x128 .bf16 :=
  have y1 : FVec Ideal S128 .f32 := multiReduction .add [1] S128 o 0x00000000#32 reduces_S128x128_S128 (.inl rfl) rfl
  have y2 : FVec Ideal S128x1 .f32 := shapeCast S128x1 y1 shapeCasts_S128_S128x1
  have c1 : Ideal .f32 := Scalar.ofBits .f32 0x43000000#32
  have y3 : FVec Ideal S128x1 .f32 := broadcast S128x1 c1
  have y4 : FVec Ideal S128x1 .f32 := divf y2 y3
  have y5 : FVec Ideal S128x128 .f32 := broadcastTo S128x128 y4 broadcasts_S128x1_S128x128
  have y6 : FVec Ideal S128x128 .f32 := subf o y5
  have y7 : FVec Ideal S128x128 .f32 := mulf y6 y6
  have y8 : FVec Ideal S128 .f32 := multiReduction .add [1] S128 y7 0x00000000#32 reduces_S128x128_S128 (.inl rfl) rfl
  have y9 : FVec Ideal S128x1 .f32 := shapeCast S128x1 y8 shapeCasts_S128_S128x1
  have c3 : Ideal .f32 := Scalar.ofBits .f32 0x43000000#32
  have y10 : FVec Ideal S128x1 .f32 := broadcast S128x1 c3
  have y11 : FVec Ideal S128x1 .f32 := divf y9 y10
  have c4 : Ideal .f32 := Scalar.ofBits .f32 0x3727C5AC#32
  have y12 : FVec Ideal S128x1 .f32 := broadcast S128x1 c4
  have y13 : FVec Ideal S128x1 .f32 := addf y11 y12
  have y14 : FVec Ideal S128x1 .f32 := rsqrt y13
  have y15 : FVec Ideal S128x128 .f32 := broadcastTo S128x128 y14 broadcasts_S128x1_S128x128
  have y16 : FVec Ideal S128x128 .f32 := mulf y6 y15
  have y18 : FVec Ideal S128x128 .f32 := broadcastTo S128x128 gn broadcasts_S1x128_S128x128
  have y19 : FVec Ideal S128x128 .f32 := mulf y16 y18
  have one : Ideal .f32 := Scalar.ofBits .f32 0x3F800000#32
  have y21 : FVec Ideal S128x128 .f32 := extf .f32 gate bitsLt_bf16_f32
  have c9 : Ideal .f32 := Scalar.ofBits .f32 0x00000000#32
  have y22 : FVec Ideal S128x128 .f32 := broadcast S128x128 c9
  have y23 : FVec Ideal S128x128 .f32 := subf y22 y21
  have y24 : FVec Ideal S128x128 .f32 := exp y23
  have y25 : FVec Ideal S128x128 .f32 := broadcast S128x128 one
  have y26 : FVec Ideal S128x128 .f32 := addf y25 y24
  have y27 : FVec Ideal S128x128 .f32 := divf y21 y26
  have y28 : FVec Ideal S128x128 .f32 := mulf y19 y27
  have y29 : FVec Ideal S128x128 .bf16 := truncf .bf16 y28 bitsLt_bf16_f32
  y29

/-- The stored tile of one head and chunk. -/
def retTile (h : BitVec 32) (q : FVec Ideal S128x256 .bf16) (kt : FVec Ideal S256x128 .bf16) (vh : FVec Ideal S128x128 .bf16)
    (din : FVec Ideal S1x128x128 .f32) (st : FVec Ideal S1x256x128 .f32) (wq : FVec Ideal S1x128x128 .f32)
    (gn : FVec Ideal S1x128 .f32) (gate : FVec Ideal S128x128 .bf16) : FVec Ideal S128x128 .bf16 :=
  retNorm (addf (retIn q (kHead h kt) vh din) (retX q st wq)) gn gate

/-- A row minus its mean, over the root of its variance, times a weight and the gate's `silu`. -/
def normGate (o : Fin 128 → EReal) (w g : EReal) (e : Fin 128) : EReal :=
  (o e - Ideal.div (∑ x, o x) (Ideal.ofBits .f32 0x43000000#32))
    * Ideal.rsqrt (Ideal.div (∑ x, (o x - Ideal.div (∑ x, o x) (Ideal.ofBits .f32 0x43000000#32))
        * (o x - Ideal.div (∑ x, o x) (Ideal.ofBits .f32 0x43000000#32))) (Ideal.ofBits .f32 0x43000000#32)
      + Ideal.ofBits .f32 0x3727C5AC#32)
    * w * Ideal.div g (1 + Ideal.exp (0 - g))

theorem rowOf_apply (h : Fin 4) (r : Fin 256) (j : Fin 128) :
    rowOf (BitVec.ofNat 32 h.val) (ix2 r j) = if r.val % 128 / 32 = h.val then 1#1 else 0#1 := by
  pointwise [rowOf]
  revert h r
  decide +kernel

theorem kHead_apply (h : Fin 4) (kt : FVec Ideal S256x128 .bf16) (r : Fin 256) (j : Fin 128) :
    kHead (BitVec.ofNat 32 h.val) kt (ix2 r j) = if r.val % 128 / 32 = h.val then kt (ix2 r j) else 0 := by
  pointwise [kHead]
  rw [rowOf_apply]
  split_ifs <;> rfl

theorem retState_apply (cd : Ideal .f32) (kth : FVec Ideal S256x128 .f32) (vh : FVec Ideal S128x128 .bf16) (st : FVec Ideal S1x256x128 .f32)
    (wk : FVec Ideal S1x1x128 .f32) (u : Fin 1) (r : Fin 256) (e : Fin 128) :
    retState cd kth vh st wk (ix3 u r e)
      = cd * st (ix3 0 r e) + ∑ j : Fin 128, kth (ix2 r j) * wk (ix3 0 0 j) * vh (ix2 j e) := by
  pointwise! [retState]

theorem retIn_apply (q : FVec Ideal S128x256 .bf16) (kth : FVec Ideal S256x128 .f32) (vh : FVec Ideal S128x128 .bf16)
    (din : FVec Ideal S1x128x128 .f32) (i e : Fin 128) :
    retIn q kth vh din (ix2 i e)
      = ∑ j : Fin 128, (∑ r : Fin 256, q (ix2 i r) * kth (ix2 r j)) * din (ix3 0 i j) * vh (ix2 j e) := by
  pointwise! [retIn]

theorem retX_apply (q : FVec Ideal S128x256 .bf16) (st : FVec Ideal S1x256x128 .f32) (wq : FVec Ideal S1x128x128 .f32) (i e : Fin 128) :
    retX q st wq (ix2 i e) = (∑ r : Fin 256, q (ix2 i r) * st (ix3 0 r e)) * wq (ix3 0 i e) := by
  pointwise! [retX]

theorem retNorm_apply (o : FVec Ideal S128x128 .f32) (gn : FVec Ideal S1x128 .f32) (gate : FVec Ideal S128x128 .bf16) (i e : Fin 128) :
    retNorm o gn gate (ix2 i e) = normGate (fun x => o (ix2 i x)) (gn (ix2 0 e)) (gate (ix2 i e)) e := by
  pointwise [retNorm]
  rfl

end Cert.Mix
-- ==== Proof.Attn.lean ====
/- One head of the sliding-window attention, as the kernel computes it on a tile of 128 queries and 256 keys: the
   stored tile over its operands, and its entry read as a softmax with a sink whose weights are divided at the end. -/
module

public import proofs.«01_k».proof.Proof.Gen.KernelIdeal.Skeleton
public import proofs.«01_k».proof.Proof.Soft
public import Idealize.ShloMosaic.Lib.Pipeline.ValueKit

@[expose] public section

set_option maxRecDepth 16384

noncomputable section

namespace Cert.Mix

open Idealize.ShloMosaic Cert.KernelIdeal Cert.KernelIdeal.Gen
open scoped BigOperators

/-- One head's output on a tile: the queries `q` cut to the lanes of `lane`, the keys `kk`, the values `vv`, the
    window `ok` and the sink `s`. -/
def headOut (lane : FVec Ideal S128x128 .bf16) (ok : IVec S128x256 1) (kk vv : FVec Ideal S256x128 .bf16)
    (q : Vec Ideal S128x128 .bf16) (s : Elt Ideal .f32) : FVec Ideal S128x128 .f32 :=
  have qm : FVec Ideal S128x128 .bf16 := mulf q lane
  have z1 : FVec Ideal S128x256 .f32 := constant S128x256 .f32 0x00000000#32
  have qk : FVec Ideal S128x256 .f32 := matmul dot_S128x128_S256x128_S128x256_1_1_0_0_n_n none qm kk z1
  have c1 : Ideal .f32 := Scalar.ofBits .f32 0x3E000000#32
  have sc : FVec Ideal S128x256 .f32 := broadcast S128x256 c1
  have ls : FVec Ideal S128x256 .f32 := mulf qk sc
  have c2 : Ideal .f32 := Scalar.ofBits .f32 0xFF800000#32
  have ninf : FVec Ideal S128x256 .f32 := broadcast S128x256 c2
  have l : FVec Ideal S128x256 .f32 := select ok ls ninf
  have m0 : FVec Ideal S128 .f32 := multiReduction .maximumf [1] S128 l 0xFF800000#32 reduces_S128x256_S128 (.inl rfl) rfl
  have m1 : FVec Ideal S128x1 .f32 := shapeCast S128x1 m0 shapeCasts_S128_S128x1
  have sk : FVec Ideal S128x1 .f32 := broadcast S128x1 s
  have m : FVec Ideal S128x1 .f32 := maximumf m1 sk
  have mb : FVec Ideal S128x256 .f32 := broadcastTo S128x256 m broadcasts_S128x1_S128x256
  have lm : FVec Ideal S128x256 .f32 := subf l mb
  have p : FVec Ideal S128x256 .f32 := exp lm
  have ps : FVec Ideal S128 .f32 := multiReduction .add [1] S128 p 0x00000000#32 reduces_S128x256_S128 (.inl rfl) rfl
  have ps1 : FVec Ideal S128x1 .f32 := shapeCast S128x1 ps shapeCasts_S128_S128x1
  have sk2 : FVec Ideal S128x1 .f32 := broadcast S128x1 s
  have sm : FVec Ideal S128x1 .f32 := subf sk2 m
  have es : FVec Ideal S128x1 .f32 := exp sm
  have den : FVec Ideal S128x1 .f32 := addf ps1 es
  have pb : FVec Ideal S128x256 .bf16 := truncf .bf16 p bitsLt_bf16_f32
  have z2 : FVec Ideal S128x128 .f32 := constant S128x128 .f32 0x00000000#32
  have pv : FVec Ideal S128x128 .f32 := matmul dot_S128x256_S256x128_S128x128_1_0_0_1_n_n none pb vv z2
  have db : FVec Ideal S128x128 .f32 := broadcastTo S128x128 den broadcasts_S128x1_S128x128
  have out : FVec Ideal S128x128 .f32 := divf pv db
  out

/-- The kernel's stored tile: the first head on the low 64 lanes, the second on the high ones. -/
def attnTile (low : IVec S128x128 1) (o0 o1 : FVec Ideal S128x128 .f32) : FVec Ideal S128x128 .bf16 :=
  truncf .bf16 (select low o0 o1) bitsLt_bf16_f32

theorem ofBits_negInf : Ideal.ofBits .f32 0xFF800000#32 = ⊥ := by simp [Ideal.ofBits, Ideal.ieee]

/-- The masked logit of key `k` for query row `a`. -/
def headLogit (lane : FVec Ideal S128x128 .bf16) (ok : IVec S128x256 1) (kk : FVec Ideal S256x128 .bf16)
    (q : Vec Ideal S128x128 .bf16) (a : Fin 128) (k : Fin 256) : EReal :=
  Scalar.select (ok (ix2 a k)) ((∑ d : Fin 128, q (ix2 a d) * lane (ix2 a d) * kk (ix2 k d)) * Ideal.ofBits .f32 0x3E000000#32) ⊥

theorem headOut_apply (lane : FVec Ideal S128x128 .bf16) (ok : IVec S128x256 1) (kk vv : FVec Ideal S256x128 .bf16)
    (q : Vec Ideal S128x128 .bf16) (s : Elt Ideal .f32) (a b : Fin 128) :
    headOut lane ok kk vv q s (ix2 a b) = sinkLate (headLogit lane ok kk q a) (fun k => vv (ix2 k b)) s := by
  pointwise [headOut]
  rw [ofBits_negInf]
  rfl

theorem attnTile_apply (low : IVec S128x128 1) (o0 o1 : FVec Ideal S128x128 .f32) (a b : Fin 128) :
    attnTile low o0 o1 (ix2 a b) = Scalar.select (low (ix2 a b)) (o0 (ix2 a b)) (o1 (ix2 a b)) := rfl

end Cert.Mix
-- ==== Proof.Mem.lean ====
/- One head of the attention over the memory, as the kernel computes it on a tile of 512 queries: the stored tile
   over its operands, and its entry read as a softmax whose weights are divided at the end. -/
module

public import proofs.«01_k».proof.Proof.Gen.KernelIdeal.Skeleton
public import proofs.«01_k».proof.Proof.Soft
public import Idealize.ShloMosaic.Lib.Pipeline.ValueKit

@[expose] public section

set_option maxRecDepth 16384

noncomputable section

namespace Cert.Mix

open Idealize.ShloMosaic Cert.KernelIdeal Cert.KernelIdeal.Gen
open scoped BigOperators

/-- One head's stored tile over its queries, keys and values. -/
def memTile (q : FVec Ideal S512x128 .bf16) (kk vv : FVec Ideal S256x128 .bf16) : FVec Ideal S512x128 .bf16 :=
  have z1 : FVec Ideal S512x256 .f32 := constant S512x256 .f32 0x00000000#32
  have qk : FVec Ideal S512x256 .f32 := matmul dot_S512x128_S256x128_S512x256_1_1_0_0_n_n none q kk z1
  have c : Ideal .f32 := Scalar.ofBits .f32 0x3DB504F3#32
  have cb : FVec Ideal S512x256 .f32 := broadcast S512x256 c
  have l : FVec Ideal S512x256 .f32 := mulf qk cb
  have m : FVec Ideal S512 .f32 := multiReduction .maximumf [1] S512 l 0xFF800000#32 reduces_S512x256_S512 (.inl rfl) rfl
  have m1 : FVec Ideal S512x1 .f32 := shapeCast S512x1 m shapeCasts_S512_S512x1
  have mb : FVec Ideal S512x256 .f32 := broadcastTo S512x256 m1 broadcasts_S512x1_S512x256
  have lm : FVec Ideal S512x256 .f32 := subf l mb
  have p : FVec Ideal S512x256 .f32 := exp lm
  have ps : FVec Ideal S512 .f32 := multiReduction .add [1] S512 p 0x00000000#32 reduces_S512x256_S512 (.inl rfl) rfl
  have ps1 : FVec Ideal S512x1 .f32 := shapeCast S512x1 ps shapeCasts_S512_S512x1
  have pb : FVec Ideal S512x256 .bf16 := truncf .bf16 p bitsLt_bf16_f32
  have z2 : FVec Ideal S512x128 .f32 := constant S512x128 .f32 0x00000000#32
  have pv : FVec Ideal S512x128 .f32 := matmul dot_S512x256_S256x128_S512x128_1_0_0_1_n_n none pb vv z2
  have db : FVec Ideal S512x128 .f32 := broadcastTo S512x128 ps1 broadcasts_S512x1_S512x128
  have o : FVec Ideal S512x128 .f32 := divf pv db
  have ob : FVec Ideal S512x128 .bf16 := truncf .bf16 o bitsLt_bf16_f32
  ob

/-- The logit of key `k` for query row `a`. -/
def memLogit (q : FVec Ideal S512x128 .bf16) (kk : FVec Ideal S256x128 .bf16) (a : Fin 512) (k : Fin 256) : EReal :=
  (∑ d : Fin 128, q (ix2 a d) * kk (ix2 k d)) * Ideal.ofBits .f32 0x3DB504F3#32

theorem memTile_apply (q : FVec Ideal S512x128 .bf16) (kk vv : FVec Ideal S256x128 .bf16) (a : Fin 512) (b : Fin 128) :
    memTile q kk vv (ix2 a b) = softLate (memLogit q kk a) (fun k => vv (ix2 k b)) := by
  pointwise [memTile]
  have hb : Ideal.ofBits .f32 0xFF800000#32 = ⊥ := by simp [Ideal.ofBits, Ideal.ieee]
  rw [hb]
  rfl

end Cert.Mix
-- ==== Proof.Tiles.lean ====
/- The rectangles the kernel loads and stores through, by chunk and head, and the list of the stores it makes into the
   carried retention state: one per chunk and head, each reading the head's rows as the stores before it left them. -/
module

public import proofs.«01_k».proof.Proof.Ret
public import proofs.«01_k».proof.Proof.Attn
public import proofs.«01_k».proof.Proof.Mem
public import Idealize.ShloMosaic.Lib.WholeRead
public import Idealize.ShloMosaic.Lib.Pipeline.ValueKit

@[expose] public section

set_option maxRecDepth 16384

noncomputable section

namespace Cert.Mix

open Idealize.ShloMosaic Cert.KernelIdeal Cert.KernelIdeal.Gen
open scoped BigOperators

theorem rS_inb (h : Fin 4) : ∀ a, (![h.val, 0, 0] : Fin 3 → ℕ) a + (![1, 256, 128] : Fin 3 → ℕ) a ≤ S4x256x128.size a :=
  (by decide : ∀ h : Fin 4, ∀ a, (![h.val, 0, 0] : Fin 3 → ℕ) a + (![1, 256, 128] : Fin 3 → ℕ) a ≤ S4x256x128.size a) h

/-- Head `h` of the state. -/
def rS (h : Fin 4) : Rect S4x256x128 :=
  Rect.unit ![h.val, 0, 0] ![1, 256, 128] (rS_inb h)

/-- Chunk `c` of the tile's key columns. -/
def rK (c : Fin 4) : Rect S256x512 :=
  Rect.unit ![0, 128 * c.val] ![256, 128] ((by decide : ∀ c : Fin 4, ∀ a, (![0, 128 * c.val] : Fin 2 → ℕ) a + (![256, 128] : Fin 2 → ℕ) a ≤ S256x512.size a) c)

/-- Rows of block `c` and columns of block `h` of a tile of 512 by 512. -/
def rT (c h : Fin 4) : Rect S512x512 :=
  Rect.unit ![128 * c.val, 128 * h.val] ![128, 128] ((by decide : ∀ c h : Fin 4, ∀ a, (![128 * c.val, 128 * h.val] : Fin 2 → ℕ) a + (![128, 128] : Fin 2 → ℕ) a ≤ S512x512.size a) c h)

/-- Rows of block `c` of a tile of 512 by 256. -/
def rQ (c : Fin 4) : Rect S512x256 :=
  Rect.unit ![128 * c.val, 0] ![128, 256] ((by decide : ∀ c : Fin 4, ∀ a, (![128 * c.val, 0] : Fin 2 → ℕ) a + (![128, 256] : Fin 2 → ℕ) a ≤ S512x256.size a) c)

/-- Head `h` of the table of row weights. -/
def rW (h : Fin 4) : Rect S4x1x128 :=
  Rect.unit ![h.val, 0, 0] ![1, 1, 128] ((by decide : ∀ h : Fin 4, ∀ a, (![h.val, 0, 0] : Fin 3 → ℕ) a + (![1, 1, 128] : Fin 3 → ℕ) a ≤ S4x1x128.size a) h)

/-- Head `h` of a table of 128 by 128 weights. -/
def rD (h : Fin 4) : Rect S4x128x128 :=
  Rect.unit ![h.val, 0, 0] ![1, 128, 128] ((by decide : ∀ h : Fin 4, ∀ a, (![h.val, 0, 0] : Fin 3 → ℕ) a + (![1, 128, 128] : Fin 3 → ℕ) a ≤ S4x128x128.size a) h)

/-- Columns of block `h` of the row of scales. -/
def rG (h : Fin 4) : Rect S1x512 :=
  Rect.unit ![0, 128 * h.val] ![1, 128] ((by decide : ∀ h : Fin 4, ∀ a, (![0, 128 * h.val] : Fin 2 → ℕ) a + (![1, 128] : Fin 2 → ℕ) a ≤ S1x512.size a) h)

/-- Chunk `c` of the key columns. -/
abbrev ldK (x : FVec Ideal S256x512 .bf16) (c : Fin 4) : FVec Ideal S256x128 .bf16 := View.ld (Val := Elt Ideal) (e' := .bf16) x (rK c)

/-- Block `(c, h)` of a tile. -/
abbrev ldT (x : FVec Ideal S512x512 .bf16) (c h : Fin 4) : FVec Ideal S128x128 .bf16 := View.ld (Val := Elt Ideal) (e' := .bf16) x (rT c h)

/-- Rows of block `c`. -/
abbrev ldQ (x : FVec Ideal S512x256 .bf16) (c : Fin 4) : FVec Ideal S128x256 .bf16 := View.ld (Val := Elt Ideal) (e' := .bf16) x (rQ c)

/-- Head `h` of the row weights. -/
abbrev ldW (x : FVec Ideal S4x1x128 .f32) (h : Fin 4) : FVec Ideal S1x1x128 .f32 := View.ld (Val := Elt Ideal) (e' := .f32) x (rW h)

/-- Head `h` of a table of weights. -/
abbrev ldD (x : FVec Ideal S4x128x128 .f32) (h : Fin 4) : FVec Ideal S1x128x128 .f32 := View.ld (Val := Elt Ideal) (e' := .f32) x (rD h)

/-- Columns of block `h` of the scales. -/
abbrev ldG (x : FVec Ideal S1x512 .f32) (h : Fin 4) : FVec Ideal S1x128 .f32 := View.ld (Val := Elt Ideal) (e' := .f32) x (rG h)

/-- Head `h` of the state. -/
abbrev ldS (x : FVec Ideal S4x256x128 .f32) (h : Fin 4) : FVec Ideal S1x256x128 .f32 := View.ld (Val := Elt Ideal) (e' := .f32) x (rS h)

/-- What a whole chunk multiplies the state of head `h` by. -/
def cdH : Fin 4 → Ideal .f32
  | 0 => Named.named κ "chunk_decay_0" 0x3C8CC36A#32
  | 1 => Named.named κ "chunk_decay_1" 0x3E08698E#32
  | 2 => Named.named κ "chunk_decay_2" 0x3EBB9DB9#32
  | 3 => Named.named κ "chunk_decay_3" 0x3F1B1EB1#32

/-- The stores into the state so far, last first. -/
abbrev Stores : Type := List (View.Piece (Elt Ideal) S4x256x128 .f32)

/-- A head's rows of the state after the stores `L`. -/
def stLd (L : Stores) (h : Fin 4) : FVec Ideal S1x256x128 .f32 := fun j => View.canon L ((rS h).toLoadRect.idx j)

/-- The store of chunk `c` and head `h`. -/
def stStep (x5 : FVec Ideal S256x512 .bf16) (x6 : FVec Ideal S512x512 .bf16) (x10 : FVec Ideal S4x1x128 .f32)
    (c h : Fin 4) (s : FVec Ideal S1x256x128 .f32) : FVec Ideal S1x256x128 .f32 :=
  retState (cdH h) (kHead (BitVec.ofNat 32 h.val) (ldK x5 c)) (ldT x6 c h) s (ldW x10 h)

/-- The head's rows as they stand before chunk `n`, from the rows `s` the tile found. -/
def stAt (x5 : FVec Ideal S256x512 .bf16) (x6 : FVec Ideal S512x512 .bf16) (x10 : FVec Ideal S4x1x128 .f32)
    (s : Fin 4 → FVec Ideal S1x256x128 .f32) (h : Fin 4) : ℕ → FVec Ideal S1x256x128 .f32
  | 0 => s h
  | n + 1 => stStep x5 x6 x10 (Fin.ofNat 4 n) h (stAt x5 x6 x10 s h n)

/-- One more store, of the value `w`. -/
def stPut (h : Fin 4) (w : FVec Ideal S1x256x128 .f32) (L : Stores) : Stores := ⟨rS h, w⟩ :: L

/-- The store made last is what its own head's load reads. -/
theorem stLd_put_same (h : Fin 4) (w : FVec Ideal S1x256x128 .f32) (L : Stores) : stLd (stPut h w L) h = w := by
  funext j
  exact View.canon_cons_emb (Val := Elt Ideal) (rS h) w L j

/-- A load of another head does not see it. -/
theorem stLd_put_ne (h h' : Fin 4) (hh : h ≠ h') (w : FVec Ideal S1x256x128 .f32) (L : Stores) :
    stLd (stPut h w L) h' = stLd L h' := by
  funext j
  refine View.canon_cons_of_not_mem (Val := Elt Ideal) _ L fun hm => hh ?_
  have h0 := (Rect.mem_set_unit.mp (show _ ∈ (Rect.unit (s := S4x256x128) ![h.val, 0, 0] ![1, 256, 128] (rS_inb h)).set from hm)) (0 : Fin 3)
  have e0 : (((rS h').toLoadRect.idx j) (0 : Fin 3) : ℕ) = h'.val + 1 * (j (0 : Fin 3) : ℕ) := rfl
  have hj : (j (0 : Fin 3) : ℕ) < 1 := (j (0 : Fin 3)).isLt
  have h1 : h.val ≤ h'.val + 1 * (j (0 : Fin 3) : ℕ) ∧ h'.val + 1 * (j (0 : Fin 3) : ℕ) < h.val + 1 := by
    rw [← e0]; exact h0
  exact Fin.ext (by omega)

/-- The tile of the retention's output of chunk `c` and head `h`, over the head's rows `s`. -/
def tile15 (x4 : FVec Ideal S512x256 .bf16) (x5 : FVec Ideal S256x512 .bf16) (x6 x7 : FVec Ideal S512x512 .bf16)
    (x8 : FVec Ideal S1x512 .f32) (x9 x11 : FVec Ideal S4x128x128 .f32) (c h : Fin 4) (s : FVec Ideal S1x256x128 .f32) :
    FVec Ideal S128x128 .bf16 :=
  retTile (BitVec.ofNat 32 h.val) (ldQ x4 c) (ldK x5 c) (ldT x6 c h) (ldD x9 h) s (ldD x11 h) (ldG x8 h) (ldT x7 c h)

/-- The stores into the buffer of keys and values: the block before the tile, then the tile's own rows. -/
def kvs (x2 : FVec Ideal S512x256 .bf16) (x3 : FVec Ideal S128x256 .bf16) : List (View.Piece (Elt Ideal) S640x256 .bf16) :=
  [⟨Rect.unit ![128, 0] ![512, 256] (by decide), shapeCast S512x256 (View.ld (Val := Elt Ideal) (e' := .bf16) x2 (Rect.unit ![0, 0] ![512, 256] (by decide))) shapeCasts_S512x256_S512x256⟩,
   ⟨Rect.unit ![0, 0] ![128, 256] (by decide), shapeCast S128x256 (View.ld (Val := Elt Ideal) (e' := .bf16) x3 (Rect.unit ![0, 0] ![128, 256] (by decide))) shapeCasts_S128x256_S128x256⟩]

/-- The two blocks of keys and values that queries of block `b` see. -/
def rKV (b : Fin 4) : Rect S640x256 :=
  Rect.unit ![128 * b.val, 0] ![256, 256] ((by decide : ∀ b : Fin 4, ∀ a, (![128 * b.val, 0] : Fin 2 → ℕ) a + (![256, 256] : Fin 2 → ℕ) a ≤ S640x256.size a) b)

/-- What the load of those blocks reads. -/
def ldKV (x2 : FVec Ideal S512x256 .bf16) (x3 : FVec Ideal S128x256 .bf16) (b : Fin 4) : FVec Ideal S256x256 .bf16 :=
  fun j => View.canon (kvs x2 x3) ((rKV b).toLoadRect.idx j)

/-- One sink. -/
def rSk (n : Fin 8) : Rect S8 :=
  Rect.unit ![n.val] ![1] ((by decide : ∀ n : Fin 8, ∀ a, (![n.val] : Fin 1 → ℕ) a + (![1] : Fin 1 → ℕ) a ≤ S8.size a) n)

/-- The sink of head `n`. -/
abbrev ldSk (x0 : FVec Ideal S8 .f32) (n : Fin 8) : FVec Ideal S1 .f32 := View.ld (Val := Elt Ideal) (e' := .f32) x0 (rSk n)

/-- The window of block `b`: the first block of a tile looks back only where there is a block before it. -/
def okB (i : grid0.Coords) : Fin 4 → IVec S128x256 1
  | 0 => k0_pay7 i
  | 1 => k0_pay3
  | 2 => k0_pay3
  | 3 => k0_pay3

/-- The tile of the attention's output of block `b` and head pair `r`. -/
def tile14 (i : grid0.Coords) (x0 : FVec Ideal S8 .f32) (x1 : FVec Ideal S512x512 .bf16) (x2 : FVec Ideal S512x256 .bf16)
    (x3 : FVec Ideal S128x256 .bf16) (b r : Fin 4) : FVec Ideal S128x128 .bf16 :=
  attnTile k0_pay4
    (headOut k0_pay5 (okB i b) (k0_pay8 (ldKV x2 x3 b)) (k0_pay9 (ldKV x2 x3 b)) (ldT x1 b r) (ldSk x0 ⟨r.val, by omega⟩ (Shape.Idx.first (s := S1) (by decide))))
    (headOut k0_pay6 (okB i b) (k0_pay8 (ldKV x2 x3 b)) (k0_pay9 (ldKV x2 x3 b)) (ldT x1 b r) (ldSk x0 ⟨4 + r.val, by omega⟩ (Shape.Idx.first (s := S1) (by decide))))

/-- Sixteen tiles of 128 by 128, last first. -/
def sixteen (f : Fin 4 → Fin 4 → FVec Ideal S128x128 .bf16) : List (View.Piece (Elt Ideal) S512x512 .bf16) :=
  [⟨rT 3 3, f 3 3⟩, ⟨rT 3 2, f 3 2⟩, ⟨rT 3 1, f 3 1⟩, ⟨rT 3 0, f 3 0⟩, ⟨rT 2 3, f 2 3⟩, ⟨rT 2 2, f 2 2⟩, ⟨rT 2 1, f 2 1⟩, ⟨rT 2 0, f 2 0⟩,
   ⟨rT 1 3, f 1 3⟩, ⟨rT 1 2, f 1 2⟩, ⟨rT 1 1, f 1 1⟩, ⟨rT 1 0, f 1 0⟩, ⟨rT 0 3, f 0 3⟩, ⟨rT 0 2, f 0 2⟩, ⟨rT 0 1, f 0 1⟩, ⟨rT 0 0, f 0 0⟩]

theorem ld_unread {κ : Kind} {sp : Space} {s : Shape} {e : EltTy} {m : Memref sig κ sp s e} (h : m.IsWhole) (X : s.Idx → Elt Ideal e) (r : Rect s) :
    View.readAt (Elt Ideal) m.view r.toLoadRect (h.unread X) = View.ld (Val := Elt Ideal) (e' := e) X r :=
  funext fun x => Memref.IsWhole.readAt_unread h X r.toLoadRect x

end Cert.Mix
-- ==== Proof.StateA.lean ====
/- The stores into the carried retention state at a grid point where the state starts at zero: each as one step of its head's rows, and what each head's rows are before each chunk. -/
module

public import proofs.«01_k».proof.Proof.Tiles
public import proofs.«01_k».proof.Proof.Gen.KernelIdeal.Frame

@[expose] public section

set_option maxRecDepth 16384
set_option maxHeartbeats 2000000

noncomputable section

namespace Cert.Mix

open Idealize.ShloMosaic Cert.KernelIdeal Cert.KernelIdeal.Gen

variable (c : Dev nD) (arg7 : Memref sig .tc .vmem S256x512 .bf16) (harg7 : arg7.IsWhole) (arg8 : Memref sig .tc .vmem S512x512 .bf16) (harg8 : arg8.IsWhole)
    (arg12 : Memref sig .tc .vmem S4x1x128 .f32) (harg12 : arg12.IsWhole) (arg20 : Memref sig .tc .vmem S4x256x128 .f32) (harg20 : arg20.IsWhole) (x5 : Vec Ideal S256x512 .bf16)
    (x6 : Vec Ideal S512x512 .bf16) (x10 : Vec Ideal S4x1x128 .f32)

/-- The state at zero. -/
def zeroS : FVec Ideal S4x256x128 .f32 := shapeCast S4x256x128 (broadcast S4x256x128 (Scalar.ofBits (F := Ideal) .f32 0x00000000#32)) shapeCasts_S4x256x128_S4x256x128

theorem hsA_0 (h : Fin 4) : stLd (kernelRun0_A.sl.HS1_1 (F := Ideal)) h = ldS zeroS h := by
  funext j
  have e : (kernelRun0_A.sl.HS1_1 (F := Ideal)) = ⟨Rect.unit ![0, 0, 0] ![4, 256, 128] (by decide), zeroS⟩ :: [] := rfl
  have hi : (rS h).toLoadRect.idx j = (Rect.unit (s := S4x256x128) ![0, 0, 0] ![4, 256, 128] (by decide)).emb ((rS h).toLoadRect.idx j) := by
    funext a
    apply Fin.ext
    rw [Rect.emb_apply]
    have z : ∀ a : Fin 3, (![0, 0, 0] : Fin 3 → ℕ) a = 0 := by decide
    show _ = (![0, 0, 0] : Fin 3 → ℕ) a + 1 * _
    rw [z a]
    omega
  unfold stLd
  rw [e, hi]
  exact View.canon_cons_emb (Val := Elt Ideal) (s := S4x256x128) (e := .f32) (Rect.unit ![0, 0, 0] ![4, 256, 128] (by decide)) zeroS [] _

theorem hsA_1 : (kernelRun0_A.sl.HS1_2 (F := Ideal) c arg7 harg7 arg8 harg8 arg12 harg12 arg20 x5 x6 x10)
      = stPut 0 (stStep x5 x6 x10 0 0 (stLd (kernelRun0_A.sl.HS1_1 (F := Ideal)) 0)) (kernelRun0_A.sl.HS1_1 (F := Ideal)) := by
  unfold stPut stStep
  rw [show stLd (kernelRun0_A.sl.HS1_1 (F := Ideal)) 0 = _ from (View.readCov_eq_canon' arg20.view (kernelRun0_A.sl.HS1_1 (F := Ideal)) (rS 0).toLoadRect).symm,
    show ldK x5 0 = _ from (ld_unread harg7 x5 (rK 0)).symm, show ldT x6 0 0 = _ from (ld_unread harg8 x6 (rT 0 0)).symm, show ldW x10 0 = _ from (ld_unread harg12 x10 (rW 0)).symm]
  rfl

theorem hsA_2 : (kernelRun0_A.sl.HS1_3 (F := Ideal) c arg7 harg7 arg8 harg8 arg12 harg12 arg20 x5 x6 x10)
      = stPut 1 (stStep x5 x6 x10 0 1 (stLd (kernelRun0_A.sl.HS1_2 (F := Ideal) c arg7 harg7 arg8 harg8 arg12 harg12 arg20 x5 x6 x10) 1)) (kernelRun0_A.sl.HS1_2 (F := Ideal) c arg7 harg7 arg8 harg8 arg12 harg12 arg20 x5 x6 x10) := by
  unfold stPut stStep
  rw [show stLd (kernelRun0_A.sl.HS1_2 (F := Ideal) c arg7 harg7 arg8 harg8 arg12 harg12 arg20 x5 x6 x10) 1 = _ from (View.readCov_eq_canon' arg20.view (kernelRun0_A.sl.HS1_2 (F := Ideal) c arg7 harg7 arg8 harg8 arg12 harg12 arg20 x5 x6 x10) (rS 1).toLoadRect).symm,
    show ldK x5 0 = _ from (ld_unread harg7 x5 (rK 0)).symm, show ldT x6 0 1 = _ from (ld_unread harg8 x6 (rT 0 1)).symm, show ldW x10 1 = _ from (ld_unread harg12 x10 (rW 1)).symm]
  rfl

theorem hsA_3 : (kernelRun0_A.sl.HS1_4 (F := Ideal) c arg7 harg7 arg8 harg8 arg12 harg12 arg20 x5 x6 x10)
      = stPut 2 (stStep x5 x6 x10 0 2 (stLd (kernelRun0_A.sl.HS1_3 (F := Ideal) c arg7 harg7 arg8 harg8 arg12 harg12 arg20 x5 x6 x10) 2)) (kernelRun0_A.sl.HS1_3 (F := Ideal) c arg7 harg7 arg8 harg8 arg12 harg12 arg20 x5 x6 x10) := by
  unfold stPut stStep
  rw [show stLd (kernelRun0_A.sl.HS1_3 (F := Ideal) c arg7 harg7 arg8 harg8 arg12 harg12 arg20 x5 x6 x10) 2 = _ from (View.readCov_eq_canon' arg20.view (kernelRun0_A.sl.HS1_3 (F := Ideal) c arg7 harg7 arg8 harg8 arg12 harg12 arg20 x5 x6 x10) (rS 2).toLoadRect).symm,
    show ldK x5 0 = _ from (ld_unread harg7 x5 (rK 0)).symm, show ldT x6 0 2 = _ from (ld_unread harg8 x6 (rT 0 2)).symm, show ldW x10 2 = _ from (ld_unread harg12 x10 (rW 2)).symm]
  rfl

theorem hsA_4 : (kernelRun0_A.sl.HS1_5 (F := Ideal) c arg7 harg7 arg8 harg8 arg12 harg12 arg20 x5 x6 x10)
      = stPut 3 (stStep x5 x6 x10 0 3 (stLd (kernelRun0_A.sl.HS1_4 (F := Ideal) c arg7 harg7 arg8 harg8 arg12 harg12 arg20 x5 x6 x10) 3)) (kernelRun0_A.sl.HS1_4 (F := Ideal) c arg7 harg7 arg8 harg8 arg12 harg12 arg20 x5 x6 x10) := by
  unfold stPut stStep
  rw [show stLd (kernelRun0_A.sl.HS1_4 (F := Ideal) c arg7 harg7 arg8 harg8 arg12 harg12 arg20 x5 x6 x10) 3 = _ from (View.readCov_eq_canon' arg20.view (kernelRun0_A.sl.HS1_4 (F := Ideal) c arg7 harg7 arg8 harg8 arg12 harg12 arg20 x5 x6 x10) (rS 3).toLoadRect).symm,
    show ldK x5 0 = _ from (ld_unread harg7 x5 (rK 0)).symm, show ldT x6 0 3 = _ from (ld_unread harg8 x6 (rT 0 3)).symm, show ldW x10 3 = _ from (ld_unread harg12 x10 (rW 3)).symm]
  rfl

theorem hsA_5 : (kernelRun0_A.sl.HS1_6 (F := Ideal) c arg7 harg7 arg8 harg8 arg12 harg12 arg20 x5 x6 x10)
      = stPut 0 (stStep x5 x6 x10 1 0 (stLd (kernelRun0_A.sl.HS1_5 (F := Ideal) c arg7 harg7 arg8 harg8 arg12 harg12 arg20 x5 x6 x10) 0)) (kernelRun0_A.sl.HS1_5 (F := Ideal) c arg7 harg7 arg8 harg8 arg12 harg12 arg20 x5 x6 x10) := by
  unfold stPut stStep
  rw [show stLd (kernelRun0_A.sl.HS1_5 (F := Ideal) c arg7 harg7 arg8 harg8 arg12 harg12 arg20 x5 x6 x10) 0 = _ from (View.readCov_eq_canon' arg20.view (kernelRun0_A.sl.HS1_5 (F := Ideal) c arg7 harg7 arg8 harg8 arg12 harg12 arg20 x5 x6 x10) (rS 0).toLoadRect).symm,
    show ldK x5 1 = _ from (ld_unread harg7 x5 (rK 1)).symm, show ldT x6 1 0 = _ from (ld_unread harg8 x6 (rT 1 0)).symm, show ldW x10 0 = _ from (ld_unread harg12 x10 (rW 0)).symm]
  rfl

theorem hsA_6 : (kernelRun0_A.sl.HS1_7 (F := Ideal) c arg7 harg7 arg8 harg8 arg12 harg12 arg20 x5 x6 x10)
      = stPut 1 (stStep x5 x6 x10 1 1 (stLd (kernelRun0_A.sl.HS1_6 (F := Ideal) c arg7 harg7 arg8 harg8 arg12 harg12 arg20 x5 x6 x10) 1)) (kernelRun0_A.sl.HS1_6 (F := Ideal) c arg7 harg7 arg8 harg8 arg12 harg12 arg20 x5 x6 x10) := by
  unfold stPut stStep
  rw [show stLd (kernelRun0_A.sl.HS1_6 (F := Ideal) c arg7 harg7 arg8 harg8 arg12 harg12 arg20 x5 x6 x10) 1 = _ from (View.readCov_eq_canon' arg20.view (kernelRun0_A.sl.HS1_6 (F := Ideal) c arg7 harg7 arg8 harg8 arg12 harg12 arg20 x5 x6 x10) (rS 1).toLoadRect).symm,
    show ldK x5 1 = _ from (ld_unread harg7 x5 (rK 1)).symm, show ldT x6 1 1 = _ from (ld_unread harg8 x6 (rT 1 1)).symm, show ldW x10 1 = _ from (ld_unread harg12 x10 (rW 1)).symm]
  rfl

theorem hsA_7 : (kernelRun0_A.sl.HS1_8 (F := Ideal) c arg7 harg7 arg8 harg8 arg12 harg12 arg20 x5 x6 x10)
      = stPut 2 (stStep x5 x6 x10 1 2 (stLd (kernelRun0_A.sl.HS1_7 (F := Ideal) c arg7 harg7 arg8 harg8 arg12 harg12 arg20 x5 x6 x10) 2)) (kernelRun0_A.sl.HS1_7 (F := Ideal) c arg7 harg7 arg8 harg8 arg12 harg12 arg20 x5 x6 x10) := by
  unfold stPut stStep
  rw [show stLd (kernelRun0_A.sl.HS1_7 (F := Ideal) c arg7 harg7 arg8 harg8 arg12 harg12 arg20 x5 x6 x10) 2 = _ from (View.readCov_eq_canon' arg20.view (kernelRun0_A.sl.HS1_7 (F := Ideal) c arg7 harg7 arg8 harg8 arg12 harg12 arg20 x5 x6 x10) (rS 2).toLoadRect).symm,
    show ldK x5 1 = _ from (ld_unread harg7 x5 (rK 1)).symm, show ldT x6 1 2 = _ from (ld_unread harg8 x6 (rT 1 2)).symm, show ldW x10 2 = _ from (ld_unread harg12 x10 (rW 2)).symm]
  rfl

theorem hsA_8 : (kernelRun0_A.sl.HS1_9 (F := Ideal) c arg7 harg7 arg8 harg8 arg12 harg12 arg20 x5 x6 x10)
      = stPut 3 (stStep x5 x6 x10 1 3 (stLd (kernelRun0_A.sl.HS1_8 (F := Ideal) c arg7 harg7 arg8 harg8 arg12 harg12 arg20 x5 x6 x10) 3)) (kernelRun0_A.sl.HS1_8 (F := Ideal) c arg7 harg7 arg8 harg8 arg12 harg12 arg20 x5 x6 x10) := by
  unfold stPut stStep
  rw [show stLd (kernelRun0_A.sl.HS1_8 (F := Ideal) c arg7 harg7 arg8 harg8 arg12 harg12 arg20 x5 x6 x10) 3 = _ from (View.readCov_eq_canon' arg20.view (kernelRun0_A.sl.HS1_8 (F := Ideal) c arg7 harg7 arg8 harg8 arg12 harg12 arg20 x5 x6 x10) (rS 3).toLoadRect).symm,
    show ldK x5 1 = _ from (ld_unread harg7 x5 (rK 1)).symm, show ldT x6 1 3 = _ from (ld_unread harg8 x6 (rT 1 3)).symm, show ldW x10 3 = _ from (ld_unread harg12 x10 (rW 3)).symm]
  rfl

theorem hsA_9 : (kernelRun0_A.sl.HS1_10 (F := Ideal) c arg7 harg7 arg8 harg8 arg12 harg12 arg20 x5 x6 x10)
      = stPut 0 (stStep x5 x6 x10 2 0 (stLd (kernelRun0_A.sl.HS1_9 (F := Ideal) c arg7 harg7 arg8 harg8 arg12 harg12 arg20 x5 x6 x10) 0)) (kernelRun0_A.sl.HS1_9 (F := Ideal) c arg7 harg7 arg8 harg8 arg12 harg12 arg20 x5 x6 x10) := by
  unfold stPut stStep
  rw [show stLd (kernelRun0_A.sl.HS1_9 (F := Ideal) c arg7 harg7 arg8 harg8 arg12 harg12 arg20 x5 x6 x10) 0 = _ from (View.readCov_eq_canon' arg20.view (kernelRun0_A.sl.HS1_9 (F := Ideal) c arg7 harg7 arg8 harg8 arg12 harg12 arg20 x5 x6 x10) (rS 0).toLoadRect).symm,
    show ldK x5 2 = _ from (ld_unread harg7 x5 (rK 2)).symm, show ldT x6 2 0 = _ from (ld_unread harg8 x6 (rT 2 0)).symm, show ldW x10 0 = _ from (ld_unread harg12 x10 (rW 0)).symm]
  rfl

theorem hsA_10 : (kernelRun0_A.sl.HS1_11 (F := Ideal) c arg7 harg7 arg8 harg8 arg12 harg12 arg20 x5 x6 x10)
      = stPut 1 (stStep x5 x6 x10 2 1 (stLd (kernelRun0_A.sl.HS1_10 (F := Ideal) c arg7 harg7 arg8 harg8 arg12 harg12 arg20 x5 x6 x10) 1)) (kernelRun0_A.sl.HS1_10 (F := Ideal) c arg7 harg7 arg8 harg8 arg12 harg12 arg20 x5 x6 x10) := by
  unfold stPut stStep
  rw [show stLd (kernelRun0_A.sl.HS1_10 (F := Ideal) c arg7 harg7 arg8 harg8 arg12 harg12 arg20 x5 x6 x10) 1 = _ from (View.readCov_eq_canon' arg20.view (kernelRun0_A.sl.HS1_10 (F := Ideal) c arg7 harg7 arg8 harg8 arg12 harg12 arg20 x5 x6 x10) (rS 1).toLoadRect).symm,
    show ldK x5 2 = _ from (ld_unread harg7 x5 (rK 2)).symm, show ldT x6 2 1 = _ from (ld_unread harg8 x6 (rT 2 1)).symm, show ldW x10 1 = _ from (ld_unread harg12 x10 (rW 1)).symm]
  rfl

theorem hsA_11 : (kernelRun0_A.sl.HS1_12 (F := Ideal) c arg7 harg7 arg8 harg8 arg12 harg12 arg20 x5 x6 x10)
      = stPut 2 (stStep x5 x6 x10 2 2 (stLd (kernelRun0_A.sl.HS1_11 (F := Ideal) c arg7 harg7 arg8 harg8 arg12 harg12 arg20 x5 x6 x10) 2)) (kernelRun0_A.sl.HS1_11 (F := Ideal) c arg7 harg7 arg8 harg8 arg12 harg12 arg20 x5 x6 x10) := by
  unfold stPut stStep
  rw [show stLd (kernelRun0_A.sl.HS1_11 (F := Ideal) c arg7 harg7 arg8 harg8 arg12 harg12 arg20 x5 x6 x10) 2 = _ from (View.readCov_eq_canon' arg20.view (kernelRun0_A.sl.HS1_11 (F := Ideal) c arg7 harg7 arg8 harg8 arg12 harg12 arg20 x5 x6 x10) (rS 2).toLoadRect).symm,
    show ldK x5 2 = _ from (ld_unread harg7 x5 (rK 2)).symm, show ldT x6 2 2 = _ from (ld_unread harg8 x6 (rT 2 2)).symm, show ldW x10 2 = _ from (ld_unread harg12 x10 (rW 2)).symm]
  rfl

theorem hsA_12 : (kernelRun0_A.sl.HS1_13 (F := Ideal) c arg7 harg7 arg8 harg8 arg12 harg12 arg20 x5 x6 x10)
      = stPut 3 (stStep x5 x6 x10 2 3 (stLd (kernelRun0_A.sl.HS1_12 (F := Ideal) c arg7 harg7 arg8 harg8 arg12 harg12 arg20 x5 x6 x10) 3)) (kernelRun0_A.sl.HS1_12 (F := Ideal) c arg7 harg7 arg8 harg8 arg12 harg12 arg20 x5 x6 x10) := by
  unfold stPut stStep
  rw [show stLd (kernelRun0_A.sl.HS1_12 (F := Ideal) c arg7 harg7 arg8 harg8 arg12 harg12 arg20 x5 x6 x10) 3 = _ from (View.readCov_eq_canon' arg20.view (kernelRun0_A.sl.HS1_12 (F := Ideal) c arg7 harg7 arg8 harg8 arg12 harg12 arg20 x5 x6 x10) (rS 3).toLoadRect).symm,
    show ldK x5 2 = _ from (ld_unread harg7 x5 (rK 2)).symm, show ldT x6 2 3 = _ from (ld_unread harg8 x6 (rT 2 3)).symm, show ldW x10 3 = _ from (ld_unread harg12 x10 (rW 3)).symm]
  rfl

theorem hsA_13 : (kernelRun0_A.sl.HS1_14 (F := Ideal) c arg7 harg7 arg8 harg8 arg12 harg12 arg20 x5 x6 x10)
      = stPut 0 (stStep x5 x6 x10 3 0 (stLd (kernelRun0_A.sl.HS1_13 (F := Ideal) c arg7 harg7 arg8 harg8 arg12 harg12 arg20 x5 x6 x10) 0)) (kernelRun0_A.sl.HS1_13 (F := Ideal) c arg7 harg7 arg8 harg8 arg12 harg12 arg20 x5 x6 x10) := by
  unfold stPut stStep
  rw [show stLd (kernelRun0_A.sl.HS1_13 (F := Ideal) c arg7 harg7 arg8 harg8 arg12 harg12 arg20 x5 x6 x10) 0 = _ from (View.readCov_eq_canon' arg20.view (kernelRun0_A.sl.HS1_13 (F := Ideal) c arg7 harg7 arg8 harg8 arg12 harg12 arg20 x5 x6 x10) (rS 0).toLoadRect).symm,
    show ldK x5 3 = _ from (ld_unread harg7 x5 (rK 3)).symm, show ldT x6 3 0 = _ from (ld_unread harg8 x6 (rT 3 0)).symm, show ldW x10 0 = _ from (ld_unread harg12 x10 (rW 0)).symm]
  rfl

theorem hsA_14 : (kernelRun0_A.sl.HS1_15 (F := Ideal) c arg7 harg7 arg8 harg8 arg12 harg12 arg20 x5 x6 x10)
      = stPut 1 (stStep x5 x6 x10 3 1 (stLd (kernelRun0_A.sl.HS1_14 (F := Ideal) c arg7 harg7 arg8 harg8 arg12 harg12 arg20 x5 x6 x10) 1)) (kernelRun0_A.sl.HS1_14 (F := Ideal) c arg7 harg7 arg8 harg8 arg12 harg12 arg20 x5 x6 x10) := by
  unfold stPut stStep
  rw [show stLd (kernelRun0_A.sl.HS1_14 (F := Ideal) c arg7 harg7 arg8 harg8 arg12 harg12 arg20 x5 x6 x10) 1 = _ from (View.readCov_eq_canon' arg20.view (kernelRun0_A.sl.HS1_14 (F := Ideal) c arg7 harg7 arg8 harg8 arg12 harg12 arg20 x5 x6 x10) (rS 1).toLoadRect).symm,
    show ldK x5 3 = _ from (ld_unread harg7 x5 (rK 3)).symm, show ldT x6 3 1 = _ from (ld_unread harg8 x6 (rT 3 1)).symm, show ldW x10 1 = _ from (ld_unread harg12 x10 (rW 1)).symm]
  rfl

theorem hsA_15 : (kernelRun0_A.sl.HS1_16 (F := Ideal) c arg7 harg7 arg8 harg8 arg12 harg12 arg20 x5 x6 x10)
      = stPut 2 (stStep x5 x6 x10 3 2 (stLd (kernelRun0_A.sl.HS1_15 (F := Ideal) c arg7 harg7 arg8 harg8 arg12 harg12 arg20 x5 x6 x10) 2)) (kernelRun0_A.sl.HS1_15 (F := Ideal) c arg7 harg7 arg8 harg8 arg12 harg12 arg20 x5 x6 x10) := by
  unfold stPut stStep
  rw [show stLd (kernelRun0_A.sl.HS1_15 (F := Ideal) c arg7 harg7 arg8 harg8 arg12 harg12 arg20 x5 x6 x10) 2 = _ from (View.readCov_eq_canon' arg20.view (kernelRun0_A.sl.HS1_15 (F := Ideal) c arg7 harg7 arg8 harg8 arg12 harg12 arg20 x5 x6 x10) (rS 2).toLoadRect).symm,
    show ldK x5 3 = _ from (ld_unread harg7 x5 (rK 3)).symm, show ldT x6 3 2 = _ from (ld_unread harg8 x6 (rT 3 2)).symm, show ldW x10 2 = _ from (ld_unread harg12 x10 (rW 2)).symm]
  rfl

theorem atA_1_0 : stLd (kernelRun0_A.sl.HS1_2 (F := Ideal) c arg7 harg7 arg8 harg8 arg12 harg12 arg20 x5 x6 x10) 0 = stAt x5 x6 x10 (ldS zeroS) 0 1 := by
  rw [hsA_1 c arg7 harg7 arg8 harg8 arg12 harg12 arg20 x5 x6 x10]
  rw [stLd_put_same, hsA_0]
  rfl

theorem atA_1_1 : stLd (kernelRun0_A.sl.HS1_2 (F := Ideal) c arg7 harg7 arg8 harg8 arg12 harg12 arg20 x5 x6 x10) 1 = stAt x5 x6 x10 (ldS zeroS) 1 0 := by
  rw [hsA_1 c arg7 harg7 arg8 harg8 arg12 harg12 arg20 x5 x6 x10]
  rw [stLd_put_ne 0 1 (by decide), hsA_0]
  rfl

theorem atA_1_2 : stLd (kernelRun0_A.sl.HS1_2 (F := Ideal) c arg7 harg7 arg8 harg8 arg12 harg12 arg20 x5 x6 x10) 2 = stAt x5 x6 x10 (ldS zeroS) 2 0 := by
  rw [hsA_1 c arg7 harg7 arg8 harg8 arg12 harg12 arg20 x5 x6 x10]
  rw [stLd_put_ne 0 2 (by decide), hsA_0]
  rfl

theorem atA_1_3 : stLd (kernelRun0_A.sl.HS1_2 (F := Ideal) c arg7 harg7 arg8 harg8 arg12 harg12 arg20 x5 x6 x10) 3 = stAt x5 x6 x10 (ldS zeroS) 3 0 := by
  rw [hsA_1 c arg7 harg7 arg8 harg8 arg12 harg12 arg20 x5 x6 x10]
  rw [stLd_put_ne 0 3 (by decide), hsA_0]
  rfl

theorem atA_2_0 : stLd (kernelRun0_A.sl.HS1_3 (F := Ideal) c arg7 harg7 arg8 harg8 arg12 harg12 arg20 x5 x6 x10) 0 = stAt x5 x6 x10 (ldS zeroS) 0 1 := by
  rw [hsA_2]
  rw [stLd_put_ne 1 0 (by decide), atA_1_0]

theorem atA_2_1 : stLd (kernelRun0_A.sl.HS1_3 (F := Ideal) c arg7 harg7 arg8 harg8 arg12 harg12 arg20 x5 x6 x10) 1 = stAt x5 x6 x10 (ldS zeroS) 1 1 := by
  rw [hsA_2]
  rw [stLd_put_same, atA_1_1]
  rfl

theorem atA_2_2 : stLd (kernelRun0_A.sl.HS1_3 (F := Ideal) c arg7 harg7 arg8 harg8 arg12 harg12 arg20 x5 x6 x10) 2 = stAt x5 x6 x10 (ldS zeroS) 2 0 := by
  rw [hsA_2]
  rw [stLd_put_ne 1 2 (by decide), atA_1_2]

theorem atA_2_3 : stLd (kernelRun0_A.sl.HS1_3 (F := Ideal) c arg7 harg7 arg8 harg8 arg12 harg12 arg20 x5 x6 x10) 3 = stAt x5 x6 x10 (ldS zeroS) 3 0 := by
  rw [hsA_2]
  rw [stLd_put_ne 1 3 (by decide), atA_1_3]

theorem atA_3_0 : stLd (kernelRun0_A.sl.HS1_4 (F := Ideal) c arg7 harg7 arg8 harg8 arg12 harg12 arg20 x5 x6 x10) 0 = stAt x5 x6 x10 (ldS zeroS) 0 1 := by
  rw [hsA_3]
  rw [stLd_put_ne 2 0 (by decide), atA_2_0]

theorem atA_3_1 : stLd (kernelRun0_A.sl.HS1_4 (F := Ideal) c arg7 harg7 arg8 harg8 arg12 harg12 arg20 x5 x6 x10) 1 = stAt x5 x6 x10 (ldS zeroS) 1 1 := by
  rw [hsA_3]
  rw [stLd_put_ne 2 1 (by decide), atA_2_1]

theorem atA_3_2 : stLd (kernelRun0_A.sl.HS1_4 (F := Ideal) c arg7 harg7 arg8 harg8 arg12 harg12 arg20 x5 x6 x10) 2 = stAt x5 x6 x10 (ldS zeroS) 2 1 := by
  rw [hsA_3]
  rw [stLd_put_same, atA_2_2]
  rfl

theorem atA_3_3 : stLd (kernelRun0_A.sl.HS1_4 (F := Ideal) c arg7 harg7 arg8 harg8 arg12 harg12 arg20 x5 x6 x10) 3 = stAt x5 x6 x10 (ldS zeroS) 3 0 := by
  rw [hsA_3]
  rw [stLd_put_ne 2 3 (by decide), atA_2_3]

theorem atA_4_0 : stLd (kernelRun0_A.sl.HS1_5 (F := Ideal) c arg7 harg7 arg8 harg8 arg12 harg12 arg20 x5 x6 x10) 0 = stAt x5 x6 x10 (ldS zeroS) 0 1 := by
  rw [hsA_4]
  rw [stLd_put_ne 3 0 (by decide), atA_3_0]

theorem atA_4_1 : stLd (kernelRun0_A.sl.HS1_5 (F := Ideal) c arg7 harg7 arg8 harg8 arg12 harg12 arg20 x5 x6 x10) 1 = stAt x5 x6 x10 (ldS zeroS) 1 1 := by
  rw [hsA_4]
  rw [stLd_put_ne 3 1 (by decide), atA_3_1]

theorem atA_4_2 : stLd (kernelRun0_A.sl.HS1_5 (F := Ideal) c arg7 harg7 arg8 harg8 arg12 harg12 arg20 x5 x6 x10) 2 = stAt x5 x6 x10 (ldS zeroS) 2 1 := by
  rw [hsA_4]
  rw [stLd_put_ne 3 2 (by decide), atA_3_2]

theorem atA_4_3 : stLd (kernelRun0_A.sl.HS1_5 (F := Ideal) c arg7 harg7 arg8 harg8 arg12 harg12 arg20 x5 x6 x10) 3 = stAt x5 x6 x10 (ldS zeroS) 3 1 := by
  rw [hsA_4]
  rw [stLd_put_same, atA_3_3]
  rfl

theorem atA_5_0 : stLd (kernelRun0_A.sl.HS1_6 (F := Ideal) c arg7 harg7 arg8 harg8 arg12 harg12 arg20 x5 x6 x10) 0 = stAt x5 x6 x10 (ldS zeroS) 0 2 := by
  rw [hsA_5]
  rw [stLd_put_same, atA_4_0]
  rfl

theorem atA_5_1 : stLd (kernelRun0_A.sl.HS1_6 (F := Ideal) c arg7 harg7 arg8 harg8 arg12 harg12 arg20 x5 x6 x10) 1 = stAt x5 x6 x10 (ldS zeroS) 1 1 := by
  rw [hsA_5]
  rw [stLd_put_ne 0 1 (by decide), atA_4_1]

theorem atA_5_2 : stLd (kernelRun0_A.sl.HS1_6 (F := Ideal) c arg7 harg7 arg8 harg8 arg12 harg12 arg20 x5 x6 x10) 2 = stAt x5 x6 x10 (ldS zeroS) 2 1 := by
  rw [hsA_5]
  rw [stLd_put_ne 0 2 (by decide), atA_4_2]

theorem atA_5_3 : stLd (kernelRun0_A.sl.HS1_6 (F := Ideal) c arg7 harg7 arg8 harg8 arg12 harg12 arg20 x5 x6 x10) 3 = stAt x5 x6 x10 (ldS zeroS) 3 1 := by
  rw [hsA_5]
  rw [stLd_put_ne 0 3 (by decide), atA_4_3]

theorem atA_6_0 : stLd (kernelRun0_A.sl.HS1_7 (F := Ideal) c arg7 harg7 arg8 harg8 arg12 harg12 arg20 x5 x6 x10) 0 = stAt x5 x6 x10 (ldS zeroS) 0 2 := by
  rw [hsA_6]
  rw [stLd_put_ne 1 0 (by decide), atA_5_0]

theorem atA_6_1 : stLd (kernelRun0_A.sl.HS1_7 (F := Ideal) c arg7 harg7 arg8 harg8 arg12 harg12 arg20 x5 x6 x10) 1 = stAt x5 x6 x10 (ldS zeroS) 1 2 := by
  rw [hsA_6]
  rw [stLd_put_same, atA_5_1]
  rfl

theorem atA_6_2 : stLd (kernelRun0_A.sl.HS1_7 (F := Ideal) c arg7 harg7 arg8 harg8 arg12 harg12 arg20 x5 x6 x10) 2 = stAt x5 x6 x10 (ldS zeroS) 2 1 := by
  rw [hsA_6]
  rw [stLd_put_ne 1 2 (by decide), atA_5_2]

theorem atA_6_3 : stLd (kernelRun0_A.sl.HS1_7 (F := Ideal) c arg7 harg7 arg8 harg8 arg12 harg12 arg20 x5 x6 x10) 3 = stAt x5 x6 x10 (ldS zeroS) 3 1 := by
  rw [hsA_6]
  rw [stLd_put_ne 1 3 (by decide), atA_5_3]

theorem atA_7_0 : stLd (kernelRun0_A.sl.HS1_8 (F := Ideal) c arg7 harg7 arg8 harg8 arg12 harg12 arg20 x5 x6 x10) 0 = stAt x5 x6 x10 (ldS zeroS) 0 2 := by
  rw [hsA_7]
  rw [stLd_put_ne 2 0 (by decide), atA_6_0]

theorem atA_7_1 : stLd (kernelRun0_A.sl.HS1_8 (F := Ideal) c arg7 harg7 arg8 harg8 arg12 harg12 arg20 x5 x6 x10) 1 = stAt x5 x6 x10 (ldS zeroS) 1 2 := by
  rw [hsA_7]
  rw [stLd_put_ne 2 1 (by decide), atA_6_1]

theorem atA_7_2 : stLd (kernelRun0_A.sl.HS1_8 (F := Ideal) c arg7 harg7 arg8 harg8 arg12 harg12 arg20 x5 x6 x10) 2 = stAt x5 x6 x10 (ldS zeroS) 2 2 := by
  rw [hsA_7]
  rw [stLd_put_same, atA_6_2]
  rfl

theorem atA_7_3 : stLd (kernelRun0_A.sl.HS1_8 (F := Ideal) c arg7 harg7 arg8 harg8 arg12 harg12 arg20 x5 x6 x10) 3 = stAt x5 x6 x10 (ldS zeroS) 3 1 := by
  rw [hsA_7]
  rw [stLd_put_ne 2 3 (by decide), atA_6_3]

theorem atA_8_0 : stLd (kernelRun0_A.sl.HS1_9 (F := Ideal) c arg7 harg7 arg8 harg8 arg12 harg12 arg20 x5 x6 x10) 0 = stAt x5 x6 x10 (ldS zeroS) 0 2 := by
  rw [hsA_8]
  rw [stLd_put_ne 3 0 (by decide), atA_7_0]

theorem atA_8_1 : stLd (kernelRun0_A.sl.HS1_9 (F := Ideal) c arg7 harg7 arg8 harg8 arg12 harg12 arg20 x5 x6 x10) 1 = stAt x5 x6 x10 (ldS zeroS) 1 2 := by
  rw [hsA_8]
  rw [stLd_put_ne 3 1 (by decide), atA_7_1]

theorem atA_8_2 : stLd (kernelRun0_A.sl.HS1_9 (F := Ideal) c arg7 harg7 arg8 harg8 arg12 harg12 arg20 x5 x6 x10) 2 = stAt x5 x6 x10 (ldS zeroS) 2 2 := by
  rw [hsA_8]
  rw [stLd_put_ne 3 2 (by decide), atA_7_2]

theorem atA_8_3 : stLd (kernelRun0_A.sl.HS1_9 (F := Ideal) c arg7 harg7 arg8 harg8 arg12 harg12 arg20 x5 x6 x10) 3 = stAt x5 x6 x10 (ldS zeroS) 3 2 := by
  rw [hsA_8]
  rw [stLd_put_same, atA_7_3]
  rfl

theorem atA_9_0 : stLd (kernelRun0_A.sl.HS1_10 (F := Ideal) c arg7 harg7 arg8 harg8 arg12 harg12 arg20 x5 x6 x10) 0 = stAt x5 x6 x10 (ldS zeroS) 0 3 := by
  rw [hsA_9]
  rw [stLd_put_same, atA_8_0]
  rfl

theorem atA_9_1 : stLd (kernelRun0_A.sl.HS1_10 (F := Ideal) c arg7 harg7 arg8 harg8 arg12 harg12 arg20 x5 x6 x10) 1 = stAt x5 x6 x10 (ldS zeroS) 1 2 := by
  rw [hsA_9]
  rw [stLd_put_ne 0 1 (by decide), atA_8_1]

theorem atA_9_2 : stLd (kernelRun0_A.sl.HS1_10 (F := Ideal) c arg7 harg7 arg8 harg8 arg12 harg12 arg20 x5 x6 x10) 2 = stAt x5 x6 x10 (ldS zeroS) 2 2 := by
  rw [hsA_9]
  rw [stLd_put_ne 0 2 (by decide), atA_8_2]

theorem atA_9_3 : stLd (kernelRun0_A.sl.HS1_10 (F := Ideal) c arg7 harg7 arg8 harg8 arg12 harg12 arg20 x5 x6 x10) 3 = stAt x5 x6 x10 (ldS zeroS) 3 2 := by
  rw [hsA_9]
  rw [stLd_put_ne 0 3 (by decide), atA_8_3]

theorem atA_10_0 : stLd (kernelRun0_A.sl.HS1_11 (F := Ideal) c arg7 harg7 arg8 harg8 arg12 harg12 arg20 x5 x6 x10) 0 = stAt x5 x6 x10 (ldS zeroS) 0 3 := by
  rw [hsA_10]
  rw [stLd_put_ne 1 0 (by decide), atA_9_0]

theorem atA_10_1 : stLd (kernelRun0_A.sl.HS1_11 (F := Ideal) c arg7 harg7 arg8 harg8 arg12 harg12 arg20 x5 x6 x10) 1 = stAt x5 x6 x10 (ldS zeroS) 1 3 := by
  rw [hsA_10]
  rw [stLd_put_same, atA_9_1]
  rfl

theorem atA_10_2 : stLd (kernelRun0_A.sl.HS1_11 (F := Ideal) c arg7 harg7 arg8 harg8 arg12 harg12 arg20 x5 x6 x10) 2 = stAt x5 x6 x10 (ldS zeroS) 2 2 := by
  rw [hsA_10]
  rw [stLd_put_ne 1 2 (by decide), atA_9_2]

theorem atA_10_3 : stLd (kernelRun0_A.sl.HS1_11 (F := Ideal) c arg7 harg7 arg8 harg8 arg12 harg12 arg20 x5 x6 x10) 3 = stAt x5 x6 x10 (ldS zeroS) 3 2 := by
  rw [hsA_10]
  rw [stLd_put_ne 1 3 (by decide), atA_9_3]

theorem atA_11_0 : stLd (kernelRun0_A.sl.HS1_12 (F := Ideal) c arg7 harg7 arg8 harg8 arg12 harg12 arg20 x5 x6 x10) 0 = stAt x5 x6 x10 (ldS zeroS) 0 3 := by
  rw [hsA_11]
  rw [stLd_put_ne 2 0 (by decide), atA_10_0]

theorem atA_11_1 : stLd (kernelRun0_A.sl.HS1_12 (F := Ideal) c arg7 harg7 arg8 harg8 arg12 harg12 arg20 x5 x6 x10) 1 = stAt x5 x6 x10 (ldS zeroS) 1 3 := by
  rw [hsA_11]
  rw [stLd_put_ne 2 1 (by decide), atA_10_1]

theorem atA_11_2 : stLd (kernelRun0_A.sl.HS1_12 (F := Ideal) c arg7 harg7 arg8 harg8 arg12 harg12 arg20 x5 x6 x10) 2 = stAt x5 x6 x10 (ldS zeroS) 2 3 := by
  rw [hsA_11]
  rw [stLd_put_same, atA_10_2]
  rfl

theorem atA_11_3 : stLd (kernelRun0_A.sl.HS1_12 (F := Ideal) c arg7 harg7 arg8 harg8 arg12 harg12 arg20 x5 x6 x10) 3 = stAt x5 x6 x10 (ldS zeroS) 3 2 := by
  rw [hsA_11]
  rw [stLd_put_ne 2 3 (by decide), atA_10_3]

theorem atA_12_0 : stLd (kernelRun0_A.sl.HS1_13 (F := Ideal) c arg7 harg7 arg8 harg8 arg12 harg12 arg20 x5 x6 x10) 0 = stAt x5 x6 x10 (ldS zeroS) 0 3 := by
  rw [hsA_12]
  rw [stLd_put_ne 3 0 (by decide), atA_11_0]

theorem atA_12_1 : stLd (kernelRun0_A.sl.HS1_13 (F := Ideal) c arg7 harg7 arg8 harg8 arg12 harg12 arg20 x5 x6 x10) 1 = stAt x5 x6 x10 (ldS zeroS) 1 3 := by
  rw [hsA_12]
  rw [stLd_put_ne 3 1 (by decide), atA_11_1]

theorem atA_12_2 : stLd (kernelRun0_A.sl.HS1_13 (F := Ideal) c arg7 harg7 arg8 harg8 arg12 harg12 arg20 x5 x6 x10) 2 = stAt x5 x6 x10 (ldS zeroS) 2 3 := by
  rw [hsA_12]
  rw [stLd_put_ne 3 2 (by decide), atA_11_2]

theorem atA_12_3 : stLd (kernelRun0_A.sl.HS1_13 (F := Ideal) c arg7 harg7 arg8 harg8 arg12 harg12 arg20 x5 x6 x10) 3 = stAt x5 x6 x10 (ldS zeroS) 3 3 := by
  rw [hsA_12]
  rw [stLd_put_same, atA_11_3]
  rfl

theorem atA_13_0 : stLd (kernelRun0_A.sl.HS1_14 (F := Ideal) c arg7 harg7 arg8 harg8 arg12 harg12 arg20 x5 x6 x10) 0 = stAt x5 x6 x10 (ldS zeroS) 0 4 := by
  rw [hsA_13]
  rw [stLd_put_same, atA_12_0]
  rfl

theorem atA_13_1 : stLd (kernelRun0_A.sl.HS1_14 (F := Ideal) c arg7 harg7 arg8 harg8 arg12 harg12 arg20 x5 x6 x10) 1 = stAt x5 x6 x10 (ldS zeroS) 1 3 := by
  rw [hsA_13]
  rw [stLd_put_ne 0 1 (by decide), atA_12_1]

theorem atA_13_2 : stLd (kernelRun0_A.sl.HS1_14 (F := Ideal) c arg7 harg7 arg8 harg8 arg12 harg12 arg20 x5 x6 x10) 2 = stAt x5 x6 x10 (ldS zeroS) 2 3 := by
  rw [hsA_13]
  rw [stLd_put_ne 0 2 (by decide), atA_12_2]

theorem atA_13_3 : stLd (kernelRun0_A.sl.HS1_14 (F := Ideal) c arg7 harg7 arg8 harg8 arg12 harg12 arg20 x5 x6 x10) 3 = stAt x5 x6 x10 (ldS zeroS) 3 3 := by
  rw [hsA_13]
  rw [stLd_put_ne 0 3 (by decide), atA_12_3]

theorem atA_14_0 : stLd (kernelRun0_A.sl.HS1_15 (F := Ideal) c arg7 harg7 arg8 harg8 arg12 harg12 arg20 x5 x6 x10) 0 = stAt x5 x6 x10 (ldS zeroS) 0 4 := by
  rw [hsA_14]
  rw [stLd_put_ne 1 0 (by decide), atA_13_0]

theorem atA_14_1 : stLd (kernelRun0_A.sl.HS1_15 (F := Ideal) c arg7 harg7 arg8 harg8 arg12 harg12 arg20 x5 x6 x10) 1 = stAt x5 x6 x10 (ldS zeroS) 1 4 := by
  rw [hsA_14]
  rw [stLd_put_same, atA_13_1]
  rfl

theorem atA_14_2 : stLd (kernelRun0_A.sl.HS1_15 (F := Ideal) c arg7 harg7 arg8 harg8 arg12 harg12 arg20 x5 x6 x10) 2 = stAt x5 x6 x10 (ldS zeroS) 2 3 := by
  rw [hsA_14]
  rw [stLd_put_ne 1 2 (by decide), atA_13_2]

theorem atA_14_3 : stLd (kernelRun0_A.sl.HS1_15 (F := Ideal) c arg7 harg7 arg8 harg8 arg12 harg12 arg20 x5 x6 x10) 3 = stAt x5 x6 x10 (ldS zeroS) 3 3 := by
  rw [hsA_14]
  rw [stLd_put_ne 1 3 (by decide), atA_13_3]

theorem atA_15_0 : stLd (kernelRun0_A.sl.HS1_16 (F := Ideal) c arg7 harg7 arg8 harg8 arg12 harg12 arg20 x5 x6 x10) 0 = stAt x5 x6 x10 (ldS zeroS) 0 4 := by
  rw [hsA_15]
  rw [stLd_put_ne 2 0 (by decide), atA_14_0]

theorem atA_15_1 : stLd (kernelRun0_A.sl.HS1_16 (F := Ideal) c arg7 harg7 arg8 harg8 arg12 harg12 arg20 x5 x6 x10) 1 = stAt x5 x6 x10 (ldS zeroS) 1 4 := by
  rw [hsA_15]
  rw [stLd_put_ne 2 1 (by decide), atA_14_1]

theorem atA_15_2 : stLd (kernelRun0_A.sl.HS1_16 (F := Ideal) c arg7 harg7 arg8 harg8 arg12 harg12 arg20 x5 x6 x10) 2 = stAt x5 x6 x10 (ldS zeroS) 2 4 := by
  rw [hsA_15]
  rw [stLd_put_same, atA_14_2]
  rfl

theorem atA_15_3 : stLd (kernelRun0_A.sl.HS1_16 (F := Ideal) c arg7 harg7 arg8 harg8 arg12 harg12 arg20 x5 x6 x10) 3 = stAt x5 x6 x10 (ldS zeroS) 3 3 := by
  rw [hsA_15]
  rw [stLd_put_ne 2 3 (by decide), atA_14_3]

end Cert.Mix
-- ==== Proof.OutA.lean ====
/- The tiles stored at a grid point where the retention state starts at zero: each over the blocks it loads, and the three outputs and the new state as lists of them. -/
module

public import proofs.«01_k».proof.Proof.Tiles
public import proofs.«01_k».proof.Proof.Gen.KernelIdeal.Frame
public import proofs.«01_k».proof.Proof.StateA

@[expose] public section

set_option maxRecDepth 16384
set_option maxHeartbeats 2000000

noncomputable section

namespace Cert.Mix

open Idealize.ShloMosaic Cert.KernelIdeal Cert.KernelIdeal.Gen

variable (c : Dev nD) (i : grid0.Coords) (arg2 : Memref sig .tc .smem S8 .f32) (harg2 : arg2.IsWhole)
    (arg3 : Memref sig .tc .vmem S512x512 .bf16) (harg3 : arg3.IsWhole) (arg4 : Memref sig .tc .vmem S512x256 .bf16) (harg4 : arg4.IsWhole) (arg5 : Memref sig .tc .vmem S128x256 .bf16) (harg5 : arg5.IsWhole)
    (arg6 : Memref sig .tc .vmem S512x256 .bf16) (harg6 : arg6.IsWhole) (arg7 : Memref sig .tc .vmem S256x512 .bf16) (harg7 : arg7.IsWhole) (arg8 : Memref sig .tc .vmem S512x512 .bf16) (harg8 : arg8.IsWhole)
    (arg9 : Memref sig .tc .vmem S512x512 .bf16) (harg9 : arg9.IsWhole) (arg10 : Memref sig .tc .vmem S1x512 .f32) (harg10 : arg10.IsWhole) (arg11 : Memref sig .tc .vmem S4x128x128 .f32) (harg11 : arg11.IsWhole)
    (arg12 : Memref sig .tc .vmem S4x1x128 .f32) (harg12 : arg12.IsWhole) (arg13 : Memref sig .tc .vmem S4x128x128 .f32) (harg13 : arg13.IsWhole) (arg14 : Memref sig .tc .vmem S512x512 .bf16) (harg14 : arg14.IsWhole)
    (arg15 : Memref sig .tc .vmem S256x1024 .bf16) (harg15 : arg15.IsWhole) (arg16 : Memref sig .tc .vmem S512x512 .bf16) (harg16 : arg16.IsWhole) (arg17 : Memref sig .tc .vmem S512x512 .bf16) (harg17 : arg17.IsWhole)
    (arg18 : Memref sig .tc .vmem S512x512 .bf16) (harg18 : arg18.IsWhole) (arg19 : Memref sig .tc .vmem S640x256 .bf16) (harg19 : arg19.IsWhole) (arg20 : Memref sig .tc .vmem S4x256x128 .f32) (harg20 : arg20.IsWhole)
    (hc0 : cond0_0 i) (x0 : Vec Ideal S8 .f32) (x1 : Vec Ideal S512x512 .bf16)
    (x2 : Vec Ideal S512x256 .bf16) (x3 : Vec Ideal S128x256 .bf16) (x4 : Vec Ideal S512x256 .bf16)
    (x5 : Vec Ideal S256x512 .bf16) (x6 : Vec Ideal S512x512 .bf16) (x7 : Vec Ideal S512x512 .bf16)
    (x8 : Vec Ideal S1x512 .f32) (x9 : Vec Ideal S4x128x128 .f32) (x10 : Vec Ideal S4x1x128 .f32)
    (x11 : Vec Ideal S4x128x128 .f32) (x12 : Vec Ideal S512x512 .bf16) (x13 : Vec Ideal S256x1024 .bf16)

theorem retA_00 : (kernelRun0_A.sl.v987 (F := Ideal) c arg6 harg6 arg7 harg7 arg8 harg8 arg9 harg9 arg10 harg10 arg11 harg11 arg13 harg13 arg20 x4 x5 x6 x7 x8 x9 x11)
      = tile15 x4 x5 x6 x7 x8 x9 x11 0 0 (stLd (kernelRun0_A.sl.HS1_1 (F := Ideal)) 0) := by
  unfold tile15
  rw [show stLd (kernelRun0_A.sl.HS1_1 (F := Ideal)) 0 = _ from (View.readCov_eq_canon' arg20.view (kernelRun0_A.sl.HS1_1 (F := Ideal)) (rS 0).toLoadRect).symm,
    show ldQ x4 0 = _ from (ld_unread harg6 x4 (rQ 0)).symm, show ldK x5 0 = _ from (ld_unread harg7 x5 (rK 0)).symm, show ldT x6 0 0 = _ from (ld_unread harg8 x6 (rT 0 0)).symm,
    show ldT x7 0 0 = _ from (ld_unread harg9 x7 (rT 0 0)).symm, show ldG x8 0 = _ from (ld_unread harg10 x8 (rG 0)).symm, show ldD x9 0 = _ from (ld_unread harg11 x9 (rD 0)).symm,
    show ldD x11 0 = _ from (ld_unread harg13 x11 (rD 0)).symm]
  rfl

theorem retA_01 : (kernelRun0_A.sl.v1089 (F := Ideal) c arg6 harg6 arg7 harg7 arg8 harg8 arg9 harg9 arg10 harg10 arg11 harg11 arg12 harg12 arg13 harg13 arg20 x4 x5 x6 x7 x8 x9 x10 x11)
      = tile15 x4 x5 x6 x7 x8 x9 x11 0 1 (stLd (kernelRun0_A.sl.HS1_2 (F := Ideal) c arg7 harg7 arg8 harg8 arg12 harg12 arg20 x5 x6 x10) 1) := by
  unfold tile15
  rw [show stLd (kernelRun0_A.sl.HS1_2 (F := Ideal) c arg7 harg7 arg8 harg8 arg12 harg12 arg20 x5 x6 x10) 1 = _ from (View.readCov_eq_canon' arg20.view (kernelRun0_A.sl.HS1_2 (F := Ideal) c arg7 harg7 arg8 harg8 arg12 harg12 arg20 x5 x6 x10) (rS 1).toLoadRect).symm,
    show ldQ x4 0 = _ from (ld_unread harg6 x4 (rQ 0)).symm, show ldK x5 0 = _ from (ld_unread harg7 x5 (rK 0)).symm, show ldT x6 0 1 = _ from (ld_unread harg8 x6 (rT 0 1)).symm,
    show ldT x7 0 1 = _ from (ld_unread harg9 x7 (rT 0 1)).symm, show ldG x8 1 = _ from (ld_unread harg10 x8 (rG 1)).symm, show ldD x9 1 = _ from (ld_unread harg11 x9 (rD 1)).symm,
    show ldD x11 1 = _ from (ld_unread harg13 x11 (rD 1)).symm]
  rfl

theorem retA_02 : (kernelRun0_A.sl.v1191 (F := Ideal) c arg6 harg6 arg7 harg7 arg8 harg8 arg9 harg9 arg10 harg10 arg11 harg11 arg12 harg12 arg13 harg13 arg20 x4 x5 x6 x7 x8 x9 x10 x11)
      = tile15 x4 x5 x6 x7 x8 x9 x11 0 2 (stLd (kernelRun0_A.sl.HS1_3 (F := Ideal) c arg7 harg7 arg8 harg8 arg12 harg12 arg20 x5 x6 x10) 2) := by
  unfold tile15
  rw [show stLd (kernelRun0_A.sl.HS1_3 (F := Ideal) c arg7 harg7 arg8 harg8 arg12 harg12 arg20 x5 x6 x10) 2 = _ from (View.readCov_eq_canon' arg20.view (kernelRun0_A.sl.HS1_3 (F := Ideal) c arg7 harg7 arg8 harg8 arg12 harg12 arg20 x5 x6 x10) (rS 2).toLoadRect).symm,
    show ldQ x4 0 = _ from (ld_unread harg6 x4 (rQ 0)).symm, show ldK x5 0 = _ from (ld_unread harg7 x5 (rK 0)).symm, show ldT x6 0 2 = _ from (ld_unread harg8 x6 (rT 0 2)).symm,
    show ldT x7 0 2 = _ from (ld_unread harg9 x7 (rT 0 2)).symm, show ldG x8 2 = _ from (ld_unread harg10 x8 (rG 2)).symm, show ldD x9 2 = _ from (ld_unread harg11 x9 (rD 2)).symm,
    show ldD x11 2 = _ from (ld_unread harg13 x11 (rD 2)).symm]
  rfl

theorem retA_03 : (kernelRun0_A.sl.v1293 (F := Ideal) c arg6 harg6 arg7 harg7 arg8 harg8 arg9 harg9 arg10 harg10 arg11 harg11 arg12 harg12 arg13 harg13 arg20 x4 x5 x6 x7 x8 x9 x10 x11)
      = tile15 x4 x5 x6 x7 x8 x9 x11 0 3 (stLd (kernelRun0_A.sl.HS1_4 (F := Ideal) c arg7 harg7 arg8 harg8 arg12 harg12 arg20 x5 x6 x10) 3) := by
  unfold tile15
  rw [show stLd (kernelRun0_A.sl.HS1_4 (F := Ideal) c arg7 harg7 arg8 harg8 arg12 harg12 arg20 x5 x6 x10) 3 = _ from (View.readCov_eq_canon' arg20.view (kernelRun0_A.sl.HS1_4 (F := Ideal) c arg7 harg7 arg8 harg8 arg12 harg12 arg20 x5 x6 x10) (rS 3).toLoadRect).symm,
    show ldQ x4 0 = _ from (ld_unread harg6 x4 (rQ 0)).symm, show ldK x5 0 = _ from (ld_unread harg7 x5 (rK 0)).symm, show ldT x6 0 3 = _ from (ld_unread harg8 x6 (rT 0 3)).symm,
    show ldT x7 0 3 = _ from (ld_unread harg9 x7 (rT 0 3)).symm, show ldG x8 3 = _ from (ld_unread harg10 x8 (rG 3)).symm, show ldD x9 3 = _ from (ld_unread harg11 x9 (rD 3)).symm,
    show ldD x11 3 = _ from (ld_unread harg13 x11 (rD 3)).symm]
  rfl

theorem retA_10 : (kernelRun0_A.sl.v1398 (F := Ideal) c arg6 harg6 arg7 harg7 arg8 harg8 arg9 harg9 arg10 harg10 arg11 harg11 arg12 harg12 arg13 harg13 arg20 x4 x5 x6 x7 x8 x9 x10 x11)
      = tile15 x4 x5 x6 x7 x8 x9 x11 1 0 (stLd (kernelRun0_A.sl.HS1_5 (F := Ideal) c arg7 harg7 arg8 harg8 arg12 harg12 arg20 x5 x6 x10) 0) := by
  unfold tile15
  rw [show stLd (kernelRun0_A.sl.HS1_5 (F := Ideal) c arg7 harg7 arg8 harg8 arg12 harg12 arg20 x5 x6 x10) 0 = _ from (View.readCov_eq_canon' arg20.view (kernelRun0_A.sl.HS1_5 (F := Ideal) c arg7 harg7 arg8 harg8 arg12 harg12 arg20 x5 x6 x10) (rS 0).toLoadRect).symm,
    show ldQ x4 1 = _ from (ld_unread harg6 x4 (rQ 1)).symm, show ldK x5 1 = _ from (ld_unread harg7 x5 (rK 1)).symm, show ldT x6 1 0 = _ from (ld_unread harg8 x6 (rT 1 0)).symm,
    show ldT x7 1 0 = _ from (ld_unread harg9 x7 (rT 1 0)).symm, show ldG x8 0 = _ from (ld_unread harg10 x8 (rG 0)).symm, show ldD x9 0 = _ from (ld_unread harg11 x9 (rD 0)).symm,
    show ldD x11 0 = _ from (ld_unread harg13 x11 (rD 0)).symm]
  rfl

theorem retA_11 : (kernelRun0_A.sl.v1500 (F := Ideal) c arg6 harg6 arg7 harg7 arg8 harg8 arg9 harg9 arg10 harg10 arg11 harg11 arg12 harg12 arg13 harg13 arg20 x4 x5 x6 x7 x8 x9 x10 x11)
      = tile15 x4 x5 x6 x7 x8 x9 x11 1 1 (stLd (kernelRun0_A.sl.HS1_6 (F := Ideal) c arg7 harg7 arg8 harg8 arg12 harg12 arg20 x5 x6 x10) 1) := by
  unfold tile15
  rw [show stLd (kernelRun0_A.sl.HS1_6 (F := Ideal) c arg7 harg7 arg8 harg8 arg12 harg12 arg20 x5 x6 x10) 1 = _ from (View.readCov_eq_canon' arg20.view (kernelRun0_A.sl.HS1_6 (F := Ideal) c arg7 harg7 arg8 harg8 arg12 harg12 arg20 x5 x6 x10) (rS 1).toLoadRect).symm,
    show ldQ x4 1 = _ from (ld_unread harg6 x4 (rQ 1)).symm, show ldK x5 1 = _ from (ld_unread harg7 x5 (rK 1)).symm, show ldT x6 1 1 = _ from (ld_unread harg8 x6 (rT 1 1)).symm,
    show ldT x7 1 1 = _ from (ld_unread harg9 x7 (rT 1 1)).symm, show ldG x8 1 = _ from (ld_unread harg10 x8 (rG 1)).symm, show ldD x9 1 = _ from (ld_unread harg11 x9 (rD 1)).symm,
    show ldD x11 1 = _ from (ld_unread harg13 x11 (rD 1)).symm]
  rfl

theorem retA_12 : (kernelRun0_A.sl.v1602 (F := Ideal) c arg6 harg6 arg7 harg7 arg8 harg8 arg9 harg9 arg10 harg10 arg11 harg11 arg12 harg12 arg13 harg13 arg20 x4 x5 x6 x7 x8 x9 x10 x11)
      = tile15 x4 x5 x6 x7 x8 x9 x11 1 2 (stLd (kernelRun0_A.sl.HS1_7 (F := Ideal) c arg7 harg7 arg8 harg8 arg12 harg12 arg20 x5 x6 x10) 2) := by
  unfold tile15
  rw [show stLd (kernelRun0_A.sl.HS1_7 (F := Ideal) c arg7 harg7 arg8 harg8 arg12 harg12 arg20 x5 x6 x10) 2 = _ from (View.readCov_eq_canon' arg20.view (kernelRun0_A.sl.HS1_7 (F := Ideal) c arg7 harg7 arg8 harg8 arg12 harg12 arg20 x5 x6 x10) (rS 2).toLoadRect).symm,
    show ldQ x4 1 = _ from (ld_unread harg6 x4 (rQ 1)).symm, show ldK x5 1 = _ from (ld_unread harg7 x5 (rK 1)).symm, show ldT x6 1 2 = _ from (ld_unread harg8 x6 (rT 1 2)).symm,
    show ldT x7 1 2 = _ from (ld_unread harg9 x7 (rT 1 2)).symm, show ldG x8 2 = _ from (ld_unread harg10 x8 (rG 2)).symm, show ldD x9 2 = _ from (ld_unread harg11 x9 (rD 2)).symm,
    show ldD x11 2 = _ from (ld_unread harg13 x11 (rD 2)).symm]
  rfl

theorem retA_13 : (kernelRun0_A.sl.v1704 (F := Ideal) c arg6 harg6 arg7 harg7 arg8 harg8 arg9 harg9 arg10 harg10 arg11 harg11 arg12 harg12 arg13 harg13 arg20 x4 x5 x6 x7 x8 x9 x10 x11)
      = tile15 x4 x5 x6 x7 x8 x9 x11 1 3 (stLd (kernelRun0_A.sl.HS1_8 (F := Ideal) c arg7 harg7 arg8 harg8 arg12 harg12 arg20 x5 x6 x10) 3) := by
  unfold tile15
  rw [show stLd (kernelRun0_A.sl.HS1_8 (F := Ideal) c arg7 harg7 arg8 harg8 arg12 harg12 arg20 x5 x6 x10) 3 = _ from (View.readCov_eq_canon' arg20.view (kernelRun0_A.sl.HS1_8 (F := Ideal) c arg7 harg7 arg8 harg8 arg12 harg12 arg20 x5 x6 x10) (rS 3).toLoadRect).symm,
    show ldQ x4 1 = _ from (ld_unread harg6 x4 (rQ 1)).symm, show ldK x5 1 = _ from (ld_unread harg7 x5 (rK 1)).symm, show ldT x6 1 3 = _ from (ld_unread harg8 x6 (rT 1 3)).symm,
    show ldT x7 1 3 = _ from (ld_unread harg9 x7 (rT 1 3)).symm, show ldG x8 3 = _ from (ld_unread harg10 x8 (rG 3)).symm, show ldD x9 3 = _ from (ld_unread harg11 x9 (rD 3)).symm,
    show ldD x11 3 = _ from (ld_unread harg13 x11 (rD 3)).symm]
  rfl

theorem retA_20 : (kernelRun0_A.sl.v1809 (F := Ideal) c arg6 harg6 arg7 harg7 arg8 harg8 arg9 harg9 arg10 harg10 arg11 harg11 arg12 harg12 arg13 harg13 arg20 x4 x5 x6 x7 x8 x9 x10 x11)
      = tile15 x4 x5 x6 x7 x8 x9 x11 2 0 (stLd (kernelRun0_A.sl.HS1_9 (F := Ideal) c arg7 harg7 arg8 harg8 arg12 harg12 arg20 x5 x6 x10) 0) := by
  unfold tile15
  rw [show stLd (kernelRun0_A.sl.HS1_9 (F := Ideal) c arg7 harg7 arg8 harg8 arg12 harg12 arg20 x5 x6 x10) 0 = _ from (View.readCov_eq_canon' arg20.view (kernelRun0_A.sl.HS1_9 (F := Ideal) c arg7 harg7 arg8 harg8 arg12 harg12 arg20 x5 x6 x10) (rS 0).toLoadRect).symm,
    show ldQ x4 2 = _ from (ld_unread harg6 x4 (rQ 2)).symm, show ldK x5 2 = _ from (ld_unread harg7 x5 (rK 2)).symm, show ldT x6 2 0 = _ from (ld_unread harg8 x6 (rT 2 0)).symm,
    show ldT x7 2 0 = _ from (ld_unread harg9 x7 (rT 2 0)).symm, show ldG x8 0 = _ from (ld_unread harg10 x8 (rG 0)).symm, show ldD x9 0 = _ from (ld_unread harg11 x9 (rD 0)).symm,
    show ldD x11 0 = _ from (ld_unread harg13 x11 (rD 0)).symm]
  rfl

theorem retA_21 : (kernelRun0_A.sl.v1911 (F := Ideal) c arg6 harg6 arg7 harg7 arg8 harg8 arg9 harg9 arg10 harg10 arg11 harg11 arg12 harg12 arg13 harg13 arg20 x4 x5 x6 x7 x8 x9 x10 x11)
      = tile15 x4 x5 x6 x7 x8 x9 x11 2 1 (stLd (kernelRun0_A.sl.HS1_10 (F := Ideal) c arg7 harg7 arg8 harg8 arg12 harg12 arg20 x5 x6 x10) 1) := by
  unfold tile15
  rw [show stLd (kernelRun0_A.sl.HS1_10 (F := Ideal) c arg7 harg7 arg8 harg8 arg12 harg12 arg20 x5 x6 x10) 1 = _ from (View.readCov_eq_canon' arg20.view (kernelRun0_A.sl.HS1_10 (F := Ideal) c arg7 harg7 arg8 harg8 arg12 harg12 arg20 x5 x6 x10) (rS 1).toLoadRect).symm,
    show ldQ x4 2 = _ from (ld_unread harg6 x4 (rQ 2)).symm, show ldK x5 2 = _ from (ld_unread harg7 x5 (rK 2)).symm, show ldT x6 2 1 = _ from (ld_unread harg8 x6 (rT 2 1)).symm,
    show ldT x7 2 1 = _ from (ld_unread harg9 x7 (rT 2 1)).symm, show ldG x8 1 = _ from (ld_unread harg10 x8 (rG 1)).symm, show ldD x9 1 = _ from (ld_unread harg11 x9 (rD 1)).symm,
    show ldD x11 1 = _ from (ld_unread harg13 x11 (rD 1)).symm]
  rfl

theorem retA_22 : (kernelRun0_A.sl.v2013 (F := Ideal) c arg6 harg6 arg7 harg7 arg8 harg8 arg9 harg9 arg10 harg10 arg11 harg11 arg12 harg12 arg13 harg13 arg20 x4 x5 x6 x7 x8 x9 x10 x11)
      = tile15 x4 x5 x6 x7 x8 x9 x11 2 2 (stLd (kernelRun0_A.sl.HS1_11 (F := Ideal) c arg7 harg7 arg8 harg8 arg12 harg12 arg20 x5 x6 x10) 2) := by
  unfold tile15
  rw [show stLd (kernelRun0_A.sl.HS1_11 (F := Ideal) c arg7 harg7 arg8 harg8 arg12 harg12 arg20 x5 x6 x10) 2 = _ from (View.readCov_eq_canon' arg20.view (kernelRun0_A.sl.HS1_11 (F := Ideal) c arg7 harg7 arg8 harg8 arg12 harg12 arg20 x5 x6 x10) (rS 2).toLoadRect).symm,
    show ldQ x4 2 = _ from (ld_unread harg6 x4 (rQ 2)).symm, show ldK x5 2 = _ from (ld_unread harg7 x5 (rK 2)).symm, show ldT x6 2 2 = _ from (ld_unread harg8 x6 (rT 2 2)).symm,
    show ldT x7 2 2 = _ from (ld_unread harg9 x7 (rT 2 2)).symm, show ldG x8 2 = _ from (ld_unread harg10 x8 (rG 2)).symm, show ldD x9 2 = _ from (ld_unread harg11 x9 (rD 2)).symm,
    show ldD x11 2 = _ from (ld_unread harg13 x11 (rD 2)).symm]
  rfl

theorem retA_23 : (kernelRun0_A.sl.v2115 (F := Ideal) c arg6 harg6 arg7 harg7 arg8 harg8 arg9 harg9 arg10 harg10 arg11 harg11 arg12 harg12 arg13 harg13 arg20 x4 x5 x6 x7 x8 x9 x10 x11)
      = tile15 x4 x5 x6 x7 x8 x9 x11 2 3 (stLd (kernelRun0_A.sl.HS1_12 (F := Ideal) c arg7 harg7 arg8 harg8 arg12 harg12 arg20 x5 x6 x10) 3) := by
  unfold tile15
  rw [show stLd (kernelRun0_A.sl.HS1_12 (F := Ideal) c arg7 harg7 arg8 harg8 arg12 harg12 arg20 x5 x6 x10) 3 = _ from (View.readCov_eq_canon' arg20.view (kernelRun0_A.sl.HS1_12 (F := Ideal) c arg7 harg7 arg8 harg8 arg12 harg12 arg20 x5 x6 x10) (rS 3).toLoadRect).symm,
    show ldQ x4 2 = _ from (ld_unread harg6 x4 (rQ 2)).symm, show ldK x5 2 = _ from (ld_unread harg7 x5 (rK 2)).symm, show ldT x6 2 3 = _ from (ld_unread harg8 x6 (rT 2 3)).symm,
    show ldT x7 2 3 = _ from (ld_unread harg9 x7 (rT 2 3)).symm, show ldG x8 3 = _ from (ld_unread harg10 x8 (rG 3)).symm, show ldD x9 3 = _ from (ld_unread harg11 x9 (rD 3)).symm,
    show ldD x11 3 = _ from (ld_unread harg13 x11 (rD 3)).symm]
  rfl

theorem retA_30 : (kernelRun0_A.sl.v2220 (F := Ideal) c arg6 harg6 arg7 harg7 arg8 harg8 arg9 harg9 arg10 harg10 arg11 harg11 arg12 harg12 arg13 harg13 arg20 x4 x5 x6 x7 x8 x9 x10 x11)
      = tile15 x4 x5 x6 x7 x8 x9 x11 3 0 (stLd (kernelRun0_A.sl.HS1_13 (F := Ideal) c arg7 harg7 arg8 harg8 arg12 harg12 arg20 x5 x6 x10) 0) := by
  unfold tile15
  rw [show stLd (kernelRun0_A.sl.HS1_13 (F := Ideal) c arg7 harg7 arg8 harg8 arg12 harg12 arg20 x5 x6 x10) 0 = _ from (View.readCov_eq_canon' arg20.view (kernelRun0_A.sl.HS1_13 (F := Ideal) c arg7 harg7 arg8 harg8 arg12 harg12 arg20 x5 x6 x10) (rS 0).toLoadRect).symm,
    show ldQ x4 3 = _ from (ld_unread harg6 x4 (rQ 3)).symm, show ldK x5 3 = _ from (ld_unread harg7 x5 (rK 3)).symm, show ldT x6 3 0 = _ from (ld_unread harg8 x6 (rT 3 0)).symm,
    show ldT x7 3 0 = _ from (ld_unread harg9 x7 (rT 3 0)).symm, show ldG x8 0 = _ from (ld_unread harg10 x8 (rG 0)).symm, show ldD x9 0 = _ from (ld_unread harg11 x9 (rD 0)).symm,
    show ldD x11 0 = _ from (ld_unread harg13 x11 (rD 0)).symm]
  rfl

theorem retA_31 : (kernelRun0_A.sl.v2322 (F := Ideal) c arg6 harg6 arg7 harg7 arg8 harg8 arg9 harg9 arg10 harg10 arg11 harg11 arg12 harg12 arg13 harg13 arg20 x4 x5 x6 x7 x8 x9 x10 x11)
      = tile15 x4 x5 x6 x7 x8 x9 x11 3 1 (stLd (kernelRun0_A.sl.HS1_14 (F := Ideal) c arg7 harg7 arg8 harg8 arg12 harg12 arg20 x5 x6 x10) 1) := by
  unfold tile15
  rw [show stLd (kernelRun0_A.sl.HS1_14 (F := Ideal) c arg7 harg7 arg8 harg8 arg12 harg12 arg20 x5 x6 x10) 1 = _ from (View.readCov_eq_canon' arg20.view (kernelRun0_A.sl.HS1_14 (F := Ideal) c arg7 harg7 arg8 harg8 arg12 harg12 arg20 x5 x6 x10) (rS 1).toLoadRect).symm,
    show ldQ x4 3 = _ from (ld_unread harg6 x4 (rQ 3)).symm, show ldK x5 3 = _ from (ld_unread harg7 x5 (rK 3)).symm, show ldT x6 3 1 = _ from (ld_unread harg8 x6 (rT 3 1)).symm,
    show ldT x7 3 1 = _ from (ld_unread harg9 x7 (rT 3 1)).symm, show ldG x8 1 = _ from (ld_unread harg10 x8 (rG 1)).symm, show ldD x9 1 = _ from (ld_unread harg11 x9 (rD 1)).symm,
    show ldD x11 1 = _ from (ld_unread harg13 x11 (rD 1)).symm]
  rfl

theorem retA_32 : (kernelRun0_A.sl.v2424 (F := Ideal) c arg6 harg6 arg7 harg7 arg8 harg8 arg9 harg9 arg10 harg10 arg11 harg11 arg12 harg12 arg13 harg13 arg20 x4 x5 x6 x7 x8 x9 x10 x11)
      = tile15 x4 x5 x6 x7 x8 x9 x11 3 2 (stLd (kernelRun0_A.sl.HS1_15 (F := Ideal) c arg7 harg7 arg8 harg8 arg12 harg12 arg20 x5 x6 x10) 2) := by
  unfold tile15
  rw [show stLd (kernelRun0_A.sl.HS1_15 (F := Ideal) c arg7 harg7 arg8 harg8 arg12 harg12 arg20 x5 x6 x10) 2 = _ from (View.readCov_eq_canon' arg20.view (kernelRun0_A.sl.HS1_15 (F := Ideal) c arg7 harg7 arg8 harg8 arg12 harg12 arg20 x5 x6 x10) (rS 2).toLoadRect).symm,
    show ldQ x4 3 = _ from (ld_unread harg6 x4 (rQ 3)).symm, show ldK x5 3 = _ from (ld_unread harg7 x5 (rK 3)).symm, show ldT x6 3 2 = _ from (ld_unread harg8 x6 (rT 3 2)).symm,
    show ldT x7 3 2 = _ from (ld_unread harg9 x7 (rT 3 2)).symm, show ldG x8 2 = _ from (ld_unread harg10 x8 (rG 2)).symm, show ldD x9 2 = _ from (ld_unread harg11 x9 (rD 2)).symm,
    show ldD x11 2 = _ from (ld_unread harg13 x11 (rD 2)).symm]
  rfl

theorem kvsA : kvs x2 x3 = (kernelRun0_A.sl.HS0_2 (F := Ideal) c arg4 harg4 arg5 harg5 x2 x3) := by
  unfold kvs
  rw [show View.ld (Val := Elt Ideal) (e' := .bf16) x2 (Rect.unit ![0, 0] ![512, 256] (by decide)) = _ from (ld_unread harg4 x2 _).symm,
    show View.ld (Val := Elt Ideal) (e' := .bf16) x3 (Rect.unit ![0, 0] ![128, 256] (by decide)) = _ from (ld_unread harg5 x3 _).symm]
  rfl

theorem attA_00 : (kernelRun0_A.sl.v89 (F := Ideal) c i arg2 harg2 arg3 harg3 arg4 harg4 arg5 harg5 arg19 x0 x1 x2 x3) = tile14 i x0 x1 x2 x3 0 0 := by
  have ekv : ldKV x2 x3 0 = arg19.view.readCov (kernelRun0_A.sl.HS0_2 (F := Ideal) c arg4 harg4 arg5 harg5 x2 x3) (rKV 0).toLoadRect := by
    rw [View.readCov_eq_canon', ← kvsA]
    rfl
  unfold tile14
  rw [ekv,
    show ldT x1 0 0 = _ from (ld_unread harg3 x1 (rT 0 0)).symm, show ldSk x0 ⟨(0 : Fin 4).val, by decide⟩ = _ from (ld_unread harg2 x0 (rSk ⟨(0 : Fin 4).val, by decide⟩)).symm,
    show ldSk x0 ⟨4 + (0 : Fin 4).val, by decide⟩ = _ from (ld_unread harg2 x0 (rSk ⟨4 + (0 : Fin 4).val, by decide⟩)).symm]
  rfl

theorem attA_01 : (kernelRun0_A.sl.v141 (F := Ideal) c i arg2 harg2 arg3 harg3 arg4 harg4 arg5 harg5 arg19 x0 x1 x2 x3) = tile14 i x0 x1 x2 x3 0 1 := by
  have ekv : ldKV x2 x3 0 = arg19.view.readCov (kernelRun0_A.sl.HS0_2 (F := Ideal) c arg4 harg4 arg5 harg5 x2 x3) (rKV 0).toLoadRect := by
    rw [View.readCov_eq_canon', ← kvsA]
    rfl
  unfold tile14
  rw [ekv,
    show ldT x1 0 1 = _ from (ld_unread harg3 x1 (rT 0 1)).symm, show ldSk x0 ⟨(1 : Fin 4).val, by decide⟩ = _ from (ld_unread harg2 x0 (rSk ⟨(1 : Fin 4).val, by decide⟩)).symm,
    show ldSk x0 ⟨4 + (1 : Fin 4).val, by decide⟩ = _ from (ld_unread harg2 x0 (rSk ⟨4 + (1 : Fin 4).val, by decide⟩)).symm]
  rfl

theorem attA_02 : (kernelRun0_A.sl.v193 (F := Ideal) c i arg2 harg2 arg3 harg3 arg4 harg4 arg5 harg5 arg19 x0 x1 x2 x3) = tile14 i x0 x1 x2 x3 0 2 := by
  have ekv : ldKV x2 x3 0 = arg19.view.readCov (kernelRun0_A.sl.HS0_2 (F := Ideal) c arg4 harg4 arg5 harg5 x2 x3) (rKV 0).toLoadRect := by
    rw [View.readCov_eq_canon', ← kvsA]
    rfl
  unfold tile14
  rw [ekv,
    show ldT x1 0 2 = _ from (ld_unread harg3 x1 (rT 0 2)).symm, show ldSk x0 ⟨(2 : Fin 4).val, by decide⟩ = _ from (ld_unread harg2 x0 (rSk ⟨(2 : Fin 4).val, by decide⟩)).symm,
    show ldSk x0 ⟨4 + (2 : Fin 4).val, by decide⟩ = _ from (ld_unread harg2 x0 (rSk ⟨4 + (2 : Fin 4).val, by decide⟩)).symm]
  rfl

theorem attA_03 : (kernelRun0_A.sl.v245 (F := Ideal) c i arg2 harg2 arg3 harg3 arg4 harg4 arg5 harg5 arg19 x0 x1 x2 x3) = tile14 i x0 x1 x2 x3 0 3 := by
  have ekv : ldKV x2 x3 0 = arg19.view.readCov (kernelRun0_A.sl.HS0_2 (F := Ideal) c arg4 harg4 arg5 harg5 x2 x3) (rKV 0).toLoadRect := by
    rw [View.readCov_eq_canon', ← kvsA]
    rfl
  unfold tile14
  rw [ekv,
    show ldT x1 0 3 = _ from (ld_unread harg3 x1 (rT 0 3)).symm, show ldSk x0 ⟨(3 : Fin 4).val, by decide⟩ = _ from (ld_unread harg2 x0 (rSk ⟨(3 : Fin 4).val, by decide⟩)).symm,
    show ldSk x0 ⟨4 + (3 : Fin 4).val, by decide⟩ = _ from (ld_unread harg2 x0 (rSk ⟨4 + (3 : Fin 4).val, by decide⟩)).symm]
  rfl

theorem attA_10 : (kernelRun0_A.sl.v300 (F := Ideal) c arg2 harg2 arg3 harg3 arg4 harg4 arg5 harg5 arg19 x0 x1 x2 x3) = tile14 i x0 x1 x2 x3 1 0 := by
  have ekv : ldKV x2 x3 1 = arg19.view.readCov (kernelRun0_A.sl.HS0_2 (F := Ideal) c arg4 harg4 arg5 harg5 x2 x3) (rKV 1).toLoadRect := by
    rw [View.readCov_eq_canon', ← kvsA]
    rfl
  unfold tile14
  rw [ekv,
    show ldT x1 1 0 = _ from (ld_unread harg3 x1 (rT 1 0)).symm, show ldSk x0 ⟨(0 : Fin 4).val, by decide⟩ = _ from (ld_unread harg2 x0 (rSk ⟨(0 : Fin 4).val, by decide⟩)).symm,
    show ldSk x0 ⟨4 + (0 : Fin 4).val, by decide⟩ = _ from (ld_unread harg2 x0 (rSk ⟨4 + (0 : Fin 4).val, by decide⟩)).symm]
  rfl

theorem attA_11 : (kernelRun0_A.sl.v352 (F := Ideal) c arg2 harg2 arg3 harg3 arg4 harg4 arg5 harg5 arg19 x0 x1 x2 x3) = tile14 i x0 x1 x2 x3 1 1 := by
  have ekv : ldKV x2 x3 1 = arg19.view.readCov (kernelRun0_A.sl.HS0_2 (F := Ideal) c arg4 harg4 arg5 harg5 x2 x3) (rKV 1).toLoadRect := by
    rw [View.readCov_eq_canon', ← kvsA]
    rfl
  unfold tile14
  rw [ekv,
    show ldT x1 1 1 = _ from (ld_unread harg3 x1 (rT 1 1)).symm, show ldSk x0 ⟨(1 : Fin 4).val, by decide⟩ = _ from (ld_unread harg2 x0 (rSk ⟨(1 : Fin 4).val, by decide⟩)).symm,
    show ldSk x0 ⟨4 + (1 : Fin 4).val, by decide⟩ = _ from (ld_unread harg2 x0 (rSk ⟨4 + (1 : Fin 4).val, by decide⟩)).symm]
  rfl

theorem attA_12 : (kernelRun0_A.sl.v404 (F := Ideal) c arg2 harg2 arg3 harg3 arg4 harg4 arg5 harg5 arg19 x0 x1 x2 x3) = tile14 i x0 x1 x2 x3 1 2 := by
  have ekv : ldKV x2 x3 1 = arg19.view.readCov (kernelRun0_A.sl.HS0_2 (F := Ideal) c arg4 harg4 arg5 harg5 x2 x3) (rKV 1).toLoadRect := by
    rw [View.readCov_eq_canon', ← kvsA]
    rfl
  unfold tile14
  rw [ekv,
    show ldT x1 1 2 = _ from (ld_unread harg3 x1 (rT 1 2)).symm, show ldSk x0 ⟨(2 : Fin 4).val, by decide⟩ = _ from (ld_unread harg2 x0 (rSk ⟨(2 : Fin 4).val, by decide⟩)).symm,
    show ldSk x0 ⟨4 + (2 : Fin 4).val, by decide⟩ = _ from (ld_unread harg2 x0 (rSk ⟨4 + (2 : Fin 4).val, by decide⟩)).symm]
  rfl

theorem attA_13 : (kernelRun0_A.sl.v456 (F := Ideal) c arg2 harg2 arg3 harg3 arg4 harg4 arg5 harg5 arg19 x0 x1 x2 x3) = tile14 i x0 x1 x2 x3 1 3 := by
  have ekv : ldKV x2 x3 1 = arg19.view.readCov (kernelRun0_A.sl.HS0_2 (F := Ideal) c arg4 harg4 arg5 harg5 x2 x3) (rKV 1).toLoadRect := by
    rw [View.readCov_eq_canon', ← kvsA]
    rfl
  unfold tile14
  rw [ekv,
    show ldT x1 1 3 = _ from (ld_unread harg3 x1 (rT 1 3)).symm, show ldSk x0 ⟨(3 : Fin 4).val, by decide⟩ = _ from (ld_unread harg2 x0 (rSk ⟨(3 : Fin 4).val, by decide⟩)).symm,
    show ldSk x0 ⟨4 + (3 : Fin 4).val, by decide⟩ = _ from (ld_unread harg2 x0 (rSk ⟨4 + (3 : Fin 4).val, by decide⟩)).symm]
  rfl

theorem attA_20 : (kernelRun0_A.sl.v511 (F := Ideal) c arg2 harg2 arg3 harg3 arg4 harg4 arg5 harg5 arg19 x0 x1 x2 x3) = tile14 i x0 x1 x2 x3 2 0 := by
  have ekv : ldKV x2 x3 2 = arg19.view.readCov (kernelRun0_A.sl.HS0_2 (F := Ideal) c arg4 harg4 arg5 harg5 x2 x3) (rKV 2).toLoadRect := by
    rw [View.readCov_eq_canon', ← kvsA]
    rfl
  unfold tile14
  rw [ekv,
    show ldT x1 2 0 = _ from (ld_unread harg3 x1 (rT 2 0)).symm, show ldSk x0 ⟨(0 : Fin 4).val, by decide⟩ = _ from (ld_unread harg2 x0 (rSk ⟨(0 : Fin 4).val, by decide⟩)).symm,
    show ldSk x0 ⟨4 + (0 : Fin 4).val, by decide⟩ = _ from (ld_unread harg2 x0 (rSk ⟨4 + (0 : Fin 4).val, by decide⟩)).symm]
  rfl

theorem attA_21 : (kernelRun0_A.sl.v563 (F := Ideal) c arg2 harg2 arg3 harg3 arg4 harg4 arg5 harg5 arg19 x0 x1 x2 x3) = tile14 i x0 x1 x2 x3 2 1 := by
  have ekv : ldKV x2 x3 2 = arg19.view.readCov (kernelRun0_A.sl.HS0_2 (F := Ideal) c arg4 harg4 arg5 harg5 x2 x3) (rKV 2).toLoadRect := by
    rw [View.readCov_eq_canon', ← kvsA]
    rfl
  unfold tile14
  rw [ekv,
    show ldT x1 2 1 = _ from (ld_unread harg3 x1 (rT 2 1)).symm, show ldSk x0 ⟨(1 : Fin 4).val, by decide⟩ = _ from (ld_unread harg2 x0 (rSk ⟨(1 : Fin 4).val, by decide⟩)).symm,
    show ldSk x0 ⟨4 + (1 : Fin 4).val, by decide⟩ = _ from (ld_unread harg2 x0 (rSk ⟨4 + (1 : Fin 4).val, by decide⟩)).symm]
  rfl

theorem attA_22 : (kernelRun0_A.sl.v615 (F := Ideal) c arg2 harg2 arg3 harg3 arg4 harg4 arg5 harg5 arg19 x0 x1 x2 x3) = tile14 i x0 x1 x2 x3 2 2 := by
  have ekv : ldKV x2 x3 2 = arg19.view.readCov (kernelRun0_A.sl.HS0_2 (F := Ideal) c arg4 harg4 arg5 harg5 x2 x3) (rKV 2).toLoadRect := by
    rw [View.readCov_eq_canon', ← kvsA]
    rfl
  unfold tile14
  rw [ekv,
    show ldT x1 2 2 = _ from (ld_unread harg3 x1 (rT 2 2)).symm, show ldSk x0 ⟨(2 : Fin 4).val, by decide⟩ = _ from (ld_unread harg2 x0 (rSk ⟨(2 : Fin 4).val, by decide⟩)).symm,
    show ldSk x0 ⟨4 + (2 : Fin 4).val, by decide⟩ = _ from (ld_unread harg2 x0 (rSk ⟨4 + (2 : Fin 4).val, by decide⟩)).symm]
  rfl

theorem attA_23 : (kernelRun0_A.sl.v667 (F := Ideal) c arg2 harg2 arg3 harg3 arg4 harg4 arg5 harg5 arg19 x0 x1 x2 x3) = tile14 i x0 x1 x2 x3 2 3 := by
  have ekv : ldKV x2 x3 2 = arg19.view.readCov (kernelRun0_A.sl.HS0_2 (F := Ideal) c arg4 harg4 arg5 harg5 x2 x3) (rKV 2).toLoadRect := by
    rw [View.readCov_eq_canon', ← kvsA]
    rfl
  unfold tile14
  rw [ekv,
    show ldT x1 2 3 = _ from (ld_unread harg3 x1 (rT 2 3)).symm, show ldSk x0 ⟨(3 : Fin 4).val, by decide⟩ = _ from (ld_unread harg2 x0 (rSk ⟨(3 : Fin 4).val, by decide⟩)).symm,
    show ldSk x0 ⟨4 + (3 : Fin 4).val, by decide⟩ = _ from (ld_unread harg2 x0 (rSk ⟨4 + (3 : Fin 4).val, by decide⟩)).symm]
  rfl

theorem attA_30 : (kernelRun0_A.sl.v722 (F := Ideal) c arg2 harg2 arg3 harg3 arg4 harg4 arg5 harg5 arg19 x0 x1 x2 x3) = tile14 i x0 x1 x2 x3 3 0 := by
  have ekv : ldKV x2 x3 3 = arg19.view.readCov (kernelRun0_A.sl.HS0_2 (F := Ideal) c arg4 harg4 arg5 harg5 x2 x3) (rKV 3).toLoadRect := by
    rw [View.readCov_eq_canon', ← kvsA]
    rfl
  unfold tile14
  rw [ekv,
    show ldT x1 3 0 = _ from (ld_unread harg3 x1 (rT 3 0)).symm, show ldSk x0 ⟨(0 : Fin 4).val, by decide⟩ = _ from (ld_unread harg2 x0 (rSk ⟨(0 : Fin 4).val, by decide⟩)).symm,
    show ldSk x0 ⟨4 + (0 : Fin 4).val, by decide⟩ = _ from (ld_unread harg2 x0 (rSk ⟨4 + (0 : Fin 4).val, by decide⟩)).symm]
  rfl

theorem attA_31 : (kernelRun0_A.sl.v774 (F := Ideal) c arg2 harg2 arg3 harg3 arg4 harg4 arg5 harg5 arg19 x0 x1 x2 x3) = tile14 i x0 x1 x2 x3 3 1 := by
  have ekv : ldKV x2 x3 3 = arg19.view.readCov (kernelRun0_A.sl.HS0_2 (F := Ideal) c arg4 harg4 arg5 harg5 x2 x3) (rKV 3).toLoadRect := by
    rw [View.readCov_eq_canon', ← kvsA]
    rfl
  unfold tile14
  rw [ekv,
    show ldT x1 3 1 = _ from (ld_unread harg3 x1 (rT 3 1)).symm, show ldSk x0 ⟨(1 : Fin 4).val, by decide⟩ = _ from (ld_unread harg2 x0 (rSk ⟨(1 : Fin 4).val, by decide⟩)).symm,
    show ldSk x0 ⟨4 + (1 : Fin 4).val, by decide⟩ = _ from (ld_unread harg2 x0 (rSk ⟨4 + (1 : Fin 4).val, by decide⟩)).symm]
  rfl

theorem attA_32 : (kernelRun0_A.sl.v826 (F := Ideal) c arg2 harg2 arg3 harg3 arg4 harg4 arg5 harg5 arg19 x0 x1 x2 x3) = tile14 i x0 x1 x2 x3 3 2 := by
  have ekv : ldKV x2 x3 3 = arg19.view.readCov (kernelRun0_A.sl.HS0_2 (F := Ideal) c arg4 harg4 arg5 harg5 x2 x3) (rKV 3).toLoadRect := by
    rw [View.readCov_eq_canon', ← kvsA]
    rfl
  unfold tile14
  rw [ekv,
    show ldT x1 3 2 = _ from (ld_unread harg3 x1 (rT 3 2)).symm, show ldSk x0 ⟨(2 : Fin 4).val, by decide⟩ = _ from (ld_unread harg2 x0 (rSk ⟨(2 : Fin 4).val, by decide⟩)).symm,
    show ldSk x0 ⟨4 + (2 : Fin 4).val, by decide⟩ = _ from (ld_unread harg2 x0 (rSk ⟨4 + (2 : Fin 4).val, by decide⟩)).symm]
  rfl

theorem attA_33 : (kernelRun0_A.sl.v878 (F := Ideal) c arg2 harg2 arg3 harg3 arg4 harg4 arg5 harg5 arg19 x0 x1 x2 x3) = tile14 i x0 x1 x2 x3 3 3 := by
  have ekv : ldKV x2 x3 3 = arg19.view.readCov (kernelRun0_A.sl.HS0_2 (F := Ideal) c arg4 harg4 arg5 harg5 x2 x3) (rKV 3).toLoadRect := by
    rw [View.readCov_eq_canon', ← kvsA]
    rfl
  unfold tile14
  rw [ekv,
    show ldT x1 3 3 = _ from (ld_unread harg3 x1 (rT 3 3)).symm, show ldSk x0 ⟨(3 : Fin 4).val, by decide⟩ = _ from (ld_unread harg2 x0 (rSk ⟨(3 : Fin 4).val, by decide⟩)).symm,
    show ldSk x0 ⟨4 + (3 : Fin 4).val, by decide⟩ = _ from (ld_unread harg2 x0 (rSk ⟨4 + (3 : Fin 4).val, by decide⟩)).symm]
  rfl

theorem list14A : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13).1 = sixteen (tile14 i x0 x1 x2 x3) := by
  unfold sixteen
  rw [← attA_00 c i arg2 harg2 arg3 harg3 arg4 harg4 arg5 harg5 arg19 x0 x1 x2 x3, ← attA_01 c i arg2 harg2 arg3 harg3 arg4 harg4 arg5 harg5 arg19 x0 x1 x2 x3, ← attA_02 c i arg2 harg2 arg3 harg3 arg4 harg4 arg5 harg5 arg19 x0 x1 x2 x3, ← attA_03 c i arg2 harg2 arg3 harg3 arg4 harg4 arg5 harg5 arg19 x0 x1 x2 x3, ← attA_10 c i arg2 harg2 arg3 harg3 arg4 harg4 arg5 harg5 arg19 x0 x1 x2 x3, ← attA_11 c i arg2 harg2 arg3 harg3 arg4 harg4 arg5 harg5 arg19 x0 x1 x2 x3, ← attA_12 c i arg2 harg2 arg3 harg3 arg4 harg4 arg5 harg5 arg19 x0 x1 x2 x3, ← attA_13 c i arg2 harg2 arg3 harg3 arg4 harg4 arg5 harg5 arg19 x0 x1 x2 x3, ← attA_20 c i arg2 harg2 arg3 harg3 arg4 harg4 arg5 harg5 arg19 x0 x1 x2 x3, ← attA_21 c i arg2 harg2 arg3 harg3 arg4 harg4 arg5 harg5 arg19 x0 x1 x2 x3, ← attA_22 c i arg2 harg2 arg3 harg3 arg4 harg4 arg5 harg5 arg19 x0 x1 x2 x3, ← attA_23 c i arg2 harg2 arg3 harg3 arg4 harg4 arg5 harg5 arg19 x0 x1 x2 x3, ← attA_30 c i arg2 harg2 arg3 harg3 arg4 harg4 arg5 harg5 arg19 x0 x1 x2 x3, ← attA_31 c i arg2 harg2 arg3 harg3 arg4 harg4 arg5 harg5 arg19 x0 x1 x2 x3, ← attA_32 c i arg2 harg2 arg3 harg3 arg4 harg4 arg5 harg5 arg19 x0 x1 x2 x3, ← attA_33 c i arg2 harg2 arg3 harg3 arg4 harg4 arg5 harg5 arg19 x0 x1 x2 x3]
  rfl

/-- The head's rows before chunk `n`. -/
theorem list15A : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13).2.1
      = sixteen fun c' h' => tile15 x4 x5 x6 x7 x8 x9 x11 c' h' (stAt x5 x6 x10 (ldS zeroS) h' c'.val) := by
  have h33 := atA_15_3 c arg7 harg7 arg8 harg8 arg12 harg12 arg20 x5 x6 x10
  have e : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13).2.1 = [⟨rT 3 3, tile15 x4 x5 x6 x7 x8 x9 x11 3 3 (stLd (kernelRun0_A.sl.HS1_16 (F := Ideal) c arg7 harg7 arg8 harg8 arg12 harg12 arg20 x5 x6 x10) 3)⟩, ⟨rT 3 2, (kernelRun0_A.sl.v2424 (F := Ideal) c arg6 harg6 arg7 harg7 arg8 harg8 arg9 harg9 arg10 harg10 arg11 harg11 arg12 harg12 arg13 harg13 arg20 x4 x5 x6 x7 x8 x9 x10 x11)⟩, ⟨rT 3 1, (kernelRun0_A.sl.v2322 (F := Ideal) c arg6 harg6 arg7 harg7 arg8 harg8 arg9 harg9 arg10 harg10 arg11 harg11 arg12 harg12 arg13 harg13 arg20 x4 x5 x6 x7 x8 x9 x10 x11)⟩, ⟨rT 3 0, (kernelRun0_A.sl.v2220 (F := Ideal) c arg6 harg6 arg7 harg7 arg8 harg8 arg9 harg9 arg10 harg10 arg11 harg11 arg12 harg12 arg13 harg13 arg20 x4 x5 x6 x7 x8 x9 x10 x11)⟩, ⟨rT 2 3, (kernelRun0_A.sl.v2115 (F := Ideal) c arg6 harg6 arg7 harg7 arg8 harg8 arg9 harg9 arg10 harg10 arg11 harg11 arg12 harg12 arg13 harg13 arg20 x4 x5 x6 x7 x8 x9 x10 x11)⟩, ⟨rT 2 2, (kernelRun0_A.sl.v2013 (F := Ideal) c arg6 harg6 arg7 harg7 arg8 harg8 arg9 harg9 arg10 harg10 arg11 harg11 arg12 harg12 arg13 harg13 arg20 x4 x5 x6 x7 x8 x9 x10 x11)⟩, ⟨rT 2 1, (kernelRun0_A.sl.v1911 (F := Ideal) c arg6 harg6 arg7 harg7 arg8 harg8 arg9 harg9 arg10 harg10 arg11 harg11 arg12 harg12 arg13 harg13 arg20 x4 x5 x6 x7 x8 x9 x10 x11)⟩, ⟨rT 2 0, (kernelRun0_A.sl.v1809 (F := Ideal) c arg6 harg6 arg7 harg7 arg8 harg8 arg9 harg9 arg10 harg10 arg11 harg11 arg12 harg12 arg13 harg13 arg20 x4 x5 x6 x7 x8 x9 x10 x11)⟩, ⟨rT 1 3, (kernelRun0_A.sl.v1704 (F := Ideal) c arg6 harg6 arg7 harg7 arg8 harg8 arg9 harg9 arg10 harg10 arg11 harg11 arg12 harg12 arg13 harg13 arg20 x4 x5 x6 x7 x8 x9 x10 x11)⟩, ⟨rT 1 2, (kernelRun0_A.sl.v1602 (F := Ideal) c arg6 harg6 arg7 harg7 arg8 harg8 arg9 harg9 arg10 harg10 arg11 harg11 arg12 harg12 arg13 harg13 arg20 x4 x5 x6 x7 x8 x9 x10 x11)⟩, ⟨rT 1 1, (kernelRun0_A.sl.v1500 (F := Ideal) c arg6 harg6 arg7 harg7 arg8 harg8 arg9 harg9 arg10 harg10 arg11 harg11 arg12 harg12 arg13 harg13 arg20 x4 x5 x6 x7 x8 x9 x10 x11)⟩, ⟨rT 1 0, (kernelRun0_A.sl.v1398 (F := Ideal) c arg6 harg6 arg7 harg7 arg8 harg8 arg9 harg9 arg10 harg10 arg11 harg11 arg12 harg12 arg13 harg13 arg20 x4 x5 x6 x7 x8 x9 x10 x11)⟩, ⟨rT 0 3, (kernelRun0_A.sl.v1293 (F := Ideal) c arg6 harg6 arg7 harg7 arg8 harg8 arg9 harg9 arg10 harg10 arg11 harg11 arg12 harg12 arg13 harg13 arg20 x4 x5 x6 x7 x8 x9 x10 x11)⟩, ⟨rT 0 2, (kernelRun0_A.sl.v1191 (F := Ideal) c arg6 harg6 arg7 harg7 arg8 harg8 arg9 harg9 arg10 harg10 arg11 harg11 arg12 harg12 arg13 harg13 arg20 x4 x5 x6 x7 x8 x9 x10 x11)⟩, ⟨rT 0 1, (kernelRun0_A.sl.v1089 (F := Ideal) c arg6 harg6 arg7 harg7 arg8 harg8 arg9 harg9 arg10 harg10 arg11 harg11 arg12 harg12 arg13 harg13 arg20 x4 x5 x6 x7 x8 x9 x10 x11)⟩, ⟨rT 0 0, (kernelRun0_A.sl.v987 (F := Ideal) c arg6 harg6 arg7 harg7 arg8 harg8 arg9 harg9 arg10 harg10 arg11 harg11 arg13 harg13 arg20 x4 x5 x6 x7 x8 x9 x11)⟩] := by
    unfold tile15
    rw [show stLd (kernelRun0_A.sl.HS1_16 (F := Ideal) c arg7 harg7 arg8 harg8 arg12 harg12 arg20 x5 x6 x10) 3 = _ from (View.readCov_eq_canon' arg20.view (kernelRun0_A.sl.HS1_16 (F := Ideal) c arg7 harg7 arg8 harg8 arg12 harg12 arg20 x5 x6 x10) (rS 3).toLoadRect).symm,
    show ldQ x4 3 = _ from (ld_unread harg6 x4 (rQ 3)).symm, show ldK x5 3 = _ from (ld_unread harg7 x5 (rK 3)).symm, show ldT x6 3 3 = _ from (ld_unread harg8 x6 (rT 3 3)).symm,
    show ldT x7 3 3 = _ from (ld_unread harg9 x7 (rT 3 3)).symm, show ldG x8 3 = _ from (ld_unread harg10 x8 (rG 3)).symm, show ldD x9 3 = _ from (ld_unread harg11 x9 (rD 3)).symm,
    show ldD x11 3 = _ from (ld_unread harg13 x11 (rD 3)).symm]
    rfl
  rw [e]
  rw [retA_00]
  rw [hsA_0]
  rw [retA_01]
  rw [atA_1_1]
  rw [retA_02]
  rw [atA_2_2]
  rw [retA_03]
  rw [atA_3_3]
  rw [retA_10]
  rw [atA_4_0]
  rw [retA_11]
  rw [atA_5_1]
  rw [retA_12]
  rw [atA_6_2]
  rw [retA_13]
  rw [atA_7_3]
  rw [retA_20]
  rw [atA_8_0]
  rw [retA_21]
  rw [atA_9_1]
  rw [retA_22]
  rw [atA_10_2]
  rw [retA_23]
  rw [atA_11_3]
  rw [retA_30]
  rw [atA_12_0]
  rw [retA_31]
  rw [atA_13_1]
  rw [retA_32]
  rw [atA_14_2]
  rw [atA_15_3]
  rfl

theorem listSA (h : Fin 4) : stLd (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13).2.2.2.1 h = stAt x5 x6 x10 (ldS zeroS) h 4 := by
  have e : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13).2.2.2.1 = stPut 3 (stStep x5 x6 x10 3 3 (stLd (kernelRun0_A.sl.HS1_16 (F := Ideal) c arg7 harg7 arg8 harg8 arg12 harg12 arg20 x5 x6 x10) 3)) (kernelRun0_A.sl.HS1_16 (F := Ideal) c arg7 harg7 arg8 harg8 arg12 harg12 arg20 x5 x6 x10) := by
    unfold stPut stStep
    rw [show stLd (kernelRun0_A.sl.HS1_16 (F := Ideal) c arg7 harg7 arg8 harg8 arg12 harg12 arg20 x5 x6 x10) 3 = _ from (View.readCov_eq_canon' arg20.view (kernelRun0_A.sl.HS1_16 (F := Ideal) c arg7 harg7 arg8 harg8 arg12 harg12 arg20 x5 x6 x10) (rS 3).toLoadRect).symm,
      show ldK x5 3 = _ from (ld_unread harg7 x5 (rK 3)).symm, show ldT x6 3 3 = _ from (ld_unread harg8 x6 (rT 3 3)).symm, show ldW x10 3 = _ from (ld_unread harg12 x10 (rW 3)).symm]
    rfl
  rw [e]
  fin_cases h
  · show stLd _ 0 = stAt _ _ _ _ 0 4
    rw [stLd_put_ne 3 0 (by decide), atA_15_0]
  · show stLd _ 1 = stAt _ _ _ _ 1 4
    rw [stLd_put_ne 3 1 (by decide), atA_15_1]
  · show stLd _ 2 = stAt _ _ _ _ 2 4
    rw [stLd_put_ne 3 2 (by decide), atA_15_2]
  · show stLd _ 3 = stAt _ _ _ _ 3 4
    rw [stLd_put_same, atA_15_3]
    rfl

end Cert.Mix
-- ==== Proof.StateB.lean ====
/- The stores into the carried retention state at a grid point where the state is the one left by the point before: each as one step of its head's rows, and what each head's rows are before each chunk. -/
module

public import proofs.«01_k».proof.Proof.Tiles
public import proofs.«01_k».proof.Proof.Gen.KernelIdeal.Frame

@[expose] public section

set_option maxRecDepth 16384
set_option maxHeartbeats 2000000

noncomputable section

namespace Cert.Mix

open Idealize.ShloMosaic Cert.KernelIdeal Cert.KernelIdeal.Gen

variable (c : Dev nD) (arg7 : Memref sig .tc .vmem S256x512 .bf16) (harg7 : arg7.IsWhole) (arg8 : Memref sig .tc .vmem S512x512 .bf16) (harg8 : arg8.IsWhole)
    (arg12 : Memref sig .tc .vmem S4x1x128 .f32) (harg12 : arg12.IsWhole) (arg20 : Memref sig .tc .vmem S4x256x128 .f32) (harg20 : arg20.IsWhole) (x5 : Vec Ideal S256x512 .bf16)
    (x6 : Vec Ideal S512x512 .bf16) (x10 : Vec Ideal S4x1x128 .f32) (xs1 : Vec Ideal S4x256x128 .f32)

theorem hsB_4 : (kernelRun0_B.sl.HS1_4 (F := Ideal) c arg7 harg7 arg8 harg8 arg12 harg12 arg20 harg20 x5 x6 x10 xs1)
      = stPut 3 (stStep x5 x6 x10 0 3 (ldS xs1 3)) (stPut 2 (stStep x5 x6 x10 0 2 (ldS xs1 2)) (stPut 1 (stStep x5 x6 x10 0 1 (ldS xs1 1)) (stPut 0 (stStep x5 x6 x10 0 0 (ldS xs1 0)) ([])))) := by
  unfold stStep
  rw [show ldK x5 0 = _ from (ld_unread harg7 x5 (rK 0)).symm, show ldT x6 0 0 = _ from (ld_unread harg8 x6 (rT 0 0)).symm, show ldW x10 0 = _ from (ld_unread harg12 x10 (rW 0)).symm, show ldS xs1 0 = _ from (ld_unread harg20 xs1 (rS 0)).symm, show ldT x6 0 1 = _ from (ld_unread harg8 x6 (rT 0 1)).symm, show ldW x10 1 = _ from (ld_unread harg12 x10 (rW 1)).symm, show ldS xs1 1 = _ from (ld_unread harg20 xs1 (rS 1)).symm, show ldT x6 0 2 = _ from (ld_unread harg8 x6 (rT 0 2)).symm, show ldW x10 2 = _ from (ld_unread harg12 x10 (rW 2)).symm, show ldS xs1 2 = _ from (ld_unread harg20 xs1 (rS 2)).symm, show ldT x6 0 3 = _ from (ld_unread harg8 x6 (rT 0 3)).symm, show ldW x10 3 = _ from (ld_unread harg12 x10 (rW 3)).symm, show ldS xs1 3 = _ from (ld_unread harg20 xs1 (rS 3)).symm]
  rfl

theorem hsB_5 : (kernelRun0_B.sl.HS1_5 (F := Ideal) c arg7 harg7 arg8 harg8 arg12 harg12 arg20 harg20 x5 x6 x10 xs1)
      = stPut 0 (stStep x5 x6 x10 1 0 (stLd (kernelRun0_B.sl.HS1_4 (F := Ideal) c arg7 harg7 arg8 harg8 arg12 harg12 arg20 harg20 x5 x6 x10 xs1) 0)) (kernelRun0_B.sl.HS1_4 (F := Ideal) c arg7 harg7 arg8 harg8 arg12 harg12 arg20 harg20 x5 x6 x10 xs1) := by
  unfold stPut stStep
  rw [show stLd (kernelRun0_B.sl.HS1_4 (F := Ideal) c arg7 harg7 arg8 harg8 arg12 harg12 arg20 harg20 x5 x6 x10 xs1) 0 = _ from (View.readCov_eq_canon' arg20.view (kernelRun0_B.sl.HS1_4 (F := Ideal) c arg7 harg7 arg8 harg8 arg12 harg12 arg20 harg20 x5 x6 x10 xs1) (rS 0).toLoadRect).symm,
    show ldK x5 1 = _ from (ld_unread harg7 x5 (rK 1)).symm, show ldT x6 1 0 = _ from (ld_unread harg8 x6 (rT 1 0)).symm, show ldW x10 0 = _ from (ld_unread harg12 x10 (rW 0)).symm]
  rfl

theorem hsB_6 : (kernelRun0_B.sl.HS1_6 (F := Ideal) c arg7 harg7 arg8 harg8 arg12 harg12 arg20 harg20 x5 x6 x10 xs1)
      = stPut 1 (stStep x5 x6 x10 1 1 (stLd (kernelRun0_B.sl.HS1_5 (F := Ideal) c arg7 harg7 arg8 harg8 arg12 harg12 arg20 harg20 x5 x6 x10 xs1) 1)) (kernelRun0_B.sl.HS1_5 (F := Ideal) c arg7 harg7 arg8 harg8 arg12 harg12 arg20 harg20 x5 x6 x10 xs1) := by
  unfold stPut stStep
  rw [show stLd (kernelRun0_B.sl.HS1_5 (F := Ideal) c arg7 harg7 arg8 harg8 arg12 harg12 arg20 harg20 x5 x6 x10 xs1) 1 = _ from (View.readCov_eq_canon' arg20.view (kernelRun0_B.sl.HS1_5 (F := Ideal) c arg7 harg7 arg8 harg8 arg12 harg12 arg20 harg20 x5 x6 x10 xs1) (rS 1).toLoadRect).symm,
    show ldK x5 1 = _ from (ld_unread harg7 x5 (rK 1)).symm, show ldT x6 1 1 = _ from (ld_unread harg8 x6 (rT 1 1)).symm, show ldW x10 1 = _ from (ld_unread harg12 x10 (rW 1)).symm]
  rfl

theorem hsB_7 : (kernelRun0_B.sl.HS1_7 (F := Ideal) c arg7 harg7 arg8 harg8 arg12 harg12 arg20 harg20 x5 x6 x10 xs1)
      = stPut 2 (stStep x5 x6 x10 1 2 (stLd (kernelRun0_B.sl.HS1_6 (F := Ideal) c arg7 harg7 arg8 harg8 arg12 harg12 arg20 harg20 x5 x6 x10 xs1) 2)) (kernelRun0_B.sl.HS1_6 (F := Ideal) c arg7 harg7 arg8 harg8 arg12 harg12 arg20 harg20 x5 x6 x10 xs1) := by
  unfold stPut stStep
  rw [show stLd (kernelRun0_B.sl.HS1_6 (F := Ideal) c arg7 harg7 arg8 harg8 arg12 harg12 arg20 harg20 x5 x6 x10 xs1) 2 = _ from (View.readCov_eq_canon' arg20.view (kernelRun0_B.sl.HS1_6 (F := Ideal) c arg7 harg7 arg8 harg8 arg12 harg12 arg20 harg20 x5 x6 x10 xs1) (rS 2).toLoadRect).symm,
    show ldK x5 1 = _ from (ld_unread harg7 x5 (rK 1)).symm, show ldT x6 1 2 = _ from (ld_unread harg8 x6 (rT 1 2)).symm, show ldW x10 2 = _ from (ld_unread harg12 x10 (rW 2)).symm]
  rfl

theorem hsB_8 : (kernelRun0_B.sl.HS1_8 (F := Ideal) c arg7 harg7 arg8 harg8 arg12 harg12 arg20 harg20 x5 x6 x10 xs1)
      = stPut 3 (stStep x5 x6 x10 1 3 (stLd (kernelRun0_B.sl.HS1_7 (F := Ideal) c arg7 harg7 arg8 harg8 arg12 harg12 arg20 harg20 x5 x6 x10 xs1) 3)) (kernelRun0_B.sl.HS1_7 (F := Ideal) c arg7 harg7 arg8 harg8 arg12 harg12 arg20 harg20 x5 x6 x10 xs1) := by
  unfold stPut stStep
  rw [show stLd (kernelRun0_B.sl.HS1_7 (F := Ideal) c arg7 harg7 arg8 harg8 arg12 harg12 arg20 harg20 x5 x6 x10 xs1) 3 = _ from (View.readCov_eq_canon' arg20.view (kernelRun0_B.sl.HS1_7 (F := Ideal) c arg7 harg7 arg8 harg8 arg12 harg12 arg20 harg20 x5 x6 x10 xs1) (rS 3).toLoadRect).symm,
    show ldK x5 1 = _ from (ld_unread harg7 x5 (rK 1)).symm, show ldT x6 1 3 = _ from (ld_unread harg8 x6 (rT 1 3)).symm, show ldW x10 3 = _ from (ld_unread harg12 x10 (rW 3)).symm]
  rfl

theorem hsB_9 : (kernelRun0_B.sl.HS1_9 (F := Ideal) c arg7 harg7 arg8 harg8 arg12 harg12 arg20 harg20 x5 x6 x10 xs1)
      = stPut 0 (stStep x5 x6 x10 2 0 (stLd (kernelRun0_B.sl.HS1_8 (F := Ideal) c arg7 harg7 arg8 harg8 arg12 harg12 arg20 harg20 x5 x6 x10 xs1) 0)) (kernelRun0_B.sl.HS1_8 (F := Ideal) c arg7 harg7 arg8 harg8 arg12 harg12 arg20 harg20 x5 x6 x10 xs1) := by
  unfold stPut stStep
  rw [show stLd (kernelRun0_B.sl.HS1_8 (F := Ideal) c arg7 harg7 arg8 harg8 arg12 harg12 arg20 harg20 x5 x6 x10 xs1) 0 = _ from (View.readCov_eq_canon' arg20.view (kernelRun0_B.sl.HS1_8 (F := Ideal) c arg7 harg7 arg8 harg8 arg12 harg12 arg20 harg20 x5 x6 x10 xs1) (rS 0).toLoadRect).symm,
    show ldK x5 2 = _ from (ld_unread harg7 x5 (rK 2)).symm, show ldT x6 2 0 = _ from (ld_unread harg8 x6 (rT 2 0)).symm, show ldW x10 0 = _ from (ld_unread harg12 x10 (rW 0)).symm]
  rfl

theorem hsB_10 : (kernelRun0_B.sl.HS1_10 (F := Ideal) c arg7 harg7 arg8 harg8 arg12 harg12 arg20 harg20 x5 x6 x10 xs1)
      = stPut 1 (stStep x5 x6 x10 2 1 (stLd (kernelRun0_B.sl.HS1_9 (F := Ideal) c arg7 harg7 arg8 harg8 arg12 harg12 arg20 harg20 x5 x6 x10 xs1) 1)) (kernelRun0_B.sl.HS1_9 (F := Ideal) c arg7 harg7 arg8 harg8 arg12 harg12 arg20 harg20 x5 x6 x10 xs1) := by
  unfold stPut stStep
  rw [show stLd (kernelRun0_B.sl.HS1_9 (F := Ideal) c arg7 harg7 arg8 harg8 arg12 harg12 arg20 harg20 x5 x6 x10 xs1) 1 = _ from (View.readCov_eq_canon' arg20.view (kernelRun0_B.sl.HS1_9 (F := Ideal) c arg7 harg7 arg8 harg8 arg12 harg12 arg20 harg20 x5 x6 x10 xs1) (rS 1).toLoadRect).symm,
    show ldK x5 2 = _ from (ld_unread harg7 x5 (rK 2)).symm, show ldT x6 2 1 = _ from (ld_unread harg8 x6 (rT 2 1)).symm, show ldW x10 1 = _ from (ld_unread harg12 x10 (rW 1)).symm]
  rfl

theorem hsB_11 : (kernelRun0_B.sl.HS1_11 (F := Ideal) c arg7 harg7 arg8 harg8 arg12 harg12 arg20 harg20 x5 x6 x10 xs1)
      = stPut 2 (stStep x5 x6 x10 2 2 (stLd (kernelRun0_B.sl.HS1_10 (F := Ideal) c arg7 harg7 arg8 harg8 arg12 harg12 arg20 harg20 x5 x6 x10 xs1) 2)) (kernelRun0_B.sl.HS1_10 (F := Ideal) c arg7 harg7 arg8 harg8 arg12 harg12 arg20 harg20 x5 x6 x10 xs1) := by
  unfold stPut stStep
  rw [show stLd (kernelRun0_B.sl.HS1_10 (F := Ideal) c arg7 harg7 arg8 harg8 arg12 harg12 arg20 harg20 x5 x6 x10 xs1) 2 = _ from (View.readCov_eq_canon' arg20.view (kernelRun0_B.sl.HS1_10 (F := Ideal) c arg7 harg7 arg8 harg8 arg12 harg12 arg20 harg20 x5 x6 x10 xs1) (rS 2).toLoadRect).symm,
    show ldK x5 2 = _ from (ld_unread harg7 x5 (rK 2)).symm, show ldT x6 2 2 = _ from (ld_unread harg8 x6 (rT 2 2)).symm, show ldW x10 2 = _ from (ld_unread harg12 x10 (rW 2)).symm]
  rfl

theorem hsB_12 : (kernelRun0_B.sl.HS1_12 (F := Ideal) c arg7 harg7 arg8 harg8 arg12 harg12 arg20 harg20 x5 x6 x10 xs1)
      = stPut 3 (stStep x5 x6 x10 2 3 (stLd (kernelRun0_B.sl.HS1_11 (F := Ideal) c arg7 harg7 arg8 harg8 arg12 harg12 arg20 harg20 x5 x6 x10 xs1) 3)) (kernelRun0_B.sl.HS1_11 (F := Ideal) c arg7 harg7 arg8 harg8 arg12 harg12 arg20 harg20 x5 x6 x10 xs1) := by
  unfold stPut stStep
  rw [show stLd (kernelRun0_B.sl.HS1_11 (F := Ideal) c arg7 harg7 arg8 harg8 arg12 harg12 arg20 harg20 x5 x6 x10 xs1) 3 = _ from (View.readCov_eq_canon' arg20.view (kernelRun0_B.sl.HS1_11 (F := Ideal) c arg7 harg7 arg8 harg8 arg12 harg12 arg20 harg20 x5 x6 x10 xs1) (rS 3).toLoadRect).symm,
    show ldK x5 2 = _ from (ld_unread harg7 x5 (rK 2)).symm, show ldT x6 2 3 = _ from (ld_unread harg8 x6 (rT 2 3)).symm, show ldW x10 3 = _ from (ld_unread harg12 x10 (rW 3)).symm]
  rfl

theorem hsB_13 : (kernelRun0_B.sl.HS1_13 (F := Ideal) c arg7 harg7 arg8 harg8 arg12 harg12 arg20 harg20 x5 x6 x10 xs1)
      = stPut 0 (stStep x5 x6 x10 3 0 (stLd (kernelRun0_B.sl.HS1_12 (F := Ideal) c arg7 harg7 arg8 harg8 arg12 harg12 arg20 harg20 x5 x6 x10 xs1) 0)) (kernelRun0_B.sl.HS1_12 (F := Ideal) c arg7 harg7 arg8 harg8 arg12 harg12 arg20 harg20 x5 x6 x10 xs1) := by
  unfold stPut stStep
  rw [show stLd (kernelRun0_B.sl.HS1_12 (F := Ideal) c arg7 harg7 arg8 harg8 arg12 harg12 arg20 harg20 x5 x6 x10 xs1) 0 = _ from (View.readCov_eq_canon' arg20.view (kernelRun0_B.sl.HS1_12 (F := Ideal) c arg7 harg7 arg8 harg8 arg12 harg12 arg20 harg20 x5 x6 x10 xs1) (rS 0).toLoadRect).symm,
    show ldK x5 3 = _ from (ld_unread harg7 x5 (rK 3)).symm, show ldT x6 3 0 = _ from (ld_unread harg8 x6 (rT 3 0)).symm, show ldW x10 0 = _ from (ld_unread harg12 x10 (rW 0)).symm]
  rfl

theorem hsB_14 : (kernelRun0_B.sl.HS1_14 (F := Ideal) c arg7 harg7 arg8 harg8 arg12 harg12 arg20 harg20 x5 x6 x10 xs1)
      = stPut 1 (stStep x5 x6 x10 3 1 (stLd (kernelRun0_B.sl.HS1_13 (F := Ideal) c arg7 harg7 arg8 harg8 arg12 harg12 arg20 harg20 x5 x6 x10 xs1) 1)) (kernelRun0_B.sl.HS1_13 (F := Ideal) c arg7 harg7 arg8 harg8 arg12 harg12 arg20 harg20 x5 x6 x10 xs1) := by
  unfold stPut stStep
  rw [show stLd (kernelRun0_B.sl.HS1_13 (F := Ideal) c arg7 harg7 arg8 harg8 arg12 harg12 arg20 harg20 x5 x6 x10 xs1) 1 = _ from (View.readCov_eq_canon' arg20.view (kernelRun0_B.sl.HS1_13 (F := Ideal) c arg7 harg7 arg8 harg8 arg12 harg12 arg20 harg20 x5 x6 x10 xs1) (rS 1).toLoadRect).symm,
    show ldK x5 3 = _ from (ld_unread harg7 x5 (rK 3)).symm, show ldT x6 3 1 = _ from (ld_unread harg8 x6 (rT 3 1)).symm, show ldW x10 1 = _ from (ld_unread harg12 x10 (rW 1)).symm]
  rfl

theorem hsB_15 : (kernelRun0_B.sl.HS1_15 (F := Ideal) c arg7 harg7 arg8 harg8 arg12 harg12 arg20 harg20 x5 x6 x10 xs1)
      = stPut 2 (stStep x5 x6 x10 3 2 (stLd (kernelRun0_B.sl.HS1_14 (F := Ideal) c arg7 harg7 arg8 harg8 arg12 harg12 arg20 harg20 x5 x6 x10 xs1) 2)) (kernelRun0_B.sl.HS1_14 (F := Ideal) c arg7 harg7 arg8 harg8 arg12 harg12 arg20 harg20 x5 x6 x10 xs1) := by
  unfold stPut stStep
  rw [show stLd (kernelRun0_B.sl.HS1_14 (F := Ideal) c arg7 harg7 arg8 harg8 arg12 harg12 arg20 harg20 x5 x6 x10 xs1) 2 = _ from (View.readCov_eq_canon' arg20.view (kernelRun0_B.sl.HS1_14 (F := Ideal) c arg7 harg7 arg8 harg8 arg12 harg12 arg20 harg20 x5 x6 x10 xs1) (rS 2).toLoadRect).symm,
    show ldK x5 3 = _ from (ld_unread harg7 x5 (rK 3)).symm, show ldT x6 3 2 = _ from (ld_unread harg8 x6 (rT 3 2)).symm, show ldW x10 2 = _ from (ld_unread harg12 x10 (rW 2)).symm]
  rfl

theorem atB_4_0 : stLd (kernelRun0_B.sl.HS1_4 (F := Ideal) c arg7 harg7 arg8 harg8 arg12 harg12 arg20 harg20 x5 x6 x10 xs1) 0 = stAt x5 x6 x10 (ldS xs1) 0 1 := by
  rw [hsB_4]
  rw [stLd_put_ne 3 0 (by decide)]
  rw [stLd_put_ne 2 0 (by decide)]
  rw [stLd_put_ne 1 0 (by decide)]
  rw [stLd_put_same]
  rfl

theorem atB_4_1 : stLd (kernelRun0_B.sl.HS1_4 (F := Ideal) c arg7 harg7 arg8 harg8 arg12 harg12 arg20 harg20 x5 x6 x10 xs1) 1 = stAt x5 x6 x10 (ldS xs1) 1 1 := by
  rw [hsB_4]
  rw [stLd_put_ne 3 1 (by decide)]
  rw [stLd_put_ne 2 1 (by decide)]
  rw [stLd_put_same]
  rfl

theorem atB_4_2 : stLd (kernelRun0_B.sl.HS1_4 (F := Ideal) c arg7 harg7 arg8 harg8 arg12 harg12 arg20 harg20 x5 x6 x10 xs1) 2 = stAt x5 x6 x10 (ldS xs1) 2 1 := by
  rw [hsB_4]
  rw [stLd_put_ne 3 2 (by decide)]
  rw [stLd_put_same]
  rfl

theorem atB_4_3 : stLd (kernelRun0_B.sl.HS1_4 (F := Ideal) c arg7 harg7 arg8 harg8 arg12 harg12 arg20 harg20 x5 x6 x10 xs1) 3 = stAt x5 x6 x10 (ldS xs1) 3 1 := by
  rw [hsB_4]
  rw [stLd_put_same]
  rfl

theorem atB_5_0 : stLd (kernelRun0_B.sl.HS1_5 (F := Ideal) c arg7 harg7 arg8 harg8 arg12 harg12 arg20 harg20 x5 x6 x10 xs1) 0 = stAt x5 x6 x10 (ldS xs1) 0 2 := by
  rw [hsB_5]
  rw [stLd_put_same, atB_4_0]
  rfl

theorem atB_5_1 : stLd (kernelRun0_B.sl.HS1_5 (F := Ideal) c arg7 harg7 arg8 harg8 arg12 harg12 arg20 harg20 x5 x6 x10 xs1) 1 = stAt x5 x6 x10 (ldS xs1) 1 1 := by
  rw [hsB_5]
  rw [stLd_put_ne 0 1 (by decide), atB_4_1]

theorem atB_5_2 : stLd (kernelRun0_B.sl.HS1_5 (F := Ideal) c arg7 harg7 arg8 harg8 arg12 harg12 arg20 harg20 x5 x6 x10 xs1) 2 = stAt x5 x6 x10 (ldS xs1) 2 1 := by
  rw [hsB_5]
  rw [stLd_put_ne 0 2 (by decide), atB_4_2]

theorem atB_5_3 : stLd (kernelRun0_B.sl.HS1_5 (F := Ideal) c arg7 harg7 arg8 harg8 arg12 harg12 arg20 harg20 x5 x6 x10 xs1) 3 = stAt x5 x6 x10 (ldS xs1) 3 1 := by
  rw [hsB_5]
  rw [stLd_put_ne 0 3 (by decide), atB_4_3]

theorem atB_6_0 : stLd (kernelRun0_B.sl.HS1_6 (F := Ideal) c arg7 harg7 arg8 harg8 arg12 harg12 arg20 harg20 x5 x6 x10 xs1) 0 = stAt x5 x6 x10 (ldS xs1) 0 2 := by
  rw [hsB_6]
  rw [stLd_put_ne 1 0 (by decide), atB_5_0]

theorem atB_6_1 : stLd (kernelRun0_B.sl.HS1_6 (F := Ideal) c arg7 harg7 arg8 harg8 arg12 harg12 arg20 harg20 x5 x6 x10 xs1) 1 = stAt x5 x6 x10 (ldS xs1) 1 2 := by
  rw [hsB_6]
  rw [stLd_put_same, atB_5_1]
  rfl

theorem atB_6_2 : stLd (kernelRun0_B.sl.HS1_6 (F := Ideal) c arg7 harg7 arg8 harg8 arg12 harg12 arg20 harg20 x5 x6 x10 xs1) 2 = stAt x5 x6 x10 (ldS xs1) 2 1 := by
  rw [hsB_6]
  rw [stLd_put_ne 1 2 (by decide), atB_5_2]

theorem atB_6_3 : stLd (kernelRun0_B.sl.HS1_6 (F := Ideal) c arg7 harg7 arg8 harg8 arg12 harg12 arg20 harg20 x5 x6 x10 xs1) 3 = stAt x5 x6 x10 (ldS xs1) 3 1 := by
  rw [hsB_6]
  rw [stLd_put_ne 1 3 (by decide), atB_5_3]

theorem atB_7_0 : stLd (kernelRun0_B.sl.HS1_7 (F := Ideal) c arg7 harg7 arg8 harg8 arg12 harg12 arg20 harg20 x5 x6 x10 xs1) 0 = stAt x5 x6 x10 (ldS xs1) 0 2 := by
  rw [hsB_7]
  rw [stLd_put_ne 2 0 (by decide), atB_6_0]

theorem atB_7_1 : stLd (kernelRun0_B.sl.HS1_7 (F := Ideal) c arg7 harg7 arg8 harg8 arg12 harg12 arg20 harg20 x5 x6 x10 xs1) 1 = stAt x5 x6 x10 (ldS xs1) 1 2 := by
  rw [hsB_7]
  rw [stLd_put_ne 2 1 (by decide), atB_6_1]

theorem atB_7_2 : stLd (kernelRun0_B.sl.HS1_7 (F := Ideal) c arg7 harg7 arg8 harg8 arg12 harg12 arg20 harg20 x5 x6 x10 xs1) 2 = stAt x5 x6 x10 (ldS xs1) 2 2 := by
  rw [hsB_7]
  rw [stLd_put_same, atB_6_2]
  rfl

theorem atB_7_3 : stLd (kernelRun0_B.sl.HS1_7 (F := Ideal) c arg7 harg7 arg8 harg8 arg12 harg12 arg20 harg20 x5 x6 x10 xs1) 3 = stAt x5 x6 x10 (ldS xs1) 3 1 := by
  rw [hsB_7]
  rw [stLd_put_ne 2 3 (by decide), atB_6_3]

theorem atB_8_0 : stLd (kernelRun0_B.sl.HS1_8 (F := Ideal) c arg7 harg7 arg8 harg8 arg12 harg12 arg20 harg20 x5 x6 x10 xs1) 0 = stAt x5 x6 x10 (ldS xs1) 0 2 := by
  rw [hsB_8]
  rw [stLd_put_ne 3 0 (by decide), atB_7_0]

theorem atB_8_1 : stLd (kernelRun0_B.sl.HS1_8 (F := Ideal) c arg7 harg7 arg8 harg8 arg12 harg12 arg20 harg20 x5 x6 x10 xs1) 1 = stAt x5 x6 x10 (ldS xs1) 1 2 := by
  rw [hsB_8]
  rw [stLd_put_ne 3 1 (by decide), atB_7_1]

theorem atB_8_2 : stLd (kernelRun0_B.sl.HS1_8 (F := Ideal) c arg7 harg7 arg8 harg8 arg12 harg12 arg20 harg20 x5 x6 x10 xs1) 2 = stAt x5 x6 x10 (ldS xs1) 2 2 := by
  rw [hsB_8]
  rw [stLd_put_ne 3 2 (by decide), atB_7_2]

theorem atB_8_3 : stLd (kernelRun0_B.sl.HS1_8 (F := Ideal) c arg7 harg7 arg8 harg8 arg12 harg12 arg20 harg20 x5 x6 x10 xs1) 3 = stAt x5 x6 x10 (ldS xs1) 3 2 := by
  rw [hsB_8]
  rw [stLd_put_same, atB_7_3]
  rfl

theorem atB_9_0 : stLd (kernelRun0_B.sl.HS1_9 (F := Ideal) c arg7 harg7 arg8 harg8 arg12 harg12 arg20 harg20 x5 x6 x10 xs1) 0 = stAt x5 x6 x10 (ldS xs1) 0 3 := by
  rw [hsB_9]
  rw [stLd_put_same, atB_8_0]
  rfl

theorem atB_9_1 : stLd (kernelRun0_B.sl.HS1_9 (F := Ideal) c arg7 harg7 arg8 harg8 arg12 harg12 arg20 harg20 x5 x6 x10 xs1) 1 = stAt x5 x6 x10 (ldS xs1) 1 2 := by
  rw [hsB_9]
  rw [stLd_put_ne 0 1 (by decide), atB_8_1]

theorem atB_9_2 : stLd (kernelRun0_B.sl.HS1_9 (F := Ideal) c arg7 harg7 arg8 harg8 arg12 harg12 arg20 harg20 x5 x6 x10 xs1) 2 = stAt x5 x6 x10 (ldS xs1) 2 2 := by
  rw [hsB_9]
  rw [stLd_put_ne 0 2 (by decide), atB_8_2]

theorem atB_9_3 : stLd (kernelRun0_B.sl.HS1_9 (F := Ideal) c arg7 harg7 arg8 harg8 arg12 harg12 arg20 harg20 x5 x6 x10 xs1) 3 = stAt x5 x6 x10 (ldS xs1) 3 2 := by
  rw [hsB_9]
  rw [stLd_put_ne 0 3 (by decide), atB_8_3]

theorem atB_10_0 : stLd (kernelRun0_B.sl.HS1_10 (F := Ideal) c arg7 harg7 arg8 harg8 arg12 harg12 arg20 harg20 x5 x6 x10 xs1) 0 = stAt x5 x6 x10 (ldS xs1) 0 3 := by
  rw [hsB_10]
  rw [stLd_put_ne 1 0 (by decide), atB_9_0]

theorem atB_10_1 : stLd (kernelRun0_B.sl.HS1_10 (F := Ideal) c arg7 harg7 arg8 harg8 arg12 harg12 arg20 harg20 x5 x6 x10 xs1) 1 = stAt x5 x6 x10 (ldS xs1) 1 3 := by
  rw [hsB_10]
  rw [stLd_put_same, atB_9_1]
  rfl

theorem atB_10_2 : stLd (kernelRun0_B.sl.HS1_10 (F := Ideal) c arg7 harg7 arg8 harg8 arg12 harg12 arg20 harg20 x5 x6 x10 xs1) 2 = stAt x5 x6 x10 (ldS xs1) 2 2 := by
  rw [hsB_10]
  rw [stLd_put_ne 1 2 (by decide), atB_9_2]

theorem atB_10_3 : stLd (kernelRun0_B.sl.HS1_10 (F := Ideal) c arg7 harg7 arg8 harg8 arg12 harg12 arg20 harg20 x5 x6 x10 xs1) 3 = stAt x5 x6 x10 (ldS xs1) 3 2 := by
  rw [hsB_10]
  rw [stLd_put_ne 1 3 (by decide), atB_9_3]

theorem atB_11_0 : stLd (kernelRun0_B.sl.HS1_11 (F := Ideal) c arg7 harg7 arg8 harg8 arg12 harg12 arg20 harg20 x5 x6 x10 xs1) 0 = stAt x5 x6 x10 (ldS xs1) 0 3 := by
  rw [hsB_11]
  rw [stLd_put_ne 2 0 (by decide), atB_10_0]

theorem atB_11_1 : stLd (kernelRun0_B.sl.HS1_11 (F := Ideal) c arg7 harg7 arg8 harg8 arg12 harg12 arg20 harg20 x5 x6 x10 xs1) 1 = stAt x5 x6 x10 (ldS xs1) 1 3 := by
  rw [hsB_11]
  rw [stLd_put_ne 2 1 (by decide), atB_10_1]

theorem atB_11_2 : stLd (kernelRun0_B.sl.HS1_11 (F := Ideal) c arg7 harg7 arg8 harg8 arg12 harg12 arg20 harg20 x5 x6 x10 xs1) 2 = stAt x5 x6 x10 (ldS xs1) 2 3 := by
  rw [hsB_11]
  rw [stLd_put_same, atB_10_2]
  rfl

theorem atB_11_3 : stLd (kernelRun0_B.sl.HS1_11 (F := Ideal) c arg7 harg7 arg8 harg8 arg12 harg12 arg20 harg20 x5 x6 x10 xs1) 3 = stAt x5 x6 x10 (ldS xs1) 3 2 := by
  rw [hsB_11]
  rw [stLd_put_ne 2 3 (by decide), atB_10_3]

theorem atB_12_0 : stLd (kernelRun0_B.sl.HS1_12 (F := Ideal) c arg7 harg7 arg8 harg8 arg12 harg12 arg20 harg20 x5 x6 x10 xs1) 0 = stAt x5 x6 x10 (ldS xs1) 0 3 := by
  rw [hsB_12]
  rw [stLd_put_ne 3 0 (by decide), atB_11_0]

theorem atB_12_1 : stLd (kernelRun0_B.sl.HS1_12 (F := Ideal) c arg7 harg7 arg8 harg8 arg12 harg12 arg20 harg20 x5 x6 x10 xs1) 1 = stAt x5 x6 x10 (ldS xs1) 1 3 := by
  rw [hsB_12]
  rw [stLd_put_ne 3 1 (by decide), atB_11_1]

theorem atB_12_2 : stLd (kernelRun0_B.sl.HS1_12 (F := Ideal) c arg7 harg7 arg8 harg8 arg12 harg12 arg20 harg20 x5 x6 x10 xs1) 2 = stAt x5 x6 x10 (ldS xs1) 2 3 := by
  rw [hsB_12]
  rw [stLd_put_ne 3 2 (by decide), atB_11_2]

theorem atB_12_3 : stLd (kernelRun0_B.sl.HS1_12 (F := Ideal) c arg7 harg7 arg8 harg8 arg12 harg12 arg20 harg20 x5 x6 x10 xs1) 3 = stAt x5 x6 x10 (ldS xs1) 3 3 := by
  rw [hsB_12]
  rw [stLd_put_same, atB_11_3]
  rfl

theorem atB_13_0 : stLd (kernelRun0_B.sl.HS1_13 (F := Ideal) c arg7 harg7 arg8 harg8 arg12 harg12 arg20 harg20 x5 x6 x10 xs1) 0 = stAt x5 x6 x10 (ldS xs1) 0 4 := by
  rw [hsB_13]
  rw [stLd_put_same, atB_12_0]
  rfl

theorem atB_13_1 : stLd (kernelRun0_B.sl.HS1_13 (F := Ideal) c arg7 harg7 arg8 harg8 arg12 harg12 arg20 harg20 x5 x6 x10 xs1) 1 = stAt x5 x6 x10 (ldS xs1) 1 3 := by
  rw [hsB_13]
  rw [stLd_put_ne 0 1 (by decide), atB_12_1]

theorem atB_13_2 : stLd (kernelRun0_B.sl.HS1_13 (F := Ideal) c arg7 harg7 arg8 harg8 arg12 harg12 arg20 harg20 x5 x6 x10 xs1) 2 = stAt x5 x6 x10 (ldS xs1) 2 3 := by
  rw [hsB_13]
  rw [stLd_put_ne 0 2 (by decide), atB_12_2]

theorem atB_13_3 : stLd (kernelRun0_B.sl.HS1_13 (F := Ideal) c arg7 harg7 arg8 harg8 arg12 harg12 arg20 harg20 x5 x6 x10 xs1) 3 = stAt x5 x6 x10 (ldS xs1) 3 3 := by
  rw [hsB_13]
  rw [stLd_put_ne 0 3 (by decide), atB_12_3]

theorem atB_14_0 : stLd (kernelRun0_B.sl.HS1_14 (F := Ideal) c arg7 harg7 arg8 harg8 arg12 harg12 arg20 harg20 x5 x6 x10 xs1) 0 = stAt x5 x6 x10 (ldS xs1) 0 4 := by
  rw [hsB_14]
  rw [stLd_put_ne 1 0 (by decide), atB_13_0]

theorem atB_14_1 : stLd (kernelRun0_B.sl.HS1_14 (F := Ideal) c arg7 harg7 arg8 harg8 arg12 harg12 arg20 harg20 x5 x6 x10 xs1) 1 = stAt x5 x6 x10 (ldS xs1) 1 4 := by
  rw [hsB_14]
  rw [stLd_put_same, atB_13_1]
  rfl

theorem atB_14_2 : stLd (kernelRun0_B.sl.HS1_14 (F := Ideal) c arg7 harg7 arg8 harg8 arg12 harg12 arg20 harg20 x5 x6 x10 xs1) 2 = stAt x5 x6 x10 (ldS xs1) 2 3 := by
  rw [hsB_14]
  rw [stLd_put_ne 1 2 (by decide), atB_13_2]

theorem atB_14_3 : stLd (kernelRun0_B.sl.HS1_14 (F := Ideal) c arg7 harg7 arg8 harg8 arg12 harg12 arg20 harg20 x5 x6 x10 xs1) 3 = stAt x5 x6 x10 (ldS xs1) 3 3 := by
  rw [hsB_14]
  rw [stLd_put_ne 1 3 (by decide), atB_13_3]

theorem atB_15_0 : stLd (kernelRun0_B.sl.HS1_15 (F := Ideal) c arg7 harg7 arg8 harg8 arg12 harg12 arg20 harg20 x5 x6 x10 xs1) 0 = stAt x5 x6 x10 (ldS xs1) 0 4 := by
  rw [hsB_15]
  rw [stLd_put_ne 2 0 (by decide), atB_14_0]

theorem atB_15_1 : stLd (kernelRun0_B.sl.HS1_15 (F := Ideal) c arg7 harg7 arg8 harg8 arg12 harg12 arg20 harg20 x5 x6 x10 xs1) 1 = stAt x5 x6 x10 (ldS xs1) 1 4 := by
  rw [hsB_15]
  rw [stLd_put_ne 2 1 (by decide), atB_14_1]

theorem atB_15_2 : stLd (kernelRun0_B.sl.HS1_15 (F := Ideal) c arg7 harg7 arg8 harg8 arg12 harg12 arg20 harg20 x5 x6 x10 xs1) 2 = stAt x5 x6 x10 (ldS xs1) 2 4 := by
  rw [hsB_15]
  rw [stLd_put_same, atB_14_2]
  rfl

theorem atB_15_3 : stLd (kernelRun0_B.sl.HS1_15 (F := Ideal) c arg7 harg7 arg8 harg8 arg12 harg12 arg20 harg20 x5 x6 x10 xs1) 3 = stAt x5 x6 x10 (ldS xs1) 3 3 := by
  rw [hsB_15]
  rw [stLd_put_ne 2 3 (by decide), atB_14_3]

end Cert.Mix
-- ==== Proof.OutB.lean ====
/- The tiles stored at a grid point where the retention state is the one left by the point before: each over the blocks it loads, and the three outputs and the new state as lists of them. -/
module

public import proofs.«01_k».proof.Proof.Tiles
public import proofs.«01_k».proof.Proof.Gen.KernelIdeal.Frame
public import proofs.«01_k».proof.Proof.StateB

@[expose] public section

set_option maxRecDepth 16384
set_option maxHeartbeats 2000000

noncomputable section

namespace Cert.Mix

open Idealize.ShloMosaic Cert.KernelIdeal Cert.KernelIdeal.Gen

variable (c : Dev nD) (i : grid0.Coords) (arg2 : Memref sig .tc .smem S8 .f32) (harg2 : arg2.IsWhole)
    (arg3 : Memref sig .tc .vmem S512x512 .bf16) (harg3 : arg3.IsWhole) (arg4 : Memref sig .tc .vmem S512x256 .bf16) (harg4 : arg4.IsWhole) (arg5 : Memref sig .tc .vmem S128x256 .bf16) (harg5 : arg5.IsWhole)
    (arg6 : Memref sig .tc .vmem S512x256 .bf16) (harg6 : arg6.IsWhole) (arg7 : Memref sig .tc .vmem S256x512 .bf16) (harg7 : arg7.IsWhole) (arg8 : Memref sig .tc .vmem S512x512 .bf16) (harg8 : arg8.IsWhole)
    (arg9 : Memref sig .tc .vmem S512x512 .bf16) (harg9 : arg9.IsWhole) (arg10 : Memref sig .tc .vmem S1x512 .f32) (harg10 : arg10.IsWhole) (arg11 : Memref sig .tc .vmem S4x128x128 .f32) (harg11 : arg11.IsWhole)
    (arg12 : Memref sig .tc .vmem S4x1x128 .f32) (harg12 : arg12.IsWhole) (arg13 : Memref sig .tc .vmem S4x128x128 .f32) (harg13 : arg13.IsWhole) (arg14 : Memref sig .tc .vmem S512x512 .bf16) (harg14 : arg14.IsWhole)
    (arg15 : Memref sig .tc .vmem S256x1024 .bf16) (harg15 : arg15.IsWhole) (arg16 : Memref sig .tc .vmem S512x512 .bf16) (harg16 : arg16.IsWhole) (arg17 : Memref sig .tc .vmem S512x512 .bf16) (harg17 : arg17.IsWhole)
    (arg18 : Memref sig .tc .vmem S512x512 .bf16) (harg18 : arg18.IsWhole) (arg19 : Memref sig .tc .vmem S640x256 .bf16) (harg19 : arg19.IsWhole) (arg20 : Memref sig .tc .vmem S4x256x128 .f32) (harg20 : arg20.IsWhole)
    (hc0 : ¬cond0_0 i) (x0 : Vec Ideal S8 .f32) (x1 : Vec Ideal S512x512 .bf16)
    (x2 : Vec Ideal S512x256 .bf16) (x3 : Vec Ideal S128x256 .bf16) (x4 : Vec Ideal S512x256 .bf16)
    (x5 : Vec Ideal S256x512 .bf16) (x6 : Vec Ideal S512x512 .bf16) (x7 : Vec Ideal S512x512 .bf16)
    (x8 : Vec Ideal S1x512 .f32) (x9 : Vec Ideal S4x128x128 .f32) (x10 : Vec Ideal S4x1x128 .f32)
    (x11 : Vec Ideal S4x128x128 .f32) (x12 : Vec Ideal S512x512 .bf16) (x13 : Vec Ideal S256x1024 .bf16)
    (xs1 : Vec Ideal S4x256x128 .f32)

theorem retB_00 : (kernelRun0_B.sl.v987 (F := Ideal) c arg6 harg6 arg7 harg7 arg8 harg8 arg9 harg9 arg10 harg10 arg11 harg11 arg13 harg13 arg20 harg20 x4 x5 x6 x7 x8 x9 x11 xs1)
      = tile15 x4 x5 x6 x7 x8 x9 x11 0 0 (ldS xs1 0) := by
  unfold tile15
  rw [show ldS xs1 0 = _ from (ld_unread harg20 xs1 (rS 0)).symm,
    show ldQ x4 0 = _ from (ld_unread harg6 x4 (rQ 0)).symm, show ldK x5 0 = _ from (ld_unread harg7 x5 (rK 0)).symm, show ldT x6 0 0 = _ from (ld_unread harg8 x6 (rT 0 0)).symm,
    show ldT x7 0 0 = _ from (ld_unread harg9 x7 (rT 0 0)).symm, show ldG x8 0 = _ from (ld_unread harg10 x8 (rG 0)).symm, show ldD x9 0 = _ from (ld_unread harg11 x9 (rD 0)).symm,
    show ldD x11 0 = _ from (ld_unread harg13 x11 (rD 0)).symm]
  rfl

theorem retB_01 : (kernelRun0_B.sl.v1089 (F := Ideal) c arg6 harg6 arg7 harg7 arg8 harg8 arg9 harg9 arg10 harg10 arg11 harg11 arg13 harg13 arg20 harg20 x4 x5 x6 x7 x8 x9 x11 xs1)
      = tile15 x4 x5 x6 x7 x8 x9 x11 0 1 (ldS xs1 1) := by
  unfold tile15
  rw [show ldS xs1 1 = _ from (ld_unread harg20 xs1 (rS 1)).symm,
    show ldQ x4 0 = _ from (ld_unread harg6 x4 (rQ 0)).symm, show ldK x5 0 = _ from (ld_unread harg7 x5 (rK 0)).symm, show ldT x6 0 1 = _ from (ld_unread harg8 x6 (rT 0 1)).symm,
    show ldT x7 0 1 = _ from (ld_unread harg9 x7 (rT 0 1)).symm, show ldG x8 1 = _ from (ld_unread harg10 x8 (rG 1)).symm, show ldD x9 1 = _ from (ld_unread harg11 x9 (rD 1)).symm,
    show ldD x11 1 = _ from (ld_unread harg13 x11 (rD 1)).symm]
  rfl

theorem retB_02 : (kernelRun0_B.sl.v1191 (F := Ideal) c arg6 harg6 arg7 harg7 arg8 harg8 arg9 harg9 arg10 harg10 arg11 harg11 arg13 harg13 arg20 harg20 x4 x5 x6 x7 x8 x9 x11 xs1)
      = tile15 x4 x5 x6 x7 x8 x9 x11 0 2 (ldS xs1 2) := by
  unfold tile15
  rw [show ldS xs1 2 = _ from (ld_unread harg20 xs1 (rS 2)).symm,
    show ldQ x4 0 = _ from (ld_unread harg6 x4 (rQ 0)).symm, show ldK x5 0 = _ from (ld_unread harg7 x5 (rK 0)).symm, show ldT x6 0 2 = _ from (ld_unread harg8 x6 (rT 0 2)).symm,
    show ldT x7 0 2 = _ from (ld_unread harg9 x7 (rT 0 2)).symm, show ldG x8 2 = _ from (ld_unread harg10 x8 (rG 2)).symm, show ldD x9 2 = _ from (ld_unread harg11 x9 (rD 2)).symm,
    show ldD x11 2 = _ from (ld_unread harg13 x11 (rD 2)).symm]
  rfl

theorem retB_03 : (kernelRun0_B.sl.v1293 (F := Ideal) c arg6 harg6 arg7 harg7 arg8 harg8 arg9 harg9 arg10 harg10 arg11 harg11 arg13 harg13 arg20 harg20 x4 x5 x6 x7 x8 x9 x11 xs1)
      = tile15 x4 x5 x6 x7 x8 x9 x11 0 3 (ldS xs1 3) := by
  unfold tile15
  rw [show ldS xs1 3 = _ from (ld_unread harg20 xs1 (rS 3)).symm,
    show ldQ x4 0 = _ from (ld_unread harg6 x4 (rQ 0)).symm, show ldK x5 0 = _ from (ld_unread harg7 x5 (rK 0)).symm, show ldT x6 0 3 = _ from (ld_unread harg8 x6 (rT 0 3)).symm,
    show ldT x7 0 3 = _ from (ld_unread harg9 x7 (rT 0 3)).symm, show ldG x8 3 = _ from (ld_unread harg10 x8 (rG 3)).symm, show ldD x9 3 = _ from (ld_unread harg11 x9 (rD 3)).symm,
    show ldD x11 3 = _ from (ld_unread harg13 x11 (rD 3)).symm]
  rfl

theorem retB_10 : (kernelRun0_B.sl.v1398 (F := Ideal) c arg6 harg6 arg7 harg7 arg8 harg8 arg9 harg9 arg10 harg10 arg11 harg11 arg12 harg12 arg13 harg13 arg20 harg20 x4 x5 x6 x7 x8 x9 x10 x11 xs1)
      = tile15 x4 x5 x6 x7 x8 x9 x11 1 0 (stLd (kernelRun0_B.sl.HS1_4 (F := Ideal) c arg7 harg7 arg8 harg8 arg12 harg12 arg20 harg20 x5 x6 x10 xs1) 0) := by
  unfold tile15
  rw [show stLd (kernelRun0_B.sl.HS1_4 (F := Ideal) c arg7 harg7 arg8 harg8 arg12 harg12 arg20 harg20 x5 x6 x10 xs1) 0 = _ from (View.readCov_eq_canon' arg20.view (kernelRun0_B.sl.HS1_4 (F := Ideal) c arg7 harg7 arg8 harg8 arg12 harg12 arg20 harg20 x5 x6 x10 xs1) (rS 0).toLoadRect).symm,
    show ldQ x4 1 = _ from (ld_unread harg6 x4 (rQ 1)).symm, show ldK x5 1 = _ from (ld_unread harg7 x5 (rK 1)).symm, show ldT x6 1 0 = _ from (ld_unread harg8 x6 (rT 1 0)).symm,
    show ldT x7 1 0 = _ from (ld_unread harg9 x7 (rT 1 0)).symm, show ldG x8 0 = _ from (ld_unread harg10 x8 (rG 0)).symm, show ldD x9 0 = _ from (ld_unread harg11 x9 (rD 0)).symm,
    show ldD x11 0 = _ from (ld_unread harg13 x11 (rD 0)).symm]
  rfl

theorem retB_11 : (kernelRun0_B.sl.v1500 (F := Ideal) c arg6 harg6 arg7 harg7 arg8 harg8 arg9 harg9 arg10 harg10 arg11 harg11 arg12 harg12 arg13 harg13 arg20 harg20 x4 x5 x6 x7 x8 x9 x10 x11 xs1)
      = tile15 x4 x5 x6 x7 x8 x9 x11 1 1 (stLd (kernelRun0_B.sl.HS1_5 (F := Ideal) c arg7 harg7 arg8 harg8 arg12 harg12 arg20 harg20 x5 x6 x10 xs1) 1) := by
  unfold tile15
  rw [show stLd (kernelRun0_B.sl.HS1_5 (F := Ideal) c arg7 harg7 arg8 harg8 arg12 harg12 arg20 harg20 x5 x6 x10 xs1) 1 = _ from (View.readCov_eq_canon' arg20.view (kernelRun0_B.sl.HS1_5 (F := Ideal) c arg7 harg7 arg8 harg8 arg12 harg12 arg20 harg20 x5 x6 x10 xs1) (rS 1).toLoadRect).symm,
    show ldQ x4 1 = _ from (ld_unread harg6 x4 (rQ 1)).symm, show ldK x5 1 = _ from (ld_unread harg7 x5 (rK 1)).symm, show ldT x6 1 1 = _ from (ld_unread harg8 x6 (rT 1 1)).symm,
    show ldT x7 1 1 = _ from (ld_unread harg9 x7 (rT 1 1)).symm, show ldG x8 1 = _ from (ld_unread harg10 x8 (rG 1)).symm, show ldD x9 1 = _ from (ld_unread harg11 x9 (rD 1)).symm,
    show ldD x11 1 = _ from (ld_unread harg13 x11 (rD 1)).symm]
  rfl

theorem retB_12 : (kernelRun0_B.sl.v1602 (F := Ideal) c arg6 harg6 arg7 harg7 arg8 harg8 arg9 harg9 arg10 harg10 arg11 harg11 arg12 harg12 arg13 harg13 arg20 harg20 x4 x5 x6 x7 x8 x9 x10 x11 xs1)
      = tile15 x4 x5 x6 x7 x8 x9 x11 1 2 (stLd (kernelRun0_B.sl.HS1_6 (F := Ideal) c arg7 harg7 arg8 harg8 arg12 harg12 arg20 harg20 x5 x6 x10 xs1) 2) := by
  unfold tile15
  rw [show stLd (kernelRun0_B.sl.HS1_6 (F := Ideal) c arg7 harg7 arg8 harg8 arg12 harg12 arg20 harg20 x5 x6 x10 xs1) 2 = _ from (View.readCov_eq_canon' arg20.view (kernelRun0_B.sl.HS1_6 (F := Ideal) c arg7 harg7 arg8 harg8 arg12 harg12 arg20 harg20 x5 x6 x10 xs1) (rS 2).toLoadRect).symm,
    show ldQ x4 1 = _ from (ld_unread harg6 x4 (rQ 1)).symm, show ldK x5 1 = _ from (ld_unread harg7 x5 (rK 1)).symm, show ldT x6 1 2 = _ from (ld_unread harg8 x6 (rT 1 2)).symm,
    show ldT x7 1 2 = _ from (ld_unread harg9 x7 (rT 1 2)).symm, show ldG x8 2 = _ from (ld_unread harg10 x8 (rG 2)).symm, show ldD x9 2 = _ from (ld_unread harg11 x9 (rD 2)).symm,
    show ldD x11 2 = _ from (ld_unread harg13 x11 (rD 2)).symm]
  rfl

theorem retB_13 : (kernelRun0_B.sl.v1704 (F := Ideal) c arg6 harg6 arg7 harg7 arg8 harg8 arg9 harg9 arg10 harg10 arg11 harg11 arg12 harg12 arg13 harg13 arg20 harg20 x4 x5 x6 x7 x8 x9 x10 x11 xs1)
      = tile15 x4 x5 x6 x7 x8 x9 x11 1 3 (stLd (kernelRun0_B.sl.HS1_7 (F := Ideal) c arg7 harg7 arg8 harg8 arg12 harg12 arg20 harg20 x5 x6 x10 xs1) 3) := by
  unfold tile15
  rw [show stLd (kernelRun0_B.sl.HS1_7 (F := Ideal) c arg7 harg7 arg8 harg8 arg12 harg12 arg20 harg20 x5 x6 x10 xs1) 3 = _ from (View.readCov_eq_canon' arg20.view (kernelRun0_B.sl.HS1_7 (F := Ideal) c arg7 harg7 arg8 harg8 arg12 harg12 arg20 harg20 x5 x6 x10 xs1) (rS 3).toLoadRect).symm,
    show ldQ x4 1 = _ from (ld_unread harg6 x4 (rQ 1)).symm, show ldK x5 1 = _ from (ld_unread harg7 x5 (rK 1)).symm, show ldT x6 1 3 = _ from (ld_unread harg8 x6 (rT 1 3)).symm,
    show ldT x7 1 3 = _ from (ld_unread harg9 x7 (rT 1 3)).symm, show ldG x8 3 = _ from (ld_unread harg10 x8 (rG 3)).symm, show ldD x9 3 = _ from (ld_unread harg11 x9 (rD 3)).symm,
    show ldD x11 3 = _ from (ld_unread harg13 x11 (rD 3)).symm]
  rfl

theorem retB_20 : (kernelRun0_B.sl.v1809 (F := Ideal) c arg6 harg6 arg7 harg7 arg8 harg8 arg9 harg9 arg10 harg10 arg11 harg11 arg12 harg12 arg13 harg13 arg20 harg20 x4 x5 x6 x7 x8 x9 x10 x11 xs1)
      = tile15 x4 x5 x6 x7 x8 x9 x11 2 0 (stLd (kernelRun0_B.sl.HS1_8 (F := Ideal) c arg7 harg7 arg8 harg8 arg12 harg12 arg20 harg20 x5 x6 x10 xs1) 0) := by
  unfold tile15
  rw [show stLd (kernelRun0_B.sl.HS1_8 (F := Ideal) c arg7 harg7 arg8 harg8 arg12 harg12 arg20 harg20 x5 x6 x10 xs1) 0 = _ from (View.readCov_eq_canon' arg20.view (kernelRun0_B.sl.HS1_8 (F := Ideal) c arg7 harg7 arg8 harg8 arg12 harg12 arg20 harg20 x5 x6 x10 xs1) (rS 0).toLoadRect).symm,
    show ldQ x4 2 = _ from (ld_unread harg6 x4 (rQ 2)).symm, show ldK x5 2 = _ from (ld_unread harg7 x5 (rK 2)).symm, show ldT x6 2 0 = _ from (ld_unread harg8 x6 (rT 2 0)).symm,
    show ldT x7 2 0 = _ from (ld_unread harg9 x7 (rT 2 0)).symm, show ldG x8 0 = _ from (ld_unread harg10 x8 (rG 0)).symm, show ldD x9 0 = _ from (ld_unread harg11 x9 (rD 0)).symm,
    show ldD x11 0 = _ from (ld_unread harg13 x11 (rD 0)).symm]
  rfl

theorem retB_21 : (kernelRun0_B.sl.v1911 (F := Ideal) c arg6 harg6 arg7 harg7 arg8 harg8 arg9 harg9 arg10 harg10 arg11 harg11 arg12 harg12 arg13 harg13 arg20 harg20 x4 x5 x6 x7 x8 x9 x10 x11 xs1)
      = tile15 x4 x5 x6 x7 x8 x9 x11 2 1 (stLd (kernelRun0_B.sl.HS1_9 (F := Ideal) c arg7 harg7 arg8 harg8 arg12 harg12 arg20 harg20 x5 x6 x10 xs1) 1) := by
  unfold tile15
  rw [show stLd (kernelRun0_B.sl.HS1_9 (F := Ideal) c arg7 harg7 arg8 harg8 arg12 harg12 arg20 harg20 x5 x6 x10 xs1) 1 = _ from (View.readCov_eq_canon' arg20.view (kernelRun0_B.sl.HS1_9 (F := Ideal) c arg7 harg7 arg8 harg8 arg12 harg12 arg20 harg20 x5 x6 x10 xs1) (rS 1).toLoadRect).symm,
    show ldQ x4 2 = _ from (ld_unread harg6 x4 (rQ 2)).symm, show ldK x5 2 = _ from (ld_unread harg7 x5 (rK 2)).symm, show ldT x6 2 1 = _ from (ld_unread harg8 x6 (rT 2 1)).symm,
    show ldT x7 2 1 = _ from (ld_unread harg9 x7 (rT 2 1)).symm, show ldG x8 1 = _ from (ld_unread harg10 x8 (rG 1)).symm, show ldD x9 1 = _ from (ld_unread harg11 x9 (rD 1)).symm,
    show ldD x11 1 = _ from (ld_unread harg13 x11 (rD 1)).symm]
  rfl

theorem retB_22 : (kernelRun0_B.sl.v2013 (F := Ideal) c arg6 harg6 arg7 harg7 arg8 harg8 arg9 harg9 arg10 harg10 arg11 harg11 arg12 harg12 arg13 harg13 arg20 harg20 x4 x5 x6 x7 x8 x9 x10 x11 xs1)
      = tile15 x4 x5 x6 x7 x8 x9 x11 2 2 (stLd (kernelRun0_B.sl.HS1_10 (F := Ideal) c arg7 harg7 arg8 harg8 arg12 harg12 arg20 harg20 x5 x6 x10 xs1) 2) := by
  unfold tile15
  rw [show stLd (kernelRun0_B.sl.HS1_10 (F := Ideal) c arg7 harg7 arg8 harg8 arg12 harg12 arg20 harg20 x5 x6 x10 xs1) 2 = _ from (View.readCov_eq_canon' arg20.view (kernelRun0_B.sl.HS1_10 (F := Ideal) c arg7 harg7 arg8 harg8 arg12 harg12 arg20 harg20 x5 x6 x10 xs1) (rS 2).toLoadRect).symm,
    show ldQ x4 2 = _ from (ld_unread harg6 x4 (rQ 2)).symm, show ldK x5 2 = _ from (ld_unread harg7 x5 (rK 2)).symm, show ldT x6 2 2 = _ from (ld_unread harg8 x6 (rT 2 2)).symm,
    show ldT x7 2 2 = _ from (ld_unread harg9 x7 (rT 2 2)).symm, show ldG x8 2 = _ from (ld_unread harg10 x8 (rG 2)).symm, show ldD x9 2 = _ from (ld_unread harg11 x9 (rD 2)).symm,
    show ldD x11 2 = _ from (ld_unread harg13 x11 (rD 2)).symm]
  rfl

theorem retB_23 : (kernelRun0_B.sl.v2115 (F := Ideal) c arg6 harg6 arg7 harg7 arg8 harg8 arg9 harg9 arg10 harg10 arg11 harg11 arg12 harg12 arg13 harg13 arg20 harg20 x4 x5 x6 x7 x8 x9 x10 x11 xs1)
      = tile15 x4 x5 x6 x7 x8 x9 x11 2 3 (stLd (kernelRun0_B.sl.HS1_11 (F := Ideal) c arg7 harg7 arg8 harg8 arg12 harg12 arg20 harg20 x5 x6 x10 xs1) 3) := by
  unfold tile15
  rw [show stLd (kernelRun0_B.sl.HS1_11 (F := Ideal) c arg7 harg7 arg8 harg8 arg12 harg12 arg20 harg20 x5 x6 x10 xs1) 3 = _ from (View.readCov_eq_canon' arg20.view (kernelRun0_B.sl.HS1_11 (F := Ideal) c arg7 harg7 arg8 harg8 arg12 harg12 arg20 harg20 x5 x6 x10 xs1) (rS 3).toLoadRect).symm,
    show ldQ x4 2 = _ from (ld_unread harg6 x4 (rQ 2)).symm, show ldK x5 2 = _ from (ld_unread harg7 x5 (rK 2)).symm, show ldT x6 2 3 = _ from (ld_unread harg8 x6 (rT 2 3)).symm,
    show ldT x7 2 3 = _ from (ld_unread harg9 x7 (rT 2 3)).symm, show ldG x8 3 = _ from (ld_unread harg10 x8 (rG 3)).symm, show ldD x9 3 = _ from (ld_unread harg11 x9 (rD 3)).symm,
    show ldD x11 3 = _ from (ld_unread harg13 x11 (rD 3)).symm]
  rfl

theorem retB_30 : (kernelRun0_B.sl.v2220 (F := Ideal) c arg6 harg6 arg7 harg7 arg8 harg8 arg9 harg9 arg10 harg10 arg11 harg11 arg12 harg12 arg13 harg13 arg20 harg20 x4 x5 x6 x7 x8 x9 x10 x11 xs1)
      = tile15 x4 x5 x6 x7 x8 x9 x11 3 0 (stLd (kernelRun0_B.sl.HS1_12 (F := Ideal) c arg7 harg7 arg8 harg8 arg12 harg12 arg20 harg20 x5 x6 x10 xs1) 0) := by
  unfold tile15
  rw [show stLd (kernelRun0_B.sl.HS1_12 (F := Ideal) c arg7 harg7 arg8 harg8 arg12 harg12 arg20 harg20 x5 x6 x10 xs1) 0 = _ from (View.readCov_eq_canon' arg20.view (kernelRun0_B.sl.HS1_12 (F := Ideal) c arg7 harg7 arg8 harg8 arg12 harg12 arg20 harg20 x5 x6 x10 xs1) (rS 0).toLoadRect).symm,
    show ldQ x4 3 = _ from (ld_unread harg6 x4 (rQ 3)).symm, show ldK x5 3 = _ from (ld_unread harg7 x5 (rK 3)).symm, show ldT x6 3 0 = _ from (ld_unread harg8 x6 (rT 3 0)).symm,
    show ldT x7 3 0 = _ from (ld_unread harg9 x7 (rT 3 0)).symm, show ldG x8 0 = _ from (ld_unread harg10 x8 (rG 0)).symm, show ldD x9 0 = _ from (ld_unread harg11 x9 (rD 0)).symm,
    show ldD x11 0 = _ from (ld_unread harg13 x11 (rD 0)).symm]
  rfl

theorem retB_31 : (kernelRun0_B.sl.v2322 (F := Ideal) c arg6 harg6 arg7 harg7 arg8 harg8 arg9 harg9 arg10 harg10 arg11 harg11 arg12 harg12 arg13 harg13 arg20 harg20 x4 x5 x6 x7 x8 x9 x10 x11 xs1)
      = tile15 x4 x5 x6 x7 x8 x9 x11 3 1 (stLd (kernelRun0_B.sl.HS1_13 (F := Ideal) c arg7 harg7 arg8 harg8 arg12 harg12 arg20 harg20 x5 x6 x10 xs1) 1) := by
  unfold tile15
  rw [show stLd (kernelRun0_B.sl.HS1_13 (F := Ideal) c arg7 harg7 arg8 harg8 arg12 harg12 arg20 harg20 x5 x6 x10 xs1) 1 = _ from (View.readCov_eq_canon' arg20.view (kernelRun0_B.sl.HS1_13 (F := Ideal) c arg7 harg7 arg8 harg8 arg12 harg12 arg20 harg20 x5 x6 x10 xs1) (rS 1).toLoadRect).symm,
    show ldQ x4 3 = _ from (ld_unread harg6 x4 (rQ 3)).symm, show ldK x5 3 = _ from (ld_unread harg7 x5 (rK 3)).symm, show ldT x6 3 1 = _ from (ld_unread harg8 x6 (rT 3 1)).symm,
    show ldT x7 3 1 = _ from (ld_unread harg9 x7 (rT 3 1)).symm, show ldG x8 1 = _ from (ld_unread harg10 x8 (rG 1)).symm, show ldD x9 1 = _ from (ld_unread harg11 x9 (rD 1)).symm,
    show ldD x11 1 = _ from (ld_unread harg13 x11 (rD 1)).symm]
  rfl

theorem retB_32 : (kernelRun0_B.sl.v2424 (F := Ideal) c arg6 harg6 arg7 harg7 arg8 harg8 arg9 harg9 arg10 harg10 arg11 harg11 arg12 harg12 arg13 harg13 arg20 harg20 x4 x5 x6 x7 x8 x9 x10 x11 xs1)
      = tile15 x4 x5 x6 x7 x8 x9 x11 3 2 (stLd (kernelRun0_B.sl.HS1_14 (F := Ideal) c arg7 harg7 arg8 harg8 arg12 harg12 arg20 harg20 x5 x6 x10 xs1) 2) := by
  unfold tile15
  rw [show stLd (kernelRun0_B.sl.HS1_14 (F := Ideal) c arg7 harg7 arg8 harg8 arg12 harg12 arg20 harg20 x5 x6 x10 xs1) 2 = _ from (View.readCov_eq_canon' arg20.view (kernelRun0_B.sl.HS1_14 (F := Ideal) c arg7 harg7 arg8 harg8 arg12 harg12 arg20 harg20 x5 x6 x10 xs1) (rS 2).toLoadRect).symm,
    show ldQ x4 3 = _ from (ld_unread harg6 x4 (rQ 3)).symm, show ldK x5 3 = _ from (ld_unread harg7 x5 (rK 3)).symm, show ldT x6 3 2 = _ from (ld_unread harg8 x6 (rT 3 2)).symm,
    show ldT x7 3 2 = _ from (ld_unread harg9 x7 (rT 3 2)).symm, show ldG x8 2 = _ from (ld_unread harg10 x8 (rG 2)).symm, show ldD x9 2 = _ from (ld_unread harg11 x9 (rD 2)).symm,
    show ldD x11 2 = _ from (ld_unread harg13 x11 (rD 2)).symm]
  rfl

theorem kvsB : kvs x2 x3 = (kernelRun0_B.sl.HS0_2 (F := Ideal) c arg4 harg4 arg5 harg5 x2 x3) := by
  unfold kvs
  rw [show View.ld (Val := Elt Ideal) (e' := .bf16) x2 (Rect.unit ![0, 0] ![512, 256] (by decide)) = _ from (ld_unread harg4 x2 _).symm,
    show View.ld (Val := Elt Ideal) (e' := .bf16) x3 (Rect.unit ![0, 0] ![128, 256] (by decide)) = _ from (ld_unread harg5 x3 _).symm]
  rfl

theorem attB_00 : (kernelRun0_B.sl.v89 (F := Ideal) c i arg2 harg2 arg3 harg3 arg4 harg4 arg5 harg5 arg19 x0 x1 x2 x3) = tile14 i x0 x1 x2 x3 0 0 := by
  have ekv : ldKV x2 x3 0 = arg19.view.readCov (kernelRun0_B.sl.HS0_2 (F := Ideal) c arg4 harg4 arg5 harg5 x2 x3) (rKV 0).toLoadRect := by
    rw [View.readCov_eq_canon', ← kvsB]
    rfl
  unfold tile14
  rw [ekv,
    show ldT x1 0 0 = _ from (ld_unread harg3 x1 (rT 0 0)).symm, show ldSk x0 ⟨(0 : Fin 4).val, by decide⟩ = _ from (ld_unread harg2 x0 (rSk ⟨(0 : Fin 4).val, by decide⟩)).symm,
    show ldSk x0 ⟨4 + (0 : Fin 4).val, by decide⟩ = _ from (ld_unread harg2 x0 (rSk ⟨4 + (0 : Fin 4).val, by decide⟩)).symm]
  rfl

theorem attB_01 : (kernelRun0_B.sl.v141 (F := Ideal) c i arg2 harg2 arg3 harg3 arg4 harg4 arg5 harg5 arg19 x0 x1 x2 x3) = tile14 i x0 x1 x2 x3 0 1 := by
  have ekv : ldKV x2 x3 0 = arg19.view.readCov (kernelRun0_B.sl.HS0_2 (F := Ideal) c arg4 harg4 arg5 harg5 x2 x3) (rKV 0).toLoadRect := by
    rw [View.readCov_eq_canon', ← kvsB]
    rfl
  unfold tile14
  rw [ekv,
    show ldT x1 0 1 = _ from (ld_unread harg3 x1 (rT 0 1)).symm, show ldSk x0 ⟨(1 : Fin 4).val, by decide⟩ = _ from (ld_unread harg2 x0 (rSk ⟨(1 : Fin 4).val, by decide⟩)).symm,
    show ldSk x0 ⟨4 + (1 : Fin 4).val, by decide⟩ = _ from (ld_unread harg2 x0 (rSk ⟨4 + (1 : Fin 4).val, by decide⟩)).symm]
  rfl

theorem attB_02 : (kernelRun0_B.sl.v193 (F := Ideal) c i arg2 harg2 arg3 harg3 arg4 harg4 arg5 harg5 arg19 x0 x1 x2 x3) = tile14 i x0 x1 x2 x3 0 2 := by
  have ekv : ldKV x2 x3 0 = arg19.view.readCov (kernelRun0_B.sl.HS0_2 (F := Ideal) c arg4 harg4 arg5 harg5 x2 x3) (rKV 0).toLoadRect := by
    rw [View.readCov_eq_canon', ← kvsB]
    rfl
  unfold tile14
  rw [ekv,
    show ldT x1 0 2 = _ from (ld_unread harg3 x1 (rT 0 2)).symm, show ldSk x0 ⟨(2 : Fin 4).val, by decide⟩ = _ from (ld_unread harg2 x0 (rSk ⟨(2 : Fin 4).val, by decide⟩)).symm,
    show ldSk x0 ⟨4 + (2 : Fin 4).val, by decide⟩ = _ from (ld_unread harg2 x0 (rSk ⟨4 + (2 : Fin 4).val, by decide⟩)).symm]
  rfl

theorem attB_03 : (kernelRun0_B.sl.v245 (F := Ideal) c i arg2 harg2 arg3 harg3 arg4 harg4 arg5 harg5 arg19 x0 x1 x2 x3) = tile14 i x0 x1 x2 x3 0 3 := by
  have ekv : ldKV x2 x3 0 = arg19.view.readCov (kernelRun0_B.sl.HS0_2 (F := Ideal) c arg4 harg4 arg5 harg5 x2 x3) (rKV 0).toLoadRect := by
    rw [View.readCov_eq_canon', ← kvsB]
    rfl
  unfold tile14
  rw [ekv,
    show ldT x1 0 3 = _ from (ld_unread harg3 x1 (rT 0 3)).symm, show ldSk x0 ⟨(3 : Fin 4).val, by decide⟩ = _ from (ld_unread harg2 x0 (rSk ⟨(3 : Fin 4).val, by decide⟩)).symm,
    show ldSk x0 ⟨4 + (3 : Fin 4).val, by decide⟩ = _ from (ld_unread harg2 x0 (rSk ⟨4 + (3 : Fin 4).val, by decide⟩)).symm]
  rfl

theorem attB_10 : (kernelRun0_B.sl.v300 (F := Ideal) c arg2 harg2 arg3 harg3 arg4 harg4 arg5 harg5 arg19 x0 x1 x2 x3) = tile14 i x0 x1 x2 x3 1 0 := by
  have ekv : ldKV x2 x3 1 = arg19.view.readCov (kernelRun0_B.sl.HS0_2 (F := Ideal) c arg4 harg4 arg5 harg5 x2 x3) (rKV 1).toLoadRect := by
    rw [View.readCov_eq_canon', ← kvsB]
    rfl
  unfold tile14
  rw [ekv,
    show ldT x1 1 0 = _ from (ld_unread harg3 x1 (rT 1 0)).symm, show ldSk x0 ⟨(0 : Fin 4).val, by decide⟩ = _ from (ld_unread harg2 x0 (rSk ⟨(0 : Fin 4).val, by decide⟩)).symm,
    show ldSk x0 ⟨4 + (0 : Fin 4).val, by decide⟩ = _ from (ld_unread harg2 x0 (rSk ⟨4 + (0 : Fin 4).val, by decide⟩)).symm]
  rfl

theorem attB_11 : (kernelRun0_B.sl.v352 (F := Ideal) c arg2 harg2 arg3 harg3 arg4 harg4 arg5 harg5 arg19 x0 x1 x2 x3) = tile14 i x0 x1 x2 x3 1 1 := by
  have ekv : ldKV x2 x3 1 = arg19.view.readCov (kernelRun0_B.sl.HS0_2 (F := Ideal) c arg4 harg4 arg5 harg5 x2 x3) (rKV 1).toLoadRect := by
    rw [View.readCov_eq_canon', ← kvsB]
    rfl
  unfold tile14
  rw [ekv,
    show ldT x1 1 1 = _ from (ld_unread harg3 x1 (rT 1 1)).symm, show ldSk x0 ⟨(1 : Fin 4).val, by decide⟩ = _ from (ld_unread harg2 x0 (rSk ⟨(1 : Fin 4).val, by decide⟩)).symm,
    show ldSk x0 ⟨4 + (1 : Fin 4).val, by decide⟩ = _ from (ld_unread harg2 x0 (rSk ⟨4 + (1 : Fin 4).val, by decide⟩)).symm]
  rfl

theorem attB_12 : (kernelRun0_B.sl.v404 (F := Ideal) c arg2 harg2 arg3 harg3 arg4 harg4 arg5 harg5 arg19 x0 x1 x2 x3) = tile14 i x0 x1 x2 x3 1 2 := by
  have ekv : ldKV x2 x3 1 = arg19.view.readCov (kernelRun0_B.sl.HS0_2 (F := Ideal) c arg4 harg4 arg5 harg5 x2 x3) (rKV 1).toLoadRect := by
    rw [View.readCov_eq_canon', ← kvsB]
    rfl
  unfold tile14
  rw [ekv,
    show ldT x1 1 2 = _ from (ld_unread harg3 x1 (rT 1 2)).symm, show ldSk x0 ⟨(2 : Fin 4).val, by decide⟩ = _ from (ld_unread harg2 x0 (rSk ⟨(2 : Fin 4).val, by decide⟩)).symm,
    show ldSk x0 ⟨4 + (2 : Fin 4).val, by decide⟩ = _ from (ld_unread harg2 x0 (rSk ⟨4 + (2 : Fin 4).val, by decide⟩)).symm]
  rfl

theorem attB_13 : (kernelRun0_B.sl.v456 (F := Ideal) c arg2 harg2 arg3 harg3 arg4 harg4 arg5 harg5 arg19 x0 x1 x2 x3) = tile14 i x0 x1 x2 x3 1 3 := by
  have ekv : ldKV x2 x3 1 = arg19.view.readCov (kernelRun0_B.sl.HS0_2 (F := Ideal) c arg4 harg4 arg5 harg5 x2 x3) (rKV 1).toLoadRect := by
    rw [View.readCov_eq_canon', ← kvsB]
    rfl
  unfold tile14
  rw [ekv,
    show ldT x1 1 3 = _ from (ld_unread harg3 x1 (rT 1 3)).symm, show ldSk x0 ⟨(3 : Fin 4).val, by decide⟩ = _ from (ld_unread harg2 x0 (rSk ⟨(3 : Fin 4).val, by decide⟩)).symm,
    show ldSk x0 ⟨4 + (3 : Fin 4).val, by decide⟩ = _ from (ld_unread harg2 x0 (rSk ⟨4 + (3 : Fin 4).val, by decide⟩)).symm]
  rfl

theorem attB_20 : (kernelRun0_B.sl.v511 (F := Ideal) c arg2 harg2 arg3 harg3 arg4 harg4 arg5 harg5 arg19 x0 x1 x2 x3) = tile14 i x0 x1 x2 x3 2 0 := by
  have ekv : ldKV x2 x3 2 = arg19.view.readCov (kernelRun0_B.sl.HS0_2 (F := Ideal) c arg4 harg4 arg5 harg5 x2 x3) (rKV 2).toLoadRect := by
    rw [View.readCov_eq_canon', ← kvsB]
    rfl
  unfold tile14
  rw [ekv,
    show ldT x1 2 0 = _ from (ld_unread harg3 x1 (rT 2 0)).symm, show ldSk x0 ⟨(0 : Fin 4).val, by decide⟩ = _ from (ld_unread harg2 x0 (rSk ⟨(0 : Fin 4).val, by decide⟩)).symm,
    show ldSk x0 ⟨4 + (0 : Fin 4).val, by decide⟩ = _ from (ld_unread harg2 x0 (rSk ⟨4 + (0 : Fin 4).val, by decide⟩)).symm]
  rfl

theorem attB_21 : (kernelRun0_B.sl.v563 (F := Ideal) c arg2 harg2 arg3 harg3 arg4 harg4 arg5 harg5 arg19 x0 x1 x2 x3) = tile14 i x0 x1 x2 x3 2 1 := by
  have ekv : ldKV x2 x3 2 = arg19.view.readCov (kernelRun0_B.sl.HS0_2 (F := Ideal) c arg4 harg4 arg5 harg5 x2 x3) (rKV 2).toLoadRect := by
    rw [View.readCov_eq_canon', ← kvsB]
    rfl
  unfold tile14
  rw [ekv,
    show ldT x1 2 1 = _ from (ld_unread harg3 x1 (rT 2 1)).symm, show ldSk x0 ⟨(1 : Fin 4).val, by decide⟩ = _ from (ld_unread harg2 x0 (rSk ⟨(1 : Fin 4).val, by decide⟩)).symm,
    show ldSk x0 ⟨4 + (1 : Fin 4).val, by decide⟩ = _ from (ld_unread harg2 x0 (rSk ⟨4 + (1 : Fin 4).val, by decide⟩)).symm]
  rfl

theorem attB_22 : (kernelRun0_B.sl.v615 (F := Ideal) c arg2 harg2 arg3 harg3 arg4 harg4 arg5 harg5 arg19 x0 x1 x2 x3) = tile14 i x0 x1 x2 x3 2 2 := by
  have ekv : ldKV x2 x3 2 = arg19.view.readCov (kernelRun0_B.sl.HS0_2 (F := Ideal) c arg4 harg4 arg5 harg5 x2 x3) (rKV 2).toLoadRect := by
    rw [View.readCov_eq_canon', ← kvsB]
    rfl
  unfold tile14
  rw [ekv,
    show ldT x1 2 2 = _ from (ld_unread harg3 x1 (rT 2 2)).symm, show ldSk x0 ⟨(2 : Fin 4).val, by decide⟩ = _ from (ld_unread harg2 x0 (rSk ⟨(2 : Fin 4).val, by decide⟩)).symm,
    show ldSk x0 ⟨4 + (2 : Fin 4).val, by decide⟩ = _ from (ld_unread harg2 x0 (rSk ⟨4 + (2 : Fin 4).val, by decide⟩)).symm]
  rfl

theorem attB_23 : (kernelRun0_B.sl.v667 (F := Ideal) c arg2 harg2 arg3 harg3 arg4 harg4 arg5 harg5 arg19 x0 x1 x2 x3) = tile14 i x0 x1 x2 x3 2 3 := by
  have ekv : ldKV x2 x3 2 = arg19.view.readCov (kernelRun0_B.sl.HS0_2 (F := Ideal) c arg4 harg4 arg5 harg5 x2 x3) (rKV 2).toLoadRect := by
    rw [View.readCov_eq_canon', ← kvsB]
    rfl
  unfold tile14
  rw [ekv,
    show ldT x1 2 3 = _ from (ld_unread harg3 x1 (rT 2 3)).symm, show ldSk x0 ⟨(3 : Fin 4).val, by decide⟩ = _ from (ld_unread harg2 x0 (rSk ⟨(3 : Fin 4).val, by decide⟩)).symm,
    show ldSk x0 ⟨4 + (3 : Fin 4).val, by decide⟩ = _ from (ld_unread harg2 x0 (rSk ⟨4 + (3 : Fin 4).val, by decide⟩)).symm]
  rfl

theorem attB_30 : (kernelRun0_B.sl.v722 (F := Ideal) c arg2 harg2 arg3 harg3 arg4 harg4 arg5 harg5 arg19 x0 x1 x2 x3) = tile14 i x0 x1 x2 x3 3 0 := by
  have ekv : ldKV x2 x3 3 = arg19.view.readCov (kernelRun0_B.sl.HS0_2 (F := Ideal) c arg4 harg4 arg5 harg5 x2 x3) (rKV 3).toLoadRect := by
    rw [View.readCov_eq_canon', ← kvsB]
    rfl
  unfold tile14
  rw [ekv,
    show ldT x1 3 0 = _ from (ld_unread harg3 x1 (rT 3 0)).symm, show ldSk x0 ⟨(0 : Fin 4).val, by decide⟩ = _ from (ld_unread harg2 x0 (rSk ⟨(0 : Fin 4).val, by decide⟩)).symm,
    show ldSk x0 ⟨4 + (0 : Fin 4).val, by decide⟩ = _ from (ld_unread harg2 x0 (rSk ⟨4 + (0 : Fin 4).val, by decide⟩)).symm]
  rfl

theorem attB_31 : (kernelRun0_B.sl.v774 (F := Ideal) c arg2 harg2 arg3 harg3 arg4 harg4 arg5 harg5 arg19 x0 x1 x2 x3) = tile14 i x0 x1 x2 x3 3 1 := by
  have ekv : ldKV x2 x3 3 = arg19.view.readCov (kernelRun0_B.sl.HS0_2 (F := Ideal) c arg4 harg4 arg5 harg5 x2 x3) (rKV 3).toLoadRect := by
    rw [View.readCov_eq_canon', ← kvsB]
    rfl
  unfold tile14
  rw [ekv,
    show ldT x1 3 1 = _ from (ld_unread harg3 x1 (rT 3 1)).symm, show ldSk x0 ⟨(1 : Fin 4).val, by decide⟩ = _ from (ld_unread harg2 x0 (rSk ⟨(1 : Fin 4).val, by decide⟩)).symm,
    show ldSk x0 ⟨4 + (1 : Fin 4).val, by decide⟩ = _ from (ld_unread harg2 x0 (rSk ⟨4 + (1 : Fin 4).val, by decide⟩)).symm]
  rfl

theorem attB_32 : (kernelRun0_B.sl.v826 (F := Ideal) c arg2 harg2 arg3 harg3 arg4 harg4 arg5 harg5 arg19 x0 x1 x2 x3) = tile14 i x0 x1 x2 x3 3 2 := by
  have ekv : ldKV x2 x3 3 = arg19.view.readCov (kernelRun0_B.sl.HS0_2 (F := Ideal) c arg4 harg4 arg5 harg5 x2 x3) (rKV 3).toLoadRect := by
    rw [View.readCov_eq_canon', ← kvsB]
    rfl
  unfold tile14
  rw [ekv,
    show ldT x1 3 2 = _ from (ld_unread harg3 x1 (rT 3 2)).symm, show ldSk x0 ⟨(2 : Fin 4).val, by decide⟩ = _ from (ld_unread harg2 x0 (rSk ⟨(2 : Fin 4).val, by decide⟩)).symm,
    show ldSk x0 ⟨4 + (2 : Fin 4).val, by decide⟩ = _ from (ld_unread harg2 x0 (rSk ⟨4 + (2 : Fin 4).val, by decide⟩)).symm]
  rfl

theorem attB_33 : (kernelRun0_B.sl.v878 (F := Ideal) c arg2 harg2 arg3 harg3 arg4 harg4 arg5 harg5 arg19 x0 x1 x2 x3) = tile14 i x0 x1 x2 x3 3 3 := by
  have ekv : ldKV x2 x3 3 = arg19.view.readCov (kernelRun0_B.sl.HS0_2 (F := Ideal) c arg4 harg4 arg5 harg5 x2 x3) (rKV 3).toLoadRect := by
    rw [View.readCov_eq_canon', ← kvsB]
    rfl
  unfold tile14
  rw [ekv,
    show ldT x1 3 3 = _ from (ld_unread harg3 x1 (rT 3 3)).symm, show ldSk x0 ⟨(3 : Fin 4).val, by decide⟩ = _ from (ld_unread harg2 x0 (rSk ⟨(3 : Fin 4).val, by decide⟩)).symm,
    show ldSk x0 ⟨4 + (3 : Fin 4).val, by decide⟩ = _ from (ld_unread harg2 x0 (rSk ⟨4 + (3 : Fin 4).val, by decide⟩)).symm]
  rfl

theorem list14B : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs1).1 = sixteen (tile14 i x0 x1 x2 x3) := by
  unfold sixteen
  rw [← attB_00 c i arg2 harg2 arg3 harg3 arg4 harg4 arg5 harg5 arg19 x0 x1 x2 x3, ← attB_01 c i arg2 harg2 arg3 harg3 arg4 harg4 arg5 harg5 arg19 x0 x1 x2 x3, ← attB_02 c i arg2 harg2 arg3 harg3 arg4 harg4 arg5 harg5 arg19 x0 x1 x2 x3, ← attB_03 c i arg2 harg2 arg3 harg3 arg4 harg4 arg5 harg5 arg19 x0 x1 x2 x3, ← attB_10 c i arg2 harg2 arg3 harg3 arg4 harg4 arg5 harg5 arg19 x0 x1 x2 x3, ← attB_11 c i arg2 harg2 arg3 harg3 arg4 harg4 arg5 harg5 arg19 x0 x1 x2 x3, ← attB_12 c i arg2 harg2 arg3 harg3 arg4 harg4 arg5 harg5 arg19 x0 x1 x2 x3, ← attB_13 c i arg2 harg2 arg3 harg3 arg4 harg4 arg5 harg5 arg19 x0 x1 x2 x3, ← attB_20 c i arg2 harg2 arg3 harg3 arg4 harg4 arg5 harg5 arg19 x0 x1 x2 x3, ← attB_21 c i arg2 harg2 arg3 harg3 arg4 harg4 arg5 harg5 arg19 x0 x1 x2 x3, ← attB_22 c i arg2 harg2 arg3 harg3 arg4 harg4 arg5 harg5 arg19 x0 x1 x2 x3, ← attB_23 c i arg2 harg2 arg3 harg3 arg4 harg4 arg5 harg5 arg19 x0 x1 x2 x3, ← attB_30 c i arg2 harg2 arg3 harg3 arg4 harg4 arg5 harg5 arg19 x0 x1 x2 x3, ← attB_31 c i arg2 harg2 arg3 harg3 arg4 harg4 arg5 harg5 arg19 x0 x1 x2 x3, ← attB_32 c i arg2 harg2 arg3 harg3 arg4 harg4 arg5 harg5 arg19 x0 x1 x2 x3, ← attB_33 c i arg2 harg2 arg3 harg3 arg4 harg4 arg5 harg5 arg19 x0 x1 x2 x3]
  rfl

/-- The head's rows before chunk `n`. -/
theorem list15B : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs1).2.1
      = sixteen fun c' h' => tile15 x4 x5 x6 x7 x8 x9 x11 c' h' (stAt x5 x6 x10 (ldS xs1) h' c'.val) := by
  have h33 := atB_15_3 c arg7 harg7 arg8 harg8 arg12 harg12 arg20 harg20 x5 x6 x10 xs1
  have e : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs1).2.1 = [⟨rT 3 3, tile15 x4 x5 x6 x7 x8 x9 x11 3 3 (stLd (kernelRun0_B.sl.HS1_15 (F := Ideal) c arg7 harg7 arg8 harg8 arg12 harg12 arg20 harg20 x5 x6 x10 xs1) 3)⟩, ⟨rT 3 2, (kernelRun0_B.sl.v2424 (F := Ideal) c arg6 harg6 arg7 harg7 arg8 harg8 arg9 harg9 arg10 harg10 arg11 harg11 arg12 harg12 arg13 harg13 arg20 harg20 x4 x5 x6 x7 x8 x9 x10 x11 xs1)⟩, ⟨rT 3 1, (kernelRun0_B.sl.v2322 (F := Ideal) c arg6 harg6 arg7 harg7 arg8 harg8 arg9 harg9 arg10 harg10 arg11 harg11 arg12 harg12 arg13 harg13 arg20 harg20 x4 x5 x6 x7 x8 x9 x10 x11 xs1)⟩, ⟨rT 3 0, (kernelRun0_B.sl.v2220 (F := Ideal) c arg6 harg6 arg7 harg7 arg8 harg8 arg9 harg9 arg10 harg10 arg11 harg11 arg12 harg12 arg13 harg13 arg20 harg20 x4 x5 x6 x7 x8 x9 x10 x11 xs1)⟩, ⟨rT 2 3, (kernelRun0_B.sl.v2115 (F := Ideal) c arg6 harg6 arg7 harg7 arg8 harg8 arg9 harg9 arg10 harg10 arg11 harg11 arg12 harg12 arg13 harg13 arg20 harg20 x4 x5 x6 x7 x8 x9 x10 x11 xs1)⟩, ⟨rT 2 2, (kernelRun0_B.sl.v2013 (F := Ideal) c arg6 harg6 arg7 harg7 arg8 harg8 arg9 harg9 arg10 harg10 arg11 harg11 arg12 harg12 arg13 harg13 arg20 harg20 x4 x5 x6 x7 x8 x9 x10 x11 xs1)⟩, ⟨rT 2 1, (kernelRun0_B.sl.v1911 (F := Ideal) c arg6 harg6 arg7 harg7 arg8 harg8 arg9 harg9 arg10 harg10 arg11 harg11 arg12 harg12 arg13 harg13 arg20 harg20 x4 x5 x6 x7 x8 x9 x10 x11 xs1)⟩, ⟨rT 2 0, (kernelRun0_B.sl.v1809 (F := Ideal) c arg6 harg6 arg7 harg7 arg8 harg8 arg9 harg9 arg10 harg10 arg11 harg11 arg12 harg12 arg13 harg13 arg20 harg20 x4 x5 x6 x7 x8 x9 x10 x11 xs1)⟩, ⟨rT 1 3, (kernelRun0_B.sl.v1704 (F := Ideal) c arg6 harg6 arg7 harg7 arg8 harg8 arg9 harg9 arg10 harg10 arg11 harg11 arg12 harg12 arg13 harg13 arg20 harg20 x4 x5 x6 x7 x8 x9 x10 x11 xs1)⟩, ⟨rT 1 2, (kernelRun0_B.sl.v1602 (F := Ideal) c arg6 harg6 arg7 harg7 arg8 harg8 arg9 harg9 arg10 harg10 arg11 harg11 arg12 harg12 arg13 harg13 arg20 harg20 x4 x5 x6 x7 x8 x9 x10 x11 xs1)⟩, ⟨rT 1 1, (kernelRun0_B.sl.v1500 (F := Ideal) c arg6 harg6 arg7 harg7 arg8 harg8 arg9 harg9 arg10 harg10 arg11 harg11 arg12 harg12 arg13 harg13 arg20 harg20 x4 x5 x6 x7 x8 x9 x10 x11 xs1)⟩, ⟨rT 1 0, (kernelRun0_B.sl.v1398 (F := Ideal) c arg6 harg6 arg7 harg7 arg8 harg8 arg9 harg9 arg10 harg10 arg11 harg11 arg12 harg12 arg13 harg13 arg20 harg20 x4 x5 x6 x7 x8 x9 x10 x11 xs1)⟩, ⟨rT 0 3, (kernelRun0_B.sl.v1293 (F := Ideal) c arg6 harg6 arg7 harg7 arg8 harg8 arg9 harg9 arg10 harg10 arg11 harg11 arg13 harg13 arg20 harg20 x4 x5 x6 x7 x8 x9 x11 xs1)⟩, ⟨rT 0 2, (kernelRun0_B.sl.v1191 (F := Ideal) c arg6 harg6 arg7 harg7 arg8 harg8 arg9 harg9 arg10 harg10 arg11 harg11 arg13 harg13 arg20 harg20 x4 x5 x6 x7 x8 x9 x11 xs1)⟩, ⟨rT 0 1, (kernelRun0_B.sl.v1089 (F := Ideal) c arg6 harg6 arg7 harg7 arg8 harg8 arg9 harg9 arg10 harg10 arg11 harg11 arg13 harg13 arg20 harg20 x4 x5 x6 x7 x8 x9 x11 xs1)⟩, ⟨rT 0 0, (kernelRun0_B.sl.v987 (F := Ideal) c arg6 harg6 arg7 harg7 arg8 harg8 arg9 harg9 arg10 harg10 arg11 harg11 arg13 harg13 arg20 harg20 x4 x5 x6 x7 x8 x9 x11 xs1)⟩] := by
    unfold tile15
    rw [show stLd (kernelRun0_B.sl.HS1_15 (F := Ideal) c arg7 harg7 arg8 harg8 arg12 harg12 arg20 harg20 x5 x6 x10 xs1) 3 = _ from (View.readCov_eq_canon' arg20.view (kernelRun0_B.sl.HS1_15 (F := Ideal) c arg7 harg7 arg8 harg8 arg12 harg12 arg20 harg20 x5 x6 x10 xs1) (rS 3).toLoadRect).symm,
    show ldQ x4 3 = _ from (ld_unread harg6 x4 (rQ 3)).symm, show ldK x5 3 = _ from (ld_unread harg7 x5 (rK 3)).symm, show ldT x6 3 3 = _ from (ld_unread harg8 x6 (rT 3 3)).symm,
    show ldT x7 3 3 = _ from (ld_unread harg9 x7 (rT 3 3)).symm, show ldG x8 3 = _ from (ld_unread harg10 x8 (rG 3)).symm, show ldD x9 3 = _ from (ld_unread harg11 x9 (rD 3)).symm,
    show ldD x11 3 = _ from (ld_unread harg13 x11 (rD 3)).symm]
    rfl
  rw [e]
  rw [retB_00]
  rw [retB_01]
  rw [retB_02]
  rw [retB_03]
  rw [retB_10]
  rw [atB_4_0]
  rw [retB_11]
  rw [atB_5_1]
  rw [retB_12]
  rw [atB_6_2]
  rw [retB_13]
  rw [atB_7_3]
  rw [retB_20]
  rw [atB_8_0]
  rw [retB_21]
  rw [atB_9_1]
  rw [retB_22]
  rw [atB_10_2]
  rw [retB_23]
  rw [atB_11_3]
  rw [retB_30]
  rw [atB_12_0]
  rw [retB_31]
  rw [atB_13_1]
  rw [retB_32]
  rw [atB_14_2]
  rw [atB_15_3]
  rfl

theorem listSB (h : Fin 4) : stLd (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs1).2.2.2.1 h = stAt x5 x6 x10 (ldS xs1) h 4 := by
  have e : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs1).2.2.2.1 = stPut 3 (stStep x5 x6 x10 3 3 (stLd (kernelRun0_B.sl.HS1_15 (F := Ideal) c arg7 harg7 arg8 harg8 arg12 harg12 arg20 harg20 x5 x6 x10 xs1) 3)) (kernelRun0_B.sl.HS1_15 (F := Ideal) c arg7 harg7 arg8 harg8 arg12 harg12 arg20 harg20 x5 x6 x10 xs1) := by
    unfold stPut stStep
    rw [show stLd (kernelRun0_B.sl.HS1_15 (F := Ideal) c arg7 harg7 arg8 harg8 arg12 harg12 arg20 harg20 x5 x6 x10 xs1) 3 = _ from (View.readCov_eq_canon' arg20.view (kernelRun0_B.sl.HS1_15 (F := Ideal) c arg7 harg7 arg8 harg8 arg12 harg12 arg20 harg20 x5 x6 x10 xs1) (rS 3).toLoadRect).symm,
      show ldK x5 3 = _ from (ld_unread harg7 x5 (rK 3)).symm, show ldT x6 3 3 = _ from (ld_unread harg8 x6 (rT 3 3)).symm, show ldW x10 3 = _ from (ld_unread harg12 x10 (rW 3)).symm]
    rfl
  rw [e]
  fin_cases h
  · show stLd _ 0 = stAt _ _ _ _ 0 4
    rw [stLd_put_ne 3 0 (by decide), atB_15_0]
  · show stLd _ 1 = stAt _ _ _ _ 1 4
    rw [stLd_put_ne 3 1 (by decide), atB_15_1]
  · show stLd _ 2 = stAt _ _ _ _ 2 4
    rw [stLd_put_ne 3 2 (by decide), atB_15_2]
  · show stLd _ 3 = stAt _ _ _ _ 3 4
    rw [stLd_put_same, atB_15_3]
    rfl

end Cert.Mix
-- ==== Proof.Pieces.lean ====
/- Reading what a list of stored blocks leaves, block by block. -/
module

public import proofs.«01_k».proof.Proof.OutA
public import proofs.«01_k».proof.Proof.OutB

@[expose] public section

set_option maxRecDepth 16384

noncomputable section
open Idealize.ShloMosaic
namespace Cert.Mix
open Cert.KernelIdeal Cert.KernelIdeal.Gen

theorem emb_mem' {s : Shape} (r : Rect s) (j : r.shape.Idx) : r.emb j ∈ r.set :=
  (LoadRect.mem_set _).mpr fun a => ⟨(j a).val, (j a).isLt, rfl⟩

theorem sixteen_mem (f : Fin 4 → Fin 4 → FVec Ideal S128x128 .bf16) (p : View.Piece (Elt Ideal) S512x512 .bf16) :
    p ∈ sixteen f ↔ ∃ c h, p = ⟨rT c h, f c h⟩ := by
  constructor
  · intro hp
    simp only [sixteen, List.mem_cons, List.not_mem_nil, or_false] at hp
    rcases hp with rfl | rfl | rfl | rfl | rfl | rfl | rfl | rfl | rfl | rfl | rfl | rfl | rfl | rfl | rfl | rfl <;> exact ⟨_, _, rfl⟩
  · rintro ⟨c, h, rfl⟩
    fin_cases c <;> fin_cases h <;> simp [sixteen]

theorem rT_emb (c h : Fin 4) (x : (rT c h).shape.Idx) (a e : Fin 128) (hx : x = ix2 a e) :
    (rT c h).emb x = ix2 (⟨c.val * 128 + a.val, by omega⟩ : Fin 512) (⟨h.val * 128 + e.val, by omega⟩ : Fin 512) := by
  subst hx
  funext q
  apply Fin.ext
  fin_cases q
  · show 128 * c.val + 1 * a.val = c.val * 128 + a.val
    omega
  · show 128 * h.val + 1 * e.val = h.val * 128 + e.val
    omega

/-- Block `(c, h)` of sixteen stored blocks is what was stored there. -/
theorem sixteen_at (f : Fin 4 → Fin 4 → FVec Ideal S128x128 .bf16) (c h : Fin 4) (a e : Fin 128) :
    View.canon (sixteen f) (ix2 (⟨c.val * 128 + a.val, by omega⟩ : Fin 512) (⟨h.val * 128 + e.val, by omega⟩ : Fin 512)) = f c h (ix2 a e) := by
  refine View.canon_eq_of_allAt _ _ _ ⟨⟨rT c h, f c h⟩, (sixteen_mem f _).mpr ⟨c, h, rfl⟩, ?_⟩ ?_
  · rw [← rT_emb c h (ix2 a e) a e rfl]
    exact emb_mem' (rT c h) _
  · intro p hp x hx
    obtain ⟨c', h', rfl⟩ := (sixteen_mem f p).mp hp
    obtain ⟨a', e', rfl⟩ : ∃ a' e' : Fin 128, x = ix2 a' e' := ⟨x 0, x 1, by funext q; fin_cases q <;> rfl⟩
    rw [rT_emb c' h' _ a' e' rfl] at hx
    have h0 : c'.val * 128 + a'.val = c.val * 128 + a.val := congrArg (fun z : S512x512.Idx => (z 0).val) hx
    have h1 : h'.val * 128 + e'.val = h.val * 128 + e.val := congrArg (fun z : S512x512.Idx => (z 1).val) hx
    have hc : c' = c := Fin.ext (by omega)
    have hh : h' = h := Fin.ext (by omega)
    subst hc hh
    have ha : a' = a := Fin.ext (by omega)
    have he : e' = e := Fin.ext (by omega)
    subst ha he
    rfl

/-- Head `h` of a tile of 512 rows. -/
def rM (h : Fin 4) : Rect S512x512 :=
  Rect.unit ![0, 128 * h.val] ![512, 128] ((by decide : ∀ h : Fin 4, ∀ a, (![0, 128 * h.val] : Fin 2 → ℕ) a + (![512, 128] : Fin 2 → ℕ) a ≤ S512x512.size a) h)

/-- Columns `128 k` on of the memory block. -/
def rMK (k : Fin 8) : Rect S256x1024 :=
  Rect.unit ![0, 128 * k.val] ![256, 128] ((by decide : ∀ h : Fin 8, ∀ a, (![0, 128 * h.val] : Fin 2 → ℕ) a + (![256, 128] : Fin 2 → ℕ) a ≤ S256x1024.size a) k)

def ldM (x : FVec Ideal S512x512 .bf16) (h : Fin 4) : FVec Ideal S512x128 .bf16 := View.ld (Val := Elt Ideal) (e' := .bf16) x (rM h)
def ldMK (x : FVec Ideal S256x1024 .bf16) (k : Fin 8) : FVec Ideal S256x128 .bf16 := View.ld (Val := Elt Ideal) (e' := .bf16) x (rMK k)

/-- Head `h` of the memory output. -/
def tile16 (x12 : FVec Ideal S512x512 .bf16) (x13 : FVec Ideal S256x1024 .bf16) (h : Fin 4) : FVec Ideal S512x128 .bf16 :=
  memTile (ldM x12 h) (ldMK x13 ⟨h.val, by omega⟩) (ldMK x13 ⟨4 + h.val, by omega⟩)

/-- Four blocks of columns. -/
def fourC (f : Fin 4 → FVec Ideal S512x128 .bf16) : List (View.Piece (Elt Ideal) S512x512 .bf16) :=
  [⟨rM 3, f 3⟩, ⟨rM 2, f 2⟩, ⟨rM 1, f 1⟩, ⟨rM 0, f 0⟩]

theorem fourC_mem (f : Fin 4 → FVec Ideal S512x128 .bf16) (p : View.Piece (Elt Ideal) S512x512 .bf16) :
    p ∈ fourC f ↔ ∃ h, p = ⟨rM h, f h⟩ := by
  constructor
  · intro hp
    simp only [fourC, List.mem_cons, List.not_mem_nil, or_false] at hp
    rcases hp with rfl | rfl | rfl | rfl <;> exact ⟨_, rfl⟩
  · rintro ⟨h, rfl⟩
    fin_cases h <;> simp [fourC]

theorem rM_emb (h : Fin 4) (x : (rM h).shape.Idx) (a : Fin 512) (e : Fin 128) (hx : x = ix2 a e) :
    (rM h).emb x = ix2 a (⟨h.val * 128 + e.val, by omega⟩ : Fin 512) := by
  subst hx
  funext q
  apply Fin.ext
  fin_cases q
  · show 0 + 1 * a.val = a.val
    omega
  · show 128 * h.val + 1 * e.val = h.val * 128 + e.val
    omega

theorem fourC_at (f : Fin 4 → FVec Ideal S512x128 .bf16) (h : Fin 4) (a : Fin 512) (e : Fin 128) :
    View.canon (fourC f) (ix2 a (⟨h.val * 128 + e.val, by omega⟩ : Fin 512)) = f h (ix2 a e) := by
  refine View.canon_eq_of_allAt _ _ _ ⟨⟨rM h, f h⟩, (fourC_mem f _).mpr ⟨h, rfl⟩, ?_⟩ ?_
  · rw [← rM_emb h (ix2 a e) a e rfl]
    exact emb_mem' (rM h) _
  · intro p hp x hx
    obtain ⟨h', rfl⟩ := (fourC_mem f p).mp hp
    obtain ⟨a', e', rfl⟩ : ∃ (a' : Fin 512) (e' : Fin 128), x = ix2 a' e' := ⟨x 0, x 1, by funext q; fin_cases q <;> rfl⟩
    rw [rM_emb h' _ a' e' rfl] at hx
    have h0 : a'.val = a.val := congrArg (fun z : S512x512.Idx => (z 0).val) hx
    have h1 : h'.val * 128 + e'.val = h.val * 128 + e.val := congrArg (fun z : S512x512.Idx => (z 1).val) hx
    have hh : h' = h := Fin.ext (by omega)
    subst hh
    have ha : a' = a := Fin.ext (by omega)
    have he : e' = e := Fin.ext (by omega)
    subst ha he
    rfl

end Cert.Mix
-- ==== Proof.List16A.lean ====
/- The memory output's list of stored blocks. -/
module

public import proofs.«01_k».proof.Proof.Pieces

@[expose] public section

set_option maxRecDepth 16384
set_option maxHeartbeats 2000000

noncomputable section
open Idealize.ShloMosaic
namespace Cert.Mix
open Cert.KernelIdeal Cert.KernelIdeal.Gen

variable (c : Dev nD) (i : grid0.Coords) (arg2 : Memref sig .tc .smem S8 .f32) (harg2 : arg2.IsWhole)
    (arg3 : Memref sig .tc .vmem S512x512 .bf16) (harg3 : arg3.IsWhole) (arg4 : Memref sig .tc .vmem S512x256 .bf16) (harg4 : arg4.IsWhole) (arg5 : Memref sig .tc .vmem S128x256 .bf16) (harg5 : arg5.IsWhole)
    (arg6 : Memref sig .tc .vmem S512x256 .bf16) (harg6 : arg6.IsWhole) (arg7 : Memref sig .tc .vmem S256x512 .bf16) (harg7 : arg7.IsWhole) (arg8 : Memref sig .tc .vmem S512x512 .bf16) (harg8 : arg8.IsWhole)
    (arg9 : Memref sig .tc .vmem S512x512 .bf16) (harg9 : arg9.IsWhole) (arg10 : Memref sig .tc .vmem S1x512 .f32) (harg10 : arg10.IsWhole) (arg11 : Memref sig .tc .vmem S4x128x128 .f32) (harg11 : arg11.IsWhole)
    (arg12 : Memref sig .tc .vmem S4x1x128 .f32) (harg12 : arg12.IsWhole) (arg13 : Memref sig .tc .vmem S4x128x128 .f32) (harg13 : arg13.IsWhole) (arg14 : Memref sig .tc .vmem S512x512 .bf16) (harg14 : arg14.IsWhole)
    (arg15 : Memref sig .tc .vmem S256x1024 .bf16) (harg15 : arg15.IsWhole) (arg16 : Memref sig .tc .vmem S512x512 .bf16) (harg16 : arg16.IsWhole) (arg17 : Memref sig .tc .vmem S512x512 .bf16) (harg17 : arg17.IsWhole)
    (arg18 : Memref sig .tc .vmem S512x512 .bf16) (harg18 : arg18.IsWhole) (arg19 : Memref sig .tc .vmem S640x256 .bf16) (harg19 : arg19.IsWhole) (arg20 : Memref sig .tc .vmem S4x256x128 .f32) (harg20 : arg20.IsWhole)
    (hc0 : cond0_0 i) (x0 : Vec Ideal S8 .f32) (x1 : Vec Ideal S512x512 .bf16)
    (x2 : Vec Ideal S512x256 .bf16) (x3 : Vec Ideal S128x256 .bf16) (x4 : Vec Ideal S512x256 .bf16)
    (x5 : Vec Ideal S256x512 .bf16) (x6 : Vec Ideal S512x512 .bf16) (x7 : Vec Ideal S512x512 .bf16)
    (x8 : Vec Ideal S1x512 .f32) (x9 : Vec Ideal S4x128x128 .f32) (x10 : Vec Ideal S4x1x128 .f32)
    (x11 : Vec Ideal S4x128x128 .f32) (x12 : Vec Ideal S512x512 .bf16) (x13 : Vec Ideal S256x1024 .bf16)

theorem list16A : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13).2.2.1 = fourC (tile16 x12 x13) := by
  unfold fourC tile16
  rw [show ldM x12 0 = _ from (ld_unread harg14 x12 (rM 0)).symm, show ldM x12 1 = _ from (ld_unread harg14 x12 (rM 1)).symm,
    show ldM x12 2 = _ from (ld_unread harg14 x12 (rM 2)).symm, show ldM x12 3 = _ from (ld_unread harg14 x12 (rM 3)).symm,
    show ldMK x13 ⟨((0 : Fin 4)).val, by omega⟩ = _ from (ld_unread harg15 x13 (rMK 0)).symm,
    show ldMK x13 ⟨((1 : Fin 4)).val, by omega⟩ = _ from (ld_unread harg15 x13 (rMK 1)).symm,
    show ldMK x13 ⟨((2 : Fin 4)).val, by omega⟩ = _ from (ld_unread harg15 x13 (rMK 2)).symm,
    show ldMK x13 ⟨((3 : Fin 4)).val, by omega⟩ = _ from (ld_unread harg15 x13 (rMK 3)).symm,
    show ldMK x13 ⟨4 + ((0 : Fin 4)).val, by omega⟩ = _ from (ld_unread harg15 x13 (rMK 4)).symm,
    show ldMK x13 ⟨4 + ((1 : Fin 4)).val, by omega⟩ = _ from (ld_unread harg15 x13 (rMK 5)).symm,
    show ldMK x13 ⟨4 + ((2 : Fin 4)).val, by omega⟩ = _ from (ld_unread harg15 x13 (rMK 6)).symm,
    show ldMK x13 ⟨4 + ((3 : Fin 4)).val, by omega⟩ = _ from (ld_unread harg15 x13 (rMK 7)).symm]
  rfl

end Cert.Mix
-- ==== Proof.List16B.lean ====
/- The memory output's list of stored blocks. -/
module

public import proofs.«01_k».proof.Proof.Pieces

@[expose] public section

set_option maxRecDepth 16384
set_option maxHeartbeats 2000000

noncomputable section
open Idealize.ShloMosaic
namespace Cert.Mix
open Cert.KernelIdeal Cert.KernelIdeal.Gen

variable (c : Dev nD) (i : grid0.Coords) (arg2 : Memref sig .tc .smem S8 .f32) (harg2 : arg2.IsWhole)
    (arg3 : Memref sig .tc .vmem S512x512 .bf16) (harg3 : arg3.IsWhole) (arg4 : Memref sig .tc .vmem S512x256 .bf16) (harg4 : arg4.IsWhole) (arg5 : Memref sig .tc .vmem S128x256 .bf16) (harg5 : arg5.IsWhole)
    (arg6 : Memref sig .tc .vmem S512x256 .bf16) (harg6 : arg6.IsWhole) (arg7 : Memref sig .tc .vmem S256x512 .bf16) (harg7 : arg7.IsWhole) (arg8 : Memref sig .tc .vmem S512x512 .bf16) (harg8 : arg8.IsWhole)
    (arg9 : Memref sig .tc .vmem S512x512 .bf16) (harg9 : arg9.IsWhole) (arg10 : Memref sig .tc .vmem S1x512 .f32) (harg10 : arg10.IsWhole) (arg11 : Memref sig .tc .vmem S4x128x128 .f32) (harg11 : arg11.IsWhole)
    (arg12 : Memref sig .tc .vmem S4x1x128 .f32) (harg12 : arg12.IsWhole) (arg13 : Memref sig .tc .vmem S4x128x128 .f32) (harg13 : arg13.IsWhole) (arg14 : Memref sig .tc .vmem S512x512 .bf16) (harg14 : arg14.IsWhole)
    (arg15 : Memref sig .tc .vmem S256x1024 .bf16) (harg15 : arg15.IsWhole) (arg16 : Memref sig .tc .vmem S512x512 .bf16) (harg16 : arg16.IsWhole) (arg17 : Memref sig .tc .vmem S512x512 .bf16) (harg17 : arg17.IsWhole)
    (arg18 : Memref sig .tc .vmem S512x512 .bf16) (harg18 : arg18.IsWhole) (arg19 : Memref sig .tc .vmem S640x256 .bf16) (harg19 : arg19.IsWhole) (arg20 : Memref sig .tc .vmem S4x256x128 .f32) (harg20 : arg20.IsWhole)
    (hc0 : ¬cond0_0 i) (x0 : Vec Ideal S8 .f32) (x1 : Vec Ideal S512x512 .bf16)
    (x2 : Vec Ideal S512x256 .bf16) (x3 : Vec Ideal S128x256 .bf16) (x4 : Vec Ideal S512x256 .bf16)
    (x5 : Vec Ideal S256x512 .bf16) (x6 : Vec Ideal S512x512 .bf16) (x7 : Vec Ideal S512x512 .bf16)
    (x8 : Vec Ideal S1x512 .f32) (x9 : Vec Ideal S4x128x128 .f32) (x10 : Vec Ideal S4x1x128 .f32)
    (x11 : Vec Ideal S4x128x128 .f32) (x12 : Vec Ideal S512x512 .bf16) (x13 : Vec Ideal S256x1024 .bf16)
    (xs1 : Vec Ideal S4x256x128 .f32)

theorem list16B : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs1).2.2.1 = fourC (tile16 x12 x13) := by
  unfold fourC tile16
  rw [show ldM x12 0 = _ from (ld_unread harg14 x12 (rM 0)).symm, show ldM x12 1 = _ from (ld_unread harg14 x12 (rM 1)).symm,
    show ldM x12 2 = _ from (ld_unread harg14 x12 (rM 2)).symm, show ldM x12 3 = _ from (ld_unread harg14 x12 (rM 3)).symm,
    show ldMK x13 ⟨((0 : Fin 4)).val, by omega⟩ = _ from (ld_unread harg15 x13 (rMK 0)).symm,
    show ldMK x13 ⟨((1 : Fin 4)).val, by omega⟩ = _ from (ld_unread harg15 x13 (rMK 1)).symm,
    show ldMK x13 ⟨((2 : Fin 4)).val, by omega⟩ = _ from (ld_unread harg15 x13 (rMK 2)).symm,
    show ldMK x13 ⟨((3 : Fin 4)).val, by omega⟩ = _ from (ld_unread harg15 x13 (rMK 3)).symm,
    show ldMK x13 ⟨4 + ((0 : Fin 4)).val, by omega⟩ = _ from (ld_unread harg15 x13 (rMK 4)).symm,
    show ldMK x13 ⟨4 + ((1 : Fin 4)).val, by omega⟩ = _ from (ld_unread harg15 x13 (rMK 5)).symm,
    show ldMK x13 ⟨4 + ((2 : Fin 4)).val, by omega⟩ = _ from (ld_unread harg15 x13 (rMK 6)).symm,
    show ldMK x13 ⟨4 + ((3 : Fin 4)).val, by omega⟩ = _ from (ld_unread harg15 x13 (rMK 7)).symm]
  rfl

end Cert.Mix
-- ==== Proof.Points.lean ====
/- What every grid point leaves: its three tiles and the state it passes on. -/
module

public import proofs.«01_k».proof.Proof.List16A
public import proofs.«01_k».proof.Proof.List16B

@[expose] public section

set_option maxRecDepth 16384
set_option maxHeartbeats 1000000

noncomputable section
open Idealize.ShloMosaic Idealize.ShloMosaic.TcCoe Idealize.SL.Sem
open Idealize.ShloMosaic.Pipeline (Dat)
namespace Cert.Mix
open Cert.KernelIdeal Cert.KernelIdeal.Gen
variable (m : (ℓ : Loc nD τ sig) → Buf (Elt Ideal) ℓ) (c : Dev nD)

/-- The state a grid point starts from: zero at the head of a sequence, else what the point before left. -/
def st0 (t : Fin cfg0.N) : Vec Ideal S4x256x128 .f32 :=
  if t.val % 16 = 0 then zeroS else (outsAt0 m c (t.val - 1) (Nat.lt_of_le_of_lt (Nat.sub_le _ _) t.isLt)).2.2.2

theorem pt14 (t : Fin cfg0.N) :
    (outsAt0 m c t.val t.isLt).1 = View.canon (sixteen (tile14 (grid0.coords t) (iblk m c 0 t) (iblk m c 1 t) (iblk m c 2 t) (iblk m c 3 t))) := by
  by_cases h0 : t.val % 16 = 0
  · have e := congrArg (fun z => z.1) (outsAt0_A m c t h0)
    simp only at e
    rw [e]
    unfold out0_A_14
    rw [View.read_writes_junk_eq_canon, list14A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)]

  · have e := congrArg (fun z => z.1) (outsAt0_B m c t h0)
    simp only at e
    rw [e]
    unfold out0_B_14
    rw [View.read_writes_junk_eq_canon, list14B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2]

theorem pt15 (t : Fin cfg0.N) :
    (outsAt0 m c t.val t.isLt).2.1 = View.canon (sixteen fun cc h => tile15 (iblk m c 4 t) (iblk m c 5 t) (iblk m c 6 t) (iblk m c 7 t) (iblk m c 8 t) (iblk m c 9 t) (iblk m c 11 t) cc h (stAt (iblk m c 5 t) (iblk m c 6 t) (iblk m c 10 t) (ldS (st0 m c t))  h cc.val)) := by
  by_cases h0 : t.val % 16 = 0
  · have e := congrArg (fun z => z.2.1) (outsAt0_A m c t h0)
    simp only at e
    rw [e]
    unfold out0_A_15
    rw [View.read_writes_junk_eq_canon, list15A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)]
    unfold st0
    rw [if_pos h0]
  · have e := congrArg (fun z => z.2.1) (outsAt0_B m c t h0)
    simp only at e
    rw [e]
    unfold out0_B_15
    rw [View.read_writes_junk_eq_canon, list15B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2]
    unfold st0
    rw [if_neg h0]

theorem pt16 (t : Fin cfg0.N) :
    (outsAt0 m c t.val t.isLt).2.2.1 = View.canon (fourC (tile16 (iblk m c 12 t) (iblk m c 13 t))) := by
  by_cases h0 : t.val % 16 = 0
  · have e := congrArg (fun z => z.2.2.1) (outsAt0_A m c t h0)
    simp only at e
    rw [e]
    unfold out0_A_16
    rw [View.read_writes_junk_eq_canon, list16A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)]

  · have e := congrArg (fun z => z.2.2.1) (outsAt0_B m c t h0)
    simp only at e
    rw [e]
    unfold out0_B_16
    rw [View.read_writes_junk_eq_canon, list16B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2]

theorem ptS (t : Fin cfg0.N) (h : Fin 4) :
    ldS (outsAt0 m c t.val t.isLt).2.2.2 h = (stAt (iblk m c 5 t) (iblk m c 6 t) (iblk m c 10 t) (ldS (st0 m c t))  h 4) := by
  by_cases h0 : t.val % 16 = 0
  · have e := congrArg (fun z => z.2.2.2) (outsAt0_A m c t h0)
    simp only at e
    rw [e]
    unfold sout0_A_1
    rw [View.read_writes_junk_eq_canon]
    unfold st0
    rw [if_pos h0]
    exact listSA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h
  · have e := congrArg (fun z => z.2.2.2) (outsAt0_B m c t h0)
    simp only at e
    rw [e]
    unfold sout0_B_1
    rw [View.read_writes_junk_eq_canon]
    unfold st0
    rw [if_neg h0]
    exact listSB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2 h

end Cert.Mix
-- ==== Proof.Blocks.lean ====
/- The blocks each grid point loads, entry by entry, in the argument arrays. -/
module

public import proofs.«01_k».proof.Proof.Points
public import proofs.«01_k».proof.Proof.Gen.KernelIdeal.Value

@[expose] public section

set_option maxRecDepth 16384
set_option maxHeartbeats 1000000

noncomputable section
open Idealize.ShloMosaic Idealize.ShloMosaic.TcCoe Idealize.SL.Sem
open Idealize.ShloMosaic.Pipeline (Dat)
namespace Cert.Mix
open Cert.KernelIdeal Cert.KernelIdeal.Gen
variable (m : (ℓ : Loc nD τ sig) → Buf (Elt Ideal) ℓ) (c : Dev nD)

theorem tlt (t : Fin cfg0.N) : t.val < 128 := t.isLt

theorem idx : ∀ t : Fin cfg0.N, win0_0.index t = ![0] ∧ win0_1.index t = ![t.val, 0] ∧ win0_2.index t = ![t.val, 0] ∧ win0_3.index t = ![4 * t.val - 1, 0] ∧ win0_4.index t = ![t.val, 0] ∧ win0_5.index t = ![0, t.val] ∧ win0_6.index t = ![t.val, 0] ∧ win0_7.index t = ![t.val, 0] ∧ win0_8.index t = ![0, 0] ∧ win0_9.index t = ![0, 0, 0] ∧ win0_10.index t = ![0, 0, 0] ∧ win0_11.index t = ![0, 0, 0] ∧ win0_12.index t = ![t.val, 0] ∧ win0_13.index t = ![t.val / 16, 0] ∧ win0_14.index t = ![t.val, 0] ∧ win0_15.index t = ![t.val, 0] ∧ win0_16.index t = ![t.val, 0] :=
  (by decide +kernel : ∀ t : Fin grid0.N, _)

theorem blk1 (t : Fin cfg0.N) (a : Fin 512) (b : Fin 512) :
    iblk m c 1 t (ix2 a b) = m ((c : Thread nD τ).loc main_arg0) (ix2 (⟨t.val * 512 + a.val, by have := tlt t; omega⟩ : Fin 65536) b) := by
  have := tlt t
  blk_ext! [iblk, V, idx t]

theorem blk2 (t : Fin cfg0.N) (a : Fin 512) (b : Fin 256) :
    iblk m c 2 t (ix2 a b) = m ((c : Thread nD τ).loc main_arg1) (ix2 (⟨t.val * 512 + a.val, by have := tlt t; omega⟩ : Fin 65536) b) := by
  have := tlt t
  blk_ext! [iblk, V, idx t]

theorem blk3 (t : Fin cfg0.N) (a : Fin 128) (b : Fin 256) :
    iblk m c 3 t (ix2 a b) = m ((c : Thread nD τ).loc main_arg1) (ix2 (⟨(4 * t.val - 1) * 128 + a.val, by have := tlt t; omega⟩ : Fin 65536) b) := by
  have := tlt t
  blk_ext! [iblk, V, idx t]

theorem blk4 (t : Fin cfg0.N) (a : Fin 512) (b : Fin 256) :
    iblk m c 4 t (ix2 a b) = m ((c : Thread nD τ).loc main_arg3) (ix2 (⟨t.val * 512 + a.val, by have := tlt t; omega⟩ : Fin 65536) b) := by
  have := tlt t
  blk_ext! [iblk, V, idx t]

theorem blk5 (t : Fin cfg0.N) (a : Fin 256) (b : Fin 512) :
    iblk m c 5 t (ix2 a b) = m ((c : Thread nD τ).loc main_arg4) (ix2 a (⟨t.val * 512 + b.val, by have := tlt t; omega⟩ : Fin 65536)) := by
  have := tlt t
  blk_ext! [iblk, V, idx t]

theorem blk6 (t : Fin cfg0.N) (a : Fin 512) (b : Fin 512) :
    iblk m c 6 t (ix2 a b) = m ((c : Thread nD τ).loc main_arg5) (ix2 (⟨t.val * 512 + a.val, by have := tlt t; omega⟩ : Fin 65536) b) := by
  have := tlt t
  blk_ext! [iblk, V, idx t]

theorem blk7 (t : Fin cfg0.N) (a : Fin 512) (b : Fin 512) :
    iblk m c 7 t (ix2 a b) = m ((c : Thread nD τ).loc main_arg6) (ix2 (⟨t.val * 512 + a.val, by have := tlt t; omega⟩ : Fin 65536) b) := by
  have := tlt t
  blk_ext! [iblk, V, idx t]

theorem blk8 (t : Fin cfg0.N) (a : Fin 1) (b : Fin 512) :
    iblk m c 8 t (ix2 a b) = m ((c : Thread nD τ).loc main_arg7) (ix2 a b) := by
  have := tlt t
  blk_ext! [iblk, V, idx t]

theorem blk12 (t : Fin cfg0.N) (a : Fin 512) (b : Fin 512) :
    iblk m c 12 t (ix2 a b) = m ((c : Thread nD τ).loc main_arg8) (ix2 (⟨t.val * 512 + a.val, by have := tlt t; omega⟩ : Fin 65536) b) := by
  have := tlt t
  blk_ext! [iblk, V, idx t]

theorem blk13 (t : Fin cfg0.N) (a : Fin 256) (b : Fin 1024) :
    iblk m c 13 t (ix2 a b) = m ((c : Thread nD τ).loc main_arg9) (ix2 (⟨t.val / 16 * 256 + a.val, by have := tlt t; omega⟩ : Fin 2048) b) := by
  have := tlt t
  blk_ext! [iblk, V, idx t]

theorem blk0 (t : Fin cfg0.N) (a : Fin 8) :
    iblk m c 0 t (ix1 a) = m ((c : Thread nD τ).loc main_arg2) (ix1 a) := by
  blk_ext! [iblk, V, idx t]

end Cert.Mix
-- ==== Proof.KWin.lean ====
/- The window of the attention as the kernel computes it on 32-bit words. -/
module

public import proofs.«01_k».proof.Proof.Gen.KernelIdeal.Skeleton

@[expose] public section

set_option maxRecDepth 16384

open Idealize.ShloMosaic
namespace Cert.Mix
open Cert.KernelIdeal Cert.KernelIdeal.Gen
open scoped BigOperators

theorem kwin : ∀ (i : Fin 128) (k : Fin 256), IntOp.ori
      (IntOp.andi (IntOp.cmpi CmpIPredicate.slt (BitVec.ofNat 32 k.val) 128#32) (IntOp.cmpi CmpIPredicate.sgt (BitVec.ofNat 32 k.val) (BitVec.ofNat 32 i.val)))
      (IntOp.andi (IntOp.cmpi CmpIPredicate.sge (BitVec.ofNat 32 k.val) 128#32)
        (IntOp.cmpi CmpIPredicate.sle (IntOp.subi (BitVec.ofNat 32 k.val) 128#32) (BitVec.ofNat 32 i.val)))
      = if i.val < k.val ∧ k.val ≤ i.val + 128 then 1#1 else 0#1 := by
  decide +kernel

end Cert.Mix
-- ==== Proof.KMask.lean ====
/- The kernel's window and lane masks, entry by entry. -/
module

public import proofs.«01_k».proof.Proof.Blocks
public import proofs.«01_k».proof.Proof.KWin

@[expose] public section

set_option maxRecDepth 16384

noncomputable section
open Idealize.ShloMosaic
namespace Cert.Mix
open Cert.KernelIdeal Cert.KernelIdeal.Gen
open scoped BigOperators

theorem pay3_apply (i : Fin 128) (k : Fin 256) : k0_pay3 (ix2 i k) = if i.val < k.val ∧ k.val ≤ i.val + 128 then 1#1 else 0#1 := by
  pointwise [k0_pay3]
  exact kwin i k

theorem k_first : ∀ (k : Fin 256) (s : Fin 16), IntOp.cmpi CmpIPredicate.sge (BitVec.ofNat 32 k.val)
      (Scalar.select (Scalar.cmpi CmpIPredicate.sgt (BitVec.ofNat 32 s.val) 0#32) 0#32 128#32) = if 0 < s.val ∨ 128 ≤ k.val then 1#1 else 0#1 := by
  decide +kernel

theorem pay7_apply (q : grid0.Coords) (i : Fin 128) (k : Fin 256) :
    k0_pay7 q (ix2 i k) = if (i.val < k.val ∧ k.val ≤ i.val + 128) ∧ (0 < (q 1).val ∨ 128 ≤ k.val) then 1#1 else 0#1 := by
  pointwise [k0_pay7]
  rw [pay3_apply]
  erw [k_first k (q 1)]
  by_cases h1 : i.val < k.val ∧ k.val ≤ i.val + 128 <;> by_cases h2 : 0 < (q 1).val <;> by_cases h3 : 128 ≤ k.val <;> simp [h1, h2, h3, IntOp.andi]

theorem pay4_apply (i e : Fin 128) : k0_pay4 (ix2 i e) = if e.val < 64 then 1#1 else 0#1 := by
  pointwise [k0_pay4]
  revert e
  decide +kernel

theorem sit0 : (FloatOps.sitofp .f32 0#32 : Ideal .f32) = 0 := by
  show (((0#32 : BitVec 32).toInt : ℝ) : EReal) = 0
  simp

theorem sit1 : (FloatOps.sitofp .f32 1#32 : Ideal .f32) = 1 := by
  show (((1#32 : BitVec 32).toInt : ℝ) : EReal) = 1
  simp

theorem pay5_apply (i e : Fin 128) : k0_pay5 (F := Ideal) (ix2 i e) = if e.val < 64 then (1 : EReal) else 0 := by
  pointwise [k0_pay5]
  rw [pay4_apply]
  by_cases h : e.val < 64
  · rw [if_pos h, if_pos h]; exact sit1
  · rw [if_neg h, if_neg h]; exact sit0

theorem pay6_apply (i e : Fin 128) : k0_pay6 (F := Ideal) (ix2 i e) = if e.val < 64 then (0 : EReal) else 1 := by
  pointwise [k0_pay6]
  rw [pay4_apply]
  by_cases h : e.val < 64
  · rw [if_pos h, if_pos h]; exact sit0
  · rw [if_neg h, if_neg h]; exact sit1

theorem pay8_apply (v : FVec Ideal S256x256 .bf16) (k : Fin 256) (d : Fin 128) : k0_pay8 v (ix2 k d) = v (ix2 k ⟨d.val, by omega⟩) := by
  pointwise [k0_pay8]

theorem pay9_apply (v : FVec Ideal S256x256 .bf16) (k : Fin 256) (d : Fin 128) : k0_pay9 v (ix2 k d) = v (ix2 k ⟨128 + d.val, by omega⟩) := by
  pointwise [k0_pay9]

theorem coord1 : ∀ t : Fin cfg0.N, (grid0.coords t 1).val = t.val % 16 :=
  (by decide +kernel : ∀ t : Fin grid0.N, _)

end Cert.Mix
-- ==== Proof.KLoad.lean ====
/- What the loads of a tile read, entry by entry. -/
module

public import proofs.«01_k».proof.Proof.Blocks

@[expose] public section

set_option maxRecDepth 16384

noncomputable section
open Idealize.ShloMosaic
namespace Cert.Mix
open Cert.KernelIdeal Cert.KernelIdeal.Gen
open scoped BigOperators

theorem ldT_apply (x : FVec Ideal S512x512 .bf16) (c h : Fin 4) (a e : Fin 128) :
    ldT x c h (ix2 a e) = x (ix2 ⟨c.val * 128 + a.val, by omega⟩ ⟨h.val * 128 + e.val, by omega⟩) :=
  congrArg x (rT_emb c h _ a e rfl)

theorem ldQ_apply (x : FVec Ideal S512x256 .bf16) (c : Fin 4) (a : Fin 128) (e : Fin 256) :
    ldQ x c (ix2 a e) = x (ix2 ⟨c.val * 128 + a.val, by omega⟩ e) := by
  refine congrArg x (funext fun q => Fin.ext ?_)
  fin_cases q
  · show 128 * c.val + 1 * a.val = c.val * 128 + a.val
    omega
  · show 0 + 1 * e.val = e.val
    omega

theorem ldK_apply (x : FVec Ideal S256x512 .bf16) (c : Fin 4) (r : Fin 256) (j : Fin 128) :
    ldK x c (ix2 r j) = x (ix2 r ⟨c.val * 128 + j.val, by omega⟩) := by
  refine congrArg x (funext fun q => Fin.ext ?_)
  fin_cases q
  · show 0 + 1 * r.val = r.val
    omega
  · show 128 * c.val + 1 * j.val = c.val * 128 + j.val
    omega

theorem ldG_apply (x : FVec Ideal S1x512 .f32) (h : Fin 4) (u : Fin 1) (e : Fin 128) :
    ldG x h (ix2 u e) = x (ix2 0 ⟨h.val * 128 + e.val, by omega⟩) := by
  refine congrArg x (funext fun q => Fin.ext ?_)
  fin_cases q
  · show 0 + 1 * u.val = 0
    omega
  · show 128 * h.val + 1 * e.val = h.val * 128 + e.val
    omega

theorem ldD_apply (x : FVec Ideal S4x128x128 .f32) (h : Fin 4) (u : Fin 1) (i j : Fin 128) :
    ldD x h (ix3 u i j) = x (ix3 h i j) := by
  refine congrArg x (funext fun q => Fin.ext ?_)
  fin_cases q
  · show h.val + 1 * u.val = h.val
    omega
  · show 0 + 1 * i.val = i.val
    omega
  · show 0 + 1 * j.val = j.val
    omega

theorem ldW_apply (x : FVec Ideal S4x1x128 .f32) (h : Fin 4) (u v : Fin 1) (j : Fin 128) :
    ldW x h (ix3 u v j) = x (ix3 h 0 j) := by
  refine congrArg x (funext fun q => Fin.ext ?_)
  fin_cases q
  · show h.val + 1 * u.val = h.val
    omega
  · show 0 + 1 * v.val = 0
    omega
  · show 0 + 1 * j.val = j.val
    omega

theorem ldSk_apply (x : FVec Ideal S8 .f32) (n : Fin 8) (j : S1.Idx) : ldSk x n j = x (ix1 n) := by
  refine congrArg x (funext fun q => Fin.ext ?_)
  have : (j 0).val < 1 := (j 0).isLt
  fin_cases q
  show n.val + 1 * (j 0).val = n.val
  omega

/-- Row `128 b + k` of the buffer of keys and values: the block before the tile, then the tile. -/
theorem ldKV_lo (x2 : FVec Ideal S512x256 .bf16) (x3 : FVec Ideal S128x256 .bf16) (b : Fin 4) (k d : Fin 256) (h : b.val * 128 + k.val < 128) :
    ldKV x2 x3 b (ix2 k d) = x3 (ix2 ⟨b.val * 128 + k.val, h⟩ d) := by
  unfold ldKV kvs
  have e : (rKV b).toLoadRect.idx (ix2 k d) = (Rect.unit ![0, 0] ![128, 256] (by decide) : Rect S640x256).emb (ix2 (⟨b.val * 128 + k.val, h⟩ : Fin 128) d) := by
    funext q
    apply Fin.ext
    fin_cases q
    · show 128 * b.val + 1 * k.val = 0 + 1 * (b.val * 128 + k.val)
      omega
    · show 0 + 1 * d.val = 0 + 1 * d.val
      rfl
  rw [View.canon_cons_of_not_mem, e, View.canon_cons_emb]
  · pointwise
  · intro hm
    have h0 := (Rect.mem_set_unit.mp (show _ ∈ (Rect.unit (s := S640x256) ![128, 0] ![512, 256] (by decide)).set from hm)) (0 : Fin 2)
    have h1 : 128 ≤ 128 * b.val + 1 * k.val := h0.1
    omega

theorem ldKV_hi (x2 : FVec Ideal S512x256 .bf16) (x3 : FVec Ideal S128x256 .bf16) (b : Fin 4) (k d : Fin 256) (h : 128 ≤ b.val * 128 + k.val) :
    ldKV x2 x3 b (ix2 k d) = x2 (ix2 ⟨b.val * 128 + k.val - 128, by omega⟩ d) := by
  unfold ldKV kvs
  have e : (rKV b).toLoadRect.idx (ix2 k d) = (Rect.unit ![128, 0] ![512, 256] (by decide) : Rect S640x256).emb (ix2 (⟨b.val * 128 + k.val - 128, by omega⟩ : Fin 512) d) := by
    funext q
    apply Fin.ext
    fin_cases q
    · show 128 * b.val + 1 * k.val = 128 + 1 * (b.val * 128 + k.val - 128)
      omega
    · show 0 + 1 * d.val = 0 + 1 * d.val
      rfl
  rw [e, View.canon_cons_emb]
  pointwise

end Cert.Mix
-- ==== Proof.RefAttn.lean ====
/- The reference's windowed attention, entry by entry: its operands. -/
module

public import proofs.«01_k».proof.Proof.Soft
public import proofs.«01_k».proof.Proof.Gen.ReferenceIdeal.Read
public import Idealize.ShloMosaic.Lib.Pipeline.ValueKit

@[expose] public section

set_option maxRecDepth 16384

noncomputable section

namespace Cert.Mix

open Idealize.ShloMosaic Cert.ReferenceIdeal Cert.ReferenceIdeal.Gen Cert.ReferenceIdeal.Read
open scoped BigOperators

variable (x0 : FVec Ideal S65536x512 .bf16) (x1 : FVec Ideal S65536x256 .bf16) (x2 : FVec Ideal S8 .f32)

theorem at_q (b : Fin 8) (n : Fin 64) (i : Fin 128) (r : Fin 4) (g : Fin 2) (d : Fin 64) :
    val_main_v8 (F := Ideal) x0 (ix6 b n i r g d) = x0 (ix2 ⟨b.val * 8192 + n.val * 128 + i.val, by omega⟩ ⟨r.val * 128 + g.val * 64 + d.val, by omega⟩) := by
  pointwise [val_main_v8, val_main_v0]

theorem at_k0 (b : Fin 8) (n : Fin 64) (j : Fin 128) (g : Fin 2) (d : Fin 64) :
    val_main_v10 (F := Ideal) x1 (ix5 b n j g d) = x1 (ix2 ⟨b.val * 8192 + n.val * 128 + j.val, by omega⟩ ⟨g.val * 64 + d.val, by omega⟩) := by
  pointwise [val_main_v10, val_main_v9, val_main_v1]

theorem at_v0 (b : Fin 8) (n : Fin 64) (j : Fin 128) (g : Fin 2) (d : Fin 64) :
    val_main_v12 (F := Ideal) x1 (ix5 b n j g d) = x1 (ix2 ⟨b.val * 8192 + n.val * 128 + j.val, by omega⟩ ⟨128 + (g.val * 64 + d.val), by omega⟩) := by
  pointwise [val_main_v12, val_main_v11, val_main_v1]

theorem cat_hi (y z : FVec Ideal S8x64x128x2x64 .f32) (b : Fin 8) (n : Fin 64) (j : Fin 128) (g : Fin 2) (d : Fin 64) :
    concatenate S8x64x256x2x64 2 [⟨S8x64x128x2x64, y⟩, ⟨S8x64x128x2x64, z⟩] concatenates_S8x64x128x2x64_S8x64x128x2x64_S8x64x256x2x64_d2
      (ix5 b n ⟨128 + j.val, by omega⟩ g d) = z (ix5 b n j g d) := by
  pointwise

theorem cat_lo (y z : FVec Ideal S8x64x128x2x64 .f32) (b : Fin 8) (n : Fin 64) (j : Fin 128) (g : Fin 2) (d : Fin 64) :
    concatenate S8x64x256x2x64 2 [⟨S8x64x128x2x64, y⟩, ⟨S8x64x128x2x64, z⟩] concatenates_S8x64x128x2x64_S8x64x128x2x64_S8x64x256x2x64_d2
      (ix5 b n ⟨j.val, by omega⟩ g d) = y (ix5 b n j g d) := by
  pointwise

theorem pad_hi (y : FVec Ideal S8x63x128x2x64 .f32) (z : FVec Ideal S_ .f32) (b : Fin 8) (n : Fin 63) (j : Fin 128) (g : Fin 2) (d : Fin 64) :
    pad S8x64x128x2x64 ![0, 1, 0, 0, 0] ![0, 0, 0, 0, 0] ![0, 0, 0, 0, 0] y z pads_S8x63x128x2x64_S8x64x128x2x64_000_100_000_000_000 h_S_
      (ix5 b ⟨1 + n.val, by omega⟩ j g d) = y (ix5 b n j g d) := by
  pointwise

theorem at_logit (b : Fin 8) (n : Fin 64) (g : Fin 2) (r : Fin 4) (i : Fin 128) (k : Fin 256) :
    val_main_v19 (F := Ideal) x0 x1 (ix6 b n g r i k)
      = (∑ d : Fin 64, val_main_v15 (F := Ideal) x1 (ix5 b n k g d) * val_main_v8 (F := Ideal) x0 (ix6 b n i r g d)) * Ideal.ofBits .f32 0x3E000000#32 := by
  pointwise [val_main_v19, val_main_v18, val_main_v17, val_main_v16, val_main_cst]

theorem at_sink (b : Fin 8) (n : Fin 64) (g : Fin 2) (r : Fin 4) (i : Fin 128) :
    val_main_v54 (F := Ideal) x2 (ix6 b n g r i 0) = x2 (ix1 ⟨g.val * 4 + r.val, by omega⟩) := by
  pointwise [val_main_v54, val_main_v51, val_main_v50]

theorem at_sink' (b : Fin 8) (n : Fin 64) (g : Fin 2) (r : Fin 4) (i : Fin 128) :
    val_main_v61 (F := Ideal) x2 (ix6 b n g r i 0) = x2 (ix1 ⟨g.val * 4 + r.val, by omega⟩) := by
  pointwise [val_main_v61, val_main_v51, val_main_v50]

theorem at_out (b : Fin 8) (n : Fin 64) (i : Fin 128) (r : Fin 4) (g : Fin 2) (d : Fin 64) :
    val_main_v71 (F := Ideal) x0 x1 x2 (ix6 b n i r g d)
      = ∑ k : Fin 256, val_main_v69 (F := Ideal) x1 (ix5 b n k g d) * val_main_v66 (F := Ideal) x0 x1 x2 (ix6 b n g r i k) := by
  pointwise [val_main_v71, val_main_v70]

theorem at_flat (b : Fin 8) (n : Fin 64) (i : Fin 128) (r : Fin 4) (g : Fin 2) (d : Fin 64) :
    val_main_v209 (F := Ideal) x0 x1 x2 (ix2 ⟨b.val * 8192 + n.val * 128 + i.val, by omega⟩ ⟨r.val * 128 + g.val * 64 + d.val, by omega⟩)
      = val_main_v71 (F := Ideal) x0 x1 x2 (ix6 b n i r g d) := by
  pointwise [val_main_v209, val_main_v72]

end Cert.Mix
-- ==== Proof.RefWin.lean ====
/- The window of the attention as the reference computes it on 32-bit words. -/
module

public import proofs.«01_k».proof.Proof.RefAttn
public import proofs.«01_k».proof.Proof.Gen.ReferenceIdeal.Read
public import Idealize.ShloMosaic.Lib.Pipeline.ValueKit

@[expose] public section

set_option maxRecDepth 16384

noncomputable section

namespace Cert.Mix

open Idealize.ShloMosaic Cert.ReferenceIdeal Cert.ReferenceIdeal.Gen Cert.ReferenceIdeal.Read
open scoped BigOperators

variable (x0 : FVec Ideal S65536x512 .bf16) (x1 : FVec Ideal S65536x256 .bf16) (x2 : FVec Ideal S8 .f32)

theorem n_pos : ∀ n : Fin 64, IntOp.cmpi CmpIPredicate.sgt (BitVec.ofNat 32 n.val) 0#32 = if 0 < n.val then 1#1 else 0#1 := by
  decide +kernel

theorem win : ∀ (i : Fin 128) (k : Fin 256), IntOp.andi
        (IntOp.cmpi CmpIPredicate.sge (IntOp.subi (IntOp.addi (BitVec.ofNat 32 i.val) 128#32) (BitVec.ofNat 32 k.val)) 0#32)
        (IntOp.cmpi CmpIPredicate.slt (IntOp.subi (IntOp.addi (BitVec.ofNat 32 i.val) 128#32) (BitVec.ofNat 32 k.val)) 128#32)
      = if i.val < k.val ∧ k.val ≤ i.val + 128 then 1#1 else 0#1 := by
  decide +kernel

theorem k_hi : ∀ k : Fin 256, IntOp.cmpi CmpIPredicate.sge (BitVec.ofNat 32 k.val) 128#32 = if 128 ≤ k.val then 1#1 else 0#1 := by
  decide +kernel

end Cert.Mix
-- ==== Proof.RefAttn2.lean ====
/- The reference's windowed attention, entry by entry. -/
module

public import proofs.«01_k».proof.Proof.RefAttn
public import proofs.«01_k».proof.Proof.RefWin
public import proofs.«01_k».proof.Proof.Gen.ReferenceIdeal.Read
public import Idealize.ShloMosaic.Lib.Pipeline.ValueKit

@[expose] public section

set_option maxRecDepth 16384

noncomputable section

namespace Cert.Mix

open Idealize.ShloMosaic Cert.ReferenceIdeal Cert.ReferenceIdeal.Gen Cert.ReferenceIdeal.Read
open scoped BigOperators

variable (x0 : FVec Ideal S65536x512 .bf16) (x1 : FVec Ideal S65536x256 .bf16) (x2 : FVec Ideal S8 .f32)

theorem max_r6 (y : FVec Ideal S8x64x2x4x128x256 .f32) (b : Fin 8) (n : Fin 64) (g : Fin 2) (r : Fin 4) (i : Fin 128) :
    Host.reduce FloatOps.maximumf y (val_main_cst_6 (F := Ideal)) reducesTo_S8x64x2x4x128x256_S8x64x2x4x128_d5 h_S_ (ix5 b n g r i)
      = Finset.univ.fold max (Ideal.ofBits .f32 0xFF800000#32) fun k : Fin 256 => y (ix6 b n g r i k) := by
  rw [Host.reduce_eq_fold_single _ y _ reducesTo_S8x64x2x4x128x256_S8x64x2x4x128_d5 (by decide)]
  refine congrArg (fun z => Finset.univ.fold max (Ideal.ofBits .f32 0xFF800000#32) z) (funext fun k => ?_)
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

theorem at_max (b : Fin 8) (n : Fin 64) (g : Fin 2) (r : Fin 4) (i : Fin 128) :
    val_main_v52 (F := Ideal) x0 x1 (ix5 b n g r i)
      = Finset.univ.fold max (Ideal.ofBits .f32 0xFF800000#32) fun k : Fin 256 => val_main_v49 (F := Ideal) x0 x1 (ix6 b n g r i k) := by
  unfold val_main_v52
  exact max_r6 _ b n g r i

theorem at_mask (b : Fin 8) (n : Fin 64) (g : Fin 2) (r : Fin 4) (i : Fin 128) (k : Fin 256) :
    val_main_v49 (F := Ideal) x0 x1 (ix6 b n g r i k)
      = Scalar.select (val_main_v47 (F := Ideal) (ix3 n i k)) (val_main_v19 (F := Ideal) x0 x1 (ix6 b n g r i k)) (Ideal.ofBits .f32 0xFF800000#32) := by
  have h0 : val_main_call1_v0 (F := Ideal) ix0 = Ideal.ofBits .f32 0xFF800000#32 := rfl
  rw [← h0]
  pointwise [val_main_v49, val_main_call1_v1, val_main_call1_v2, val_main_v48]

theorem at_ok (n : Fin 64) (i : Fin 128) (k : Fin 256) :
    val_main_v47 (F := Ideal) (ix3 n i k) = if (i.val < k.val ∧ k.val ≤ i.val + 128) ∧ (0 < n.val ∨ 128 ≤ k.val) then 1#1 else 0#1 := by
  pointwise [val_main_v47, val_main_v45, val_main_v46, val_main_v38, val_main_v44, val_main_v42, val_main_v43, val_main_v33, val_main_v30, val_main_v32, val_main_v28, val_main_v29, val_main_v31, val_main_v26, val_main_v27, val_main_v25, val_main_v24, val_main_v21, val_main_v20, val_main_v23, val_main_v22, val_main_v37, val_main_v35, val_main_v34, val_main_v36, val_main_v41, val_main_v40, val_main_v39, val_main_c_0, val_main_c_1, val_main_c_2, val_main_c_3, val_main_c_4]
  rw [win, n_pos, k_hi]
  by_cases h1 : i.val < k.val ∧ k.val ≤ i.val + 128 <;> by_cases h2 : 0 < n.val <;> by_cases h3 : 128 ≤ k.val <;> simp [h1, h2, h3, IntOp.andi, IntOp.ori]

theorem i56 (b : Fin 8) (n : Fin 64) (g : Fin 2) (r : Fin 4) (i : Fin 128) (k : Fin 256) : idx_main_v56 (ix6 b n g r i k) = ix6 b n g r i 0 := by
  funext a; match a with | ⟨0, _⟩ => rfl | ⟨1, _⟩ => rfl | ⟨2, _⟩ => rfl | ⟨3, _⟩ => rfl | ⟨4, _⟩ => rfl | ⟨5, _⟩ => rfl
theorem i65 (b : Fin 8) (n : Fin 64) (g : Fin 2) (r : Fin 4) (i : Fin 128) (k : Fin 256) : idx_main_v65 (ix6 b n g r i k) = ix6 b n g r i 0 := by
  funext a; match a with | ⟨0, _⟩ => rfl | ⟨1, _⟩ => rfl | ⟨2, _⟩ => rfl | ⟨3, _⟩ => rfl | ⟨4, _⟩ => rfl | ⟨5, _⟩ => rfl
theorem i53 (b : Fin 8) (n : Fin 64) (g : Fin 2) (r : Fin 4) (i : Fin 128) (k : Fin 1) : idx_main_v53 (ix6 b n g r i k) = ix5 b n g r i := by
  funext a; match a with | ⟨0, _⟩ => rfl | ⟨1, _⟩ => rfl | ⟨2, _⟩ => rfl | ⟨3, _⟩ => rfl | ⟨4, _⟩ => rfl
theorem i60 (b : Fin 8) (n : Fin 64) (g : Fin 2) (r : Fin 4) (i : Fin 128) (k : Fin 1) : idx_main_v60 (ix6 b n g r i k) = ix5 b n g r i := by
  funext a; match a with | ⟨0, _⟩ => rfl | ⟨1, _⟩ => rfl | ⟨2, _⟩ => rfl | ⟨3, _⟩ => rfl | ⟨4, _⟩ => rfl
theorem i59 (b : Fin 8) (n : Fin 64) (g : Fin 2) (r : Fin 4) (i : Fin 128) (k : Fin 256) : idx_main_v59 (ix5 b n g r i) k = ix6 b n g r i k := by
  funext a; match a with | ⟨0, _⟩ => rfl | ⟨1, _⟩ => rfl | ⟨2, _⟩ => rfl | ⟨3, _⟩ => rfl | ⟨4, _⟩ => rfl | ⟨5, _⟩ => rfl

theorem at_m (b : Fin 8) (n : Fin 64) (g : Fin 2) (r : Fin 4) (i : Fin 128) :
    val_main_v55 (F := Ideal) x0 x1 x2 (ix6 b n g r i 0) = max (val_main_v52 (F := Ideal) x0 x1 (ix5 b n g r i)) (val_main_v54 (F := Ideal) x2 (ix6 b n g r i 0)) := by
  rw [val_main_v55_apply, val_main_v53_apply, i53]
  generalize val_main_v52 (F := Ideal) x0 x1 (ix5 b n g r i) = A
  generalize val_main_v54 (F := Ideal) x2 (ix6 b n g r i 0) = B
  rfl

theorem at_p (b : Fin 8) (n : Fin 64) (g : Fin 2) (r : Fin 4) (i : Fin 128) (k : Fin 256) :
    val_main_v58 (F := Ideal) x0 x1 x2 (ix6 b n g r i k)
      = Ideal.exp (val_main_v49 (F := Ideal) x0 x1 (ix6 b n g r i k) - val_main_v55 (F := Ideal) x0 x1 x2 (ix6 b n g r i 0)) := by
  rw [val_main_v58_apply, val_main_v57_apply, val_main_v56_apply, i56]
  generalize val_main_v49 (F := Ideal) x0 x1 (ix6 b n g r i k) = A
  generalize val_main_v55 (F := Ideal) x0 x1 x2 (ix6 b n g r i 0) = B
  rfl

theorem at_sum (b : Fin 8) (n : Fin 64) (g : Fin 2) (r : Fin 4) (i : Fin 128) :
    val_main_v59 (F := Ideal) x0 x1 x2 (ix5 b n g r i) = ∑ k : Fin 256, val_main_v58 (F := Ideal) x0 x1 x2 (ix6 b n g r i k) := by
  rw [val_main_v59_apply]
  simp only [i59]
  have h0 : val_main_cst_7 (F := Ideal) (Shape.Idx.first h_S_) = 0 := by
    show Ideal.ofBits .f32 0x00000000#32 = 0
    simp [Ideal.ofBits, Ideal.ieee]
  rw [h0, zero_add]

theorem at_den (b : Fin 8) (n : Fin 64) (g : Fin 2) (r : Fin 4) (i : Fin 128) (k : Fin 256) :
    val_main_v66 (F := Ideal) x0 x1 x2 (ix6 b n g r i k)
      = Ideal.div (val_main_v58 (F := Ideal) x0 x1 x2 (ix6 b n g r i k))
        (val_main_v59 (F := Ideal) x0 x1 x2 (ix5 b n g r i)
          + Ideal.exp (val_main_v61 (F := Ideal) x2 (ix6 b n g r i 0) - val_main_v55 (F := Ideal) x0 x1 x2 (ix6 b n g r i 0))) := by
  rw [val_main_v66_apply, val_main_v65_apply, i65, val_main_v64_apply, val_main_v63_apply, val_main_v62_apply, val_main_v60_apply, i60]
  generalize val_main_v58 (F := Ideal) x0 x1 x2 (ix6 b n g r i k) = A
  generalize val_main_v59 (F := Ideal) x0 x1 x2 (ix5 b n g r i) = B
  generalize val_main_v61 (F := Ideal) x2 (ix6 b n g r i 0) = C
  generalize val_main_v55 (F := Ideal) x0 x1 x2 (ix6 b n g r i 0) = D
  rfl

/-- The masked logit of key `k` of the two blocks for query row `i` of block `n`. -/
def refAttn (b : Fin 8) (n : Fin 64) (g : Fin 2) (r : Fin 4) (i : Fin 128) (k : Fin 256) : EReal :=
  if (i.val < k.val ∧ k.val ≤ i.val + 128) ∧ (0 < n.val ∨ 128 ≤ k.val) then
    (∑ d : Fin 64, val_main_v15 (F := Ideal) x1 (ix5 b n k g d) * x0 (ix2 ⟨b.val * 8192 + n.val * 128 + i.val, by omega⟩ ⟨r.val * 128 + g.val * 64 + d.val, by omega⟩)) * Ideal.ofBits .f32 0x3E000000#32
  else ⊥

/-- The reference's first result, entry by entry. -/
theorem ref_attn (b : Fin 8) (n : Fin 64) (i : Fin 128) (r : Fin 4) (g : Fin 2) (d : Fin 64) :
    val_main_v209 (F := Ideal) x0 x1 x2 (ix2 ⟨b.val * 8192 + n.val * 128 + i.val, by omega⟩ ⟨r.val * 128 + g.val * 64 + d.val, by omega⟩)
      = sinkEarly (refAttn x0 x1 b n g r i) (fun k : Fin 256 => val_main_v69 (F := Ideal) x1 (ix5 b n k g d)) (x2 (ix1 ⟨g.val * 4 + r.val, by omega⟩)) := by
  have hb : Ideal.ofBits .f32 0xFF800000#32 = ⊥ := by simp [Ideal.ofBits, Ideal.ieee]
  have hl : ∀ k, val_main_v49 (F := Ideal) x0 x1 (ix6 b n g r i k) = refAttn x0 x1 b n g r i k := fun k => by
    rw [at_mask, at_ok, at_logit]
    simp only [at_q]
    unfold refAttn
    by_cases h : (i.val < k.val ∧ k.val ≤ i.val + 128) ∧ (0 < n.val ∨ 128 ≤ k.val)
    · rw [if_pos h, if_pos h]
      rfl
    · rw [if_neg h, if_neg h, hb]
      rfl
  rw [at_flat, at_out]
  unfold sinkEarly
  refine Finset.sum_congr rfl fun k _ => ?_
  rw [at_den, mul_comm, at_sum, at_sink']
  simp only [at_p, at_m, at_max, at_sink, hl, hb]

end Cert.Mix
-- ==== Proof.RefBand.lean ====
/- The two blocks of keys and values the reference joins, entry by entry. -/
module

public import proofs.«01_k».proof.Proof.RefAttn
public import proofs.«01_k».proof.Proof.Gen.ReferenceIdeal.Read
public import Idealize.ShloMosaic.Lib.Pipeline.ValueKit

@[expose] public section

set_option maxRecDepth 16384

noncomputable section

namespace Cert.Mix

open Idealize.ShloMosaic Cert.ReferenceIdeal Cert.ReferenceIdeal.Gen Cert.ReferenceIdeal.Read
open scoped BigOperators

variable (x0 : FVec Ideal S65536x512 .bf16) (x1 : FVec Ideal S65536x256 .bf16) (x2 : FVec Ideal S8 .f32)

theorem at_kband (b : Fin 8) (n : Fin 64) (k : Fin 256) (g : Fin 2) (d : Fin 64) (h : 0 < n.val ∨ 128 ≤ k.val) :
    val_main_v15 (F := Ideal) x1 (ix5 b n k g d) = x1 (ix2 ⟨b.val * 8192 + n.val * 128 + k.val - 128, by omega⟩ ⟨g.val * 64 + d.val, by omega⟩) := by
  unfold val_main_v15
  by_cases hk : 128 ≤ k.val
  · obtain ⟨j, rfl⟩ : ∃ j : Fin 128, k = ⟨128 + j.val, Nat.add_lt_add_left j.isLt 128⟩ := ⟨⟨k.val - 128, by omega⟩, Fin.ext (by show k.val = 128 + (k.val - 128); omega)⟩
    rw [cat_hi, at_k0]
    refine congrArg (fun z => x1 (ix2 z _)) (Fin.ext ?_)
    show b.val * 8192 + n.val * 128 + j.val = b.val * 8192 + n.val * 128 + (128 + j.val) - 128
    omega
  · obtain ⟨j, rfl⟩ : ∃ j : Fin 128, k = ⟨j.val, Nat.lt_trans j.isLt (by decide)⟩ := ⟨⟨k.val, by omega⟩, rfl⟩
    obtain ⟨q, rfl⟩ : ∃ q : Fin 63, n = ⟨1 + q.val, Nat.add_lt_add_left q.isLt 1⟩ := ⟨⟨n.val - 1, by omega⟩, Fin.ext (by show n.val = 1 + (n.val - 1); omega)⟩
    rw [cat_lo]
    unfold val_main_v14
    rw [pad_hi]
    have e : val_main_v13 (F := Ideal) x1 (ix5 b q j g d) = val_main_v10 (F := Ideal) x1 (ix5 b ⟨q.val, by omega⟩ j g d) := by
      pointwise [val_main_v13]
    rw [e, at_k0]
    refine congrArg (fun z => x1 (ix2 z _)) (Fin.ext ?_)
    show b.val * 8192 + q.val * 128 + j.val = b.val * 8192 + (1 + q.val) * 128 + j.val - 128
    omega

theorem at_vband (b : Fin 8) (n : Fin 64) (k : Fin 256) (g : Fin 2) (d : Fin 64) (h : 0 < n.val ∨ 128 ≤ k.val) :
    val_main_v69 (F := Ideal) x1 (ix5 b n k g d) = x1 (ix2 ⟨b.val * 8192 + n.val * 128 + k.val - 128, by omega⟩ ⟨128 + (g.val * 64 + d.val), by omega⟩) := by
  unfold val_main_v69
  by_cases hk : 128 ≤ k.val
  · obtain ⟨j, rfl⟩ : ∃ j : Fin 128, k = ⟨128 + j.val, Nat.add_lt_add_left j.isLt 128⟩ := ⟨⟨k.val - 128, by omega⟩, Fin.ext (by show k.val = 128 + (k.val - 128); omega)⟩
    rw [cat_hi, at_v0]
    refine congrArg (fun z => x1 (ix2 z _)) (Fin.ext ?_)
    show b.val * 8192 + n.val * 128 + j.val = b.val * 8192 + n.val * 128 + (128 + j.val) - 128
    omega
  · obtain ⟨j, rfl⟩ : ∃ j : Fin 128, k = ⟨j.val, Nat.lt_trans j.isLt (by decide)⟩ := ⟨⟨k.val, by omega⟩, rfl⟩
    obtain ⟨q, rfl⟩ : ∃ q : Fin 63, n = ⟨1 + q.val, Nat.add_lt_add_left q.isLt 1⟩ := ⟨⟨n.val - 1, by omega⟩, Fin.ext (by show n.val = 1 + (n.val - 1); omega)⟩
    rw [cat_lo]
    unfold val_main_v68
    rw [pad_hi]
    have e : val_main_v67 (F := Ideal) x1 (ix5 b q j g d) = val_main_v12 (F := Ideal) x1 (ix5 b ⟨q.val, by omega⟩ j g d) := by
      pointwise [val_main_v67]
    rw [e, at_v0]
    refine congrArg (fun z => x1 (ix2 z _)) (Fin.ext ?_)
    show b.val * 8192 + q.val * 128 + j.val = b.val * 8192 + (1 + q.val) * 128 + j.val - 128
    omega

end Cert.Mix
-- ==== Proof.KernAttn.lean ====
/- The kernel's first result: windowed attention with sinks. -/
module

public import proofs.«01_k».proof.Proof.KMask
public import proofs.«01_k».proof.Proof.KLoad
public import proofs.«01_k».proof.Proof.RefAttn2
public import proofs.«01_k».proof.Proof.RefBand

@[expose] public section

set_option maxRecDepth 16384

noncomputable section
open Idealize.ShloMosaic Idealize.ShloMosaic.TcCoe Idealize.SL.Sem
open Idealize.ShloMosaic.Pipeline (Dat)
namespace Cert.Mix
open Cert.KernelIdeal Cert.KernelIdeal.Gen
open scoped BigOperators
variable (m : (ℓ : Loc nD τ sig) → Buf (Elt Ideal) ℓ)

/-- The sum over 128 lanes of which one half counts is the sum over that half. -/
theorem lane_sum (g : Fin 2) (f lane k : Fin 128 → EReal) (hl : ∀ d, lane d = if d.val / 64 = g.val then 1 else 0) :
    ∑ d, f d * lane d * k d = ∑ d : Fin 64, k ⟨g.val * 64 + d.val, by omega⟩ * f ⟨g.val * 64 + d.val, by omega⟩ := by
  rw [← Fin.sum_mul_add_fin 2 64 (fun d : Fin 128 => f d * lane d * k d), Finset.sum_eq_single g]
  · refine Finset.sum_congr rfl fun d _ => ?_
    rw [hl, if_pos (by show (g.val * 64 + d.val) / 64 = g.val; omega), mul_one, mul_comm]
  · intro g' _ hg
    refine Finset.sum_eq_zero fun d _ => ?_
    rw [hl, if_neg (fun h => hg (Fin.ext (by have h' : (g'.val * 64 + d.val) / 64 = g.val := h; omega))), mul_zero, zero_mul]
  · intro h
    exact absurd (Finset.mem_univ _) h

/-- The lanes of head `g` of a pair. -/
def laneOf (g : Fin 2) : FVec Ideal S128x128 .bf16 := if g.val = 0 then k0_pay5 else k0_pay6

theorem laneOf_apply (g : Fin 2) (a e : Fin 128) : laneOf g (ix2 a e) = if e.val / 64 = g.val then (1 : EReal) else 0 := by
  unfold laneOf
  by_cases hg : g.val = 0
  · rw [if_pos hg, pay5_apply, hg]
    by_cases he : e.val < 64
    · rw [if_pos he, if_pos (by omega)]
    · rw [if_neg he, if_neg (by omega)]
  · rw [if_neg hg, pay6_apply]
    by_cases he : e.val < 64
    · rw [if_pos he, if_neg (by omega)]
    · rw [if_neg he, if_pos (by omega)]

/-- An entry of the tile is its head's. -/
theorem tile14_apply (i : grid0.Coords) (x0 : FVec Ideal S8 .f32) (x1 : FVec Ideal S512x512 .bf16) (x2 : FVec Ideal S512x256 .bf16)
    (x3 : FVec Ideal S128x256 .bf16) (b r : Fin 4) (a : Fin 128) (g : Fin 2) (d : Fin 64) :
    tile14 i x0 x1 x2 x3 b r (ix2 a ⟨g.val * 64 + d.val, by omega⟩)
      = sinkLate (headLogit (laneOf g) (okB i b) (k0_pay8 (ldKV x2 x3 b)) (ldT x1 b r) a)
        (fun k => k0_pay9 (F := Ideal) (ldKV x2 x3 b) (ix2 k ⟨g.val * 64 + d.val, by omega⟩)) (x0 (ix1 ⟨g.val * 4 + r.val, by omega⟩)) := by
  unfold tile14 laneOf
  rw [attnTile_apply, pay4_apply, headOut_apply, headOut_apply, ldSk_apply, ldSk_apply]
  by_cases hg : g.val = 0
  · rw [if_pos (by show g.val * 64 + d.val < 64; omega), if_pos hg,
      show (⟨g.val * 4 + r.val, by omega⟩ : Fin 8) = ⟨r.val, by omega⟩ from Fin.ext (by show g.val * 4 + r.val = r.val; omega)]
    rfl
  · rw [if_neg (by show ¬ g.val * 64 + d.val < 64; omega), if_neg hg,
      show (⟨g.val * 4 + r.val, by omega⟩ : Fin 8) = ⟨4 + r.val, by omega⟩ from Fin.ext (by show g.val * 4 + r.val = 4 + r.val; omega)]
    rfl

theorem okB_apply (t : Fin cfg0.N) (b : Fin 4) (a : Fin 128) (k : Fin 256) :
    okB (grid0.coords t) b (ix2 a k)
      = if (a.val < k.val ∧ k.val ≤ a.val + 128) ∧ (0 < t.val % 16 * 4 + b.val ∨ 128 ≤ k.val) then 1#1 else 0#1 := by
  have key : ∀ n : ℕ, 0 < n → k0_pay3 (ix2 a k) = if (a.val < k.val ∧ k.val ≤ a.val + 128) ∧ (0 < n ∨ 128 ≤ k.val) then 1#1 else 0#1 := fun n hn => by
    rw [pay3_apply]
    by_cases h : a.val < k.val ∧ k.val ≤ a.val + 128
    · rw [if_pos h, if_pos ⟨h, Or.inl hn⟩]
    · rw [if_neg h, if_neg fun h' => h h'.1]
  fin_cases b
  · show k0_pay7 (grid0.coords t) (ix2 a k) = _
    rw [pay7_apply, coord1]
    by_cases h0 : 0 < t.val % 16
    · have h1 : 0 < t.val % 16 * 4 + 0 := by omega
      simp only [h0, h1, true_or]
    · have h1 : ¬ 0 < t.val % 16 * 4 + 0 := by omega
      simp only [h0, h1, false_or]
  · exact key (t.val % 16 * 4 + 1) (by omega)
  · exact key (t.val % 16 * 4 + 2) (by omega)
  · exact key (t.val % 16 * 4 + 3) (by omega)

/-- The keys and values a block of queries sees, in the argument array. -/
theorem kv_apply (c : Dev nD) (t : Fin cfg0.N) (b : Fin 4) (k d : Fin 256) (h : 0 < t.val % 16 * 4 + b.val ∨ 128 ≤ k.val) :
    ldKV (iblk m c 2 t) (iblk m c 3 t) b (ix2 k d)
      = m ((c : Thread nD τ).loc main_arg1) (ix2 (⟨t.val / 16 * 8192 + (t.val % 16 * 4 + b.val) * 128 + k.val - 128, by have := tlt t; omega⟩ : Fin 65536) d) := by
  have ht := tlt t
  by_cases hb : b.val * 128 + k.val < 128
  · rw [ldKV_lo _ _ _ _ _ hb, blk3]
    refine congrArg (m _) (congrArg (fun z => ix2 z d) (Fin.ext ?_))
    show (4 * t.val - 1) * 128 + (b.val * 128 + k.val) = t.val / 16 * 8192 + (t.val % 16 * 4 + b.val) * 128 + k.val - 128
    omega
  · rw [ldKV_hi _ _ _ _ _ (not_lt.mp hb), blk2]
    refine congrArg (m _) (congrArg (fun z => ix2 z d) (Fin.ext ?_))
    show t.val * 512 + (b.val * 128 + k.val - 128) = t.val / 16 * 8192 + (t.val % 16 * 4 + b.val) * 128 + k.val - 128
    omega

theorem attn_scale_fin : Fin' (Ideal.ofBits .f32 0x3E000000#32) := by
  refine ⟨8388608 * (2 ^ 26)⁻¹, ?_⟩
  rw [EReal.coe_mul]
  simp [Ideal.ofBits, Ideal.ieee]

theorem logit_eq (c : Dev nD) (t : Fin cfg0.N) (b r : Fin 4) (a : Fin 128) (g : Fin 2) (k : Fin 256) :
    headLogit (laneOf g) (okB (grid0.coords t) b) (k0_pay8 (ldKV (iblk m c 2 t) (iblk m c 3 t) b)) (ldT (iblk m c 1 t) b r) a k
      = refAttn (m ((c : Thread nD τ).loc main_arg0)) (m ((c : Thread nD τ).loc main_arg1)) ⟨t.val / 16, by have := tlt t; omega⟩
          ⟨t.val % 16 * 4 + b.val, by omega⟩ g r a k := by
  have ht := tlt t
  unfold headLogit refAttn
  rw [okB_apply]
  by_cases h : (a.val < k.val ∧ k.val ≤ a.val + 128) ∧ (0 < t.val % 16 * 4 + b.val ∨ 128 ≤ k.val)
  · rw [if_pos h, if_pos h]
    show _ * _ = _ * _
    refine congrArg (· * _) ?_
    rw [lane_sum g (fun d => ldT (iblk m c 1 t) b r (ix2 a d)) (fun d => laneOf g (ix2 a d)) (fun d => k0_pay8 (F := Ideal) (ldKV (iblk m c 2 t) (iblk m c 3 t) b) (ix2 k d))
      (fun d => laneOf_apply g a d)]
    refine Finset.sum_congr rfl fun d _ => ?_
    rw [at_kband _ _ _ _ _ _ h.2, pay8_apply, kv_apply m c t b k _ h.2, ldT_apply, blk1]
    refine congrArg₂ (· * ·) rfl (congrArg (m _) ?_)
    refine congrArg₂ ix2 (Fin.ext ?_) (Fin.ext ?_)
    · show t.val * 512 + (b.val * 128 + a.val) = t.val / 16 * 8192 + (t.val % 16 * 4 + b.val) * 128 + a.val
      omega
    · show r.val * 128 + (g.val * 64 + d.val) = r.val * 128 + g.val * 64 + d.val
      omega
  · rw [if_neg h, if_neg h]
    rfl

theorem final14 (c : Dev nD)
    (hq : ∀ i, Fin' (m ((c : Thread nD τ).loc main_arg0) i))
    (hk : ∀ (a : Fin 65536) (b : Fin 256), b.val < 128 → Fin' (m ((c : Thread nD τ).loc main_arg1) (ix2 a b)))
    (hs : ∀ i, Fin' (m ((c : Thread nD τ).loc main_arg2) i)) :
    (dats m 0 c).arrAt 14 cfg0.N
   = Cert.ReferenceIdeal.Read.val_main_v209 (F := Ideal) (m ((c : Thread nD τ).loc main_arg0)) (m ((c : Thread nD τ).loc main_arg1)) (m ((c : Thread nD τ).loc main_arg2)) := by
  refine (dats m 0 c).arrAt_eq_of_covers 14 _ (by decide +kernel) fun t hf y => ?_
  blk_simp
  rw [after0_14, pt14]
  have ht := tlt t
  obtain ⟨p, q, rfl⟩ : ∃ (p q : Fin 512), y = ix2 p q := ⟨y 0, y 1, by funext q; fin_cases q <;> rfl⟩
  obtain ⟨b, a, rfl⟩ : ∃ (b : Fin 4) (a : Fin 128), p = ⟨b.val * 128 + a.val, by omega⟩ :=
    ⟨⟨p.val / 128, by omega⟩, ⟨p.val % 128, by omega⟩, Fin.ext (by show p.val = p.val / 128 * 128 + p.val % 128; omega)⟩
  obtain ⟨r, g, d, rfl⟩ : ∃ (r : Fin 4) (g : Fin 2) (d : Fin 64), q = ⟨r.val * 128 + (⟨g.val * 64 + d.val, by omega⟩ : Fin 128).val, by show r.val * 128 + (g.val * 64 + d.val) < 512; omega⟩ :=
    ⟨⟨q.val / 128, by omega⟩, ⟨q.val % 128 / 64, by omega⟩, ⟨q.val % 64, by omega⟩, Fin.ext (by show q.val = q.val / 128 * 128 + (q.val % 128 / 64 * 64 + q.val % 64); omega)⟩
  have hemb : (win0_14.blk t).view.emb (ix2 (⟨b.val * 128 + a.val, by omega⟩ : Fin 512) (⟨r.val * 128 + (⟨g.val * 64 + d.val, by omega⟩ : Fin 128).val, by show r.val * 128 + (g.val * 64 + d.val) < 512; omega⟩ : Fin 512))
      = ix2 (⟨(⟨t.val / 16, by omega⟩ : Fin 8).val * 8192 + (⟨t.val % 16 * 4 + b.val, by omega⟩ : Fin 64).val * 128 + a.val, by show t.val / 16 * 8192 + (t.val % 16 * 4 + b.val) * 128 + a.val < 65536; omega⟩ : Fin 65536)
          (⟨r.val * 128 + g.val * 64 + d.val, by omega⟩ : Fin 512) := by
    blk_ext! [idx t]
  rw [hemb, ref_attn, sixteen_at, tile14_apply, blk0]
  rw [show headLogit (laneOf g) (okB (grid0.coords t) b) (k0_pay8 (ldKV (iblk m c 2 t) (iblk m c 3 t) b)) (ldT (iblk m c 1 t) b r) a = _ from funext fun k => logit_eq m c t b r a g k]
  refine sinkLate_eq _ _ _ _ (fun k => ?_) (hs _) fun k hk' => ?_
  · unfold refAttn
    split_ifs with h
    · refine ((fin_iff _).mp (fin_mul (fin_sum _ _ fun d _ => fin_mul ?_ (hq _)) attn_scale_fin)).2
      rw [at_kband _ _ _ _ _ _ h.2]
      refine hk _ _ ?_
      show g.val * 64 + d.val < 128
      omega
    · exact bot_ne_top
  · have h : (a.val < k.val ∧ k.val ≤ a.val + 128) ∧ (0 < t.val % 16 * 4 + b.val ∨ 128 ≤ k.val) := by
      by_contra h
      exact hk' (if_neg h)
    rw [at_vband _ _ _ _ _ _ h.2, pay9_apply, kv_apply m c t b k _ h.2]

end Cert.Mix
-- ==== Proof.RetRead.lean ====
/- The reference's retention, entry by entry: its operands and sums. -/
module

public import proofs.«01_k».proof.Proof.Soft
public import proofs.«01_k».proof.Proof.Gen.ReferenceIdeal.Read
public import Idealize.ShloMosaic.Lib.Pipeline.ValueKit

@[expose] public section

set_option maxRecDepth 16384

noncomputable section

namespace Cert.Mix

open Idealize.ShloMosaic Cert.ReferenceIdeal Cert.ReferenceIdeal.Gen Cert.ReferenceIdeal.Read
open scoped BigOperators

variable (x3 : FVec Ideal S65536x256 .bf16) (x4 : FVec Ideal S256x65536 .bf16) (x5 x6 : FVec Ideal S65536x512 .bf16) (x7 : FVec Ideal S1x512 .f32)

theorem at_rq6 (b : Fin 8) (n : Fin 64) (i : Fin 128) (p : Fin 2) (h : Fin 4) (x : Fin 32) :
    val_main_v81 (F := Ideal) x3 (ix6 b n i p h x) = x3 (ix2 ⟨b.val * 8192 + n.val * 128 + i.val, by omega⟩ ⟨p.val * 128 + h.val * 32 + x.val, by omega⟩) := by
  pointwise [val_main_v81, val_main_v2]

theorem at_rk6 (b : Fin 8) (n : Fin 64) (i : Fin 128) (p : Fin 2) (h : Fin 4) (x : Fin 32) :
    val_main_v84 (F := Ideal) x4 (ix6 p h x b n i) = x4 (ix2 ⟨p.val * 128 + h.val * 32 + x.val, by omega⟩ ⟨b.val * 8192 + n.val * 128 + i.val, by omega⟩) := by
  pointwise [val_main_v84, val_main_v3]

theorem fold_pair (y : FVec Ideal S8x64x128x4x2x32 .f32) (b : Fin 8) (n : Fin 64) (i : Fin 128) (h : Fin 4) (p : Fin 2) (x : Fin 32) :
    shapeCast S8x64x128x4x64 y shapeCasts_S8x64x128x4x2x32_S8x64x128x4x64 (ix5 b n i h ⟨p.val * 32 + x.val, by omega⟩) = y (ix6 b n i h p x) := by
  pointwise

theorem at_rq5 (b : Fin 8) (n : Fin 64) (i : Fin 128) (h : Fin 4) (p : Fin 2) (x : Fin 32) :
    val_main_v83 (F := Ideal) x3 (ix5 b n i h ⟨p.val * 32 + x.val, by omega⟩)
      = x3 (ix2 ⟨b.val * 8192 + n.val * 128 + i.val, by omega⟩ ⟨p.val * 128 + h.val * 32 + x.val, by omega⟩) := by
  unfold val_main_v83
  rw [fold_pair, val_main_v82_apply]
  rw [show idx_main_v82 (ix6 b n i h p x) = ix6 b n i p h x from by
    funext a
    match a with | ⟨0, _⟩ => rfl | ⟨1, _⟩ => rfl | ⟨2, _⟩ => rfl | ⟨3, _⟩ => rfl | ⟨4, _⟩ => rfl | ⟨5, _⟩ => rfl]
  exact at_rq6 x3 b n i p h x

theorem at_rk5 (b : Fin 8) (n : Fin 64) (i : Fin 128) (h : Fin 4) (p : Fin 2) (x : Fin 32) :
    val_main_v86 (F := Ideal) x4 (ix5 b n i h ⟨p.val * 32 + x.val, by omega⟩)
      = x4 (ix2 ⟨p.val * 128 + h.val * 32 + x.val, by omega⟩ ⟨b.val * 8192 + n.val * 128 + i.val, by omega⟩) := by
  unfold val_main_v86
  rw [fold_pair, val_main_v85_apply]
  rw [show idx_main_v85 (ix6 b n i h p x) = ix6 p h x b n i from by
    funext a
    match a with | ⟨0, _⟩ => rfl | ⟨1, _⟩ => rfl | ⟨2, _⟩ => rfl | ⟨3, _⟩ => rfl | ⟨4, _⟩ => rfl | ⟨5, _⟩ => rfl]
  exact at_rk6 x4 b n i p h x

theorem at_rv5 (b : Fin 8) (n : Fin 64) (i : Fin 128) (h : Fin 4) (e : Fin 128) :
    val_main_v87 (F := Ideal) x5 (ix5 b n i h e) = x5 (ix2 ⟨b.val * 8192 + n.val * 128 + i.val, by omega⟩ ⟨h.val * 128 + e.val, by omega⟩) := by
  pointwise [val_main_v87, val_main_v4]

theorem at_kv (b : Fin 8) (n : Fin 64) (h : Fin 4) (d : Fin 64) (e : Fin 128) :
    val_main_v123 (F := Ideal) x4 x5 (ix5 b n h d e)
      = ∑ j : Fin 128, val_main_v86 (F := Ideal) x4 (ix5 b n j h d) * val_main_v119 (F := Ideal) (ix2 j h) * val_main_v87 (F := Ideal) x5 (ix5 b n j h e) := by
  pointwise [val_main_v123, val_main_v122, val_main_v121, val_main_v120]

theorem at_state (b : Fin 8) (n : Fin 64) (h : Fin 4) (d : Fin 64) (e : Fin 128) :
    val_main_v146 (F := Ideal) x4 x5 (ix5 b n h d e)
      = ∑ k : Fin 64, val_main_v123 (F := Ideal) x4 x5 (ix5 b k h d e) * val_main_v144 (F := Ideal) (ix3 h n k) := by
  pointwise [val_main_v146, val_main_v145]

theorem at_inner (b : Fin 8) (n : Fin 64) (i : Fin 128) (h : Fin 4) (e : Fin 128) :
    val_main_v110 (F := Ideal) x3 x4 x5 (ix5 b n i h e)
      = ∑ j : Fin 128, val_main_v87 (F := Ideal) x5 (ix5 b n j h e) * ((∑ d : Fin 64, val_main_v83 (F := Ideal) x3 (ix5 b n i h d) * val_main_v86 (F := Ideal) x4 (ix5 b n j h d))
          * val_main_v104 (F := Ideal) (ix3 h i j)) := by
  pointwise [val_main_v110, val_main_v109, val_main_v108, val_main_v107, val_main_v106, val_main_v105]

theorem at_cross (b : Fin 8) (n : Fin 64) (i : Fin 128) (h : Fin 4) (e : Fin 128) :
    val_main_v160 (F := Ideal) x3 x4 x5 (ix5 b n i h e)
      = (∑ d : Fin 64, val_main_v146 (F := Ideal) x4 x5 (ix5 b n h d e) * val_main_v83 (F := Ideal) x3 (ix5 b n i h d)) * val_main_v157 (F := Ideal) (ix2 i h) := by
  pointwise [val_main_v160, val_main_v156, val_main_v155, val_main_v159, val_main_v158]

theorem at_flat' (b : Fin 8) (n : Fin 64) (i : Fin 128) (h : Fin 4) (e : Fin 128) :
    val_main_v184 (F := Ideal) x3 x4 x5 x7 (ix2 ⟨b.val * 8192 + n.val * 128 + i.val, by omega⟩ ⟨h.val * 128 + e.val, by omega⟩)
      = val_main_v183 (F := Ideal) x3 x4 x5 x7 (ix5 b n i h e) := by
  pointwise [val_main_v184]

end Cert.Mix
-- ==== Proof.RetTab.lean ====
/- The decays: the reference's tables as real numbers, and the kernel's constants. -/
module

public import proofs.«01_k».proof.Proof.Tiles
public import proofs.«01_k».proof.Proof.Gen.ReferenceIdeal.Read
public import Idealize.ShloMosaic.Lib.Pipeline.ValueKit

@[expose] public section

set_option maxRecDepth 16384

noncomputable section

namespace Cert.Mix

open Idealize.ShloMosaic Cert.ReferenceIdeal Cert.ReferenceIdeal.Gen Cert.ReferenceIdeal.Read
open scoped BigOperators

/-- A head's decay over one token. -/
def gam (h : Fin 4) : ℝ := 1 - ((2 : ℝ) ^ (5 + h.val))⁻¹

theorem gam_pos (h : Fin 4) : 0 < gam h := by
  unfold gam
  fin_cases h <;> norm_num

theorem sitofp_nat (n : ℕ) (hn : n < 2 ^ 31) : FloatOps.sitofp (F := Ideal) FTy.f32 (BitVec.ofNat 32 n) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  push_cast
  rfl

theorem at_lg (h : Fin 4) : val_main_v80 (F := Ideal) (ix1 h) = ((Real.log (gam h) : ℝ) : EReal) := by
  have e0 : val_main_v80 (F := Ideal) (ix1 h)
      = Ideal.log (Ideal.ofBits .f32 0x3F800000#32 - Ideal.pow (Ideal.ofBits .f32 0x40000000#32)
          (Ideal.ofBits .f32 0xC0A00000#32 - FloatOps.sitofp (F := Ideal) FTy.f32 (BitVec.ofNat 32 h.val))) := by
    pointwise [val_main_v80, val_main_v79, val_main_v78, val_main_v77, val_main_v76, val_main_v75, val_main_v74, val_main_v73, val_main_cst_9, val_main_cst_10, val_main_cst_11]
  have e1 : Ideal.ofBits .f32 0x3F800000#32 = ((1 : ℝ) : EReal) := by
    simp [Ideal.ofBits, Ideal.ieee]
    norm_cast
    norm_num
  have e2 : Ideal.ofBits .f32 0x40000000#32 = ((2 : ℝ) : EReal) := by
    simp [Ideal.ofBits, Ideal.ieee]
    norm_cast
    norm_num
  have e3 : Ideal.ofBits .f32 0xC0A00000#32 = ((-5 : ℝ) : EReal) := by
    simp [Ideal.ofBits, Ideal.ieee]
    norm_cast
    norm_num
  rw [e0, e1, e2, e3, sitofp_nat _ (by omega), ← EReal.coe_sub]
  show Ideal.log (((1 : ℝ) : EReal) - ((Real.rpow 2 (-5 - h.val) : ℝ) : EReal)) = _
  have e5 : Real.rpow 2 (-5 - (h.val : ℝ)) = ((2 : ℝ) ^ (5 + h.val))⁻¹ := by
    show (2 : ℝ) ^ (-5 - (h.val : ℝ)) = _
    rw [show (-5 - (h.val : ℝ)) = -((5 + h.val : ℕ) : ℝ) by push_cast; ring, Real.rpow_neg (by norm_num), Real.rpow_natCast]
  rw [e5, ← EReal.coe_sub, show (1 - ((2 : ℝ) ^ (5 + h.val))⁻¹) = gam h from rfl, Ideal.log_coe, if_neg (not_le.mpr (gam_pos h))]

/-- The weight of chunk `k`'s keys and values in the state that enters chunk `n`. -/
def dec (h : Fin 4) (n k : ℕ) : ℝ := if k < n then Real.exp (Real.log (gam h) * 128 * ((n : ℝ) - 1 - k)) else 0

theorem at_dec (h : Fin 4) (n k : Fin 64) : val_main_v144 (F := Ideal) (ix3 h n k) = ((dec h n.val k.val : ℝ) : EReal) := by
  have e0 : val_main_v144 (F := Ideal) (ix3 h n k)
      = if 0 ≤ FloatOps.sitofp (F := Ideal) FTy.f32 (BitVec.ofNat 32 n.val) - 1 - FloatOps.sitofp (F := Ideal) FTy.f32 (BitVec.ofNat 32 k.val) then
        Ideal.exp (val_main_v80 (F := Ideal) (ix1 h) * Ideal.ofBits .f32 0x43000000#32
          * max (FloatOps.sitofp (F := Ideal) FTy.f32 (BitVec.ofNat 32 n.val) - 1 - FloatOps.sitofp (F := Ideal) FTy.f32 (BitVec.ofNat 32 k.val)) 0)
        else 0 := by
    pointwise [val_main_v144, val_main_call4_v0, val_main_call4_v1, val_main_call4_v2, val_main_cst_20, val_main_v143, val_main_v142, val_main_v141, val_main_v140, val_main_v139,
      val_main_v138, val_main_v137, val_main_v136, val_main_v135, val_main_v134, val_main_v133, val_main_v132, val_main_v131, val_main_v130, val_main_v129, val_main_v128,
      val_main_v127, val_main_v126, val_main_v125, val_main_v124, val_main_cst_16, val_main_cst_17, val_main_cst_18, val_main_cst_19]
    show (if _ then _ else Ideal.ofBits .f32 0x00000000#32) = _
    rw [show Ideal.ofBits .f32 0x00000000#32 = 0 by simp [Ideal.ofBits, Ideal.ieee]]
  have e1 : Ideal.ofBits .f32 0x43000000#32 = ((128 : ℝ) : EReal) := by
    simp [Ideal.ofBits, Ideal.ieee]
    norm_cast
    norm_num
  rw [e0, e1, sitofp_nat _ (by omega), sitofp_nat _ (by omega), at_lg, ← EReal.coe_one, ← EReal.coe_sub, ← EReal.coe_sub, ← EReal.coe_zero, ← EReal.coe_mul]
  unfold dec
  by_cases hk : k.val < n.val
  · have hk' : (0 : ℝ) ≤ (n.val : ℝ) - 1 - k.val := by
      have : ((k.val + 1 : ℕ) : ℝ) ≤ (n.val : ℝ) := by exact_mod_cast hk
      push_cast at this
      linarith
    rw [if_pos (by exact_mod_cast hk'), if_pos hk, max_eq_left (by exact_mod_cast hk'), ← EReal.coe_mul]
    rfl
  · have hk' : ¬ (0 : ℝ) ≤ (n.val : ℝ) - 1 - k.val := by
      have : (n.val : ℝ) ≤ (k.val : ℝ) := by exact_mod_cast not_lt.mp hk
      intro h'
      linarith
    rw [if_neg (fun h' => hk' (EReal.coe_le_coe_iff.mp h')), if_neg hk]

/-- A chunk's decay, which the kernel holds as a constant. -/
theorem cdH_eq (h : Fin 4) : cdH h = ((Real.exp (Real.log (gam h) * 128) : ℝ) : EReal) := by
  have hg : Real.exp (Real.log (gam h) * 128) = gam h ^ 128 := by
    rw [mul_comm, show (128 : ℝ) = ((128 : ℕ) : ℝ) by norm_num, Real.exp_nat_mul, Real.exp_log (gam_pos h)]
  rw [hg]
  unfold gam
  fin_cases h
  · refine (IdealRules.named_const.ideal_named_scalar Cert.KernelIdeal.κ "chunk_decay_0" (φ := .f32) _ _ rfl).trans (congrArg _ ?_)
    norm_num
  · refine (IdealRules.named_const.ideal_named_scalar Cert.KernelIdeal.κ "chunk_decay_1" (φ := .f32) _ _ rfl).trans (congrArg _ ?_)
    norm_num
  · refine (IdealRules.named_const.ideal_named_scalar Cert.KernelIdeal.κ "chunk_decay_2" (φ := .f32) _ _ rfl).trans (congrArg _ ?_)
    norm_num
  · refine (IdealRules.named_const.ideal_named_scalar Cert.KernelIdeal.κ "chunk_decay_3" (φ := .f32) _ _ rfl).trans (congrArg _ ?_)
    norm_num

theorem dec_zero (h : Fin 4) (k : ℕ) : dec h 0 k = 0 := if_neg (Nat.not_lt_zero k)

theorem dec_succ (h : Fin 4) (n k : ℕ) : dec h (n + 1) k = Real.exp (Real.log (gam h) * 128) * dec h n k + if k = n then 1 else 0 := by
  unfold dec
  rcases lt_trichotomy k n with hk | hk | hk
  · rw [if_pos (by omega), if_pos hk, if_neg (by omega), add_zero, ← Real.exp_add]
    congr 1
    push_cast
    ring
  · subst hk
    rw [if_pos (by omega), if_neg (lt_irrefl _), if_pos rfl, mul_zero, zero_add]
    rw [show Real.log (gam h) * 128 * (((k + 1 : ℕ) : ℝ) - 1 - k) = 0 by push_cast; ring, Real.exp_zero]
  · rw [if_neg (by omega), if_neg (by omega), if_neg (by omega), mul_zero, add_zero]

end Cert.Mix
-- ==== Proof.RefRet.lean ====
/- The reference's retention in closed form. -/
module

public import proofs.«01_k».proof.Proof.RetRead
public import proofs.«01_k».proof.Proof.RetTab
public import proofs.«01_k».proof.Proof.Ret

@[expose] public section

set_option maxRecDepth 16384

noncomputable section

namespace Cert.Mix

open Idealize.ShloMosaic Cert.ReferenceIdeal Cert.ReferenceIdeal.Gen Cert.ReferenceIdeal.Read
open scoped BigOperators

variable (x3 : FVec Ideal S65536x256 .bf16) (x4 : FVec Ideal S256x65536 .bf16) (x5 x6 : FVec Ideal S65536x512 .bf16) (x7 : FVec Ideal S1x512 .f32)

/-- The row that holds entry `d` of head `h`. -/
def rows (h : Fin 4) (d : Fin 64) : Fin 256 := ⟨d.val / 32 * 128 + h.val * 32 + d.val % 32, by omega⟩

/-- The entry a row holds of its head. -/
def entryOf (r : Fin 256) : Fin 64 := ⟨r.val / 128 * 32 + r.val % 32, by omega⟩

theorem entryOf_rows (h : Fin 4) (d : Fin 64) : entryOf (rows h d) = d := Fin.ext (by
  show (d.val / 32 * 128 + h.val * 32 + d.val % 32) / 128 * 32 + (d.val / 32 * 128 + h.val * 32 + d.val % 32) % 32 = d.val
  omega)

theorem rows_entryOf (h : Fin 4) (r : Fin 256) (hr : r.val % 128 / 32 = h.val) : rows h (entryOf r) = r := Fin.ext (by
  show (r.val / 128 * 32 + r.val % 32) / 32 * 128 + h.val * 32 + (r.val / 128 * 32 + r.val % 32) % 32 = r.val
  omega)

/-- A sum over all rows of which one head's count is the sum over that head's entries. -/
theorem head_sum (h : Fin 4) (f g : Fin 256 → EReal) :
    ∑ r, f r * (if r.val % 128 / 32 = h.val then g r else 0) = ∑ d, f (rows h d) * g (rows h d) := by
  rw [← Fin.sum_mul_add_fin 2 128 (fun r : Fin 256 => f r * (if r.val % 128 / 32 = h.val then g r else 0)),
    ← Fin.sum_mul_add_fin 2 32 (fun d : Fin 64 => f (rows h d) * g (rows h d))]
  refine Finset.sum_congr rfl fun p _ => ?_
  rw [← Fin.sum_mul_add_fin 4 32 (fun k : Fin 128 => f ⟨p.val * 128 + k.val, by omega⟩ * (if (p.val * 128 + k.val) % 128 / 32 = h.val then g ⟨p.val * 128 + k.val, by omega⟩ else 0)),
    Finset.sum_eq_single h]
  · refine Finset.sum_congr rfl fun x _ => ?_
    have e : (⟨p.val * 128 + (h.val * 32 + x.val), by omega⟩ : Fin 256) = rows h ⟨p.val * 32 + x.val, by omega⟩ := Fin.ext (by
      show p.val * 128 + (h.val * 32 + x.val) = (p.val * 32 + x.val) / 32 * 128 + h.val * 32 + (p.val * 32 + x.val) % 32
      omega)
    rw [if_pos (by show (p.val * 128 + (h.val * 32 + x.val)) % 128 / 32 = h.val; omega)]
    show f ⟨p.val * 128 + (h.val * 32 + x.val), by omega⟩ * g ⟨p.val * 128 + (h.val * 32 + x.val), by omega⟩ = _
    rw [e]
  · intro k _ hk
    refine Finset.sum_eq_zero fun x _ => ?_
    rw [if_neg (fun h' => hk (Fin.ext (by
      have h'' : (p.val * 128 + (k.val * 32 + x.val)) % 128 / 32 = h.val := h'
      omega))), mul_zero]
  · intro h'
    exact absurd (Finset.mem_univ _) h'

theorem at_rq (b : Fin 8) (n : Fin 64) (i : Fin 128) (h : Fin 4) (d : Fin 64) :
    val_main_v83 (F := Ideal) x3 (ix5 b n i h d) = x3 (ix2 ⟨b.val * 8192 + n.val * 128 + i.val, by omega⟩ (rows h d)) := by
  have := at_rq5 x3 b n i h ⟨d.val / 32, by omega⟩ ⟨d.val % 32, by omega⟩
  rw [show (⟨(⟨d.val / 32, by omega⟩ : Fin 2).val * 32 + (⟨d.val % 32, by omega⟩ : Fin 32).val, by show d.val / 32 * 32 + d.val % 32 < 64; omega⟩ : Fin 64) = d from
    Fin.ext (by show d.val / 32 * 32 + d.val % 32 = d.val; omega)] at this
  exact this

theorem at_rk (b : Fin 8) (n : Fin 64) (i : Fin 128) (h : Fin 4) (d : Fin 64) :
    val_main_v86 (F := Ideal) x4 (ix5 b n i h d) = x4 (ix2 (rows h d) ⟨b.val * 8192 + n.val * 128 + i.val, by omega⟩) := by
  have := at_rk5 x4 b n i h ⟨d.val / 32, by omega⟩ ⟨d.val % 32, by omega⟩
  rw [show (⟨(⟨d.val / 32, by omega⟩ : Fin 2).val * 32 + (⟨d.val % 32, by omega⟩ : Fin 32).val, by show d.val / 32 * 32 + d.val % 32 < 64; omega⟩ : Fin 64) = d from
    Fin.ext (by show d.val / 32 * 32 + d.val % 32 = d.val; omega)] at this
  exact this

/-- The state that enters chunk `n`. -/
def stR (b : Fin 8) (n : ℕ) (h : Fin 4) (d : Fin 64) (e : Fin 128) : EReal :=
  ∑ k : Fin 64, val_main_v123 (F := Ideal) x4 x5 (ix5 b k h d e) * ((dec h n k.val : ℝ) : EReal)

theorem at_stR (b : Fin 8) (n : Fin 64) (h : Fin 4) (d : Fin 64) (e : Fin 128) :
    val_main_v146 (F := Ideal) x4 x5 (ix5 b n h d e) = stR x4 x5 b n.val h d e := by
  rw [at_state]
  exact Finset.sum_congr rfl fun k _ => by rw [at_dec]

theorem stR_zero (b : Fin 8) (h : Fin 4) (d : Fin 64) (e : Fin 128) : stR x4 x5 b 0 h d e = 0 :=
  Finset.sum_eq_zero fun k _ => by rw [dec_zero, EReal.coe_zero, mul_zero]

theorem stR_succ (b : Fin 8) (n : Fin 64) (h : Fin 4) (d : Fin 64) (e : Fin 128) :
    stR x4 x5 b (n.val + 1) h d e = cdH h * stR x4 x5 b n.val h d e + val_main_v123 (F := Ideal) x4 x5 (ix5 b n h d e) := by
  unfold stR
  rw [cdH_eq, mul_sum_real _ _ (by exact_mod_cast (Real.exp_pos _).le) (EReal.coe_ne_top _)]
  have e1 : val_main_v123 (F := Ideal) x4 x5 (ix5 b n h d e) = ∑ k : Fin 64, if k = n then val_main_v123 (F := Ideal) x4 x5 (ix5 b k h d e) else 0 := by
    rw [Finset.sum_ite_eq' Finset.univ n, if_pos (Finset.mem_univ _)]
  rw [e1, ← Finset.sum_add_distrib]
  refine Finset.sum_congr rfl fun k _ => ?_
  rw [dec_succ]
  by_cases hk : k = n
  · subst hk
    have e2 : dec h k.val k.val = 0 := if_neg (lt_irrefl _)
    rw [if_pos rfl, if_pos rfl, e2, mul_zero, zero_add, EReal.coe_one, EReal.coe_zero, mul_zero, mul_zero, zero_add, mul_one]
  · rw [if_neg hk, if_neg (fun h' => hk (Fin.ext h')), add_zero, add_zero, EReal.coe_mul, mul_left_comm]

theorem at_mean (b : Fin 8) (n : Fin 64) (i : Fin 128) (h : Fin 4) :
    val_main_v165 (F := Ideal) x3 x4 x5 (ix5 b n i h 0)
      = Ideal.div (∑ x : Fin 128, val_main_v161 (F := Ideal) x3 x4 x5 (ix5 b n i h x)) (Ideal.ofBits .f32 0x43000000#32) := by
  pointwise [val_main_v165, val_main_v164, val_main_v163, val_main_v162, val_main_cst_22, val_main_cst_23]

theorem at_var (b : Fin 8) (n : Fin 64) (i : Fin 128) (h : Fin 4) :
    val_main_v172 (F := Ideal) x3 x4 x5 (ix5 b n i h 0)
      = Ideal.div (∑ x : Fin 128, (val_main_v161 (F := Ideal) x3 x4 x5 (ix5 b n i h x) - val_main_v165 (F := Ideal) x3 x4 x5 (ix5 b n i h 0))
          * (val_main_v161 (F := Ideal) x3 x4 x5 (ix5 b n i h x) - val_main_v165 (F := Ideal) x3 x4 x5 (ix5 b n i h 0))) (Ideal.ofBits .f32 0x43000000#32) := by
  pointwise [val_main_v172, val_main_v171, val_main_v170, val_main_v169, val_main_v168, val_main_v167, val_main_v166, val_main_cst_24, val_main_cst_25]

theorem at_norm (b : Fin 8) (n : Fin 64) (i : Fin 128) (h : Fin 4) (e : Fin 128) :
    val_main_v183 (F := Ideal) x3 x4 x5 x7 (ix5 b n i h e)
      = (val_main_v161 (F := Ideal) x3 x4 x5 (ix5 b n i h e) - val_main_v165 (F := Ideal) x3 x4 x5 (ix5 b n i h 0))
        * Ideal.rsqrt (val_main_v172 (F := Ideal) x3 x4 x5 (ix5 b n i h 0) + Ideal.ofBits .f32 0x3727C5AC#32) * x7 (ix2 0 ⟨h.val * 128 + e.val, by omega⟩) := by
  pointwise [val_main_v183, val_main_v182, val_main_v181, val_main_v180, val_main_v179, val_main_v178, val_main_v177, val_main_v176, val_main_v175, val_main_v174, val_main_v173, val_main_cst_26]

theorem at_gate (p : Fin 65536) (q : Fin 512) :
    val_main_v185 (F := Ideal) x6 (ix2 p q) = Ideal.div (x6 (ix2 p q)) (1 + Ideal.exp (0 - x6 (ix2 p q))) := by
  have e0 : val_main_v185 (F := Ideal) x6 (ix2 p q) = x6 (ix2 p q) * Ideal.div 1 (1 + Ideal.exp (0 - x6 (ix2 p q))) := by
    rw [zero_sub]
    pointwise [val_main_v185, val_main_v5, val_main_call5_v5, val_main_call5_v4, val_main_call5_v3, val_main_call5_v2, val_main_call5_v1, val_main_call5_v0, val_main_call5_cst,
      val_main_call5_cst_0]
  have hE : 0 ≤ Ideal.exp (0 - x6 (ix2 p q)) := by
    rcases (0 - x6 (ix2 p q)) with _ | _ | r
    · exact le_refl _
    · exact le_top
    · exact EReal.coe_nonneg.mpr (Real.exp_pos r).le
  have hD : 1 + Ideal.exp (0 - x6 (ix2 p q)) ≠ 0 := by
    refine ne_of_gt (lt_of_lt_of_le zero_lt_one ?_)
    calc (1 : EReal) = 1 + 0 := (add_zero _).symm
      _ ≤ _ := add_le_add_right hE 1
  rw [e0]
  unfold Ideal.div
  rw [if_neg hD, if_neg hD, one_mul]

theorem ref_ret (b : Fin 8) (n : Fin 64) (i : Fin 128) (h : Fin 4) (e : Fin 128) :
    val_main_v210 (F := Ideal) x3 x4 x5 x6 x7 (ix2 ⟨b.val * 8192 + n.val * 128 + i.val, by omega⟩ ⟨h.val * 128 + e.val, by omega⟩)
      = normGate (fun x => val_main_v161 (F := Ideal) x3 x4 x5 (ix5 b n i h x)) (x7 (ix2 0 ⟨h.val * 128 + e.val, by omega⟩))
          (x6 (ix2 ⟨b.val * 8192 + n.val * 128 + i.val, by omega⟩ ⟨h.val * 128 + e.val, by omega⟩)) e := by
  have e0 : val_main_v210 (F := Ideal) x3 x4 x5 x6 x7 (ix2 ⟨b.val * 8192 + n.val * 128 + i.val, by omega⟩ ⟨h.val * 128 + e.val, by omega⟩)
      = val_main_v184 (F := Ideal) x3 x4 x5 x7 (ix2 ⟨b.val * 8192 + n.val * 128 + i.val, by omega⟩ ⟨h.val * 128 + e.val, by omega⟩)
        * val_main_v185 (F := Ideal) x6 (ix2 ⟨b.val * 8192 + n.val * 128 + i.val, by omega⟩ ⟨h.val * 128 + e.val, by omega⟩) := rfl
  rw [e0, at_flat', at_gate, at_norm, at_var, at_mean]
  rfl

end Cert.Mix
-- ==== Proof.Blk9.lean ====
/- The kernel's decay tables are the reference's. -/
module

public import proofs.«01_k».proof.Proof.Blocks
public import proofs.«01_k».proof.Proof.Gen.ReferenceIdeal.Read

@[expose] public section

set_option maxRecDepth 16384

noncomputable section
open Idealize.ShloMosaic Idealize.ShloMosaic.TcCoe Idealize.SL.Sem
open Idealize.ShloMosaic.Pipeline (Dat)
namespace Cert.Mix
open Cert.KernelIdeal Cert.KernelIdeal.Gen Cert.ReferenceIdeal.Read
open scoped BigOperators
variable (m : (ℓ : Loc nD τ sig) → Buf (Elt Ideal) ℓ) (c : Dev nD)

theorem blk10 (t : Fin cfg0.N) (h : Fin 4) (j : Fin 128) :
    iblk m c 10 t (ix3 h (0 : Fin 1) j) = Cert.ReferenceIdeal.Read.val_main_v119 (F := Ideal) (ix2 j h) := by
  have := tlt t
  blk_simp [iblk]
  simp only [V, hostOps0, hostOps0_1, hostOps0_2, List.flatten_cons, List.flatten_nil, List.cons_append, List.nil_append, List.append_nil]
  entry_read
  rw [show ((View.whole main_v33).slice (win0_10.rect t)).emb (ix3 h 0 j) = ix3 h 0 j by blk_ext! [idx t]]
  pointwise [val_main_v119, val_main_v118, val_main_v117, val_main_v116, val_main_v115, val_main_v114, val_main_v113, val_main_v112, val_main_v111, val_main_cst_15, val_main_v88,
    val_main_v80, val_main_v79, val_main_v78, val_main_v77, val_main_v76, val_main_v75, val_main_v74, val_main_v73, val_main_cst_9, val_main_cst_10, val_main_cst_11]

theorem blk11 (t : Fin cfg0.N) (h : Fin 4) (i j : Fin 128) :
    iblk m c 11 t (ix3 h i j) = Cert.ReferenceIdeal.Read.val_main_v157 (F := Ideal) (ix2 i h) := by
  have := tlt t
  blk_simp [iblk]
  simp only [V, hostOps0, hostOps0_1, hostOps0_2, List.flatten_cons, List.flatten_nil, List.cons_append, List.nil_append, List.append_nil]
  entry_read
  rw [show ((View.whole main_v43).slice (win0_11.rect t)).emb (ix3 h i j) = ix3 h i j by blk_ext! [idx t]]
  pointwise [val_main_v157, val_main_v154, val_main_v153, val_main_v152, val_main_v151, val_main_v150, val_main_v149, val_main_v148, val_main_v147, val_main_cst_21, val_main_v88,
    val_main_v80, val_main_v79, val_main_v78, val_main_v77, val_main_v76, val_main_v75, val_main_v74, val_main_v73, val_main_cst_9, val_main_cst_10, val_main_cst_11]

theorem blk9 (t : Fin cfg0.N) (h : Fin 4) (i j : Fin 128) :
    iblk m c 9 t (ix3 h i j) = Cert.ReferenceIdeal.Read.val_main_v104 (F := Ideal) (ix3 h i j) := by
  have := tlt t
  blk_simp [iblk]
  simp only [V, hostOps0, hostOps0_1, hostOps0_2, List.flatten_cons, List.flatten_nil, List.cons_append, List.nil_append, List.append_nil]
  entry_read
  rw [show ((View.whole main_v24).slice (win0_9.rect t)).emb (ix3 h i j) = ix3 h i j by blk_ext! [idx t]]
  simp only [StableHlo.TRef.toBuf, StableHlo.TRef.ofBuf, cast_eq]
  pointwise [val_main_v104, val_main_call3_v0, val_main_call3_v1, val_main_call3_v2, val_main_cst_14, val_main_v103, val_main_v102, val_main_v101, val_main_v100, val_main_v99,
    val_main_v98, val_main_v97, val_main_v96, val_main_v95, val_main_v94, val_main_v93, val_main_v92, val_main_v91, val_main_v90, val_main_v89, val_main_cst_12, val_main_cst_13, val_main_v88,
    val_main_v80, val_main_v79, val_main_v78, val_main_v77, val_main_v76, val_main_v75, val_main_v74, val_main_v73, val_main_cst_9, val_main_cst_10, val_main_cst_11]
  show _ = if _ then _ else Ideal.ofBits .f32 0x00000000#32
  rw [show Ideal.ofBits .f32 0x00000000#32 = 0 by simp [Ideal.ofBits, Ideal.ieee]]

end Cert.Mix
-- ==== Proof.KernRet.lean ====
/- The kernel's second result: retention. -/
module

public import proofs.«01_k».proof.Proof.KLoad
public import proofs.«01_k».proof.Proof.RefRet
public import proofs.«01_k».proof.Proof.Blk9
public import proofs.«01_k».proof.Proof.Points

@[expose] public section

set_option maxRecDepth 16384

noncomputable section
open Idealize.ShloMosaic Idealize.ShloMosaic.TcCoe Idealize.SL.Sem
open Idealize.ShloMosaic.Pipeline (Dat)
namespace Cert.Mix
open Cert.KernelIdeal Cert.KernelIdeal.Gen Cert.ReferenceIdeal.Read
open scoped BigOperators
variable (m : (ℓ : Loc nD τ sig) → Buf (Elt Ideal) ℓ) (c : Dev nD)

/-- A head's rows hold its state before chunk `n`, the rows of the other heads zero. -/
def StOk (b : Fin 8) (n : ℕ) (h : Fin 4) (s : FVec Ideal S1x256x128 .f32) : Prop :=
  ∀ (r : Fin 256) (e : Fin 128), s (ix3 0 r e) = if r.val % 128 / 32 = h.val
    then stR (m ((c : Thread nD τ).loc main_arg4)) (m ((c : Thread nD τ).loc main_arg5)) b n h (entryOf r) e else 0

/-- A row and a token of the keys' tile, in the argument array. -/
theorem ret_k (t : Fin cfg0.N) (k : Fin 4) (r : Fin 256) (j : Fin 128) :
    ldK (iblk m c 5 t) k (ix2 r j) = m ((c : Thread nD τ).loc main_arg4) (ix2 r (⟨t.val / 16 * 8192 + (t.val % 16 * 4 + k.val) * 128 + j.val, by have := tlt t; omega⟩ : Fin 65536)) := by
  have := tlt t
  rw [ldK_apply, blk5]
  refine congrArg (m _) (congrArg (fun z => ix2 r z) (Fin.ext ?_))
  show t.val * 512 + (k.val * 128 + j.val) = t.val / 16 * 8192 + (t.val % 16 * 4 + k.val) * 128 + j.val
  omega

theorem ret_v (t : Fin cfg0.N) (k h : Fin 4) (j e : Fin 128) :
    ldT (iblk m c 6 t) k h (ix2 j e) = m ((c : Thread nD τ).loc main_arg5) (ix2 (⟨t.val / 16 * 8192 + (t.val % 16 * 4 + k.val) * 128 + j.val, by have := tlt t; omega⟩ : Fin 65536) ⟨h.val * 128 + e.val, by omega⟩) := by
  have := tlt t
  rw [ldT_apply, blk6]
  refine congrArg (m _) (congrArg (fun z => ix2 z _) (Fin.ext ?_))
  show t.val * 512 + (k.val * 128 + j.val) = t.val / 16 * 8192 + (t.val % 16 * 4 + k.val) * 128 + j.val
  omega

theorem ret_q (t : Fin cfg0.N) (k : Fin 4) (i : Fin 128) (r : Fin 256) :
    ldQ (iblk m c 4 t) k (ix2 i r) = m ((c : Thread nD τ).loc main_arg3) (ix2 (⟨t.val / 16 * 8192 + (t.val % 16 * 4 + k.val) * 128 + i.val, by have := tlt t; omega⟩ : Fin 65536) r) := by
  have := tlt t
  rw [ldQ_apply, blk4]
  refine congrArg (m _) (congrArg (fun z => ix2 z _) (Fin.ext ?_))
  show t.val * 512 + (k.val * 128 + i.val) = t.val / 16 * 8192 + (t.val % 16 * 4 + k.val) * 128 + i.val
  omega

theorem ret_g (t : Fin cfg0.N) (k h : Fin 4) (i e : Fin 128) :
    ldT (iblk m c 7 t) k h (ix2 i e) = m ((c : Thread nD τ).loc main_arg6) (ix2 (⟨t.val / 16 * 8192 + (t.val % 16 * 4 + k.val) * 128 + i.val, by have := tlt t; omega⟩ : Fin 65536) ⟨h.val * 128 + e.val, by omega⟩) := by
  have := tlt t
  rw [ldT_apply, blk7]
  refine congrArg (m _) (congrArg (fun z => ix2 z _) (Fin.ext ?_))
  show t.val * 512 + (k.val * 128 + i.val) = t.val / 16 * 8192 + (t.val % 16 * 4 + k.val) * 128 + i.val
  omega

/-- One chunk's step of the state. -/
theorem step_ok (t : Fin cfg0.N) (k h : Fin 4) (s : FVec Ideal S1x256x128 .f32)
    (hs : StOk m c ⟨t.val / 16, by have := tlt t; omega⟩ (t.val % 16 * 4 + k.val) h s) :
    StOk m c ⟨t.val / 16, by have := tlt t; omega⟩ (t.val % 16 * 4 + k.val + 1) h (stStep (iblk m c 5 t) (iblk m c 6 t) (iblk m c 10 t) k h s) := by
  intro r e
  unfold stStep
  rw [retState_apply, hs r e]
  by_cases hr : r.val % 128 / 32 = h.val
  · rw [if_pos hr, if_pos hr]
    rw [stR_succ _ _ _ ⟨t.val % 16 * 4 + k.val, by omega⟩, at_kv]
    refine congrArg₂ (· + ·) rfl (Finset.sum_congr rfl fun j _ => ?_)
    rw [kHead_apply, if_pos hr, ret_k, ret_v, ldW_apply, blk10, at_rk, rows_entryOf h r hr, at_rv5]
  · rw [if_neg hr, if_neg hr, mul_zero, zero_add]
    refine Finset.sum_eq_zero fun j _ => ?_
    rw [kHead_apply, if_neg hr, zero_mul, zero_mul]

theorem stAt_ok (t : Fin cfg0.N) (h : Fin 4)
    (hs : StOk m c ⟨t.val / 16, by have := tlt t; omega⟩ (t.val % 16 * 4) h (ldS (st0 m c t) h)) :
    ∀ k : ℕ, k ≤ 4 → StOk m c ⟨t.val / 16, by have := tlt t; omega⟩ (t.val % 16 * 4 + k) h
      (stAt (iblk m c 5 t) (iblk m c 6 t) (iblk m c 10 t) (ldS (st0 m c t)) h k)
  | 0, _ => hs
  | k + 1, hk => by
    have ih := stAt_ok t h hs k (by omega)
    have e : (Fin.ofNat 4 k).val = k := Nat.mod_eq_of_lt (by omega)
    have := step_ok m c t (Fin.ofNat 4 k) h _ (by rw [e]; exact ih)
    rw [e] at this
    exact this

theorem zero_ok (h : Fin 4) (r : Fin 256) (e : Fin 128) : ldS zeroS h (ix3 0 r e) = 0 := by
  show Ideal.ofBits .f32 0x00000000#32 = 0
  simp [Ideal.ofBits, Ideal.ieee]

/-- The state a grid point finds is the one its first chunk needs. -/
theorem st0_ok (h : Fin 4) : ∀ (n : ℕ) (t : Fin cfg0.N), t.val = n →
    StOk m c ⟨t.val / 16, by have := tlt t; omega⟩ (t.val % 16 * 4) h (ldS (st0 m c t) h) := by
  intro n
  induction n with
  | zero =>
    intro t ht r e
    rw [show t.val % 16 * 4 = 0 by omega, stR_zero, ite_self]
    unfold st0
    rw [if_pos (by omega)]
    exact zero_ok h r e
  | succ n ih =>
    intro t ht r e
    by_cases h0 : t.val % 16 = 0
    · rw [show t.val % 16 * 4 = 0 by omega, stR_zero, ite_self]
      unfold st0
      rw [if_pos h0]
      exact zero_ok h r e
    · have hn : n < cfg0.N := by have := t.isLt; omega
      have e0 : st0 m c t = (outsAt0 m c (⟨n, hn⟩ : Fin cfg0.N).val (⟨n, hn⟩ : Fin cfg0.N).isLt).2.2.2 := by
        unfold st0
        rw [if_neg h0]
        have : t.val - 1 = n := by omega
        congr 4
      rw [e0, ptS]
      have := stAt_ok m c ⟨n, hn⟩ h (ih ⟨n, hn⟩ rfl) 4 (le_refl _) r e
      rw [this]
      have e1 : (⟨(⟨n, hn⟩ : Fin cfg0.N).val / 16, by have := tlt ⟨n, hn⟩; omega⟩ : Fin 8) = ⟨t.val / 16, by have := tlt t; omega⟩ := Fin.ext (by
        show n / 16 = t.val / 16
        omega)
      have e2 : (⟨n, hn⟩ : Fin cfg0.N).val % 16 * 4 + 4 = t.val % 16 * 4 := by
        show n % 16 * 4 + 4 = t.val % 16 * 4
        omega
      rw [e1, e2]

/-- A row of a chunk's retention, before it is normalised. -/
theorem out_ok (t : Fin cfg0.N) (k h : Fin 4) (s : FVec Ideal S1x256x128 .f32)
    (hs : StOk m c ⟨t.val / 16, by have := tlt t; omega⟩ (t.val % 16 * 4 + k.val) h s) (i x : Fin 128) :
    (addf (retIn (ldQ (iblk m c 4 t) k) (kHead (BitVec.ofNat 32 h.val) (ldK (iblk m c 5 t) k)) (ldT (iblk m c 6 t) k h) (ldD (iblk m c 9 t) h))
        (retX (ldQ (iblk m c 4 t) k) s (ldD (iblk m c 11 t) h)) : FVec Ideal S128x128 .f32) (ix2 i x)
      = val_main_v161 (F := Ideal) (m ((c : Thread nD τ).loc main_arg3)) (m ((c : Thread nD τ).loc main_arg4)) (m ((c : Thread nD τ).loc main_arg5))
          (ix5 ⟨t.val / 16, by have := tlt t; omega⟩ ⟨t.val % 16 * 4 + k.val, by omega⟩ i h x) := by
  show _ + _ = val_main_v110 (F := Ideal) _ _ _ _ + val_main_v160 (F := Ideal) _ _ _ _
  rw [at_inner, at_cross, retIn_apply, retX_apply]
  refine congrArg₂ (· + ·) (Finset.sum_congr rfl fun j _ => ?_) (congrArg₂ (· * ·) ?_ ?_)
  · rw [mul_comm (val_main_v87 (F := Ideal) _ _), at_rv5, ret_v, ldD_apply, blk9]
    refine congrArg₂ (· * ·) (congrArg₂ (· * ·) ?_ rfl) rfl
    refine (Finset.sum_congr rfl fun r _ => by rw [kHead_apply]).trans ((head_sum h (fun r => ldQ (iblk m c 4 t) k (ix2 i r)) (fun r => ldK (iblk m c 5 t) k (ix2 r j))).trans (Finset.sum_congr rfl fun d _ => ?_))
    show ldQ (iblk m c 4 t) k (ix2 i (rows h d)) * ldK (iblk m c 5 t) k (ix2 (rows h d) j) = _
    rw [ret_q, ret_k, at_rq, at_rk]
  · refine (Finset.sum_congr rfl fun r _ => congrArg (_ * ·) (hs r x)).trans ((head_sum h (fun r => ldQ (iblk m c 4 t) k (ix2 i r))
      (fun r => stR _ _ _ _ h (entryOf r) x)).trans (Finset.sum_congr rfl fun d _ => ?_))
    show ldQ (iblk m c 4 t) k (ix2 i (rows h d)) * stR _ _ _ _ h (entryOf (rows h d)) x = _
    rw [ret_q, entryOf_rows, at_rq, at_stR, mul_comm]
  · rw [ldD_apply, blk11]

theorem tile15_apply (t : Fin cfg0.N) (k h : Fin 4) (i e : Fin 128) :
    tile15 (iblk m c 4 t) (iblk m c 5 t) (iblk m c 6 t) (iblk m c 7 t) (iblk m c 8 t) (iblk m c 9 t) (iblk m c 11 t) k h
        (stAt (iblk m c 5 t) (iblk m c 6 t) (iblk m c 10 t) (ldS (st0 m c t)) h k.val) (ix2 i e)
      = val_main_v210 (F := Ideal) (m ((c : Thread nD τ).loc main_arg3)) (m ((c : Thread nD τ).loc main_arg4)) (m ((c : Thread nD τ).loc main_arg5))
          (m ((c : Thread nD τ).loc main_arg6)) (m ((c : Thread nD τ).loc main_arg7))
          (ix2 (⟨(⟨t.val / 16, by have := tlt t; omega⟩ : Fin 8).val * 8192 + (⟨t.val % 16 * 4 + k.val, by omega⟩ : Fin 64).val * 128 + i.val, by
            have := tlt t
            show t.val / 16 * 8192 + (t.val % 16 * 4 + k.val) * 128 + i.val < 65536
            omega⟩ : Fin 65536) ⟨h.val * 128 + e.val, by omega⟩) := by
  have hs := stAt_ok m c t h (st0_ok m c h t.val t rfl) k.val (by omega)
  rw [ref_ret]
  unfold tile15 retTile
  rw [retNorm_apply, ldG_apply, blk8, ret_g]
  refine congrArg (fun o => normGate o _ _ e) (funext fun x => out_ok m c t k h _ hs i x)

theorem final15 : (dats m 0 c).arrAt 15 cfg0.N
   = Cert.ReferenceIdeal.Read.val_main_v210 (F := Ideal) (m ((c : Thread nD τ).loc main_arg3)) (m ((c : Thread nD τ).loc main_arg4)) (m ((c : Thread nD τ).loc main_arg5))
      (m ((c : Thread nD τ).loc main_arg6)) (m ((c : Thread nD τ).loc main_arg7)) := by
  refine (dats m 0 c).arrAt_eq_of_covers 15 _ (by decide +kernel) fun t hf y => ?_
  blk_simp
  rw [after0_15, pt15]
  have ht := tlt t
  obtain ⟨p, q, rfl⟩ : ∃ (p q : Fin 512), y = ix2 p q := ⟨y 0, y 1, by funext q; fin_cases q <;> rfl⟩
  obtain ⟨k, i, rfl⟩ : ∃ (k : Fin 4) (i : Fin 128), p = ⟨k.val * 128 + i.val, by omega⟩ :=
    ⟨⟨p.val / 128, by omega⟩, ⟨p.val % 128, by omega⟩, Fin.ext (by show p.val = p.val / 128 * 128 + p.val % 128; omega)⟩
  obtain ⟨h, e, rfl⟩ : ∃ (h : Fin 4) (e : Fin 128), q = ⟨h.val * 128 + e.val, by omega⟩ :=
    ⟨⟨q.val / 128, by omega⟩, ⟨q.val % 128, by omega⟩, Fin.ext (by show q.val = q.val / 128 * 128 + q.val % 128; omega)⟩
  have hemb : (win0_15.blk t).view.emb (ix2 (⟨k.val * 128 + i.val, by omega⟩ : Fin 512) (⟨h.val * 128 + e.val, by omega⟩ : Fin 512))
      = ix2 (⟨(⟨t.val / 16, by omega⟩ : Fin 8).val * 8192 + (⟨t.val % 16 * 4 + k.val, by omega⟩ : Fin 64).val * 128 + i.val, by show t.val / 16 * 8192 + (t.val % 16 * 4 + k.val) * 128 + i.val < 65536; omega⟩ : Fin 65536)
          (⟨h.val * 128 + e.val, by omega⟩ : Fin 512) := by
    blk_ext! [idx t]
  rw [hemb, sixteen_at, tile15_apply]

end Cert.Mix
-- ==== Proof.RefMem.lean ====
/- The reference's attention into the memory, entry by entry. -/
module

public import proofs.«01_k».proof.Proof.Soft
public import proofs.«01_k».proof.Proof.Gen.ReferenceIdeal.Read
public import Idealize.ShloMosaic.Lib.Pipeline.ValueKit

@[expose] public section

set_option maxRecDepth 16384

noncomputable section

namespace Cert.Mix

open Idealize.ShloMosaic Cert.ReferenceIdeal Cert.ReferenceIdeal.Gen Cert.ReferenceIdeal.Read
open scoped BigOperators

variable (x8 : FVec Ideal S65536x512 .bf16) (x9 : FVec Ideal S2048x1024 .bf16)

theorem mem_q (b : Fin 8) (s : Fin 8192) (h : Fin 4) (d : Fin 128) :
    val_main_v187 (F := Ideal) x8 (ix4 b s h d) = x8 (ix2 ⟨b.val * 8192 + s.val, by omega⟩ ⟨h.val * 128 + d.val, by omega⟩) := by
  pointwise [val_main_v187, val_main_v6]

theorem mem_k (b : Fin 8) (k : Fin 256) (h : Fin 4) (d : Fin 128) :
    val_main_v189 (F := Ideal) x9 (ix4 b k h d) = x9 (ix2 ⟨b.val * 256 + k.val, by omega⟩ ⟨h.val * 128 + d.val, by omega⟩) := by
  pointwise [val_main_v189, val_main_v188, val_main_v7]

theorem mem_v (b : Fin 8) (k : Fin 256) (h : Fin 4) (d : Fin 128) :
    val_main_v191 (F := Ideal) x9 (ix4 b k h d) = x9 (ix2 ⟨b.val * 256 + k.val, by omega⟩ ⟨512 + (h.val * 128 + d.val), by omega⟩) := by
  pointwise [val_main_v191, val_main_v190, val_main_v7]

theorem mem_logit (b : Fin 8) (h : Fin 4) (s : Fin 8192) (k : Fin 256) :
    val_main_v194 (F := Ideal) x8 x9 (ix4 b h s k)
      = (∑ d : Fin 128, val_main_v187 (F := Ideal) x8 (ix4 b s h d) * val_main_v189 (F := Ideal) x9 (ix4 b k h d)) * Ideal.ofBits .f32 0x3DB504F3#32 := by
  pointwise [val_main_v194, val_main_v192, val_main_v193, val_main_cst_27]

theorem max_r4 (y : FVec Ideal S8x4x8192x256 .f32) (b : Fin 8) (h : Fin 4) (s : Fin 8192) :
    Host.reduce FloatOps.maximumf y (val_main_cst_28 (F := Ideal)) reducesTo_S8x4x8192x256_S8x4x8192_d3 h_S_ (ix3 b h s)
      = Finset.univ.fold max (Ideal.ofBits .f32 0xFF800000#32) fun k : Fin 256 => y (ix4 b h s k) := by
  pointwise [val_main_cst_28]

theorem mem_max (b : Fin 8) (h : Fin 4) (s : Fin 8192) :
    val_main_v197 (F := Ideal) x8 x9 (ix3 b h s)
      = max (Ideal.ofBits .f32 0xFF800000#32) (Finset.univ.fold max (Ideal.ofBits .f32 0xFF800000#32) fun k : Fin 256 => val_main_v194 (F := Ideal) x8 x9 (ix4 b h s k)) := by
  rw [val_main_v197_apply]
  unfold val_main_v195
  rw [max_r4]
  pointwise [val_main_v196, val_main_cst_29]

theorem mem_exp (b : Fin 8) (h : Fin 4) (s : Fin 8192) (k : Fin 256) :
    val_main_v201 (F := Ideal) x8 x9 (ix4 b h s k)
      = Ideal.exp (val_main_v194 (F := Ideal) x8 x9 (ix4 b h s k) - val_main_v197 (F := Ideal) x8 x9 (ix3 b h s)) := by
  pointwise [val_main_v201, val_main_v200, val_main_v199, val_main_v198]

theorem mem_p (b : Fin 8) (h : Fin 4) (s : Fin 8192) (k : Fin 256) :
    val_main_v205 (F := Ideal) x8 x9 (ix4 b h s k)
      = Ideal.div (val_main_v201 (F := Ideal) x8 x9 (ix4 b h s k)) (∑ k : Fin 256, val_main_v201 (F := Ideal) x8 x9 (ix4 b h s k)) := by
  pointwise [val_main_v205, val_main_v204, val_main_v203, val_main_v202, val_main_cst_30]

theorem mem_out (b : Fin 8) (s : Fin 8192) (h : Fin 4) (e : Fin 128) :
    val_main_v207 (F := Ideal) x8 x9 (ix4 b s h e)
      = ∑ k : Fin 256, val_main_v191 (F := Ideal) x9 (ix4 b k h e) * val_main_v205 (F := Ideal) x8 x9 (ix4 b h s k) := by
  pointwise [val_main_v207, val_main_v206]

theorem mem_flat (b : Fin 8) (s : Fin 8192) (h : Fin 4) (e : Fin 128) :
    val_main_v211 (F := Ideal) x8 x9 (ix2 ⟨b.val * 8192 + s.val, by omega⟩ ⟨h.val * 128 + e.val, by omega⟩)
      = val_main_v207 (F := Ideal) x8 x9 (ix4 b s h e) := by
  pointwise [val_main_v211, val_main_v208]

/-- The logit of memory row `k` for query row `s` of batch `b` and head `h`. -/
def refLogit (b : Fin 8) (s : Fin 8192) (h : Fin 4) (k : Fin 256) : EReal :=
  (∑ d : Fin 128, x8 (ix2 ⟨b.val * 8192 + s.val, by omega⟩ ⟨h.val * 128 + d.val, by omega⟩)
    * x9 (ix2 ⟨b.val * 256 + k.val, by omega⟩ ⟨h.val * 128 + d.val, by omega⟩)) * Ideal.ofBits .f32 0x3DB504F3#32

/-- The reference's third result, entry by entry. -/
theorem ref_mem (b : Fin 8) (s : Fin 8192) (h : Fin 4) (e : Fin 128) :
    val_main_v211 (F := Ideal) x8 x9 (ix2 ⟨b.val * 8192 + s.val, by omega⟩ ⟨h.val * 128 + e.val, by omega⟩)
      = softEarly (refLogit x8 x9 b s h) fun k : Fin 256 => x9 (ix2 ⟨b.val * 256 + k.val, by omega⟩ ⟨512 + (h.val * 128 + e.val), by omega⟩) := by
  have hb : Ideal.ofBits .f32 0xFF800000#32 = ⊥ := by simp [Ideal.ofBits, Ideal.ieee]
  have hl : ∀ k, val_main_v194 (F := Ideal) x8 x9 (ix4 b h s k) = refLogit x8 x9 b s h k := fun k => by
    rw [mem_logit]
    simp only [mem_q, mem_k]
    rfl
  rw [mem_flat, mem_out]
  unfold softEarly
  refine Finset.sum_congr rfl fun k _ => ?_
  rw [mem_p, mem_v, mul_comm]
  simp only [mem_exp, mem_max, hl, hb]
  rw [max_eq_right bot_le]

end Cert.Mix
-- ==== Proof.KernMem.lean ====
/- The kernel's third result: attention into the memory. -/
module

public import proofs.«01_k».proof.Proof.RefMem
public import proofs.«01_k».proof.Proof.Blocks

@[expose] public section

set_option maxRecDepth 16384

noncomputable section
open Idealize.ShloMosaic Idealize.ShloMosaic.TcCoe Idealize.SL.Sem
open Idealize.ShloMosaic.Pipeline (Dat)
namespace Cert.Mix
open Cert.KernelIdeal Cert.KernelIdeal.Gen
variable (m : (ℓ : Loc nD τ sig) → Buf (Elt Ideal) ℓ)

theorem ldM_apply (x : FVec Ideal S512x512 .bf16) (h : Fin 4) (a : Fin 512) (e : Fin 128) :
    ldM x h (ix2 a e) = x (ix2 a ⟨h.val * 128 + e.val, by omega⟩) :=
  congrArg x (rM_emb h _ a e rfl)

theorem ldMK_apply (x : FVec Ideal S256x1024 .bf16) (k : Fin 8) (a : Fin 256) (e : Fin 128) :
    ldMK x k (ix2 a e) = x (ix2 a ⟨k.val * 128 + e.val, by omega⟩) := by
  refine congrArg x (funext fun q => Fin.ext ?_)
  fin_cases q
  · show 0 + 1 * a.val = a.val
    omega
  · show 128 * k.val + 1 * e.val = k.val * 128 + e.val
    omega

theorem mem_scale_fin : Fin' (Ideal.ofBits .f32 0x3DB504F3#32) := by
  refine ⟨11863283 * (2 ^ 27)⁻¹, ?_⟩
  rw [EReal.coe_mul]
  simp [Ideal.ofBits, Ideal.ieee]

theorem final16 (c : Dev nD)
    (hq : ∀ i, Fin' (m ((c : Thread nD τ).loc main_arg8) i))
    (hk : ∀ (a : Fin 2048) (b : Fin 1024), b.val < 512 → Fin' (m ((c : Thread nD τ).loc main_arg9) (ix2 a b))) :
    (dats m 0 c).arrAt 16 cfg0.N
   = Cert.ReferenceIdeal.Read.val_main_v211 (F := Ideal) (m ((c : Thread nD τ).loc main_arg8)) (m ((c : Thread nD τ).loc main_arg9)) := by
  refine (dats m 0 c).arrAt_eq_of_covers 16 _ (by decide +kernel) fun t hf y => ?_
  blk_simp
  rw [after0_16, pt16]
  have ht := tlt t
  obtain ⟨a, b, rfl⟩ : ∃ (a b : Fin 512), y = ix2 a b := ⟨y 0, y 1, by funext q; fin_cases q <;> rfl⟩
  obtain ⟨h, e, rfl⟩ : ∃ (h : Fin 4) (e : Fin 128), b = ⟨h.val * 128 + e.val, by omega⟩ :=
    ⟨⟨b.val / 128, by omega⟩, ⟨b.val % 128, by omega⟩, Fin.ext (by show b.val = b.val / 128 * 128 + b.val % 128; omega)⟩
  have hemb : (win0_16.blk t).view.emb (ix2 a ⟨h.val * 128 + e.val, by omega⟩)
      = ix2 (⟨(⟨t.val / 16, by omega⟩ : Fin 8).val * 8192 + (⟨t.val % 16 * 512 + a.val, by omega⟩ : Fin 8192).val, by show t.val / 16 * 8192 + (t.val % 16 * 512 + a.val) < 65536; omega⟩ : Fin 65536)
          (⟨h.val * 128 + e.val, by omega⟩ : Fin 512) := by
    blk_ext! [idx t]
  rw [hemb, ref_mem, fourC_at]
  unfold tile16
  rw [memTile_apply]
  have hl : memLogit (ldM (iblk m c 12 t) h) (ldMK (iblk m c 13 t) ⟨h.val, by omega⟩) a
      = refLogit (m ((c : Thread nD τ).loc main_arg8)) (m ((c : Thread nD τ).loc main_arg9)) ⟨t.val / 16, by omega⟩ ⟨t.val % 16 * 512 + a.val, by omega⟩ h := by
    funext k
    unfold memLogit refLogit
    refine congrArg (· * _) (Finset.sum_congr rfl fun d _ => ?_)
    rw [ldM_apply, ldMK_apply, blk12, blk13]
    refine congrArg (· * _) (congrArg _ ?_)
    refine congrArg (fun z => ix2 z _) (Fin.ext ?_)
    show t.val * 512 + a.val = t.val / 16 * 8192 + (t.val % 16 * 512 + a.val)
    omega
  have hv : (fun k => ldMK (iblk m c 13 t) ⟨4 + h.val, by omega⟩ (ix2 k e))
      = fun k : Fin 256 => m ((c : Thread nD τ).loc main_arg9) (ix2 (⟨t.val / 16 * 256 + k.val, by omega⟩ : Fin 2048) (⟨512 + (h.val * 128 + e.val), by omega⟩ : Fin 1024)) := by
    funext k
    rw [ldMK_apply, blk13]
    refine congrArg _ (congrArg (ix2 _) (Fin.ext ?_))
    show (4 + h.val) * 128 + e.val = 512 + (h.val * 128 + e.val)
    omega
  rw [hl, hv]
  refine softLate_eq _ _ fun k => ?_
  unfold refLogit
  refine fin_mul (fin_sum _ _ fun d _ => fin_mul (hq _) (hk _ _ ?_)) mem_scale_fin
  show h.val * 128 + d.val < 512
  omega

end Cert.Mix
-- ==== Proof.ProjHost.lean ====
/- The projection call's host preparation: the columns of the weights and the bias, put in the call's order. -/
module

public import Idealize.ShloMosaic.Lib.Pipeline.ValueKit
public import Idealize.ShloMosaic.Lib.StableHlo.RunRead
public import proofs.«01_k».proof.Proof.Gen.Kernel2Ideal.Value
public import proofs.«01_k».proof.Proof.Gen.Reference2Ideal.Read

@[expose] public section

set_option maxRecDepth 16384
set_option maxHeartbeats 1000000

noncomputable section
open Idealize.ShloMosaic Idealize.ShloMosaic.TcCoe Idealize.SL.Sem
open Idealize.ShloMosaic.Pipeline (Dat)
open Idealize.ShloMosaic.StableHlo
namespace Cert.Dense.Two
open Cert.Kernel2Ideal Cert.Kernel2Ideal.Gen
open scoped BigOperators

/-- Two entries of one row at the same column. -/
theorem at_col {r n : Nat} (z : FVec Ideal ⟨2, ![r, n]⟩ .f32) (k : Fin r) {a b : Fin n} (h : a.val = b.val) : z (ix2 k a) = z (ix2 k b) := by
  rw [Fin.ext h]

/-- The weights with the bias as one more row. -/
def wide (w : FVec Ideal S1024x5888 .f32) (b : FVec Ideal S5888 .f32) : FVec Ideal S1025x5888 .f32 :=
  concatenate S1025x5888 0 [⟨S1024x5888, w⟩, ⟨S1x5888, broadcastInDim S1x5888 ![1] bcast_S5888_S1x5888_1 b⟩] concatenates_S1024x5888_S1x5888_S1025x5888_d0

theorem wide_w (w : FVec Ideal S1024x5888 .f32) (b : FVec Ideal S5888 .f32) (k : Fin 1024) (n : Fin 5888) : wide w b (ix2 (⟨k.val, by omega⟩ : Fin 1025) n) = w (ix2 k n) := by
  pointwise! [wide]

theorem wide_b (w : FVec Ideal S1024x5888 .f32) (b : FVec Ideal S5888 .f32) (n : Fin 5888) : wide w b (ix2 (⟨1024, by omega⟩ : Fin 1025) n) = b (ix1 n) := by
  pointwise! [wide]

/-- The attention queries' columns, one lane of both groups after the other. -/
def lanes (z : FVec Ideal S1025x5888 .f32) : FVec Ideal S1025x512 .f32 :=
  shapeCast S1025x512 (transpose S1025x4x2x64 [0, 2, 1, 3] (shapeCast S1025x2x4x64 (extractStridedSlice S1025x512 ![0, 0] z slices_S1025x5888_S1025x512_0_0)
    shapeCasts_S1025x512_S1025x2x4x64) transposes_S1025x2x4x64_S1025x4x2x64_0_2_1_3) shapeCasts_S1025x4x2x64_S1025x512

/-- Four heads' columns, all first halves before all second halves. -/
def halves (z : FVec Ideal S1025x256 .f32) : FVec Ideal S1025x256 .f32 :=
  shapeCast S1025x256 (transpose S1025x2x4x32 [0, 2, 1, 3] (shapeCast S1025x4x2x32 z shapeCasts_S1025x256_S1025x4x2x32) transposes_S1025x4x2x32_S1025x2x4x32_0_2_1_3)
    shapeCasts_S1025x2x4x32_S1025x256

/-- The columns in the call's order, the retention keys left out. -/
def packed (z : FVec Ideal S1025x5888 .f32) : FVec Ideal S1025x5632 .f32 :=
  concatenate S1025x5632 1 [⟨S1025x512, lanes z⟩, ⟨S1025x128, extractStridedSlice S1025x128 ![0, 512] z slices_S1025x5888_S1025x128_0_512⟩,
    ⟨S1025x128, extractStridedSlice S1025x128 ![0, 640] z slices_S1025x5888_S1025x128_0_640⟩,
    ⟨S1025x256, halves (extractStridedSlice S1025x256 ![0, 768] z slices_S1025x5888_S1025x256_0_768)⟩,
    ⟨S1025x512, extractStridedSlice S1025x512 ![0, 1280] z slices_S1025x5888_S1025x512_0_1280⟩,
    ⟨S1025x512, extractStridedSlice S1025x512 ![0, 1792] z slices_S1025x5888_S1025x512_0_1792⟩,
    ⟨S1025x512, extractStridedSlice S1025x512 ![0, 2304] z slices_S1025x5888_S1025x512_0_2304⟩,
    ⟨S1025x3072, extractStridedSlice S1025x3072 ![0, 2816] z slices_S1025x5888_S1025x3072_0_2816⟩]
    concatenates_S1025x512_S1025x128_S1025x128_S1025x256_S1025x512_S1025x512_S1025x512_S1025x3072_S1025x5632_d1

variable (z : FVec Ideal S1025x5888 .f32) (k : Fin 1025)

theorem lanes_apply (j : Fin 512) : lanes z (ix2 k j) = z (ix2 k (⟨j.val / 64 % 2 * 256 + j.val / 128 * 64 + j.val % 64, by omega⟩ : Fin 5888)) := by
  pointwise! [lanes]

theorem halves_apply (y : FVec Ideal S1025x256 .f32) (h : Fin 2) (l : Fin 128) :
    halves y (ix2 k (⟨h.val * 128 + l.val, by omega⟩ : Fin 256)) = y (ix2 k (⟨l.val / 32 * 64 + h.val * 32 + l.val % 32, by omega⟩ : Fin 256)) := by
  pointwise! [halves]
  exact at_col _ _ (by first | omega | (dsimp only; omega))

/-- Columns 0 to 511: the attention queries by lane. -/
theorem packed_aq (j : Fin 512) : packed z (ix2 k (⟨j.val, by omega⟩ : Fin 5632)) = lanes z (ix2 k j) := by
  pointwise! [packed]

/-- Columns 512 to 767: the attention keys and values. -/
theorem packed_akv (j : Fin 256) : packed z (ix2 k (⟨512 + j.val, by omega⟩ : Fin 5632)) = z (ix2 k (⟨512 + j.val, by omega⟩ : Fin 5888)) := by
  pointwise! [packed]
  repeat' split
  all_goals first | (exfalso; omega) | exact at_col _ _ (by first | omega | (dsimp only; omega))

/-- Columns 768 to 1023: the retention queries by halves. -/
theorem packed_rq (j : Fin 256) : packed z (ix2 k (⟨768 + j.val, by omega⟩ : Fin 5632))
    = halves (extractStridedSlice S1025x256 ![0, 768] z slices_S1025x5888_S1025x256_0_768) (ix2 k j) := by
  pointwise! [packed]
  repeat' split
  all_goals first | (exfalso; omega) | exact at_col _ _ (by first | omega | (dsimp only; omega))

/-- From column 1024 on the columns keep their order. -/
theorem packed_rest (j : Fin 4608) : packed z (ix2 k (⟨1024 + j.val, by omega⟩ : Fin 5632)) = z (ix2 k (⟨1280 + j.val, by omega⟩ : Fin 5888)) := by
  pointwise! [packed]
  repeat' split
  all_goals first | (exfalso; omega) | exact at_col _ _ (by first | omega | (dsimp only; omega))

variable (m : (ℓ : Loc nD τ sig) → Buf (Elt Ideal) ℓ) (c : Dev nD)

theorem v22 : V m c main_v22 = truncf .bf16 (extractStridedSlice S1024x5632 ![0, 0] (packed (wide (m ((c : Thread nD τ).loc main_arg1)) (m ((c : Thread nD τ).loc main_arg2))))
    slices_S1025x5632_S1024x5632_0_0) bitsLt_bf16_f32 := by
  after_reads_simp
  rfl

theorem v23 : V m c main_v23 = extractStridedSlice S1x5632 ![1024, 0] (packed (wide (m ((c : Thread nD τ).loc main_arg1)) (m ((c : Thread nD τ).loc main_arg2))))
    slices_S1025x5632_S1x5632_1024_0 := by
  after_reads_simp
  rfl

/-- The retention keys' columns. -/
def keys (z : FVec Ideal S1025x5888 .f32) : FVec Ideal S1025x256 .f32 :=
  halves (extractStridedSlice S1025x256 ![0, 1024] z slices_S1025x5888_S1025x256_0_1024)

theorem v26 : V m c main_v26 = truncf .bf16 (transpose S256x1024 [1, 0] (extractStridedSlice S1024x256 ![0, 0]
    (keys (wide (m ((c : Thread nD τ).loc main_arg1)) (m ((c : Thread nD τ).loc main_arg2)))) slices_S1025x256_S1024x256_0_0) transposes_S1024x256_S256x1024_1_0) bitsLt_bf16_f32 := by
  after_reads_simp
  rfl

theorem v29 : V m c main_v29 = broadcastInDim S256x1 ![0] bcast_S256_S256x1_0 (shapeCast S256 (extractStridedSlice S1x256 ![1024, 0]
    (keys (wide (m ((c : Thread nD τ).loc main_arg1)) (m ((c : Thread nD τ).loc main_arg2)))) slices_S1025x256_S1x256_1024_0) shapeCasts_S1x256_S256) := by
  after_reads_simp
  rfl

/-- A table of 32 columns, repeated four times. -/
def tile (z : FVec Ideal S8192x32 .f32) : FVec Ideal S8192x128 .f32 :=
  shapeCast S8192x128 (broadcastInDim S1x8192x4x32 ![0, 1, 2, 3] bcast_S1x8192x1x32_S1x8192x4x32_0_1_2_3 (shapeCast S1x8192x1x32 z shapeCasts_S8192x32_S1x8192x1x32))
    shapeCasts_S1x8192x4x32_S8192x128

theorem tile_apply (z : FVec Ideal S8192x32 .f32) (s : Fin 8192) (l : Fin 128) : tile z (ix2 s l) = z (ix2 s (⟨l.val % 32, by omega⟩ : Fin 32)) := by
  pointwise! [tile]

open Cert.Reference2Ideal.Read

theorem v44 : V m c main_v44 = tile (val_main_v24 (F := Ideal)) := by
  after_reads_simp
  rfl

theorem v48 : V m c main_v48 = tile (val_main_v26 (F := Ideal)) := by
  after_reads_simp
  rfl

theorem v49 : V m c main_v49 = transpose S128x8192 [1, 0] (tile (val_main_v24 (F := Ideal))) transposes_S8192x128_S128x8192_1_0 := by
  after_reads_simp
  rfl

theorem v50 : V m c main_v50 = transpose S128x8192 [1, 0] (tile (val_main_v26 (F := Ideal))) transposes_S8192x128_S128x8192_1_0 := by
  after_reads_simp
  rfl

end Cert.Dense.Two
-- ==== Proof.ProjTile.lean ====
/- The projection call's stores, entry by entry. -/
module

public import Idealize.ShloMosaic.Lib.Pipeline.ValueKit
public import proofs.«01_k».proof.Proof.Gen.Kernel2Ideal.Value

@[expose] public section

set_option maxRecDepth 16384
set_option maxHeartbeats 1000000

noncomputable section
open Idealize.ShloMosaic Idealize.ShloMosaic.TcCoe Idealize.SL.Sem
namespace Cert.Dense.Two
open Cert.Kernel2Ideal Cert.Kernel2Ideal.Gen
open scoped BigOperators

/-- One entry of the projection: a row of the input against a column of the weights, and the column's bias. -/
def cell (x w : Fin 1024 → EReal) (b : EReal) : EReal := (∑ k, x k * w k) + b

variable (x0 : Vec Ideal S512x1024 .f32) (x1 : Vec Ideal S1024x5632 .bf16) (x2 : Vec Ideal S1x5632 .f32) (x3 : Vec Ideal S256x1024 .bf16) (x4 : Vec Ideal S256x1 .f32)
  (x5 x6 : Vec Ideal S512x128 .f32) (x7 x8 : Vec Ideal S128x512 .f32)

/-- A column of the call's product at a row of its block. -/
def col (a : Fin 512) (n : Fin 5632) : EReal := cell (fun k => x0 (ix2 a k)) (fun k => x1 (ix2 k n)) (x2 (ix2 0 n))

theorem ld0 : View.ld x0 r0_0 = x0 := View.ld_unit_lit _ x0 (by decide)

theorem pay9_apply (w : Vec Ideal S1024x512 .bf16) (b : Vec Ideal S1x512 .f32) (a j : Fin 512) :
    k0_pay9 (F := Ideal) x0 w b (ix2 a j) = cell (fun k => x0 (ix2 a k)) (fun k => w (ix2 k j)) (b (ix2 0 j)) := by
  pointwise [k0_pay9, k0_pay8, cell]

theorem pay10_apply (w : Vec Ideal S1024x256 .bf16) (b : Vec Ideal S1x256 .f32) (a : Fin 512) (j : Fin 256) :
    k0_pay10 (F := Ideal) x0 w b (ix2 a j) = cell (fun k => x0 (ix2 a k)) (fun k => w (ix2 k j)) (b (ix2 0 j)) := by
  pointwise [k0_pay10, k0_pay8, cell]

theorem pay12_apply (w : Vec Ideal S1024x256 .bf16) (b : Vec Ideal S1x256 .f32) (a : Fin 512) (l : Fin 128) :
    k0_pay12 (F := Ideal) x0 w b (ix2 a l) = cell (fun k => x0 (ix2 a k)) (fun k => w (ix2 k (⟨l.val, by omega⟩ : Fin 256))) (b (ix2 0 (⟨l.val, by omega⟩ : Fin 256))) := by
  pointwise! [k0_pay12, k0_pay11, k0_pay8, cell]

theorem pay13_apply (w : Vec Ideal S1024x256 .bf16) (b : Vec Ideal S1x256 .f32) (a : Fin 512) (l : Fin 128) :
    k0_pay13 (F := Ideal) x0 w b (ix2 a l) = cell (fun k => x0 (ix2 a k)) (fun k => w (ix2 k (⟨128 + l.val, by omega⟩ : Fin 256))) (b (ix2 0 (⟨128 + l.val, by omega⟩ : Fin 256))) := by
  pointwise! [k0_pay13, k0_pay11, k0_pay8, cell]

/-- The other stores of 512 columns are the same product. -/
theorem pays_eq (w : Vec Ideal S1024x512 .bf16) (b : Vec Ideal S1x512 .f32) :
    k0_pay18 (F := Ideal) (k0_pay8 x0) w b = k0_pay9 x0 w b ∧ k0_pay19 (F := Ideal) (k0_pay8 x0) w b = k0_pay9 x0 w b
      ∧ k0_pay21 (F := Ideal) (k0_pay20 (k0_pay8 x0) w) b = k0_pay9 x0 w b ∧ k0_pay22 (F := Ideal) (k0_pay8 x0) w b = k0_pay9 x0 w b
      ∧ k0_pay23 (F := Ideal) (k0_pay8 x0) w b = k0_pay9 x0 w b ∧ k0_pay24 (F := Ideal) (k0_pay8 x0) w b = k0_pay9 x0 w b
      ∧ k0_pay25 (F := Ideal) (k0_pay8 x0) w b = k0_pay9 x0 w b ∧ k0_pay26 (F := Ideal) (k0_pay8 x0) w b = k0_pay9 x0 w b
      ∧ k0_pay27 (F := Ideal) (k0_pay8 x0) w b = k0_pay9 x0 w b :=
  ⟨rfl, rfl, rfl, rfl, rfl, rfl, rfl, rfl, rfl⟩

/-- Columns of the weights and the bias read at an offset. -/
theorem ldW (o n : Nat) (inb : ∀ d, (![0, o] : Fin 2 → Nat) d + (![1024, n] : Fin 2 → Nat) d ≤ S1024x5632.size d) (k : Fin 1024) (j : Fin n) (h : o + j.val < 5632) :
    View.ld x1 (Rect.unit (s := S1024x5632) ![0, o] ![1024, n] inb) (ix2 k j) = x1 (ix2 k ⟨o + j.val, h⟩) :=
  View.ld_unit_apply_of _ _ _ _ _ _ fun q => by
    fin_cases q
    · show k.val = 0 + k.val
      omega
    · rfl

theorem ldB (o n : Nat) (inb : ∀ d, (![0, o] : Fin 2 → Nat) d + (![1, n] : Fin 2 → Nat) d ≤ S1x5632.size d) (j : Fin n) (h : o + j.val < 5632) :
    View.ld x2 (Rect.unit (s := S1x5632) ![0, o] ![1, n] inb) (ix2 0 j) = x2 (ix2 0 ⟨o + j.val, h⟩) :=
  View.ld_unit_apply_of _ _ _ _ _ _ fun q => by
    fin_cases q <;> rfl

/-- A store of 512 columns, its weights and bias read at an offset. -/
theorem pay_col (o : Nat) (inb) (inb') (a j : Fin 512) (h : o + 512 ≤ 5632) :
    k0_pay9 (F := Ideal) x0 (View.ld x1 (Rect.unit (s := S1024x5632) ![0, o] S1024x512.size inb)) (View.ld x2 (Rect.unit (s := S1x5632) ![0, o] S1x512.size inb')) (ix2 a j)
      = col x0 x1 x2 a ⟨o + j.val, by omega⟩ := by
  rw [pay9_apply]
  unfold col
  congr 1
  · funext k
    exact ldW x1 o 512 inb k j _
  · exact ldB x2 o 512 inb' j _

theorem out9 (a j : Fin 512) : out0_9 (F := Ideal) x0 x1 x2 x3 x4 x5 x6 x7 x8 (ix2 a j) = col x0 x1 x2 a ⟨0 + j.val, by omega⟩ := by
  unfold out0_9
  rw [View.canon_cons_unit_lit _ _ _ (by decide), ld0]
  exact pay_col x0 x1 x2 0 _ _ a j (by decide)

theorem out12 (a j : Fin 512) : out0_12 (F := Ideal) x0 x1 x2 x3 x4 x5 x6 x7 x8 (ix2 a j) = col x0 x1 x2 a ⟨1024 + j.val, by omega⟩ := by
  unfold out0_12 k0_pay30
  rw [View.canon_cons_unit_lit _ _ _ (by decide), ld0, (pays_eq x0 _ _).1]
  exact pay_col x0 x1 x2 1024 _ _ a j (by decide)

theorem out13 (a j : Fin 512) : out0_13 (F := Ideal) x0 x1 x2 x3 x4 x5 x6 x7 x8 (ix2 a j) = col x0 x1 x2 a ⟨1536 + j.val, by omega⟩ := by
  unfold out0_13 k0_pay30
  rw [View.canon_cons_unit_lit _ _ _ (by decide), ld0, (pays_eq x0 _ _).2.1]
  exact pay_col x0 x1 x2 1536 _ _ a j (by decide)

theorem out14 (a j : Fin 512) : out0_14 (F := Ideal) x0 x1 x2 x3 x4 x5 x6 x7 x8 (ix2 a j) = col x0 x1 x2 a ⟨2048 + j.val, by omega⟩ := by
  unfold out0_14 k0_pay30
  rw [View.canon_cons_unit_lit _ _ _ (by decide), ld0, (pays_eq x0 _ _).2.2.1]
  exact pay_col x0 x1 x2 2048 _ _ a j (by decide)

theorem out10 (a : Fin 512) (j : Fin 256) : out0_10 (F := Ideal) x0 x1 x2 x3 x4 x5 x6 x7 x8 (ix2 a j) = col x0 x1 x2 a ⟨512 + j.val, by omega⟩ := by
  unfold out0_10
  rw [View.canon_cons_unit_lit _ _ _ (by decide), ld0, pay10_apply]
  unfold col
  congr 1
  · funext k
    exact ldW x1 512 256 _ k j _
  · exact ldB x2 512 256 _ j _

/-- Six stores of 512 columns leave the gates. -/
theorem tile15 (o : Nat) (inb) (inb') (a : Fin 512) (j : Fin 3072) (h : o + 512 ≤ 3072) :
    View.TileAt (Val := Elt Ideal) (S := S512x3072) (e := .bf16) (ix2 a j) ![0, o] S512x512.size
      (k0_pay9 (F := Ideal) x0 (View.ld x1 (Rect.unit (s := S1024x5632) ![0, 2560 + o] S1024x512.size inb)) (View.ld x2 (Rect.unit (s := S1x5632) ![0, 2560 + o] S1x512.size inb')))
      (col x0 x1 x2 a ⟨2560 + j.val, by omega⟩) := by
  intro x hx
  have h0 : a.val = 0 + (x 0).val := hx 0
  have h1 : j.val = o + (x 1).val := hx 1
  have hx1 : (x 1).val < 512 := (x 1).isLt
  rw [show x = ix2 a (⟨(x 1).val, hx1⟩ : Fin 512) by
    funext q; fin_cases q
    · exact Fin.ext (by show (x 0).val = a.val; omega)
    · rfl]
  refine (pay_col x0 x1 x2 (2560 + o) _ _ a ⟨(x 1).val, hx1⟩ (by omega)).trans (congrArg _ (Fin.ext ?_))
  show 2560 + o + (x 1).val = 2560 + j.val
  omega

theorem out15 (a : Fin 512) (j : Fin 3072) : out0_15 (F := Ideal) x0 x1 x2 x3 x4 x5 x6 x7 x8 (ix2 a j) = col x0 x1 x2 a ⟨2560 + j.val, by omega⟩ := by
  unfold out0_15 k0_pay30
  rw [ld0]
  refine View.canon_eq_of_allAt _ _ _ (cover0_15 _ _ _ _ _ _ _) ?_
  exact View.allAt_cons_unit _ _ _ _ _ (tile15 x0 x1 x2 2560 _ _ a j (by decide)) <|
    View.allAt_cons_unit _ _ _ _ _ (tile15 x0 x1 x2 2048 _ _ a j (by decide)) <|
    View.allAt_cons_unit _ _ _ _ _ (tile15 x0 x1 x2 1536 _ _ a j (by decide)) <|
    View.allAt_cons_unit _ _ _ _ _ (tile15 x0 x1 x2 1024 _ _ a j (by decide)) <|
    View.allAt_cons_unit _ _ _ _ _ (tile15 x0 x1 x2 512 _ _ a j (by decide)) <|
    View.allAt_cons_unit _ _ _ _ _ (tile15 x0 x1 x2 0 _ _ a j (by decide)) (View.allAt_nil _ _)

/-- The first and the second entry of a rotated pair. -/
def turn1 (u v c s : EReal) : EReal := u * c - v * s
def turn2 (u v c s : EReal) : EReal := u * s + v * c

theorem ld5 : View.ld x5 r0_9 = x5 := View.ld_unit_lit _ x5 (by decide)
theorem ld7 : View.ld x7 r0_38 = x7 := View.ld_unit_lit _ x7 (by decide)

theorem p31 (a : Fin 512) (l : Fin 128) : k0_pay31 (F := Ideal) x0 x1 x2 x3 x4 x5 x6 x7 x8 (ix2 a l) = col x0 x1 x2 a ⟨768 + l.val, by omega⟩ := by
  unfold k0_pay31
  rw [ld0, pay12_apply]
  unfold col
  congr 1
  · funext k
    exact ldW x1 768 256 _ k ⟨l.val, by omega⟩ _
  · exact ldB x2 768 256 _ ⟨l.val, by omega⟩ _

theorem p32 (a : Fin 512) (l : Fin 128) : k0_pay32 (F := Ideal) x0 x1 x2 x3 x4 x5 x6 x7 x8 (ix2 a l) = col x0 x1 x2 a ⟨768 + (128 + l.val), by omega⟩ := by
  unfold k0_pay32
  rw [ld0, pay13_apply]
  unfold col
  congr 1
  · funext k
    exact ldW x1 768 256 _ k ⟨128 + l.val, by omega⟩ _
  · exact ldB x2 768 256 _ ⟨128 + l.val, by omega⟩ _

theorem pay16_apply (u v c : FVec Ideal S512x128 .f32) (s : Vec Ideal S512x128 .f32) (a : Fin 512) (l : Fin 128) :
    k0_pay16 (F := Ideal) u v (k0_pay14 c) s (ix2 a l) = turn1 (u (ix2 a l)) (v (ix2 a l)) (c (ix2 a l)) (s (ix2 a l)) := by
  pointwise [k0_pay16, k0_pay14, k0_pay15, turn1]

theorem pay17_apply (u v c : FVec Ideal S512x128 .f32) (s : Vec Ideal S512x128 .f32) (a : Fin 512) (l : Fin 128) :
    k0_pay17 (F := Ideal) u v (k0_pay14 c) s (ix2 a l) = turn2 (u (ix2 a l)) (v (ix2 a l)) (c (ix2 a l)) (s (ix2 a l)) := by
  pointwise [k0_pay17, k0_pay14, k0_pay15, turn2]

/-- A tile's entry at the place the whole has it, for two tiles side by side or one above the other. -/
theorem tile_mk {r n r' n' : Nat} (e : EltTy) (a : Fin r) (j : Fin n) (o o' : Nat) (w : (⟨2, ![r', n']⟩ : Shape).Idx → Elt Ideal e) (v : Elt Ideal e)
    (h : ∀ (p : Fin r') (q : Fin n'), a.val = o + p.val → j.val = o' + q.val → w (ix2 p q) = v) :
    View.TileAt (Val := Elt Ideal) (S := ⟨2, ![r, n]⟩) (e := e) (ix2 a j) ![o, o'] ![r', n'] w v := by
  intro x hx
  rw [show x = ix2 (x 0) (x 1) by funext q; fin_cases q <;> rfl]
  exact h (x 0) (x 1) (hx 0) (hx 1)

theorem out11 (a : Fin 512) (h : Fin 2) (l : Fin 128) :
    out0_11 (F := Ideal) x0 x1 x2 x3 x4 x5 x6 x7 x8 (ix2 a (⟨h.val * 128 + l.val, by omega⟩ : Fin 256))
      = (if h = 0 then turn1 else turn2) (col x0 x1 x2 a ⟨768 + l.val, by omega⟩) (col x0 x1 x2 a ⟨768 + (128 + l.val), by omega⟩) (x5 (ix2 a l)) (x6 (ix2 a l)) := by
  unfold out0_11 k0_pay33
  rw [ld5 x5, ld5 x6]
  refine View.canon_eq_of_allAt _ _ _ (cover0_11 _ _ _) ?_
  refine View.allAt_cons_unit _ _ _ _ _ (tile_mk .bf16 a _ 0 128 _ _ fun p q hp hq => ?_) (View.allAt_cons_unit _ _ _ _ _ (tile_mk .bf16 a _ 0 0 _ _ fun p q hp hq => ?_) (View.allAt_nil _ _))
  · have hq : h.val * 128 + l.val = 128 + q.val := hq
    obtain rfl : p = a := Fin.ext (by omega)
    obtain rfl : h = 1 := Fin.ext (by show h.val = 1; omega)
    obtain rfl : q = l := Fin.ext (by have : (1 : Fin 2).val = 1 := rfl; omega)
    refine (pay17_apply _ _ _ _ p q).trans ?_
    rw [p31, p32]
    rfl
  · have hq : h.val * 128 + l.val = 0 + q.val := hq
    obtain rfl : p = a := Fin.ext (by omega)
    obtain rfl : h = 0 := Fin.ext (by show h.val = 0; omega)
    obtain rfl : q = l := Fin.ext (by have : (0 : Fin 2).val = 0 := rfl; omega)
    refine (pay16_apply _ _ _ _ p q).trans ?_
    rw [p31, p32]
    rfl

/-- A retention key before its rotation, from a row of the transposed weights. -/
def krow (r : Fin 256) (a : Fin 512) : EReal := cell (fun k => x0 (ix2 a k)) (fun k => x3 (ix2 r k)) (x4 (ix2 r 0))

/-- The keys' scale. -/
def scale : EReal := Scalar.ofBits (F := Ideal) .f32 0x3E000000#32

theorem pay1_apply (r : Fin 256) (a : Fin 512) : k0_pay1 (F := Ideal) (k0_pay28 (k0_pay8 x0) x3) (k0_pay29 x4) (ix2 r a) = krow x0 x3 x4 r a := by
  pointwise [k0_pay1, k0_pay28, k0_pay29, k0_pay8]
  unfold krow cell
  refine congrArg (· + _) (Finset.sum_congr rfl fun k _ => mul_comm _ _)

theorem pay6_apply (v : FVec Ideal S256x512 .f32) (b : FVec Ideal S256x1 .f32) (r : Fin 128) (a : Fin 512) :
    k0_pay6 (F := Ideal) v b x7 x8 (ix2 r a) = turn1 (k0_pay1 v b (ix2 (⟨r.val, by omega⟩ : Fin 256) a)) (k0_pay1 v b (ix2 (⟨128 + r.val, by omega⟩ : Fin 256) a)) (x7 (ix2 r a)) (x8 (ix2 r a)) * scale := by
  pointwise! [k0_pay6, k0_pay2, k0_pay3, k0_pay4, k0_pay5, turn1]

theorem pay7_apply (v : FVec Ideal S256x512 .f32) (b : FVec Ideal S256x1 .f32) (r : Fin 128) (a : Fin 512) :
    k0_pay7 (F := Ideal) v b x7 x8 (ix2 r a) = turn2 (k0_pay1 v b (ix2 (⟨r.val, by omega⟩ : Fin 256) a)) (k0_pay1 v b (ix2 (⟨128 + r.val, by omega⟩ : Fin 256) a)) (x7 (ix2 r a)) (x8 (ix2 r a)) * scale := by
  pointwise! [k0_pay7, k0_pay2, k0_pay3, k0_pay4, k0_pay5, turn2]

theorem out16 (h : Fin 2) (l : Fin 128) (a : Fin 512) :
    out0_16 (F := Ideal) x0 x1 x2 x3 x4 x5 x6 x7 x8 (ix2 (⟨h.val * 128 + l.val, by omega⟩ : Fin 256) a)
      = (if h = 0 then turn1 else turn2) (krow x0 x3 x4 ⟨l.val, by omega⟩ a) (krow x0 x3 x4 ⟨128 + l.val, by omega⟩ a) (x7 (ix2 l a)) (x8 (ix2 l a)) * scale := by
  unfold out0_16 k0_pay34 k0_pay35 k0_pay30
  rw [ld0, ld7 x7, ld7 x8, show View.ld x3 r0_36 = x3 from View.ld_unit_lit _ x3 (by decide), show View.ld x4 r0_37 = x4 from View.ld_unit_lit _ x4 (by decide)]
  refine View.canon_eq_of_allAt _ _ _ (cover0_16 _ _ _) ?_
  refine View.allAt_cons_unit _ _ _ _ _ (tile_mk .bf16 _ a 128 0 _ _ fun p q hp hq => ?_) (View.allAt_cons_unit _ _ _ _ _ (tile_mk .bf16 _ a 0 0 _ _ fun p q hp hq => ?_) (View.allAt_nil _ _))
  · have hp : h.val * 128 + l.val = 128 + p.val := hp
    obtain rfl : q = a := Fin.ext (by omega)
    obtain rfl : h = 1 := Fin.ext (by show h.val = 1; omega)
    obtain rfl : p = l := Fin.ext (by have : (1 : Fin 2).val = 1 := rfl; omega)
    refine (pay7_apply x7 x8 _ _ p q).trans ?_
    rw [pay1_apply, pay1_apply]
    rfl
  · have hp : h.val * 128 + l.val = 0 + p.val := hp
    obtain rfl : q = a := Fin.ext (by omega)
    obtain rfl : h = 0 := Fin.ext (by show h.val = 0; omega)
    obtain rfl : p = l := Fin.ext (by have : (0 : Fin 2).val = 0 := rfl; omega)
    refine (pay6_apply x7 x8 _ _ p q).trans ?_
    rw [pay1_apply, pay1_apply]
    rfl

end Cert.Dense.Two
-- ==== Proof.ProjRef.lean ====
/- The reference's projection, entry by entry. -/
module

public import proofs.«01_k».proof.Proof.ProjTile
public import proofs.«01_k».proof.Proof.Gen.Reference2Ideal.Read

@[expose] public section

set_option maxRecDepth 16384
set_option maxHeartbeats 1000000

noncomputable section
open Idealize.ShloMosaic Idealize.ShloMosaic.TcCoe Idealize.SL.Sem
namespace Cert.Dense.Two
open Cert.Reference2Ideal Cert.Reference2Ideal.Gen Cert.Reference2Ideal.Read
open scoped BigOperators

variable (x0 : (⟨S65536x1024, .f32⟩ : BufTy).Contents (Elt Ideal)) (x1 : (⟨S1024x5888, .f32⟩ : BufTy).Contents (Elt Ideal)) (x2 : (⟨S5888, .f32⟩ : BufTy).Contents (Elt Ideal))

/-- A column of the projection at a token. -/
def at_tok (p : Fin 65536) (n : Fin 5888) : EReal := cell (fun k => x0 (ix2 p k)) (fun k => x1 (ix2 k n)) (x2 (ix1 n))

theorem ref3 (p : Fin 65536) (n : Fin 5888) : val_main_v3 (F := Ideal) x0 x1 x2 (ix2 p n) = at_tok x0 x1 x2 p n := by
  pointwise [val_main_v3, val_main_v2, val_main_v1, val_main_v0]
  rfl

theorem ref69 (p : Fin 65536) (j : Fin 512) :
    val_main_v69 (F := Ideal) x0 x1 x2 (ix2 p j) = at_tok x0 x1 x2 p ⟨j.val / 64 % 2 * 256 + j.val / 128 * 64 + j.val % 64, by omega⟩ := by
  rw [← ref3]
  pointwise! [val_main_v69, val_main_v60, val_main_v59, val_main_v58, val_main_v4]

theorem ref70 (p : Fin 65536) (j : Fin 256) : val_main_v70 (F := Ideal) x0 x1 x2 (ix2 p j) = at_tok x0 x1 x2 p ⟨512 + j.val, by omega⟩ := by
  rw [← ref3]
  pointwise! [val_main_v70, val_main_v61, val_main_v5, val_main_v6]
  split
  · rfl
  · exact congrArg (fun n => val_main_v3 (F := Ideal) x0 x1 x2 (ix2 p n)) (Fin.ext (by show 640 + (j.val - 128) = 512 + j.val; omega))

theorem ref72 (p : Fin 65536) (j : Fin 512) : val_main_v72 (F := Ideal) x0 x1 x2 (ix2 p j) = at_tok x0 x1 x2 p ⟨1280 + j.val, by omega⟩ := by
  rw [← ref3]
  pointwise! [val_main_v72, val_main_v9]

theorem ref73 (p : Fin 65536) (j : Fin 512) : val_main_v73 (F := Ideal) x0 x1 x2 (ix2 p j) = at_tok x0 x1 x2 p ⟨1792 + j.val, by omega⟩ := by
  rw [← ref3]
  pointwise! [val_main_v73, val_main_v10]

theorem ref74 (p : Fin 65536) (j : Fin 512) : val_main_v74 (F := Ideal) x0 x1 x2 (ix2 p j) = at_tok x0 x1 x2 p ⟨2304 + j.val, by omega⟩ := by
  rw [← ref3]
  pointwise! [val_main_v74, val_main_v11]

theorem ref75 (p : Fin 65536) (j : Fin 3072) : val_main_v75 (F := Ideal) x0 x1 x2 (ix2 p j) = at_tok x0 x1 x2 p ⟨2816 + j.val, by omega⟩ := by
  rw [← ref3]
  pointwise! [val_main_v75, val_main_v12]

/-! The rotations: batch `b`, position `s`, head `g`, place `d` in a half. -/

variable (b : Fin 8) (s : Fin 8192) (g : Fin 4) (d : Fin 32)

/-- The token at a position of a sequence. -/
def tok : Fin 65536 := ⟨b.val * 8192 + s.val, by omega⟩

theorem ref29 : val_main_v29 (F := Ideal) x0 x1 x2 (ix4 b s g d) = at_tok x0 x1 x2 (tok b s) ⟨768 + (g.val * 64 + d.val), by omega⟩ := by
  rw [← ref3]
  pointwise! [val_main_v29, val_main_v28, val_main_v7]

theorem ref30 : val_main_v30 (F := Ideal) x0 x1 x2 (ix4 b s g d) = at_tok x0 x1 x2 (tok b s) ⟨768 + (g.val * 64 + (32 + d.val)), by omega⟩ := by
  rw [← ref3]
  pointwise! [val_main_v30, val_main_v28, val_main_v7]

theorem ref43 : val_main_v43 (F := Ideal) x0 x1 x2 (ix4 b s g d) = at_tok x0 x1 x2 (tok b s) ⟨1024 + (g.val * 64 + d.val), by omega⟩ := by
  rw [← ref3]
  pointwise! [val_main_v43, val_main_v42, val_main_v8]

theorem ref44 : val_main_v44 (F := Ideal) x0 x1 x2 (ix4 b s g d) = at_tok x0 x1 x2 (tok b s) ⟨1024 + (g.val * 64 + (32 + d.val)), by omega⟩ := by
  rw [← ref3]
  pointwise! [val_main_v44, val_main_v42, val_main_v8]

theorem ref35 : val_main_v35 (F := Ideal) x0 x1 x2 (ix4 b s g d)
    = turn1 (val_main_v29 (F := Ideal) x0 x1 x2 (ix4 b s g d)) (val_main_v30 (F := Ideal) x0 x1 x2 (ix4 b s g d)) (val_main_v24 (F := Ideal) (ix2 s d)) (val_main_v26 (F := Ideal) (ix2 s d)) := by
  pointwise! [val_main_v35, val_main_v34, val_main_v33, val_main_v32, val_main_v31, val_main_v27, val_main_v25, turn1]

theorem ref40 : val_main_v40 (F := Ideal) x0 x1 x2 (ix4 b s g d)
    = turn2 (val_main_v29 (F := Ideal) x0 x1 x2 (ix4 b s g d)) (val_main_v30 (F := Ideal) x0 x1 x2 (ix4 b s g d)) (val_main_v24 (F := Ideal) (ix2 s d)) (val_main_v26 (F := Ideal) (ix2 s d)) := by
  pointwise! [val_main_v40, val_main_v39, val_main_v38, val_main_v37, val_main_v36, val_main_v27, val_main_v25, turn2]

theorem ref49 : val_main_v49 (F := Ideal) x0 x1 x2 (ix4 b s g d)
    = turn1 (val_main_v43 (F := Ideal) x0 x1 x2 (ix4 b s g d)) (val_main_v44 (F := Ideal) x0 x1 x2 (ix4 b s g d)) (val_main_v24 (F := Ideal) (ix2 s d)) (val_main_v26 (F := Ideal) (ix2 s d)) := by
  pointwise! [val_main_v49, val_main_v48, val_main_v47, val_main_v46, val_main_v45, val_main_v27, val_main_v25, turn1]

theorem ref54 : val_main_v54 (F := Ideal) x0 x1 x2 (ix4 b s g d)
    = turn2 (val_main_v43 (F := Ideal) x0 x1 x2 (ix4 b s g d)) (val_main_v44 (F := Ideal) x0 x1 x2 (ix4 b s g d)) (val_main_v24 (F := Ideal) (ix2 s d)) (val_main_v26 (F := Ideal) (ix2 s d)) := by
  pointwise! [val_main_v54, val_main_v53, val_main_v52, val_main_v51, val_main_v50, val_main_v27, val_main_v25, turn2]

/-- A rotated query, half `h` of head `g`. -/
theorem ref71 (h : Fin 2) : val_main_v71 (F := Ideal) x0 x1 x2 (ix2 (tok b s) (⟨h.val * 128 + (g.val * 32 + d.val), by omega⟩ : Fin 256))
    = (if h = 0 then turn1 else turn2) (at_tok x0 x1 x2 (tok b s) ⟨768 + (g.val * 64 + d.val), by omega⟩) (at_tok x0 x1 x2 (tok b s) ⟨768 + (g.val * 64 + (32 + d.val)), by omega⟩)
        (val_main_v24 (F := Ideal) (ix2 s d)) (val_main_v26 (F := Ideal) (ix2 s d)) := by
  rw [← ref29, ← ref30]
  have e : val_main_v71 (F := Ideal) x0 x1 x2 (ix2 (tok b s) (⟨h.val * 128 + (g.val * 32 + d.val), by omega⟩ : Fin 256))
      = val_main_v41 (F := Ideal) x0 x1 x2 (ix4 b s g (⟨h.val * 32 + d.val, by omega⟩ : Fin 64)) := by
    unfold tok
    pointwise! [val_main_v71, val_main_v64, val_main_v63, val_main_v62]
  rw [e]
  rcases (by decide : ∀ h : Fin 2, h = 0 ∨ h = 1) h with rfl | rfl
  · rw [if_pos rfl, ← ref35]
    pointwise! [val_main_v41]
  · rw [if_neg (by decide), ← ref40]
    pointwise! [val_main_v41]

/-- A rotated and scaled key, half `h` of head `g`. -/
theorem ref76 (h : Fin 2) : val_main_v76 (F := Ideal) x0 x1 x2 (ix2 (⟨h.val * 128 + (g.val * 32 + d.val), by omega⟩ : Fin 256) (tok b s))
    = (if h = 0 then turn1 else turn2) (at_tok x0 x1 x2 (tok b s) ⟨1024 + (g.val * 64 + d.val), by omega⟩) (at_tok x0 x1 x2 (tok b s) ⟨1024 + (g.val * 64 + (32 + d.val)), by omega⟩)
        (val_main_v24 (F := Ideal) (ix2 s d)) (val_main_v26 (F := Ideal) (ix2 s d)) * scale := by
  rw [← ref43, ← ref44]
  have e : val_main_v76 (F := Ideal) x0 x1 x2 (ix2 (⟨h.val * 128 + (g.val * 32 + d.val), by omega⟩ : Fin 256) (tok b s))
      = val_main_v55 (F := Ideal) x0 x1 x2 (ix4 b s g (⟨h.val * 32 + d.val, by omega⟩ : Fin 64)) * scale := by
    unfold tok
    pointwise! [val_main_v76, val_main_v68, val_main_v67, val_main_v66, val_main_v65, val_main_v57, val_main_v56]
  rw [e]
  rcases (by decide : ∀ h : Fin 2, h = 0 ∨ h = 1) h with rfl | rfl
  · rw [if_pos rfl, ← ref49]
    pointwise! [val_main_v55]
  · rw [if_neg (by decide), ← ref54]
    pointwise! [val_main_v55]

end Cert.Dense.Two
-- ==== Proof.ProjBlk.lean ====
/- The projection call's input blocks, and its product's columns in the reference's order. -/
module

public import proofs.«01_k».proof.Proof.ProjHost
public import proofs.«01_k».proof.Proof.ProjRef

@[expose] public section

set_option maxRecDepth 16384
set_option maxHeartbeats 1000000

noncomputable section
open Idealize.ShloMosaic Idealize.ShloMosaic.TcCoe Idealize.SL.Sem
open Idealize.ShloMosaic.Pipeline (Dat)
namespace Cert.Dense.Two
open Cert.Kernel2Ideal Cert.Kernel2Ideal.Gen
open Cert.Reference2Ideal.Read (val_main_v24 val_main_v26)
open scoped BigOperators
variable (m : (ℓ : Loc nD τ sig) → Buf (Elt Ideal) ℓ) (c : Dev nD)

theorem tlt (t : Fin cfg0.N) : t.val < 128 := t.isLt

theorem idx : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![t.val % 16, 0] ∧ win0_6.index t = ![t.val % 16, 0] ∧ win0_7.index t = ![0, t.val % 16] ∧ win0_8.index t = ![0, t.val % 16]
    ∧ win0_9.index t = ![t.val, 0] ∧ win0_10.index t = ![t.val, 0] ∧ win0_11.index t = ![t.val, 0] ∧ win0_12.index t = ![t.val, 0] ∧ win0_13.index t = ![t.val, 0]
    ∧ win0_14.index t = ![t.val, 0] ∧ win0_15.index t = ![t.val, 0] ∧ win0_16.index t = ![0, t.val] :=
  (by decide +kernel : ∀ t : Fin grid0.N, _)

/-- The weights with the bias below them. -/
abbrev W : FVec Ideal S1025x5888 .f32 := wide (m ((c : Thread nD τ).loc main_arg1)) (m ((c : Thread nD τ).loc main_arg2))

/-- The token of a row of a block, and its position in its sequence. -/
def row (t : Fin cfg0.N) (a : Fin 512) : Fin 65536 := ⟨t.val * 512 + a.val, by have := tlt t; omega⟩
def pos (t : Fin cfg0.N) (a : Fin 512) : Fin 8192 := ⟨t.val % 16 * 512 + a.val, by omega⟩
def bat (t : Fin cfg0.N) : Fin 8 := ⟨t.val / 16, by have := tlt t; omega⟩

theorem row_eq (t : Fin cfg0.N) (a : Fin 512) : row t a = tok (bat t) (pos t a) := Fin.ext (by
  show t.val * 512 + a.val = t.val / 16 * 8192 + (t.val % 16 * 512 + a.val)
  omega)

theorem blk0 (t : Fin cfg0.N) (a : Fin 512) (b : Fin 1024) : iblk m c 0 t (ix2 a b) = m ((c : Thread nD τ).loc main_arg0) (ix2 (row t a) b) := by
  have := tlt t
  unfold row
  blk_ext! [iblk, V, idx t]

theorem blk1 (t : Fin cfg0.N) (k : Fin 1024) (n : Fin 5632) : iblk m c 1 t (ix2 k n) = packed (W m c) (ix2 (⟨k.val, by omega⟩ : Fin 1025) n) := by
  blk_simp [iblk]
  rw [v22]
  rw [show ((View.whole main_v22).slice (win0_1.rect t)).emb (ix2 k n) = ix2 k n by blk_ext! [idx t]]
  pointwise!

theorem blk2 (t : Fin cfg0.N) (n : Fin 5632) : iblk m c 2 t (ix2 0 n) = packed (W m c) (ix2 (⟨1024, by omega⟩ : Fin 1025) n) := by
  blk_simp [iblk]
  rw [v23]
  rw [show ((View.whole main_v23).slice (win0_2.rect t)).emb (ix2 0 n) = ix2 0 n by blk_ext! [idx t]]
  pointwise!

theorem blk3 (t : Fin cfg0.N) (r : Fin 256) (k : Fin 1024) : iblk m c 3 t (ix2 r k) = keys (W m c) (ix2 (⟨k.val, by omega⟩ : Fin 1025) r) := by
  blk_simp [iblk]
  rw [v26]
  rw [show ((View.whole main_v26).slice (win0_3.rect t)).emb (ix2 r k) = ix2 r k by blk_ext! [idx t]]
  pointwise!

theorem blk4 (t : Fin cfg0.N) (r : Fin 256) : iblk m c 4 t (ix2 r 0) = keys (W m c) (ix2 (⟨1024, by omega⟩ : Fin 1025) r) := by
  blk_simp [iblk]
  rw [v29]
  rw [show ((View.whole main_v29).slice (win0_4.rect t)).emb (ix2 r 0) = ix2 r 0 by blk_ext! [idx t]]
  pointwise!

theorem blk5 (t : Fin cfg0.N) (a : Fin 512) (l : Fin 128) : iblk m c 5 t (ix2 a l) = val_main_v24 (F := Ideal) (ix2 (pos t a) (⟨l.val % 32, by omega⟩ : Fin 32)) := by
  blk_simp [iblk]
  rw [v44]
  rw [show ((View.whole main_v44).slice (win0_5.rect t)).emb (ix2 a l) = ix2 (pos t a) l by unfold pos; blk_ext! [idx t]]
  exact tile_apply _ _ _

theorem blk6 (t : Fin cfg0.N) (a : Fin 512) (l : Fin 128) : iblk m c 6 t (ix2 a l) = val_main_v26 (F := Ideal) (ix2 (pos t a) (⟨l.val % 32, by omega⟩ : Fin 32)) := by
  blk_simp [iblk]
  rw [v48]
  rw [show ((View.whole main_v48).slice (win0_6.rect t)).emb (ix2 a l) = ix2 (pos t a) l by unfold pos; blk_ext! [idx t]]
  exact tile_apply _ _ _

theorem blk7 (t : Fin cfg0.N) (l : Fin 128) (a : Fin 512) : iblk m c 7 t (ix2 l a) = val_main_v24 (F := Ideal) (ix2 (pos t a) (⟨l.val % 32, by omega⟩ : Fin 32)) := by
  refine Eq.trans ?_ (tile_apply (val_main_v24 (F := Ideal)) (pos t a) l)
  blk_simp [iblk]
  rw [v49]
  rw [show ((View.whole main_v49).slice (win0_7.rect t)).emb (ix2 l a) = ix2 l (pos t a) by unfold pos; blk_ext! [idx t]]
  pointwise

theorem blk8 (t : Fin cfg0.N) (l : Fin 128) (a : Fin 512) : iblk m c 8 t (ix2 l a) = val_main_v26 (F := Ideal) (ix2 (pos t a) (⟨l.val % 32, by omega⟩ : Fin 32)) := by
  refine Eq.trans ?_ (tile_apply (val_main_v26 (F := Ideal)) (pos t a) l)
  blk_simp [iblk]
  rw [v50]
  rw [show ((View.whole main_v50).slice (win0_8.rect t)).emb (ix2 l a) = ix2 l (pos t a) by unfold pos; blk_ext! [idx t]]
  pointwise

/-- The reference's column of the projection at a token. -/
abbrev at_arg (p : Fin 65536) (n : Fin 5888) : EReal :=
  at_tok (m ((c : Thread nD τ).loc main_arg0)) (m ((c : Thread nD τ).loc main_arg1)) (m ((c : Thread nD τ).loc main_arg2)) p n

/-- Where the packed weights hold a column of the reference's, the call's product is the reference's. -/
theorem col_of (t : Fin cfg0.N) (a : Fin 512) (n : Fin 5632) (n' : Fin 5888) (h : ∀ k, packed (W m c) (ix2 k n) = W m c (ix2 k n')) :
    col (iblk m c 0 t) (iblk m c 1 t) (iblk m c 2 t) a n = at_arg m c (row t a) n' := by
  unfold col at_arg at_tok
  rw [blk2, h, show W m c (ix2 (⟨1024, by omega⟩ : Fin 1025) n') = _ from wide_b _ _ n']
  simp only [blk0, blk1, h]
  exact congrArg (fun f => cell _ f _) (funext fun k => wide_w _ _ k n')

theorem krow_of (t : Fin cfg0.N) (a : Fin 512) (r : Fin 256) (n' : Fin 5888) (h : ∀ k, keys (W m c) (ix2 k r) = W m c (ix2 k n')) :
    krow (iblk m c 0 t) (iblk m c 3 t) (iblk m c 4 t) r a = at_arg m c (row t a) n' := by
  unfold krow at_arg at_tok
  rw [blk4, h, show W m c (ix2 (⟨1024, by omega⟩ : Fin 1025) n') = _ from wide_b _ _ n']
  simp only [blk0, blk3, h]
  exact congrArg (fun f => cell _ f _) (funext fun k => wide_w _ _ k n')

theorem col_aq (t : Fin cfg0.N) (a j : Fin 512) : col (iblk m c 0 t) (iblk m c 1 t) (iblk m c 2 t) a ⟨0 + j.val, by omega⟩
    = at_arg m c (row t a) ⟨j.val / 64 % 2 * 256 + j.val / 128 * 64 + j.val % 64, by omega⟩ :=
  col_of m c t a _ _ fun k => by
    exact (at_col _ _ (Nat.zero_add _)).trans ((packed_aq _ k j).trans (lanes_apply _ k j))

theorem col_akv (t : Fin cfg0.N) (a : Fin 512) (j : Fin 256) : col (iblk m c 0 t) (iblk m c 1 t) (iblk m c 2 t) a ⟨512 + j.val, by omega⟩
    = at_arg m c (row t a) ⟨512 + j.val, by omega⟩ :=
  col_of m c t a _ _ fun k => packed_akv _ k j

theorem col_rq (t : Fin cfg0.N) (a : Fin 512) (h : Fin 2) (g : Fin 4) (d : Fin 32) :
    col (iblk m c 0 t) (iblk m c 1 t) (iblk m c 2 t) a ⟨768 + (h.val * 128 + (g.val * 32 + d.val)), by omega⟩
      = at_arg m c (row t a) ⟨768 + (g.val * 64 + (h.val * 32 + d.val)), by omega⟩ :=
  col_of m c t a _ _ fun k => by
    refine (packed_rq _ k ⟨h.val * 128 + (g.val * 32 + d.val), by omega⟩).trans ((halves_apply k _ h ⟨g.val * 32 + d.val, by omega⟩).trans ?_)
    pointwise!
    exact at_col _ _ (by first | omega | (dsimp only; omega))

theorem col_rest (t : Fin cfg0.N) (a : Fin 512) (j : Fin 4608) (n : Fin 5632) (n' : Fin 5888) (hn : n.val = 1024 + j.val) (hn' : n'.val = 1280 + j.val) :
    col (iblk m c 0 t) (iblk m c 1 t) (iblk m c 2 t) a n = at_arg m c (row t a) n' :=
  col_of m c t a _ _ fun k => by
    exact (at_col _ _ hn).trans ((packed_rest _ k j).trans (at_col _ _ hn'.symm))

theorem krow_rk (t : Fin cfg0.N) (a : Fin 512) (h : Fin 2) (g : Fin 4) (d : Fin 32) :
    krow (iblk m c 0 t) (iblk m c 3 t) (iblk m c 4 t) ⟨h.val * 128 + (g.val * 32 + d.val), by omega⟩ a
      = at_arg m c (row t a) ⟨1024 + (g.val * 64 + (h.val * 32 + d.val)), by omega⟩ :=
  krow_of m c t a _ _ fun k => by
    unfold keys
    refine (halves_apply k _ h ⟨g.val * 32 + d.val, by omega⟩).trans ?_
    pointwise!
    exact at_col _ _ (by first | omega | (dsimp only; omega))

end Cert.Dense.Two
-- ==== Proof.Proj.lean ====
/- The projection call returns the reference's arrays. -/
module

public import proofs.«01_k».proof.Proof.ProjBlk

@[expose] public section

set_option maxRecDepth 16384
set_option maxHeartbeats 1000000

noncomputable section
open Idealize.ShloMosaic Idealize.ShloMosaic.TcCoe Idealize.SL.Sem
open Idealize.ShloMosaic.Pipeline (Dat)
namespace Cert.Dense.Two
open Cert.Kernel2Ideal Cert.Kernel2Ideal.Gen
open Cert.Reference2Ideal.Read (val_main_v69 val_main_v70 val_main_v71 val_main_v72 val_main_v73 val_main_v74 val_main_v75 val_main_v76)
open scoped BigOperators
variable (m : (ℓ : Loc nD τ sig) → Buf (Elt Ideal) ℓ) (c : Dev nD)

/-- An index of two coordinates, named. -/
theorem exists_ix2 {r n : Nat} (y : (⟨2, ![r, n]⟩ : Shape).Idx) : ∃ (a : Fin r) (j : Fin n), y = ix2 a j :=
  ⟨y 0, y 1, by funext q; fin_cases q <;> rfl⟩

/-- A place in two halves of four heads, named. -/
theorem exists_half (j : Fin 256) : ∃ (h : Fin 2) (g : Fin 4) (d : Fin 32), j = ⟨h.val * 128 + (g.val * 32 + d.val), by omega⟩ :=
  ⟨⟨j.val / 128, by omega⟩, ⟨j.val / 32 % 4, by omega⟩, ⟨j.val % 32, by omega⟩, Fin.ext (by
    show j.val = j.val / 128 * 128 + (j.val / 32 % 4 * 32 + j.val % 32)
    omega)⟩

theorem mod32 (g : Fin 4) (d : Fin 32) (h : (g.val * 32 + d.val) % 32 < 32) : (⟨(g.val * 32 + d.val) % 32, h⟩ : Fin 32) = d :=
  Fin.ext (by show (g.val * 32 + d.val) % 32 = d.val; omega)

/-- The first and the second half of a query, and of a key, before the rotation. -/
theorem rq1 (t : Fin cfg0.N) (a : Fin 512) (g : Fin 4) (d : Fin 32) : col (iblk m c 0 t) (iblk m c 1 t) (iblk m c 2 t) a ⟨768 + (g.val * 32 + d.val), by omega⟩
    = at_arg m c (row t a) ⟨768 + (g.val * 64 + d.val), by omega⟩ := by
  simpa using col_rq m c t a 0 g d

theorem rq2 (t : Fin cfg0.N) (a : Fin 512) (g : Fin 4) (d : Fin 32) : col (iblk m c 0 t) (iblk m c 1 t) (iblk m c 2 t) a ⟨768 + (128 + (g.val * 32 + d.val)), by omega⟩
    = at_arg m c (row t a) ⟨768 + (g.val * 64 + (32 + d.val)), by omega⟩ := by
  simpa using col_rq m c t a 1 g d

theorem rk1 (t : Fin cfg0.N) (a : Fin 512) (g : Fin 4) (d : Fin 32) : krow (iblk m c 0 t) (iblk m c 3 t) (iblk m c 4 t) ⟨g.val * 32 + d.val, by omega⟩ a
    = at_arg m c (row t a) ⟨1024 + (g.val * 64 + d.val), by omega⟩ := by
  simpa using krow_rk m c t a 0 g d

theorem rk2 (t : Fin cfg0.N) (a : Fin 512) (g : Fin 4) (d : Fin 32) : krow (iblk m c 0 t) (iblk m c 3 t) (iblk m c 4 t) ⟨128 + (g.val * 32 + d.val), by omega⟩ a
    = at_arg m c (row t a) ⟨1024 + (g.val * 64 + (32 + d.val)), by omega⟩ := by
  simpa using krow_rk m c t a 1 g d

theorem final9 : (dats m 0 c).arrAt 9 cfg0.N
    = val_main_v69 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  obtain ⟨a, j, rfl⟩ := exists_ix2 (r := 512) (n := 512) y
  blk_simp
  rw [show (win0_9.blk t).view.emb (ix2 a j) = ix2 (row t a) j by unfold row; blk_ext! [idx t], ref69, after0_9, out9, col_aq]

theorem final10 : (dats m 0 c).arrAt 10 cfg0.N
    = val_main_v70 (F := Ideal) (m ((c : Thread nD τ).loc main_arg0)) (m ((c : Thread nD τ).loc main_arg1)) (m ((c : Thread nD τ).loc main_arg2)) := by
  refine (dats m 0 c).arrAt_eq_of_covers 10 _ (by decide +kernel) fun t hf y => ?_
  obtain ⟨a, j, rfl⟩ := exists_ix2 (r := 512) (n := 256) y
  blk_simp
  rw [show (win0_10.blk t).view.emb (ix2 a j) = ix2 (row t a) j by unfold row; blk_ext! [idx t], ref70, after0_10, out10, col_akv]

theorem final11 : (dats m 0 c).arrAt 11 cfg0.N
    = val_main_v71 (F := Ideal) (m ((c : Thread nD τ).loc main_arg0)) (m ((c : Thread nD τ).loc main_arg1)) (m ((c : Thread nD τ).loc main_arg2)) := by
  refine (dats m 0 c).arrAt_eq_of_covers 11 _ (by decide +kernel) fun t hf y => ?_
  obtain ⟨a, j, rfl⟩ := exists_ix2 (r := 512) (n := 256) y
  obtain ⟨h, g, d, rfl⟩ := exists_half j
  blk_simp
  rw [show (win0_11.blk t).view.emb (ix2 a (⟨h.val * 128 + (g.val * 32 + d.val), by omega⟩ : Fin 256)) = ix2 (row t a) (⟨h.val * 128 + (g.val * 32 + d.val), by omega⟩ : Fin 256) by
    unfold row; blk_ext! [idx t]]
  rw [row_eq, ref71, after0_11, out11 _ _ _ _ _ _ _ _ _ a h ⟨g.val * 32 + d.val, by omega⟩, blk5, blk6, mod32, rq1, rq2, row_eq]

theorem final12 : (dats m 0 c).arrAt 12 cfg0.N
    = val_main_v72 (F := Ideal) (m ((c : Thread nD τ).loc main_arg0)) (m ((c : Thread nD τ).loc main_arg1)) (m ((c : Thread nD τ).loc main_arg2)) := by
  refine (dats m 0 c).arrAt_eq_of_covers 12 _ (by decide +kernel) fun t hf y => ?_
  obtain ⟨a, j, rfl⟩ := exists_ix2 (r := 512) (n := 512) y
  blk_simp
  rw [show (win0_12.blk t).view.emb (ix2 a j) = ix2 (row t a) j by unfold row; blk_ext! [idx t], ref72, after0_12, out12]
  exact col_rest m c t a ⟨j.val, by omega⟩ _ _ rfl rfl

theorem final13 : (dats m 0 c).arrAt 13 cfg0.N
    = val_main_v73 (F := Ideal) (m ((c : Thread nD τ).loc main_arg0)) (m ((c : Thread nD τ).loc main_arg1)) (m ((c : Thread nD τ).loc main_arg2)) := by
  refine (dats m 0 c).arrAt_eq_of_covers 13 _ (by decide +kernel) fun t hf y => ?_
  obtain ⟨a, j, rfl⟩ := exists_ix2 (r := 512) (n := 512) y
  blk_simp
  rw [show (win0_13.blk t).view.emb (ix2 a j) = ix2 (row t a) j by unfold row; blk_ext! [idx t], ref73, after0_13, out13]
  exact col_rest m c t a ⟨512 + j.val, by omega⟩ _ _ (by show 1536 + j.val = 1024 + (512 + j.val); omega) (by show 1792 + j.val = 1280 + (512 + j.val); omega)

theorem final14 : (dats m 0 c).arrAt 14 cfg0.N
    = val_main_v74 (F := Ideal) (m ((c : Thread nD τ).loc main_arg0)) (m ((c : Thread nD τ).loc main_arg1)) (m ((c : Thread nD τ).loc main_arg2)) := by
  refine (dats m 0 c).arrAt_eq_of_covers 14 _ (by decide +kernel) fun t hf y => ?_
  obtain ⟨a, j, rfl⟩ := exists_ix2 (r := 512) (n := 512) y
  blk_simp
  rw [show (win0_14.blk t).view.emb (ix2 a j) = ix2 (row t a) j by unfold row; blk_ext! [idx t], ref74, after0_14, out14]
  exact col_rest m c t a ⟨1024 + j.val, by omega⟩ _ _ (by show 2048 + j.val = 1024 + (1024 + j.val); omega) (by show 2304 + j.val = 1280 + (1024 + j.val); omega)

theorem final15 : (dats m 0 c).arrAt 15 cfg0.N
    = val_main_v75 (F := Ideal) (m ((c : Thread nD τ).loc main_arg0)) (m ((c : Thread nD τ).loc main_arg1)) (m ((c : Thread nD τ).loc main_arg2)) := by
  refine (dats m 0 c).arrAt_eq_of_covers 15 _ (by decide +kernel) fun t hf y => ?_
  obtain ⟨a, j, rfl⟩ := exists_ix2 (r := 512) (n := 3072) y
  blk_simp
  rw [show (win0_15.blk t).view.emb (ix2 a j) = ix2 (row t a) j by unfold row; blk_ext! [idx t], ref75, after0_15, out15]
  exact col_rest m c t a ⟨1536 + j.val, by omega⟩ _ _ (by show 2560 + j.val = 1024 + (1536 + j.val); omega) (by show 2816 + j.val = 1280 + (1536 + j.val); omega)

theorem final16 : (dats m 0 c).arrAt 16 cfg0.N
    = val_main_v76 (F := Ideal) (m ((c : Thread nD τ).loc main_arg0)) (m ((c : Thread nD τ).loc main_arg1)) (m ((c : Thread nD τ).loc main_arg2)) := by
  refine (dats m 0 c).arrAt_eq_of_covers 16 _ (by decide +kernel) fun t hf y => ?_
  obtain ⟨j, a, rfl⟩ := exists_ix2 (r := 256) (n := 512) y
  obtain ⟨h, g, d, rfl⟩ := exists_half j
  blk_simp
  rw [show (win0_16.blk t).view.emb (ix2 (⟨h.val * 128 + (g.val * 32 + d.val), by omega⟩ : Fin 256) a) = ix2 (⟨h.val * 128 + (g.val * 32 + d.val), by omega⟩ : Fin 256) (row t a) by
    unfold row; blk_ext! [idx t]]
  rw [row_eq, ref76, after0_16, out16 _ _ _ _ _ _ _ _ _ h ⟨g.val * 32 + d.val, by omega⟩ a, blk7, blk8, mod32, rk1, rk2, row_eq]

end Cert.Dense.Two
-- ==== Proof.Norm.lean ====
/- A row of 1024 entries, normalized, scaled and shifted. -/
module

public import Idealize.ShloMosaic.Lib.Pipeline.ValueKit

@[expose] public section

noncomputable section
open Idealize.ShloMosaic
namespace Cert.Dense
open scoped BigOperators

/-- The mean of a row. -/
def rowMean (z : Fin 1024 → EReal) : EReal := Ideal.div (∑ x, z x) (Ideal.ofBits .f32 0x44800000#32)

/-- A row minus its mean, over the root of its variance, times a weight, plus a shift. -/
def normRow (z g b : Fin 1024 → EReal) (e : Fin 1024) : EReal :=
  (z e - rowMean z) * Ideal.rsqrt (Ideal.div (∑ x, (z x - rowMean z) * (z x - rowMean z)) (Ideal.ofBits .f32 0x44800000#32) + Ideal.ofBits .f32 0x3727C5AC#32)
    * g e + b e

end Cert.Dense
-- ==== Proof.MergeTile.lean ====
/- The merge of the three branches on a block of 512 rows, as the kernel computes it, entry by entry. -/
module

public import proofs.«01_k».proof.Proof.Norm
public import proofs.«01_k».proof.Proof.Gen.Kernel3Ideal.Skeleton

@[expose] public section

set_option maxRecDepth 16384
set_option maxHeartbeats 1000000

noncomputable section
open Idealize.ShloMosaic
namespace Cert.Dense
open scoped BigOperators

/-- The gate's sigmoid. -/
def gateOf (z : EReal) : EReal := Ideal.div 1 (1 + Ideal.exp (0 - z))

/-- The gated sum of the three projected branches, in one column. -/
def mergedRow (a r v : Fin 512 → EReal) (g : Fin 3072 → EReal) (wa wr wm : Fin 512 → Fin 1024 → EReal) (k : Fin 1024) : EReal :=
  gateOf (g ⟨k.val, by omega⟩) * (∑ q, a q * wa q k) + gateOf (g ⟨1024 + k.val, by omega⟩) * (∑ q, r q * wr q k)
    + gateOf (g ⟨2048 + k.val, by omega⟩) * (∑ q, v q * wm q k)

/-- The residual row: the scaled input plus the merged row's projection. -/
def resRow (x p : Fin 1024 → EReal) (wo : Fin 1024 → Fin 1024 → EReal) (j : Fin 1024) : EReal :=
  Ideal.ofBits .f32 0x3F9837F0#32 * x j + ∑ k, p k * wo k j

namespace Three
open Cert.Kernel3Ideal Cert.Kernel3Ideal.Gen

/-- The rows that are normalized. -/
def preNorm (s : FVec Ideal S512x1024 .f32) (e one : FVec Ideal S512x1024 .f32) (v : FVec Ideal S512x512 .bf16) (wm : FVec Ideal S512x1024 .bf16)
    (x : FVec Ideal S512x1024 .f32) (wo : FVec Ideal S1024x1024 .bf16) : FVec Ideal S512x1024 .f32 :=
  have d : FVec Ideal S512x1024 .f32 := divf (broadcast S512x1024 (Scalar.ofBits .f32 0x3F800000#32)) (addf one e)
  have w1 : FVec Ideal S512x1024 .bf16 := shapeCast S512x1024 wm shapeCasts_S512x1024_S512x1024
  have p : FVec Ideal S512x1024 .f32 := matmul dot_S512x512_S512x1024_S512x1024_1_0_0_1_n_n none v w1 (constant S512x1024 .f32 0x00000000#32)
  have mg : FVec Ideal S512x1024 .f32 := addf s (mulf d p)
  have sx : FVec Ideal S512x1024 .f32 := mulf (broadcast S512x1024 (Scalar.ofBits .f32 0x3F9837F0#32)) x
  have mb : FVec Ideal S512x1024 .bf16 := truncf .bf16 mg bitsLt_bf16_f32
  have w2 : FVec Ideal S1024x1024 .bf16 := shapeCast S1024x1024 wo shapeCasts_S1024x1024_S1024x1024
  addf sx (matmul dot_S512x1024_S1024x1024_S512x1024_1_0_0_1_n_n none mb w2 (constant S512x1024 .f32 0x00000000#32))

/-- The norm of 512 rows. -/
def normV (z : FVec Ideal S512x1024 .f32) (g b : Vec Ideal S1x1024 .f32) : FVec Ideal S512x1024 .f32 :=
  have g1 : FVec Ideal S1x1024 .f32 := shapeCast S1x1024 g shapeCasts_S1x1024_S1x1024
  have y1 : FVec Ideal S512 .f32 := multiReduction .add [1] S512 z 0x00000000#32 reduces_S512x1024_S512 (.inl rfl) rfl
  have y2 : FVec Ideal S512x1 .f32 := divf (shapeCast S512x1 y1 shapeCasts_S512_S512x1) (broadcast S512x1 (Scalar.ofBits .f32 0x44800000#32))
  have y3 : FVec Ideal S512x1024 .f32 := subf z (broadcastTo S512x1024 y2 broadcasts_S512x1_S512x1024)
  have y4 : FVec Ideal S512 .f32 := multiReduction .add [1] S512 (mulf y3 y3) 0x00000000#32 reduces_S512x1024_S512 (.inl rfl) rfl
  have y5 : FVec Ideal S512x1 .f32 := divf (shapeCast S512x1 y4 shapeCasts_S512_S512x1) (broadcast S512x1 (Scalar.ofBits .f32 0x44800000#32))
  have y6 : FVec Ideal S512x1 .f32 := rsqrt (addf y5 (broadcast S512x1 (Scalar.ofBits .f32 0x3727C5AC#32)))
  have y7 : FVec Ideal S512x1024 .f32 := mulf y3 (broadcastTo S512x1024 y6 broadcasts_S512x1_S512x1024)
  have y8 : FVec Ideal S512x1024 .f32 := mulf y7 (broadcastTo S512x1024 g1 broadcasts_S1x1024_S512x1024)
  have b1 : FVec Ideal S1x1024 .f32 := shapeCast S1x1024 b shapeCasts_S1x1024_S1x1024
  addf y8 (broadcastTo S512x1024 b1 broadcasts_S1x1024_S512x1024)

theorem tile_eq (s e one : FVec Ideal S512x1024 .f32) (v : FVec Ideal S512x512 .bf16) (wm : FVec Ideal S512x1024 .bf16)
    (x : FVec Ideal S512x1024 .f32) (wo : FVec Ideal S1024x1024 .bf16) (g b : Vec Ideal S1x1024 .f32) :
    k0_pay1 (F := Ideal) (k0_pay5 b) (k0_pay6 s e one v wm x wo g) = normV (preNorm s e one v wm x wo) g b := rfl

theorem normV_apply (z : FVec Ideal S512x1024 .f32) (g b : Vec Ideal S1x1024 .f32) (a : Fin 512) (j : Fin 1024) :
    normV z g b (ix2 a j) = normRow (fun d => z (ix2 a d)) (fun d => g (ix2 0 d)) (fun d => b (ix2 0 d)) j := by
  pointwise [normV]
  rfl

theorem two_apply (z0 : Vec Ideal S512x1024 .bf16) (a : Vec Ideal S512x512 .bf16) (wa : Vec Ideal S512x1024 .bf16)
    (z1 : Vec Ideal S512x1024 .bf16) (r : Vec Ideal S512x512 .bf16) (wr : Vec Ideal S512x1024 .bf16) (i : Fin 512) (k : Fin 1024) :
    k0_pay2 (F := Ideal) z0 a wa z1 r wr (ix2 i k)
      = gateOf (z0 (ix2 i k)) * (∑ q : Fin 512, a (ix2 i q) * wa (ix2 q k)) + gateOf (z1 (ix2 i k)) * (∑ q : Fin 512, r (ix2 i q) * wr (ix2 q k)) := by
  pointwise [k0_pay2]
  rfl

theorem preNorm_apply (s : FVec Ideal S512x1024 .f32) (z2 : Vec Ideal S512x1024 .bf16) (v : FVec Ideal S512x512 .bf16) (wm : FVec Ideal S512x1024 .bf16)
    (x : FVec Ideal S512x1024 .f32) (wo : FVec Ideal S1024x1024 .bf16) (i : Fin 512) (j : Fin 1024) :
    preNorm s (k0_pay3 z2) (k0_pay4 (F := Ideal)) v wm x wo (ix2 i j)
      = resRow (fun d => x (ix2 i d)) (fun k => s (ix2 i k) + gateOf (z2 (ix2 i k)) * (∑ q : Fin 512, v (ix2 i q) * wm (ix2 q k))) (fun k d => wo (ix2 k d)) j := by
  pointwise [preNorm, k0_pay3, k0_pay4]
  rfl

end Three
end Cert.Dense
-- ==== Proof.MergeRef.lean ====
/- The reference's merge, entry by entry. -/
module

public import proofs.«01_k».proof.Proof.MergeTile
public import proofs.«01_k».proof.Proof.Gen.Reference3Ideal.Read

@[expose] public section

set_option maxRecDepth 16384
set_option maxHeartbeats 1000000

noncomputable section
open Idealize.ShloMosaic
namespace Cert.Dense.Three
open Cert.Reference3Ideal Cert.Reference3Ideal.Read
open scoped BigOperators

variable (x0 x1 x2 : FVec Ideal S65536x512 .bf16) (x3 : FVec Ideal S65536x3072 .bf16) (x4 : FVec Ideal S65536x1024 .f32) (x5 x6 x7 : FVec Ideal S512x1024 .f32)
  (x8 : FVec Ideal S1024x1024 .f32) (x9 x10 : FVec Ideal S1024 .f32)

theorem at_sig (p : Fin 65536) (q : Fin 3072) : val_main_v12 (F := Ideal) x3 (ix2 p q) = gateOf (x3 (ix2 p q)) := by
  unfold gateOf
  rw [zero_sub]
  pointwise [val_main_v12, val_main_v11, val_main_v10, val_main_v9, val_main_v8, val_main_v7, val_main_v3, val_main_cst, val_main_cst_0]

theorem at_g0 (p : Fin 65536) (k : Fin 1024) : val_main_v15 (F := Ideal) x3 (ix2 p k) = gateOf (x3 (ix2 p ⟨k.val, by omega⟩)) := by
  rw [← at_sig]
  pointwise! [val_main_v15, val_main_v14, val_main_v13]

theorem at_g1 (p : Fin 65536) (k : Fin 1024) : val_main_v19 (F := Ideal) x3 (ix2 p k) = gateOf (x3 (ix2 p ⟨1024 + k.val, by omega⟩)) := by
  rw [← at_sig]
  pointwise! [val_main_v19, val_main_v18, val_main_v13]

theorem at_g2 (p : Fin 65536) (k : Fin 1024) : val_main_v24 (F := Ideal) x3 (ix2 p k) = gateOf (x3 (ix2 p ⟨2048 + k.val, by omega⟩)) := by
  rw [← at_sig]
  pointwise! [val_main_v24, val_main_v23, val_main_v13]

/-- The attention branch's columns, head by head. -/
theorem at_heads (p : Fin 65536) (g : Fin 2) (r : Fin 4) (d : Fin 64) :
    val_main_v6 (F := Ideal) x0 (ix2 p ⟨g.val * 256 + r.val * 64 + d.val, by omega⟩) = x0 (ix2 p ⟨r.val * 128 + g.val * 64 + d.val, by omega⟩) := by
  pointwise! [val_main_v6, val_main_v5, val_main_v4, val_main_v0]

theorem at_merged (p : Fin 65536) (k : Fin 1024) :
    val_main_v27 (F := Ideal) x0 x1 x2 x3 x5 x6 x7 (ix2 p k)
      = mergedRow (fun q => val_main_v6 (F := Ideal) x0 (ix2 p q)) (fun q => x1 (ix2 p q)) (fun q => x2 (ix2 p q)) (fun q => x3 (ix2 p q))
          (fun q k => x5 (ix2 q k)) (fun q k => x6 (ix2 q k)) (fun q k => x7 (ix2 q k)) k := by
  have e0 : val_main_v16 (F := Ideal) x0 x5 (ix2 p k) = ∑ q : Fin 512, val_main_v6 (F := Ideal) x0 (ix2 p q) * x5 (ix2 q k) := by
    pointwise [val_main_v16]
  have e1 : val_main_v20 (F := Ideal) x1 x6 (ix2 p k) = ∑ q : Fin 512, x1 (ix2 p q) * x6 (ix2 q k) := by
    pointwise [val_main_v20, val_main_v1]
  have e2 : val_main_v25 (F := Ideal) x2 x7 (ix2 p k) = ∑ q : Fin 512, x2 (ix2 p q) * x7 (ix2 q k) := by
    pointwise [val_main_v25, val_main_v2]
  unfold mergedRow
  rw [← at_g0, ← at_g1, ← at_g2, ← e0, ← e1, ← e2]
  rfl

theorem at_res (p : Fin 65536) (j : Fin 1024) :
    val_main_v31 (F := Ideal) x0 x1 x2 x3 x4 x5 x6 x7 x8 (ix2 p j)
      = resRow (fun d => x4 (ix2 p d)) (fun k => val_main_v27 (F := Ideal) x0 x1 x2 x3 x5 x6 x7 (ix2 p k)) (fun k d => x8 (ix2 k d)) j := by
  pointwise [val_main_v31, val_main_v30, val_main_v29, val_main_v28, val_main_cst_1]
  rfl

theorem at_mean (p : Fin 65536) :
    val_main_v35 (F := Ideal) x0 x1 x2 x3 x4 x5 x6 x7 x8 (ix2 p 0) = rowMean fun d => val_main_v31 (F := Ideal) x0 x1 x2 x3 x4 x5 x6 x7 x8 (ix2 p d) := by
  pointwise [val_main_v35, val_main_v34, val_main_v33, val_main_v32, val_main_cst_2, val_main_cst_3]
  rfl

theorem at_var (p : Fin 65536) :
    val_main_v42 (F := Ideal) x0 x1 x2 x3 x4 x5 x6 x7 x8 (ix2 p 0)
      = Ideal.div (∑ x : Fin 1024, (val_main_v31 (F := Ideal) x0 x1 x2 x3 x4 x5 x6 x7 x8 (ix2 p x) - val_main_v35 (F := Ideal) x0 x1 x2 x3 x4 x5 x6 x7 x8 (ix2 p 0))
          * (val_main_v31 (F := Ideal) x0 x1 x2 x3 x4 x5 x6 x7 x8 (ix2 p x) - val_main_v35 (F := Ideal) x0 x1 x2 x3 x4 x5 x6 x7 x8 (ix2 p 0)))
          (Ideal.ofBits .f32 0x44800000#32) := by
  pointwise [val_main_v42, val_main_v41, val_main_v40, val_main_v39, val_main_v38, val_main_v37, val_main_v36, val_main_cst_4, val_main_cst_5]

theorem at_norm (p : Fin 65536) (j : Fin 1024) :
    val_main_v55 (F := Ideal) x0 x1 x2 x3 x4 x5 x6 x7 x8 x9 x10 (ix2 p j)
      = normRow (fun d => val_main_v31 (F := Ideal) x0 x1 x2 x3 x4 x5 x6 x7 x8 (ix2 p d)) (fun d => x9 (ix1 d)) (fun d => x10 (ix1 d)) j := by
  have e : val_main_v55 (F := Ideal) x0 x1 x2 x3 x4 x5 x6 x7 x8 x9 x10 (ix2 p j)
      = (val_main_v31 (F := Ideal) x0 x1 x2 x3 x4 x5 x6 x7 x8 (ix2 p j) - val_main_v35 (F := Ideal) x0 x1 x2 x3 x4 x5 x6 x7 x8 (ix2 p 0))
        * Ideal.rsqrt (val_main_v42 (F := Ideal) x0 x1 x2 x3 x4 x5 x6 x7 x8 (ix2 p 0) + Ideal.ofBits .f32 0x3727C5AC#32) * x9 (ix1 j) + x10 (ix1 j) := by
    pointwise [val_main_v55, val_main_v54, val_main_v53, val_main_v52, val_main_v51, val_main_v50, val_main_v49, val_main_v48, val_main_v47, val_main_v46, val_main_v45,
      val_main_v44, val_main_v43, val_main_cst_6]
  rw [e, at_var, at_mean]
  rfl

/-- The reference's merge, entry by entry. -/
theorem ref_apply (p : Fin 65536) (j : Fin 1024) :
    val_main_v55 (F := Ideal) x0 x1 x2 x3 x4 x5 x6 x7 x8 x9 x10 (ix2 p j)
      = normRow (resRow (fun d => x4 (ix2 p d)) (mergedRow (fun q => val_main_v6 (F := Ideal) x0 (ix2 p q)) (fun q => x1 (ix2 p q)) (fun q => x2 (ix2 p q)) (fun q => x3 (ix2 p q))
          (fun q k => x5 (ix2 q k)) (fun q k => x6 (ix2 q k)) (fun q k => x7 (ix2 q k))) (fun k d => x8 (ix2 k d))) (fun d => x9 (ix1 d)) (fun d => x10 (ix1 d)) j := by
  rw [at_norm]
  refine congrArg (fun z => normRow z _ _ j) (funext fun d => ?_)
  rw [at_res]
  exact congrArg (fun z => resRow _ z _ d) (funext fun k => at_merged x0 x1 x2 x3 x5 x6 x7 p k)

end Cert.Dense.Three
-- ==== Proof.Merge.lean ====
/- The call that merges the branches returns the reference's array. -/
module

public import proofs.«01_k».proof.Proof.MergeRef
public import proofs.«01_k».proof.Proof.Gen.Kernel3Ideal.Value

@[expose] public section

set_option maxRecDepth 16384
set_option maxHeartbeats 1000000

noncomputable section
open Idealize.ShloMosaic Idealize.ShloMosaic.TcCoe Idealize.SL.Sem
open Idealize.ShloMosaic.Pipeline (Dat)
namespace Cert.Dense.Three
open Cert.Kernel3Ideal Cert.Kernel3Ideal.Gen
open scoped BigOperators
variable (m : (ℓ : Loc nD τ sig) → Buf (Elt Ideal) ℓ) (c : Dev nD)

theorem tlt (t : Fin cfg0.N) : t.val < 128 := t.isLt

theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![0, 0] ∧ win0_6.index t = ![0, 0] ∧ win0_7.index t = ![0, 0] ∧ win0_8.index t = ![0, 0] ∧ win0_9.index t = ![0, 0] ∧ win0_10.index t = ![0, 0]
    ∧ win0_11.index t = ![t.val, 0] :=
  (by decide +kernel : ∀ t : Fin grid0.N, _)

theorem blk0 (t : Fin cfg0.N) (a : Fin 512) (b : Fin 512) :
    iblk m c 0 t (ix2 a b) = m ((c : Thread nD τ).loc main_arg0) (ix2 (⟨t.val * 512 + a.val, by have := tlt t; omega⟩ : Fin 65536) b) := by
  have := tlt t
  blk_ext! [iblk, V, idx t]

theorem blk1 (t : Fin cfg0.N) (a : Fin 512) (b : Fin 512) :
    iblk m c 1 t (ix2 a b) = m ((c : Thread nD τ).loc main_arg1) (ix2 (⟨t.val * 512 + a.val, by have := tlt t; omega⟩ : Fin 65536) b) := by
  have := tlt t
  blk_ext! [iblk, V, idx t]

theorem blk2 (t : Fin cfg0.N) (a : Fin 512) (b : Fin 512) :
    iblk m c 2 t (ix2 a b) = m ((c : Thread nD τ).loc main_arg2) (ix2 (⟨t.val * 512 + a.val, by have := tlt t; omega⟩ : Fin 65536) b) := by
  have := tlt t
  blk_ext! [iblk, V, idx t]

theorem blk3 (t : Fin cfg0.N) (a : Fin 512) (b : Fin 3072) :
    iblk m c 3 t (ix2 a b) = m ((c : Thread nD τ).loc main_arg3) (ix2 (⟨t.val * 512 + a.val, by have := tlt t; omega⟩ : Fin 65536) b) := by
  have := tlt t
  blk_ext! [iblk, V, idx t]

theorem blk4 (t : Fin cfg0.N) (a : Fin 512) (b : Fin 1024) :
    iblk m c 4 t (ix2 a b) = m ((c : Thread nD τ).loc main_arg4) (ix2 (⟨t.val * 512 + a.val, by have := tlt t; omega⟩ : Fin 65536) b) := by
  have := tlt t
  blk_ext! [iblk, V, idx t]

/-- The place, head by head, of a column of the attention branch. -/
def toHeads (k : Fin 512) : Fin 512 := ⟨k.val / 64 % 2 * 256 + k.val / 128 * 64 + k.val % 64, by omega⟩

/-- The column of the attention branch at a place head by head. -/
def ofHeads (q : Fin 512) : Fin 512 := ⟨q.val / 64 % 4 * 128 + q.val / 256 * 64 + q.val % 64, by omega⟩

/-- The two orders of the columns are permutations of each other. -/
def headPerm : Fin 512 ≃ Fin 512 :=
  ⟨toHeads, ofHeads, (by decide +kernel : ∀ k, ofHeads (toHeads k) = k), (by decide +kernel : ∀ k, toHeads (ofHeads k) = k)⟩

theorem blk5 (t : Fin cfg0.N) (a : Fin 512) (b : Fin 1024) :
    iblk m c 5 t (ix2 a b) = m ((c : Thread nD τ).loc main_arg5) (ix2 (toHeads a) b) := by
  have := tlt t
  blk_simp [iblk]
  simp only [V, hostOps0]
  entry_read
  rw [show ((View.whole main_v3).slice (win0_5.rect t)).emb (ix2 a b) = ix2 a b by blk_ext! [idx t]]
  pointwise!

theorem blk6 (t : Fin cfg0.N) (a : Fin 512) (b : Fin 1024) :
    iblk m c 6 t (ix2 a b) = m ((c : Thread nD τ).loc main_arg6) (ix2 a b) := by
  have := tlt t
  blk_simp [iblk]
  simp only [V, hostOps0]
  entry_read
  rw [show ((View.whole main_v4).slice (win0_6.rect t)).emb (ix2 a b) = ix2 a b by blk_ext! [idx t]]
  rfl

theorem blk7 (t : Fin cfg0.N) (a : Fin 512) (b : Fin 1024) :
    iblk m c 7 t (ix2 a b) = m ((c : Thread nD τ).loc main_arg7) (ix2 a b) := by
  have := tlt t
  blk_simp [iblk]
  simp only [V, hostOps0]
  entry_read
  rw [show ((View.whole main_v5).slice (win0_7.rect t)).emb (ix2 a b) = ix2 a b by blk_ext! [idx t]]
  rfl

theorem blk8 (t : Fin cfg0.N) (a : Fin 1024) (b : Fin 1024) :
    iblk m c 8 t (ix2 a b) = m ((c : Thread nD τ).loc main_arg8) (ix2 a b) := by
  have := tlt t
  blk_simp [iblk]
  simp only [V, hostOps0]
  entry_read
  rw [show ((View.whole main_v6).slice (win0_8.rect t)).emb (ix2 a b) = ix2 a b by blk_ext! [idx t]]
  rfl

theorem blk9 (t : Fin cfg0.N) (a : Fin 1) (b : Fin 1024) :
    iblk m c 9 t (ix2 a b) = m ((c : Thread nD τ).loc main_arg9) (ix1 b) := by
  have := tlt t
  blk_simp [iblk]
  simp only [V, hostOps0]
  entry_read
  rw [show ((View.whole main_v7).slice (win0_9.rect t)).emb (ix2 a b) = ix2 a b by blk_ext! [idx t]]
  pointwise

theorem blk10 (t : Fin cfg0.N) (a : Fin 1) (b : Fin 1024) :
    iblk m c 10 t (ix2 a b) = m ((c : Thread nD τ).loc main_arg10) (ix1 b) := by
  have := tlt t
  blk_simp [iblk]
  simp only [V, hostOps0]
  entry_read
  rw [show ((View.whole main_v8).slice (win0_10.rect t)).emb (ix2 a b) = ix2 a b by blk_ext! [idx t]]
  pointwise

/-- The product with the attention branch does not depend on the order of its columns. -/
theorem branch_sum (A : FVec Ideal S65536x512 .bf16) (W : FVec Ideal S512x1024 .f32) (p : Fin 65536) (k : Fin 1024) :
    ∑ q : Fin 512, A (ix2 p q) * W (ix2 (toHeads q) k) = ∑ q : Fin 512, Cert.Reference3Ideal.Read.val_main_v6 (F := Ideal) A (ix2 p q) * W (ix2 q k) := by
  refine Eq.trans ?_ (Equiv.sum_comp headPerm fun q => Cert.Reference3Ideal.Read.val_main_v6 (F := Ideal) A (ix2 p q) * W (ix2 q k))
  refine Finset.sum_congr rfl fun q _ => ?_
  obtain ⟨g, r, d, rfl⟩ : ∃ (g : Fin 2) (r : Fin 4) (d : Fin 64), q = ⟨r.val * 128 + g.val * 64 + d.val, by omega⟩ :=
    ⟨⟨q.val / 64 % 2, by omega⟩, ⟨q.val / 128, by omega⟩, ⟨q.val % 64, by omega⟩, Fin.ext (by show q.val = q.val / 128 * 128 + q.val / 64 % 2 * 64 + q.val % 64; omega)⟩
  have e : toHeads ⟨r.val * 128 + g.val * 64 + d.val, by omega⟩ = ⟨g.val * 256 + r.val * 64 + d.val, by omega⟩ := Fin.ext (by
    show (r.val * 128 + g.val * 64 + d.val) / 64 % 2 * 256 + (r.val * 128 + g.val * 64 + d.val) / 128 * 64 + (r.val * 128 + g.val * 64 + d.val) % 64
      = g.val * 256 + r.val * 64 + d.val
    omega)
  show _ = Cert.Reference3Ideal.Read.val_main_v6 (F := Ideal) A (ix2 p (toHeads _)) * W (ix2 (toHeads _) k)
  rw [e, at_heads]

theorem ldG (x : Vec Ideal S512x3072 .bf16) (a : Fin 512) (k : Fin 1024) : View.ld x r0_0 (ix2 a k) = x (ix2 a ⟨k.val, by omega⟩)
    ∧ View.ld x r0_3 (ix2 a k) = x (ix2 a ⟨1024 + k.val, by omega⟩) ∧ View.ld x r0_4 (ix2 a k) = x (ix2 a ⟨2048 + k.val, by omega⟩) := by
  refine ⟨View.ld_unit_apply_of _ _ _ _ _ _ fun q => ?_, View.ld_unit_apply_of _ _ _ _ _ _ fun q => ?_, View.ld_unit_apply_of _ _ _ _ _ _ fun q => ?_⟩ <;>
  · fin_cases q
    · show a.val = 0 + a.val
      omega
    · first | rfl | (show k.val = 0 + k.val; omega)

/-- The row a block of the call stores. -/
theorem out_apply (x0 x1 x2 : Vec Ideal S512x512 .bf16) (x3 : Vec Ideal S512x3072 .bf16) (x4 : Vec Ideal S512x1024 .f32) (x5 x6 x7 : Vec Ideal S512x1024 .bf16)
    (x8 : Vec Ideal S1024x1024 .bf16) (x9 x10 : Vec Ideal S1x1024 .f32) (a : Fin 512) (j : Fin 1024) :
    out0_11 (F := Ideal) x0 x1 x2 x3 x4 x5 x6 x7 x8 x9 x10 (ix2 a j)
      = normRow (resRow (fun d => x4 (ix2 a d)) (mergedRow (fun q => x0 (ix2 a q)) (fun q => x1 (ix2 a q)) (fun q => x2 (ix2 a q)) (fun q => x3 (ix2 a q))
          (fun q k => x5 (ix2 q k)) (fun q k => x6 (ix2 q k)) (fun q k => x7 (ix2 q k))) (fun q k => x8 (ix2 q k)))
        (fun d => x9 (ix2 0 d)) (fun d => x10 (ix2 0 d)) j := by
  unfold out0_11
  rw [View.canon_cons_unit_lit _ _ _ (by decide), show View.ld x0 r0_1 = x0 from View.ld_unit_lit _ x0 (by decide), show View.ld x1 r0_1 = x1 from View.ld_unit_lit _ x1 (by decide),
    show View.ld x2 r0_1 = x2 from View.ld_unit_lit _ x2 (by decide), show View.ld x4 r0_2 = x4 from View.ld_unit_lit _ x4 (by decide),
    show View.ld x5 r0_2 = x5 from View.ld_unit_lit _ x5 (by decide), show View.ld x6 r0_2 = x6 from View.ld_unit_lit _ x6 (by decide),
    show View.ld x7 r0_2 = x7 from View.ld_unit_lit _ x7 (by decide), show View.ld x8 r0_5 = x8 from View.ld_unit_lit _ x8 (by decide),
    show View.ld x9 r0_6 = x9 from View.ld_unit_lit _ x9 (by decide), show View.ld x10 r0_6 = x10 from View.ld_unit_lit _ x10 (by decide), tile_eq, normV_apply]
  refine congrArg (fun z => normRow z _ _ j) (funext fun j => ?_)
  rw [preNorm_apply]
  refine congrArg (fun z => resRow _ z _ j) (funext fun k => ?_)
  rw [two_apply, (ldG x3 a k).1, (ldG x3 a k).2.1, (ldG x3 a k).2.2]
  rfl

/-- The call's array is the reference's. -/
theorem final : (dats m 0 c).arrAt 11 cfg0.N
    = Cert.Reference3Ideal.Read.val_main_v55 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t hf y => ?_
  have := tlt t
  obtain ⟨a, j, rfl⟩ : ∃ (a : Fin 512) (j : Fin 1024), y = ix2 a j := ⟨y 0, y 1, by funext q; fin_cases q <;> rfl⟩
  have hemb : (win0_11.blk t).view.emb (ix2 a j) = ix2 (⟨t.val * 512 + a.val, by omega⟩ : Fin 65536) j := by
    blk_ext! [idx t]
  blk_simp
  rw [hemb, ref_apply, after0_11]
  rw [out_apply]
  simp only [blk0, blk1, blk2, blk3, blk4, blk5, blk6, blk7, blk8, blk9, blk10]
  refine congrArg (fun z => normRow z _ _ j) (congrArg (fun z => resRow _ z _) (funext fun k => ?_))
  unfold mergedRow
  rw [branch_sum]

end Cert.Dense.Three
-- ==== Proof.MemKv.lean ====
/- The memory's keys and values: the call that norms the memory and projects it. -/
module

public import proofs.«01_k».proof.Proof.Norm
public import proofs.«01_k».proof.Proof.Gen.Kernel4Ideal.Value
public import proofs.«01_k».proof.Proof.Gen.Reference4Ideal.Read

@[expose] public section

set_option maxRecDepth 16384
set_option maxHeartbeats 1000000

noncomputable section
open Idealize.ShloMosaic Idealize.ShloMosaic.TcCoe Idealize.SL.Sem
open Idealize.ShloMosaic.Pipeline (Dat)
namespace Cert.Dense
open Cert.Kernel4Ideal Cert.Kernel4Ideal.Gen Cert.Reference4Ideal.Read
open scoped BigOperators

namespace Four
variable (m : (ℓ : Loc nD τ sig) → Buf (Elt Ideal) ℓ) (c : Dev nD)

/-- The tile a block's rows give: each row normalized, then its product with the weights. -/
theorem tile_apply (x : Vec Ideal S256x1024 .f32) (g b : Vec Ideal S1x1024 .f32) (w : Vec Ideal S1024x1024 .bf16) (a : Fin 256) (j : Fin 1024) :
    k0_pay1 (F := Ideal) x g b w (ix2 a j)
      = ∑ k : Fin 1024, normRow (fun d => x (ix2 a d)) (fun d => g (ix2 0 d)) (fun d => b (ix2 0 d)) k * w (ix2 k j) := by
  pointwise [k0_pay1]
  rfl

theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

theorem tlt (t : Fin cfg0.N) : t.val < 8 := t.isLt

theorem blk0 (t : Fin cfg0.N) (a : Fin 256) (b : Fin 1024) :
    iblk m c 0 t (ix2 a b) = m ((c : Thread nD τ).loc main_arg0) (ix2 (⟨t.val * 256 + a.val, by have := tlt t; omega⟩ : Fin 2048) b) := by
  have := tlt t
  blk_ext! [iblk, V, idx t]

theorem blk1 (t : Fin cfg0.N) (a : Fin 1) (b : Fin 1024) :
    iblk m c 1 t (ix2 a b) = m ((c : Thread nD τ).loc main_arg1) (ix1 b) := by
  have := tlt t
  blk_simp [iblk]
  simp only [V, hostOps0]
  entry_read
  rw [show ((View.whole main_v0).slice (win0_1.rect t)).emb (ix2 a b) = ix2 a b by blk_ext! [idx t]]
  pointwise

theorem blk2 (t : Fin cfg0.N) (a : Fin 1) (b : Fin 1024) :
    iblk m c 2 t (ix2 a b) = m ((c : Thread nD τ).loc main_arg2) (ix1 b) := by
  have := tlt t
  blk_simp [iblk]
  simp only [V, hostOps0]
  entry_read
  rw [show ((View.whole main_v1).slice (win0_2.rect t)).emb (ix2 a b) = ix2 a b by blk_ext! [idx t]]
  pointwise

theorem blk3 (t : Fin cfg0.N) (a : Fin 1024) (b : Fin 1024) :
    iblk m c 3 t (ix2 a b) = m ((c : Thread nD τ).loc main_arg3) (ix2 a b) := by
  have := tlt t
  blk_simp [iblk]
  simp only [V, hostOps0]
  entry_read
  rw [show ((View.whole main_v2).slice (win0_3.rect t)).emb (ix2 a b) = ix2 a b by blk_ext! [idx t]]
  rfl

variable (x0 : FVec Ideal S2048x1024 .f32) (x1 x2 : FVec Ideal Cert.Reference4Ideal.S1024 .f32) (x3 : FVec Ideal S1024x1024 .f32)

theorem at_mean (r : Fin 2048) : val_main_v3 (F := Ideal) x0 (ix2 r 0) = rowMean fun d => x0 (ix2 r d) := by
  pointwise [val_main_v3, val_main_v2, val_main_v1, val_main_v0, val_main_cst, val_main_cst_0]
  rfl

theorem at_var (r : Fin 2048) :
    val_main_v10 (F := Ideal) x0 (ix2 r 0)
      = Ideal.div (∑ x : Fin 1024, (x0 (ix2 r x) - val_main_v3 (F := Ideal) x0 (ix2 r 0)) * (x0 (ix2 r x) - val_main_v3 (F := Ideal) x0 (ix2 r 0)))
          (Ideal.ofBits .f32 0x44800000#32) := by
  pointwise [val_main_v10, val_main_v9, val_main_v8, val_main_v7, val_main_v6, val_main_v5, val_main_v4, val_main_cst_1, val_main_cst_2]

theorem at_norm (r : Fin 2048) (k : Fin 1024) :
    val_main_v23 (F := Ideal) x0 x1 x2 (ix2 r k) = normRow (fun d => x0 (ix2 r d)) (fun d => x1 (ix1 d)) (fun d => x2 (ix1 d)) k := by
  have e : val_main_v23 (F := Ideal) x0 x1 x2 (ix2 r k)
      = (x0 (ix2 r k) - val_main_v3 (F := Ideal) x0 (ix2 r 0)) * Ideal.rsqrt (val_main_v10 (F := Ideal) x0 (ix2 r 0) + Ideal.ofBits .f32 0x3727C5AC#32) * x1 (ix1 k) + x2 (ix1 k) := by
    pointwise [val_main_v23, val_main_v22, val_main_v21, val_main_v20, val_main_v19, val_main_v18, val_main_v17, val_main_v16, val_main_v15, val_main_v14, val_main_v13,
      val_main_v12, val_main_v11, val_main_cst_3]
  rw [e, at_var, at_mean]
  rfl

/-- The reference, entry by entry. -/
theorem ref_apply (r : Fin 2048) (j : Fin 1024) :
    val_main_v25 (F := Ideal) x0 x1 x2 x3 (ix2 r j)
      = ∑ k : Fin 1024, normRow (fun d => x0 (ix2 r d)) (fun d => x1 (ix1 d)) (fun d => x2 (ix1 d)) k * x3 (ix2 k j) := by
  show val_main_v24 (F := Ideal) x0 x1 x2 x3 (ix2 r j) = _
  rw [val_main_v24_apply]
  refine Finset.sum_congr rfl fun k _ => ?_
  rw [← at_norm x0 x1 x2 r k]
  refine congr (congrArg _ (congrArg _ ?_)) (congrArg _ ?_) <;> (funext q; fin_cases q <;> rfl)

/-- The call's array is the reference's. -/
theorem final : (dats m 0 c).arrAt 4 cfg0.N
    = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have := tlt t
  obtain ⟨a, j, rfl⟩ : ∃ (a : Fin 256) (j : Fin 1024), y = ix2 a j := ⟨y 0, y 1, by funext q; fin_cases q <;> rfl⟩
  have hemb : (win0_4.blk t).view.emb (ix2 a j) = ix2 (⟨t.val * 256 + a.val, by omega⟩ : Fin 2048) j := by
    blk_ext! [idx t]
  blk_simp
  rw [hemb, ref_apply, after0_4]
  unfold out0_4
  rw [View.canon_cons_unit_lit _ _ _ (by decide), View.ld_unit_lit _ _ (by decide), View.ld_unit_lit _ _ (by decide), View.ld_unit_lit _ _ (by decide), View.ld_unit_lit _ _ (by decide),
    tile_apply]
  simp only [blk0, blk1, blk2, blk3]

end Four
end Cert.Dense
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Pre
public import proofs.«01_k».proof.Proof.KernAttn
public import proofs.«01_k».proof.Proof.KernRet
public import proofs.«01_k».proof.Proof.KernMem
public import proofs.«01_k».proof.Proof.Proj
public import proofs.«01_k».proof.Proof.Merge
public import proofs.«01_k».proof.Proof.MemKv
public import Idealize.ShloMosaic.Adequacy
public import Idealize.ShloMosaic.Init

@[expose] public section

set_option maxHeartbeats 2000000

noncomputable section

namespace Cert.Proof

open Idealize.ShloMosaic Idealize.ShloMosaic.TcCoe Idealize.SL.Sem

/-- The reference has no semaphore, so its counters are all zero whatever it did. -/
theorem ref_sem (s : MemSt Cert.ReferenceIdeal.nD Cert.ReferenceIdeal.τ Cert.ReferenceIdeal.sig (Elt Ideal)) : s.sem = fun _ => 0 :=
  sem_eq_zero_of_no_sems rfl s

theorem ref_frame : quiescent_ReferenceIdeal (hReferenceIdeal := Cert.ReferenceIdeal.Gen.facts) := fun m g _ =>
  (θ_run _ _ _).mono (fun r h => ⟨fun c => (h c).2.2.2, ref_sem r.2⟩) (Cert.ReferenceIdeal.Value.run (F := Ideal) m g)

theorem value : algebraic_KernelIdeal_ReferenceIdeal_pre_finite_logits (hKernelIdeal := Cert.KernelIdeal.Gen.facts) (hReferenceIdeal := Cert.ReferenceIdeal.Gen.facts)
    (hPre_finite_logits := Cert.Mix.preFacts) := by
  intro m g m' g' hpre hagree
  have hp := fun c => Cert.Mix.pre_0 _ _ _ _ _ _ _ _ _ _ (hpre c)
  refine ⟨_, _, _, (θ_run _ _ _).mono (fun r h c => h c) (Cert.KernelIdeal.Value.run_blocks m g), (θ_run _ _ _).mono (fun r h c => ?_) (Cert.ReferenceIdeal.Value.run (F := Ideal) m' g')⟩
  obtain ⟨h0, h1, h2, hk⟩ := h c
  obtain ⟨a0, a1, a2, a3, a4, a5, a6, a7, a8, a9⟩ := hagree c
  obtain ⟨p0, p1, p2, p8, p9⟩ := hp c
  refine ⟨h0.trans ?_, h1.trans ?_, h2.trans ?_, hk⟩
  · rw [Cert.ReferenceIdeal.Read.val_main_v209_eq]
    refine Eq.trans ?_ (Cert.Mix.final14 m c p0 p1 p2).symm
    exact congr (congr (congrArg _ a0) a1) a2
  · rw [Cert.ReferenceIdeal.Read.val_main_v210_eq]
    refine Eq.trans ?_ (Cert.Mix.final15 m c).symm
    exact congr (congr (congr (congr (congrArg _ a3) a4) a5) a6) a7
  · rw [Cert.ReferenceIdeal.Read.val_main_v211_eq]
    refine Eq.trans ?_ (Cert.Mix.final16 m c p8 p9).symm
    exact congr (congrArg _ a8) a9

/-- The reference of the projection ends with its arguments kept and no semaphore raised. -/
theorem ref_frame2 : quiescent_Reference2Ideal (hReference2Ideal := Cert.Reference2Ideal.Gen.facts) := fun m g _ =>
  (θ_run _ _ _).mono (fun r h => ⟨fun c => (h c).2.2.2.2.2.2.2.2, sem_eq_zero_of_no_sems (sig := Cert.Reference2Ideal.sig) rfl r.2⟩) (Cert.Reference2Ideal.Value.run (F := Ideal) m g)

/-- The reference of the merge ends with its arguments kept and no semaphore raised. -/
theorem ref_frame3 : quiescent_Reference3Ideal (hReference3Ideal := Cert.Reference3Ideal.Gen.facts) := fun m g _ =>
  (θ_run _ _ _).mono (fun r h => ⟨fun c => (h c).2, sem_eq_zero_of_no_sems (sig := Cert.Reference3Ideal.sig) rfl r.2⟩) (Cert.Reference3Ideal.Value.run (F := Ideal) m g)

/-- The reference of the memory's keys and values ends with its arguments kept and no semaphore raised. -/
theorem ref_frame4 : quiescent_Reference4Ideal (hReference4Ideal := Cert.Reference4Ideal.Gen.facts) := fun m g _ =>
  (θ_run _ _ _).mono (fun r h => ⟨fun c => (h c).2, sem_eq_zero_of_no_sems (sig := Cert.Reference4Ideal.sig) rfl r.2⟩) (Cert.Reference4Ideal.Value.run (F := Ideal) m g)

/-- The call of the projection returns what its reference returns. -/
theorem value2 : algebraic_Kernel2Ideal_Reference2Ideal (hKernel2Ideal := Cert.Kernel2Ideal.Gen.facts) (hReference2Ideal := Cert.Reference2Ideal.Gen.facts) := by
  intro m g m' g' _ hagree
  refine ⟨_, _, _, _, _, _, _, _, (θ_run _ _ _).mono (fun r h c => h c) (Cert.Kernel2Ideal.Value.run_blocks m g), (θ_run _ _ _).mono (fun r h c => ?_) (Cert.Reference2Ideal.Value.run (F := Ideal) m' g')⟩
  obtain ⟨h0, h1, h2, h3, h4, h5, h6, h7, hk⟩ := h c
  obtain ⟨a0, a1, a2⟩ := hagree c
  refine ⟨h0.trans ?_, h1.trans ?_, h2.trans ?_, h3.trans ?_, h4.trans ?_, h5.trans ?_, h6.trans ?_, h7.trans ?_, hk⟩
  · rw [Cert.Reference2Ideal.Read.val_main_v69_eq]
    refine Eq.trans ?_ (Cert.Dense.Two.final9 m c).symm
    exact congr (congr (congrArg _ a0) a1) a2
  · rw [Cert.Reference2Ideal.Read.val_main_v70_eq]
    refine Eq.trans ?_ (Cert.Dense.Two.final10 m c).symm
    exact congr (congr (congrArg _ a0) a1) a2
  · rw [Cert.Reference2Ideal.Read.val_main_v71_eq]
    refine Eq.trans ?_ (Cert.Dense.Two.final11 m c).symm
    exact congr (congr (congrArg _ a0) a1) a2
  · rw [Cert.Reference2Ideal.Read.val_main_v72_eq]
    refine Eq.trans ?_ (Cert.Dense.Two.final12 m c).symm
    exact congr (congr (congrArg _ a0) a1) a2
  · rw [Cert.Reference2Ideal.Read.val_main_v73_eq]
    refine Eq.trans ?_ (Cert.Dense.Two.final13 m c).symm
    exact congr (congr (congrArg _ a0) a1) a2
  · rw [Cert.Reference2Ideal.Read.val_main_v74_eq]
    refine Eq.trans ?_ (Cert.Dense.Two.final14 m c).symm
    exact congr (congr (congrArg _ a0) a1) a2
  · rw [Cert.Reference2Ideal.Read.val_main_v75_eq]
    refine Eq.trans ?_ (Cert.Dense.Two.final15 m c).symm
    exact congr (congr (congrArg _ a0) a1) a2
  · rw [Cert.Reference2Ideal.Read.val_main_v76_eq]
    refine Eq.trans ?_ (Cert.Dense.Two.final16 m c).symm
    exact congr (congr (congrArg _ a0) a1) a2

/-- The call of the merge returns what its reference returns. -/
theorem value3 : algebraic_Kernel3Ideal_Reference3Ideal (hKernel3Ideal := Cert.Kernel3Ideal.Gen.facts) (hReference3Ideal := Cert.Reference3Ideal.Gen.facts) := by
  intro m g m' g' _ hagree
  refine ⟨_, (θ_run _ _ _).mono (fun r h c => h c) (Cert.Kernel3Ideal.Value.run_blocks m g), (θ_run _ _ _).mono (fun r h c => ?_) (Cert.Reference3Ideal.Value.run (F := Ideal) m' g')⟩
  obtain ⟨h0, hk⟩ := h c
  obtain ⟨a0, a1, a2, a3, a4, a5, a6, a7, a8, a9, a10⟩ := hagree c
  refine ⟨h0.trans ?_, hk⟩
  · rw [Cert.Reference3Ideal.Read.val_main_v55_eq]
    refine Eq.trans ?_ (Cert.Dense.Three.final m c).symm
    exact congr (congr (congr (congr (congr (congr (congr (congr (congr (congr (congrArg _ a0) a1) a2) a3) a4) a5) a6) a7) a8) a9) a10

/-- The call of the memory's keys and values returns what its reference returns. -/
theorem value4 : algebraic_Kernel4Ideal_Reference4Ideal (hKernel4Ideal := Cert.Kernel4Ideal.Gen.facts) (hReference4Ideal := Cert.Reference4Ideal.Gen.facts) := by
  intro m g m' g' _ hagree
  refine ⟨_, (θ_run _ _ _).mono (fun r h c => h c) (Cert.Kernel4Ideal.Value.run_blocks m g), (θ_run _ _ _).mono (fun r h c => ?_) (Cert.Reference4Ideal.Value.run (F := Ideal) m' g')⟩
  obtain ⟨h0, hk⟩ := h c
  obtain ⟨a0, a1, a2, a3⟩ := hagree c
  refine ⟨h0.trans ?_, hk⟩
  · rw [Cert.Reference4Ideal.Read.val_main_v25_eq]
    refine Eq.trans ?_ (Cert.Dense.Four.final m c).symm
    exact congr (congr (congr (congrArg _ a0) a1) a2) a3

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Mix.preFacts,
    fun m g _ => Cert.Kernel.Gen.frame m g,
    fun m g _ => Cert.KernelIdeal.Gen.frame m g,
    fun m g _ => Cert.KernelIdeal.Gen.frame m g,
    ref_frame,
    fun m g _ => ref_frame m g trivial,
    fun m g _ => Cert.Kernel2.Gen.frame m g,
    fun m g _ => Cert.Kernel2Ideal.Gen.frame m g,
    ref_frame2,
    fun m g _ => Cert.Kernel3.Gen.frame m g,
    fun m g _ => Cert.Kernel3Ideal.Gen.frame m g,
    ref_frame3,
    fun m g _ => Cert.Kernel4.Gen.frame m g,
    fun m g _ => Cert.Kernel4Ideal.Gen.frame m g,
    ref_frame4,
    ⟨IdealRules.named_const.statement _ _ _ _ _ rfl, IdealRules.named_const.statement _ _ _ _ _ rfl,
      IdealRules.named_const.statement _ _ _ _ _ rfl, IdealRules.named_const.statement _ _ _ _ _ rfl⟩,
    value, trivial, value2, trivial, value3, trivial, value4⟩

end Cert.Proof

end
